-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Weight (m : (ℓ : Loc Cert.Weight.nD Cert.Weight.τ Cert.Weight.sig) → Buf (Elt Bits) ℓ) : Prop :=
  True

def Pre_WeightIdeal (m : (ℓ : Loc Cert.WeightIdeal.nD Cert.WeightIdeal.τ Cert.WeightIdeal.sig) → Buf (Elt Ideal) ℓ) : Prop :=
  True

def Pre_WeightReferenceIdeal (m : (ℓ : Loc Cert.WeightReferenceIdeal.nD Cert.WeightReferenceIdeal.τ Cert.WeightReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Weight [hWeight : Cert.Weight.Facts] : Prop :=
  ∀ (m : (ℓ : Loc Cert.Weight.nD Cert.Weight.τ Cert.Weight.sig) → Buf (Elt Bits) ℓ) (g : Dev Cert.Weight.nD → PrngReg), Pre_Weight m →
    θ_run (Cert.Weight.defs (F := Bits)) (onTc (τ := Cert.Weight.τ) (Cert.Weight.main (F := Bits))) ⟨m, fun _ => 0, g⟩ (fun r => (∀ c : Dev Cert.Weight.nD,
      r.2.mem ((c.tc : Thread Cert.Weight.nD Cert.Weight.τ).loc Cert.Weight.main_arg0) = m ((c.tc : Thread Cert.Weight.nD Cert.Weight.τ).loc Cert.Weight.main_arg0)
      ∧ r.2.mem ((c.tc : Thread Cert.Weight.nD Cert.Weight.τ).loc Cert.Weight.main_arg1) = m ((c.tc : Thread Cert.Weight.nD Cert.Weight.τ).loc Cert.Weight.main_arg1)
      ∧ r.2.mem ((c.tc : Thread Cert.Weight.nD Cert.Weight.τ).loc Cert.Weight.main_arg2) = m ((c.tc : Thread Cert.Weight.nD Cert.Weight.τ).loc Cert.Weight.main_arg2))
      ∧ r.2.sem = fun _ => 0)

def quiescent_WeightIdeal [hWeightIdeal : Cert.WeightIdeal.Facts] : Prop :=
  ∀ (m : (ℓ : Loc Cert.WeightIdeal.nD Cert.WeightIdeal.τ Cert.WeightIdeal.sig) → Buf (Elt Ideal) ℓ) (g : Dev Cert.WeightIdeal.nD → PrngReg), Pre_WeightIdeal m →
    θ_run (Cert.WeightIdeal.defs (F := Ideal)) (onTc (τ := Cert.WeightIdeal.τ) (Cert.WeightIdeal.main (F := Ideal))) ⟨m, fun _ => 0, g⟩ (fun r => (∀ c : Dev Cert.WeightIdeal.nD,
      r.2.mem ((c.tc : Thread Cert.WeightIdeal.nD Cert.WeightIdeal.τ).loc Cert.WeightIdeal.main_arg0) = m ((c.tc : Thread Cert.WeightIdeal.nD Cert.WeightIdeal.τ).loc Cert.WeightIdeal.main_arg0)
      ∧ r.2.mem ((c.tc : Thread Cert.WeightIdeal.nD Cert.WeightIdeal.τ).loc Cert.WeightIdeal.main_arg1) = m ((c.tc : Thread Cert.WeightIdeal.nD Cert.WeightIdeal.τ).loc Cert.WeightIdeal.main_arg1)
      ∧ r.2.mem ((c.tc : Thread Cert.WeightIdeal.nD Cert.WeightIdeal.τ).loc Cert.WeightIdeal.main_arg2) = m ((c.tc : Thread Cert.WeightIdeal.nD Cert.WeightIdeal.τ).loc Cert.WeightIdeal.main_arg2))
      ∧ r.2.sem = fun _ => 0)

def quiescent_WeightReferenceIdeal [hWeightReferenceIdeal : Cert.WeightReferenceIdeal.Facts] : Prop :=
  ∀ (m : (ℓ : Loc Cert.WeightReferenceIdeal.nD Cert.WeightReferenceIdeal.τ Cert.WeightReferenceIdeal.sig) → Buf (Elt Ideal) ℓ) (g : Dev Cert.WeightReferenceIdeal.nD → PrngReg), Pre_WeightReferenceIdeal m →
    θ_run (Cert.WeightReferenceIdeal.defs (F := Ideal)) (onTc (τ := Cert.WeightReferenceIdeal.τ) (Cert.WeightReferenceIdeal.main (F := Ideal))) ⟨m, fun _ => 0, g⟩ (fun r => (∀ c : Dev Cert.WeightReferenceIdeal.nD,
      r.2.mem ((c.tc : Thread Cert.WeightReferenceIdeal.nD Cert.WeightReferenceIdeal.τ).loc Cert.WeightReferenceIdeal.main_arg0) = m ((c.tc : Thread Cert.WeightReferenceIdeal.nD Cert.WeightReferenceIdeal.τ).loc Cert.WeightReferenceIdeal.main_arg0)
      ∧ r.2.mem ((c.tc : Thread Cert.WeightReferenceIdeal.nD Cert.WeightReferenceIdeal.τ).loc Cert.WeightReferenceIdeal.main_arg1) = m ((c.tc : Thread Cert.WeightReferenceIdeal.nD Cert.WeightReferenceIdeal.τ).loc Cert.WeightReferenceIdeal.main_arg1)
      ∧ r.2.mem ((c.tc : Thread Cert.WeightReferenceIdeal.nD Cert.WeightReferenceIdeal.τ).loc Cert.WeightReferenceIdeal.main_arg2) = m ((c.tc : Thread Cert.WeightReferenceIdeal.nD Cert.WeightReferenceIdeal.τ).loc Cert.WeightReferenceIdeal.main_arg2))
      ∧ r.2.sem = fun _ => 0)

def preserves_Kernel_KernelIdeal : Prop :=
  IdealRules.bf16_pair.Statement Cert.KernelIdeal.S64x1280 Cert.KernelIdeal.S32x1280
  ∧ IdealRules.bf16_pair.SelectZeroStatement Cert.KernelIdeal.S32x1280

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Weight_WeightIdeal : Prop :=
  IdealRules.bf16_pair.Statement Cert.WeightIdeal.S64x256 Cert.WeightIdeal.S32x256
  ∧ IdealRules.bf16_pair.SelectZeroStatement Cert.WeightIdeal.S32x256

def algebraic_WeightIdeal_WeightReferenceIdeal [hWeightIdeal : Cert.WeightIdeal.Facts] [hWeightReferenceIdeal : Cert.WeightReferenceIdeal.Facts] : Prop :=
  ∀ (m : (ℓ : Loc Cert.WeightIdeal.nD Cert.WeightIdeal.τ Cert.WeightIdeal.sig) → Buf (Elt Ideal) ℓ) (g : Dev Cert.WeightIdeal.nD → PrngReg)
    (m' : (ℓ : Loc Cert.WeightReferenceIdeal.nD Cert.WeightReferenceIdeal.τ Cert.WeightReferenceIdeal.sig) → Buf (Elt Ideal) ℓ) (g' : Dev Cert.WeightReferenceIdeal.nD → PrngReg), Pre_WeightIdeal m →
    (∀ c : Dev Cert.WeightIdeal.nD,
      m' ((c.tc : Thread Cert.WeightReferenceIdeal.nD Cert.WeightReferenceIdeal.τ).loc Cert.WeightReferenceIdeal.main_arg0) = m ((c.tc : Thread Cert.WeightIdeal.nD Cert.WeightIdeal.τ).loc Cert.WeightIdeal.main_arg0)
      ∧ m' ((c.tc : Thread Cert.WeightReferenceIdeal.nD Cert.WeightReferenceIdeal.τ).loc Cert.WeightReferenceIdeal.main_arg1) = m ((c.tc : Thread Cert.WeightIdeal.nD Cert.WeightIdeal.τ).loc Cert.WeightIdeal.main_arg1)
      ∧ m' ((c.tc : Thread Cert.WeightReferenceIdeal.nD Cert.WeightReferenceIdeal.τ).loc Cert.WeightReferenceIdeal.main_arg2) = m ((c.tc : Thread Cert.WeightIdeal.nD Cert.WeightIdeal.τ).loc Cert.WeightIdeal.main_arg2)) →
    ∃ (v0 : (c : Dev Cert.WeightIdeal.nD) → Buf (Elt Ideal) ((c.tc : Thread Cert.WeightIdeal.nD Cert.WeightIdeal.τ).loc Cert.WeightIdeal.main_v0)),
      θ_run (Cert.WeightIdeal.defs (F := Ideal)) (onTc (τ := Cert.WeightIdeal.τ) (Cert.WeightIdeal.main (F := Ideal))) ⟨m, fun _ => 0, g⟩ (fun r => ∀ c : Dev Cert.WeightIdeal.nD,
          r.2.mem ((c.tc : Thread Cert.WeightIdeal.nD Cert.WeightIdeal.τ).loc Cert.WeightIdeal.main_v0) = v0 c
          ∧ r.2.mem ((c.tc : Thread Cert.WeightIdeal.nD Cert.WeightIdeal.τ).loc Cert.WeightIdeal.main_arg0) = m ((c.tc : Thread Cert.WeightIdeal.nD Cert.WeightIdeal.τ).loc Cert.WeightIdeal.main_arg0)
          ∧ r.2.mem ((c.tc : Thread Cert.WeightIdeal.nD Cert.WeightIdeal.τ).loc Cert.WeightIdeal.main_arg1) = m ((c.tc : Thread Cert.WeightIdeal.nD Cert.WeightIdeal.τ).loc Cert.WeightIdeal.main_arg1)
          ∧ r.2.mem ((c.tc : Thread Cert.WeightIdeal.nD Cert.WeightIdeal.τ).loc Cert.WeightIdeal.main_arg2) = m ((c.tc : Thread Cert.WeightIdeal.nD Cert.WeightIdeal.τ).loc Cert.WeightIdeal.main_arg2))
      ∧ θ_run (Cert.WeightReferenceIdeal.defs (F := Ideal)) (onTc (τ := Cert.WeightReferenceIdeal.τ) (Cert.WeightReferenceIdeal.main (F := Ideal))) ⟨m', fun _ => 0, g'⟩ (fun r => ∀ c : Dev Cert.WeightReferenceIdeal.nD,
          r.2.mem ((c.tc : Thread Cert.WeightReferenceIdeal.nD Cert.WeightReferenceIdeal.τ).loc Cert.WeightReferenceIdeal.main_v50) = v0 c
          ∧ r.2.mem ((c.tc : Thread Cert.WeightReferenceIdeal.nD Cert.WeightReferenceIdeal.τ).loc Cert.WeightReferenceIdeal.main_arg0) = m' ((c.tc : Thread Cert.WeightReferenceIdeal.nD Cert.WeightReferenceIdeal.τ).loc Cert.WeightReferenceIdeal.main_arg0)
          ∧ r.2.mem ((c.tc : Thread Cert.WeightReferenceIdeal.nD Cert.WeightReferenceIdeal.τ).loc Cert.WeightReferenceIdeal.main_arg1) = m' ((c.tc : Thread Cert.WeightReferenceIdeal.nD Cert.WeightReferenceIdeal.τ).loc Cert.WeightReferenceIdeal.main_arg1)
          ∧ r.2.mem ((c.tc : Thread Cert.WeightReferenceIdeal.nD Cert.WeightReferenceIdeal.τ).loc Cert.WeightReferenceIdeal.main_arg2) = m' ((c.tc : Thread Cert.WeightReferenceIdeal.nD Cert.WeightReferenceIdeal.τ).loc Cert.WeightReferenceIdeal.main_arg2))

def Claim : Prop :=
  ∃ (hKernel : Cert.Kernel.Facts) (hKernelIdeal : Cert.KernelIdeal.Facts) (hReferenceIdeal : Cert.ReferenceIdeal.Facts) (hWeight : Cert.Weight.Facts) (hWeightIdeal : Cert.WeightIdeal.Facts) (hWeightReferenceIdeal : Cert.WeightReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Weight (hWeight := hWeight)
    ∧ quiescent_WeightIdeal (hWeightIdeal := hWeightIdeal)
    ∧ quiescent_WeightReferenceIdeal (hWeightReferenceIdeal := hWeightReferenceIdeal)
    ∧ preserves_Kernel_KernelIdeal
    ∧ algebraic_KernelIdeal_ReferenceIdeal (hKernelIdeal := hKernelIdeal) (hReferenceIdeal := hReferenceIdeal)
    ∧ preserves_Weight_WeightIdeal
    ∧ algebraic_WeightIdeal_WeightReferenceIdeal (hWeightIdeal := hWeightIdeal) (hWeightReferenceIdeal := hWeightReferenceIdeal)
-- ==== Kernel.lean ====
abbrev S6144x1280 : Shape := ⟨2, ![6144, 1280]⟩
abbrev S96x64 : Shape := ⟨2, ![96, 64]⟩
abbrev S9x1280x1280 : Shape := ⟨3, ![9, 1280, 1280]⟩
abbrev S1x1280 : Shape := ⟨2, ![1, 1280]⟩
abbrev S512x1280 : Shape := ⟨2, ![512, 1280]⟩
abbrev S64x1280 : Shape := ⟨2, ![64, 1280]⟩
abbrev S1x1280x1280 : Shape := ⟨3, ![1, 1280, 1280]⟩
abbrev S1280x11520 : Shape := ⟨2, ![1280, 11520]⟩
abbrev S2x640x3840 : Shape := ⟨3, ![2, 640, 3840]⟩
abbrev S1280x1280 : Shape := ⟨2, ![1280, 1280]⟩
abbrev S1x64 : Shape := ⟨2, ![1, 64]⟩
abbrev S128x64 : Shape := ⟨2, ![128, 64]⟩
abbrev S64x128 : Shape := ⟨2, ![64, 128]⟩
abbrev S32x1280 : Shape := ⟨2, ![32, 1280]⟩
abbrev S1x64x1280 : Shape := ⟨3, ![1, 64, 1280]⟩
abbrev S1x512x3840 : Shape := ⟨3, ![1, 512, 3840]⟩
abbrev S512x3840 : Shape := ⟨2, ![512, 3840]⟩
abbrev S512x11520 : Shape := ⟨2, ![512, 11520]⟩
abbrev S512x512 : Shape := ⟨2, ![512, 512]⟩
abbrev S256x11520 : Shape := ⟨2, ![256, 11520]⟩
abbrev S512x256 : Shape := ⟨2, ![512, 256]⟩

abbrev nBuf : Space → Nat
  | .hbm => 5
  | .vmem => 14
  | .smem => 0
  | _ => 0

abbrev bufTy : (tb : Table) → Fin (tcTables nBuf tb) → BufTy
  | .hbm, ⟨0, _⟩ => ⟨S6144x1280, .fp8e5m2⟩
  | .hbm, ⟨1, _⟩ => ⟨S96x64, .f32⟩
  | .hbm, ⟨2, _⟩ => ⟨S9x1280x1280, .fp8e4m3⟩
  | .hbm, ⟨3, _⟩ => ⟨S1x1280, .f32⟩
  | .hbm, ⟨4, _⟩ => ⟨S6144x1280, .bf16⟩
  | .local _ .vmem, ⟨0, _⟩ => ⟨S512x1280, .fp8e5m2⟩
  | .local _ .vmem, ⟨1, _⟩ => ⟨S512x1280, .fp8e5m2⟩
  | .local _ .vmem, ⟨2, _⟩ => ⟨S64x1280, .fp8e5m2⟩
  | .local _ .vmem, ⟨3, _⟩ => ⟨S64x1280, .fp8e5m2⟩
  | .local _ .vmem, ⟨4, _⟩ => ⟨S64x1280, .fp8e5m2⟩
  | .local _ .vmem, ⟨5, _⟩ => ⟨S64x1280, .fp8e5m2⟩
  | .local _ .vmem, ⟨6, _⟩ => ⟨S96x64, .f32⟩
  | .local _ .vmem, ⟨7, _⟩ => ⟨S1x1280x1280, .fp8e4m3⟩
  | .local _ .vmem, ⟨8, _⟩ => ⟨S1x1280x1280, .fp8e4m3⟩
  | .local _ .vmem, ⟨9, _⟩ => ⟨S1x1280, .f32⟩
  | .local _ .vmem, ⟨10, _⟩ => ⟨S512x1280, .bf16⟩
  | .local _ .vmem, ⟨11, _⟩ => ⟨S512x1280, .bf16⟩
  | .local _ .vmem, ⟨12, _⟩ => ⟨S1280x11520, .bf16⟩
  | .local _ .vmem, ⟨13, _⟩ => ⟨S2x640x3840, .bf16⟩
  | _, _ => ⟨S6144x1280, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [BitOps F]

abbrev grid0 : Pipeline.Grid := ⟨1, ![21], ![false]⟩

def k0_cond1 (i : grid0.Coords) : BitVec 1 :=
  let arg0 : BitVec 32 := BitVec.ofNat 32 (i 0).val
  let c9_i32 : BitVec 32 := 9#32
  let v0 : BitVec 1 := Scalar.cmpi .slt arg0 c9_i32
  let v1 : BitVec 32 := Scalar.extui v0
  let c0_i32 : BitVec 32 := 0#32
  let v2 : BitVec 1 := Scalar.cmpi .ne v1 c0_i32
  v2

def k0_mult1 (i : grid0.Coords) : BitVec 32 :=
  let arg0 : BitVec 32 := BitVec.ofNat 32 (i 0).val
  let c1280_i32 : BitVec 32 := 1280#32
  let v16 : BitVec 32 := Scalar.muli arg0 c1280_i32
  v16
def k0_off1 (i : grid0.Coords) : Fin 2 → Nat :=
  let c0_7 : Index := 0#32
  let arg0 : BitVec 32 := BitVec.ofNat 32 (i 0).val
  let c1280_i32 : BitVec 32 := 1280#32
  let v16 : BitVec 32 := Scalar.muli arg0 c1280_i32
  let v17 : BitVec 32 := v16
  let v18 : Index := Scalar.indexCast v17
  ![0, v18.toNat]
def k0_cond2 (i : grid0.Coords) : BitVec 1 :=
  let arg0 : BitVec 32 := BitVec.ofNat 32 (i 0).val
  let c8_i32 : BitVec 32 := 8#32
  let v3 : BitVec 1 := Scalar.cmpi .eq arg0 c8_i32
  let v4 : BitVec 32 := Scalar.extui v3
  let c0_i32_0 : BitVec 32 := 0#32
  let v5 : BitVec 1 := Scalar.cmpi .ne v4 c0_i32_0
  v5

def k0_off2 (c_m1_i32 : BitVec 32) : Fin 2 → Nat :=
  let c95_i32 : BitVec 32 := 95#32
  let c0_i32_6 : BitVec 32 := 0#32
  let v12 : BitVec 32 := Scalar.maxsi c0_i32_6 c_m1_i32
  let v13 : BitVec 32 := Scalar.minsi c95_i32 v12
  let v14 : Index := Scalar.indexCast v13
  let c0_7 : Index := 0#32
  ![v14.toNat, 0]
def k0_off2_at (r : Fin 10) : BitVec 32 :=
  if r.val < 5 then
    if r.val < 2 then
      if r.val < 1 then
        4294967295#32
      else
        0#32
    else
      if r.val < 3 then
        1#32
      else
        if r.val < 4 then
          2#32
        else
          3#32
  else
    if r.val < 7 then
      if r.val < 6 then
        4#32
      else
        5#32
    else
      if r.val < 8 then
        6#32
      else
        if r.val < 9 then
          7#32
        else
          8#32
def k0_off3 : Fin 3 → Nat :=
  let c0_i32_8 : BitVec 32 := 0#32
  let c2_i32 : BitVec 32 := 2#32
  let v25 : BitVec 32 := Scalar.remsi c0_i32_8 c2_i32
  let v49 : Index := Scalar.indexCast v25
  let c0_15 : Index := 0#32
  let c0_16 : Index := 0#32
  ![v49.toNat, 0, 0]
def k0_off4 : Fin 3 → Nat :=
  let c0_i32_8 : BitVec 32 := 0#32
  let c2_i32 : BitVec 32 := 2#32
  let v25 : BitVec 32 := Scalar.remsi c0_i32_8 c2_i32
  let v53 : Index := Scalar.indexCast v25
  let c0_17 : Index := 0#32
  let c1280 : Index := 1280#32
  ![v53.toNat, 0, 1280]
def k0_off5 : Fin 3 → Nat :=
  let c0_i32_8 : BitVec 32 := 0#32
  let c2_i32 : BitVec 32 := 2#32
  let v25 : BitVec 32 := Scalar.remsi c0_i32_8 c2_i32
  let v57 : Index := Scalar.indexCast v25
  let c0_18 : Index := 0#32
  let c2560 : Index := 2560#32
  ![v57.toNat, 0, 2560]
def k0_off6 : Fin 3 → Nat :=
  let c0_i32_25 : BitVec 32 := 0#32
  let c2_i32_26 : BitVec 32 := 2#32
  let v73 : BitVec 32 := Scalar.remsi c0_i32_25 c2_i32_26
  let v97 : Index := Scalar.indexCast v73
  let c64 : Index := 64#32
  let c0_36 : Index := 0#32
  ![v97.toNat, 64, 0]
def k0_off7 : Fin 3 → Nat :=
  let c0_i32_25 : BitVec 32 := 0#32
  let c2_i32_26 : BitVec 32 := 2#32
  let v73 : BitVec 32 := Scalar.remsi c0_i32_25 c2_i32_26
  let v101 : Index := Scalar.indexCast v73
  let c64_37 : Index := 64#32
  let c1280_38 : Index := 1280#32
  ![v101.toNat, 64, 1280]
def k0_off8 : Fin 3 → Nat :=
  let c0_i32_25 : BitVec 32 := 0#32
  let c2_i32_26 : BitVec 32 := 2#32
  let v73 : BitVec 32 := Scalar.remsi c0_i32_25 c2_i32_26
  let v105 : Index := Scalar.indexCast v73
  let c64_39 : Index := 64#32
  let c2560_40 : Index := 2560#32
  ![v105.toNat, 64, 2560]
def k0_off9 : Fin 3 → Nat :=
  let c0_i32_47 : BitVec 32 := 0#32
  let c2_i32_48 : BitVec 32 := 2#32
  let v121 : BitVec 32 := Scalar.remsi c0_i32_47 c2_i32_48
  let v145 : Index := Scalar.indexCast v121
  let c128 : Index := 128#32
  let c0_58 : Index := 0#32
  ![v145.toNat, 128, 0]
def k0_off10 : Fin 3 → Nat :=
  let c0_i32_47 : BitVec 32 := 0#32
  let c2_i32_48 : BitVec 32 := 2#32
  let v121 : BitVec 32 := Scalar.remsi c0_i32_47 c2_i32_48
  let v149 : Index := Scalar.indexCast v121
  let c128_59 : Index := 128#32
  let c1280_60 : Index := 1280#32
  ![v149.toNat, 128, 1280]
def k0_off11 : Fin 3 → Nat :=
  let c0_i32_47 : BitVec 32 := 0#32
  let c2_i32_48 : BitVec 32 := 2#32
  let v121 : BitVec 32 := Scalar.remsi c0_i32_47 c2_i32_48
  let v153 : Index := Scalar.indexCast v121
  let c128_61 : Index := 128#32
  let c2560_62 : Index := 2560#32
  ![v153.toNat, 128, 2560]
def k0_off12 : Fin 3 → Nat :=
  let c0_i32_69 : BitVec 32 := 0#32
  let c2_i32_70 : BitVec 32 := 2#32
  let v169 : BitVec 32 := Scalar.remsi c0_i32_69 c2_i32_70
  let v193 : Index := Scalar.indexCast v169
  let c192 : Index := 192#32
  let c0_80 : Index := 0#32
  ![v193.toNat, 192, 0]
def k0_off13 : Fin 3 → Nat :=
  let c0_i32_69 : BitVec 32 := 0#32
  let c2_i32_70 : BitVec 32 := 2#32
  let v169 : BitVec 32 := Scalar.remsi c0_i32_69 c2_i32_70
  let v197 : Index := Scalar.indexCast v169
  let c192_81 : Index := 192#32
  let c1280_82 : Index := 1280#32
  ![v197.toNat, 192, 1280]
def k0_off14 : Fin 3 → Nat :=
  let c0_i32_69 : BitVec 32 := 0#32
  let c2_i32_70 : BitVec 32 := 2#32
  let v169 : BitVec 32 := Scalar.remsi c0_i32_69 c2_i32_70
  let v201 : Index := Scalar.indexCast v169
  let c192_83 : Index := 192#32
  let c2560_84 : Index := 2560#32
  ![v201.toNat, 192, 2560]
def k0_off15 : Fin 3 → Nat :=
  let c0_i32_90 : BitVec 32 := 0#32
  let c2_i32_91 : BitVec 32 := 2#32
  let v217 : BitVec 32 := Scalar.remsi c0_i32_90 c2_i32_91
  let v241 : Index := Scalar.indexCast v217
  let c256 : Index := 256#32
  let c0_101 : Index := 0#32
  ![v241.toNat, 256, 0]
def k0_off16 : Fin 3 → Nat :=
  let c0_i32_90 : BitVec 32 := 0#32
  let c2_i32_91 : BitVec 32 := 2#32
  let v217 : BitVec 32 := Scalar.remsi c0_i32_90 c2_i32_91
  let v245 : Index := Scalar.indexCast v217
  let c256_102 : Index := 256#32
  let c1280_103 : Index := 1280#32
  ![v245.toNat, 256, 1280]
def k0_off17 : Fin 3 → Nat :=
  let c0_i32_90 : BitVec 32 := 0#32
  let c2_i32_91 : BitVec 32 := 2#32
  let v217 : BitVec 32 := Scalar.remsi c0_i32_90 c2_i32_91
  let v249 : Index := Scalar.indexCast v217
  let c256_104 : Index := 256#32
  let c2560_105 : Index := 2560#32
  ![v249.toNat, 256, 2560]
def k0_off18 : Fin 3 → Nat :=
  let c0_i32_111 : BitVec 32 := 0#32
  let c2_i32_112 : BitVec 32 := 2#32
  let v265 : BitVec 32 := Scalar.remsi c0_i32_111 c2_i32_112
  let v289 : Index := Scalar.indexCast v265
  let c320 : Index := 320#32
  let c0_122 : Index := 0#32
  ![v289.toNat, 320, 0]
def k0_off19 : Fin 3 → Nat :=
  let c0_i32_111 : BitVec 32 := 0#32
  let c2_i32_112 : BitVec 32 := 2#32
  let v265 : BitVec 32 := Scalar.remsi c0_i32_111 c2_i32_112
  let v293 : Index := Scalar.indexCast v265
  let c320_123 : Index := 320#32
  let c1280_124 : Index := 1280#32
  ![v293.toNat, 320, 1280]
def k0_off20 : Fin 3 → Nat :=
  let c0_i32_111 : BitVec 32 := 0#32
  let c2_i32_112 : BitVec 32 := 2#32
  let v265 : BitVec 32 := Scalar.remsi c0_i32_111 c2_i32_112
  let v297 : Index := Scalar.indexCast v265
  let c320_125 : Index := 320#32
  let c2560_126 : Index := 2560#32
  ![v297.toNat, 320, 2560]
def k0_off21 : Fin 3 → Nat :=
  let c0_i32_132 : BitVec 32 := 0#32
  let c2_i32_133 : BitVec 32 := 2#32
  let v313 : BitVec 32 := Scalar.remsi c0_i32_132 c2_i32_133
  let v337 : Index := Scalar.indexCast v313
  let c384 : Index := 384#32
  let c0_143 : Index := 0#32
  ![v337.toNat, 384, 0]
def k0_off22 : Fin 3 → Nat :=
  let c0_i32_132 : BitVec 32 := 0#32
  let c2_i32_133 : BitVec 32 := 2#32
  let v313 : BitVec 32 := Scalar.remsi c0_i32_132 c2_i32_133
  let v341 : Index := Scalar.indexCast v313
  let c384_144 : Index := 384#32
  let c1280_145 : Index := 1280#32
  ![v341.toNat, 384, 1280]
def k0_off23 : Fin 3 → Nat :=
  let c0_i32_132 : BitVec 32 := 0#32
  let c2_i32_133 : BitVec 32 := 2#32
  let v313 : BitVec 32 := Scalar.remsi c0_i32_132 c2_i32_133
  let v345 : Index := Scalar.indexCast v313
  let c384_146 : Index := 384#32
  let c2560_147 : Index := 2560#32
  ![v345.toNat, 384, 2560]
def k0_off24 : Fin 3 → Nat :=
  let c0_i32_154 : BitVec 32 := 0#32
  let c2_i32_155 : BitVec 32 := 2#32
  let v361 : BitVec 32 := Scalar.remsi c0_i32_154 c2_i32_155
  let v385 : Index := Scalar.indexCast v361
  let c448 : Index := 448#32
  let c0_165 : Index := 0#32
  ![v385.toNat, 448, 0]
def k0_off25 : Fin 3 → Nat :=
  let c0_i32_154 : BitVec 32 := 0#32
  let c2_i32_155 : BitVec 32 := 2#32
  let v361 : BitVec 32 := Scalar.remsi c0_i32_154 c2_i32_155
  let v389 : Index := Scalar.indexCast v361
  let c448_166 : Index := 448#32
  let c1280_167 : Index := 1280#32
  ![v389.toNat, 448, 1280]
def k0_off26 : Fin 3 → Nat :=
  let c0_i32_154 : BitVec 32 := 0#32
  let c2_i32_155 : BitVec 32 := 2#32
  let v361 : BitVec 32 := Scalar.remsi c0_i32_154 c2_i32_155
  let v393 : Index := Scalar.indexCast v361
  let c448_168 : Index := 448#32
  let c2560_169 : Index := 2560#32
  ![v393.toNat, 448, 2560]
def k0_off27 : Fin 3 → Nat :=
  let c0_i32_175 : BitVec 32 := 0#32
  let c2_i32_176 : BitVec 32 := 2#32
  let v409 : BitVec 32 := Scalar.remsi c0_i32_175 c2_i32_176
  let v433 : Index := Scalar.indexCast v409
  let c512 : Index := 512#32
  let c0_186 : Index := 0#32
  ![v433.toNat, 512, 0]
def k0_off28 : Fin 3 → Nat :=
  let c0_i32_175 : BitVec 32 := 0#32
  let c2_i32_176 : BitVec 32 := 2#32
  let v409 : BitVec 32 := Scalar.remsi c0_i32_175 c2_i32_176
  let v437 : Index := Scalar.indexCast v409
  let c512_187 : Index := 512#32
  let c1280_188 : Index := 1280#32
  ![v437.toNat, 512, 1280]
def k0_off29 : Fin 3 → Nat :=
  let c0_i32_175 : BitVec 32 := 0#32
  let c2_i32_176 : BitVec 32 := 2#32
  let v409 : BitVec 32 := Scalar.remsi c0_i32_175 c2_i32_176
  let v441 : Index := Scalar.indexCast v409
  let c512_189 : Index := 512#32
  let c2560_190 : Index := 2560#32
  ![v441.toNat, 512, 2560]
def k0_off30 : Fin 3 → Nat :=
  let c0_i32_201 : BitVec 32 := 0#32
  let c2_i32_202 : BitVec 32 := 2#32
  let v461 : BitVec 32 := Scalar.remsi c0_i32_201 c2_i32_202
  let v485 : Index := Scalar.indexCast v461
  let c576 : Index := 576#32
  let c0_212 : Index := 0#32
  ![v485.toNat, 576, 0]
def k0_off31 : Fin 3 → Nat :=
  let c0_i32_201 : BitVec 32 := 0#32
  let c2_i32_202 : BitVec 32 := 2#32
  let v461 : BitVec 32 := Scalar.remsi c0_i32_201 c2_i32_202
  let v489 : Index := Scalar.indexCast v461
  let c576_213 : Index := 576#32
  let c1280_214 : Index := 1280#32
  ![v489.toNat, 576, 1280]
def k0_off32 : Fin 3 → Nat :=
  let c0_i32_201 : BitVec 32 := 0#32
  let c2_i32_202 : BitVec 32 := 2#32
  let v461 : BitVec 32 := Scalar.remsi c0_i32_201 c2_i32_202
  let v493 : Index := Scalar.indexCast v461
  let c576_215 : Index := 576#32
  let c2560_216 : Index := 2560#32
  ![v493.toNat, 576, 2560]
def k0_cond3 (i : grid0.Coords) : BitVec 1 :=
  let arg0 : BitVec 32 := BitVec.ofNat 32 (i 0).val
  let c9_i32_1 : BitVec 32 := 9#32
  let v6 : BitVec 1 := Scalar.cmpi .sge arg0 c9_i32_1
  let v7 : BitVec 32 := Scalar.extui v6
  let c0_i32_2 : BitVec 32 := 0#32
  let v8 : BitVec 1 := Scalar.cmpi .ne v7 c0_i32_2
  v8

def k0_off33 (i : grid0.Coords) : Fin 3 → Nat :=
  let arg0 : BitVec 32 := BitVec.ofNat 32 (i 0).val
  let c9_i32_3 : BitVec 32 := 9#32
  let v9 : BitVec 32 := Scalar.subi arg0 c9_i32_3
  let c2_i32 : BitVec 32 := 2#32
  let v10 : BitVec 32 := Scalar.remsi v9 c2_i32
  let v13 : Index := Scalar.indexCast v10
  let c128 : Index := 128#32
  let c0 : Index := 0#32
  ![v13.toNat, 128, 0]
def k0_off34 (i : grid0.Coords) : Fin 3 → Nat :=
  let arg0 : BitVec 32 := BitVec.ofNat 32 (i 0).val
  let c9_i32_3 : BitVec 32 := 9#32
  let v9 : BitVec 32 := Scalar.subi arg0 c9_i32_3
  let c2_i32 : BitVec 32 := 2#32
  let v10 : BitVec 32 := Scalar.remsi v9 c2_i32
  let v16 : Index := Scalar.indexCast v10
  let c64 : Index := 64#32
  let c0_4 : Index := 0#32
  ![v16.toNat, 64, 0]
def k0_off35 (i : grid0.Coords) : Fin 3 → Nat :=
  let arg0 : BitVec 32 := BitVec.ofNat 32 (i 0).val
  let c9_i32_3 : BitVec 32 := 9#32
  let v9 : BitVec 32 := Scalar.subi arg0 c9_i32_3
  let c2_i32 : BitVec 32 := 2#32
  let v10 : BitVec 32 := Scalar.remsi v9 c2_i32
  let v19 : Index := Scalar.indexCast v10
  let c0_5 : Index := 0#32
  let c0_6 : Index := 0#32
  ![v19.toNat, 0, 0]
def k0_off36 (i : grid0.Coords) (c0_i32_15 : BitVec 32) : Fin 2 → Nat :=
  let c95_i32 : BitVec 32 := 95#32
  let c0_i32_17 : BitVec 32 := 0#32
  let arg0 : BitVec 32 := BitVec.ofNat 32 (i 0).val
  let c9_i32_3 : BitVec 32 := 9#32
  let v9 : BitVec 32 := Scalar.subi arg0 c9_i32_3
  let c1_i32 : BitVec 32 := 1#32
  let v11 : BitVec 32 := Scalar.addi v9 c1_i32
  let c11_i32 : BitVec 32 := 11#32
  let v12 : BitVec 32 := Scalar.minsi v11 c11_i32
  let c8_i32_14 : BitVec 32 := 8#32
  let v30 : BitVec 32 := Scalar.muli v12 c8_i32_14
  let v31 : BitVec 32 := Scalar.addi v30 c0_i32_15
  let c1_i32_16 : BitVec 32 := 1#32
  let v32 : BitVec 32 := Scalar.subi v31 c1_i32_16
  let v33 : BitVec 32 := Scalar.maxsi c0_i32_17 v32
  let v34 : BitVec 32 := Scalar.minsi c95_i32 v33
  let v35 : Index := Scalar.indexCast v34
  let c0_18 : Index := 0#32
  ![v35.toNat, 0]
def k0_off37 (i : grid0.Coords) : Fin 3 → Nat :=
  let arg0 : BitVec 32 := BitVec.ofNat 32 (i 0).val
  let c9_i32_3 : BitVec 32 := 9#32
  let v9 : BitVec 32 := Scalar.subi arg0 c9_i32_3
  let c1_i32 : BitVec 32 := 1#32
  let v11 : BitVec 32 := Scalar.addi v9 c1_i32
  let c11_i32 : BitVec 32 := 11#32
  let v12 : BitVec 32 := Scalar.minsi v11 c11_i32
  let c2_i32_20 : BitVec 32 := 2#32
  let v46 : BitVec 32 := Scalar.remsi v12 c2_i32_20
  let v70 : Index := Scalar.indexCast v46
  let c0_28 : Index := 0#32
  let c0_29 : Index := 0#32
  ![v70.toNat, 0, 0]
def k0_off38 (i : grid0.Coords) : Fin 3 → Nat :=
  let arg0 : BitVec 32 := BitVec.ofNat 32 (i 0).val
  let c9_i32_3 : BitVec 32 := 9#32
  let v9 : BitVec 32 := Scalar.subi arg0 c9_i32_3
  let c1_i32 : BitVec 32 := 1#32
  let v11 : BitVec 32 := Scalar.addi v9 c1_i32
  let c11_i32 : BitVec 32 := 11#32
  let v12 : BitVec 32 := Scalar.minsi v11 c11_i32
  let c2_i32_20 : BitVec 32 := 2#32
  let v46 : BitVec 32 := Scalar.remsi v12 c2_i32_20
  let v74 : Index := Scalar.indexCast v46
  let c0_30 : Index := 0#32
  let c1280 : Index := 1280#32
  ![v74.toNat, 0, 1280]
def k0_off39 (i : grid0.Coords) : Fin 3 → Nat :=
  let arg0 : BitVec 32 := BitVec.ofNat 32 (i 0).val
  let c9_i32_3 : BitVec 32 := 9#32
  let v9 : BitVec 32 := Scalar.subi arg0 c9_i32_3
  let c1_i32 : BitVec 32 := 1#32
  let v11 : BitVec 32 := Scalar.addi v9 c1_i32
  let c11_i32 : BitVec 32 := 11#32
  let v12 : BitVec 32 := Scalar.minsi v11 c11_i32
  let c2_i32_20 : BitVec 32 := 2#32
  let v46 : BitVec 32 := Scalar.remsi v12 c2_i32_20
  let v78 : Index := Scalar.indexCast v46
  let c0_31 : Index := 0#32
  let c2560 : Index := 2560#32
  ![v78.toNat, 0, 2560]
def k0_off40 (i : grid0.Coords) : Fin 3 → Nat :=
  let arg0 : BitVec 32 := BitVec.ofNat 32 (i 0).val
  let c9_i32_3 : BitVec 32 := 9#32
  let v9 : BitVec 32 := Scalar.subi arg0 c9_i32_3
  let c1_i32 : BitVec 32 := 1#32
  let v11 : BitVec 32 := Scalar.addi v9 c1_i32
  let c11_i32 : BitVec 32 := 11#32
  let v12 : BitVec 32 := Scalar.minsi v11 c11_i32
  let c2_i32_40 : BitVec 32 := 2#32
  let v97 : BitVec 32 := Scalar.remsi v12 c2_i32_40
  let v121 : Index := Scalar.indexCast v97
  let c64_50 : Index := 64#32
  let c0_51 : Index := 0#32
  ![v121.toNat, 64, 0]
def k0_off41 (i : grid0.Coords) : Fin 3 → Nat :=
  let arg0 : BitVec 32 := BitVec.ofNat 32 (i 0).val
  let c9_i32_3 : BitVec 32 := 9#32
  let v9 : BitVec 32 := Scalar.subi arg0 c9_i32_3
  let c1_i32 : BitVec 32 := 1#32
  let v11 : BitVec 32 := Scalar.addi v9 c1_i32
  let c11_i32 : BitVec 32 := 11#32
  let v12 : BitVec 32 := Scalar.minsi v11 c11_i32
  let c2_i32_40 : BitVec 32 := 2#32
  let v97 : BitVec 32 := Scalar.remsi v12 c2_i32_40
  let v125 : Index := Scalar.indexCast v97
  let c64_52 : Index := 64#32
  let c1280_53 : Index := 1280#32
  ![v125.toNat, 64, 1280]
def k0_off42 (i : grid0.Coords) : Fin 3 → Nat :=
  let arg0 : BitVec 32 := BitVec.ofNat 32 (i 0).val
  let c9_i32_3 : BitVec 32 := 9#32
  let v9 : BitVec 32 := Scalar.subi arg0 c9_i32_3
  let c1_i32 : BitVec 32 := 1#32
  let v11 : BitVec 32 := Scalar.addi v9 c1_i32
  let c11_i32 : BitVec 32 := 11#32
  let v12 : BitVec 32 := Scalar.minsi v11 c11_i32
  let c2_i32_40 : BitVec 32 := 2#32
  let v97 : BitVec 32 := Scalar.remsi v12 c2_i32_40
  let v129 : Index := Scalar.indexCast v97
  let c64_54 : Index := 64#32
  let c2560_55 : Index := 2560#32
  ![v129.toNat, 64, 2560]
def k0_off43 (i : grid0.Coords) : Fin 3 → Nat :=
  let arg0 : BitVec 32 := BitVec.ofNat 32 (i 0).val
  let c9_i32_3 : BitVec 32 := 9#32
  let v9 : BitVec 32 := Scalar.subi arg0 c9_i32_3
  let c1_i32 : BitVec 32 := 1#32
  let v11 : BitVec 32 := Scalar.addi v9 c1_i32
  let c11_i32 : BitVec 32 := 11#32
  let v12 : BitVec 32 := Scalar.minsi v11 c11_i32
  let c2_i32_64 : BitVec 32 := 2#32
  let v148 : BitVec 32 := Scalar.remsi v12 c2_i32_64
  let v172 : Index := Scalar.indexCast v148
  let c128_74 : Index := 128#32
  let c0_75 : Index := 0#32
  ![v172.toNat, 128, 0]
def k0_off44 (i : grid0.Coords) : Fin 3 → Nat :=
  let arg0 : BitVec 32 := BitVec.ofNat 32 (i 0).val
  let c9_i32_3 : BitVec 32 := 9#32
  let v9 : BitVec 32 := Scalar.subi arg0 c9_i32_3
  let c1_i32 : BitVec 32 := 1#32
  let v11 : BitVec 32 := Scalar.addi v9 c1_i32
  let c11_i32 : BitVec 32 := 11#32
  let v12 : BitVec 32 := Scalar.minsi v11 c11_i32
  let c2_i32_64 : BitVec 32 := 2#32
  let v148 : BitVec 32 := Scalar.remsi v12 c2_i32_64
  let v176 : Index := Scalar.indexCast v148
  let c128_76 : Index := 128#32
  let c1280_77 : Index := 1280#32
  ![v176.toNat, 128, 1280]
def k0_off45 (i : grid0.Coords) : Fin 3 → Nat :=
  let arg0 : BitVec 32 := BitVec.ofNat 32 (i 0).val
  let c9_i32_3 : BitVec 32 := 9#32
  let v9 : BitVec 32 := Scalar.subi arg0 c9_i32_3
  let c1_i32 : BitVec 32 := 1#32
  let v11 : BitVec 32 := Scalar.addi v9 c1_i32
  let c11_i32 : BitVec 32 := 11#32
  let v12 : BitVec 32 := Scalar.minsi v11 c11_i32
  let c2_i32_64 : BitVec 32 := 2#32
  let v148 : BitVec 32 := Scalar.remsi v12 c2_i32_64
  let v180 : Index := Scalar.indexCast v148
  let c128_78 : Index := 128#32
  let c2560_79 : Index := 2560#32
  ![v180.toNat, 128, 2560]
def k0_off46 (i : grid0.Coords) : Fin 3 → Nat :=
  let arg0 : BitVec 32 := BitVec.ofNat 32 (i 0).val
  let c9_i32_3 : BitVec 32 := 9#32
  let v9 : BitVec 32 := Scalar.subi arg0 c9_i32_3
  let c1_i32 : BitVec 32 := 1#32
  let v11 : BitVec 32 := Scalar.addi v9 c1_i32
  let c11_i32 : BitVec 32 := 11#32
  let v12 : BitVec 32 := Scalar.minsi v11 c11_i32
  let c2_i32_87 : BitVec 32 := 2#32
  let v199 : BitVec 32 := Scalar.remsi v12 c2_i32_87
  let v223 : Index := Scalar.indexCast v199
  let c192 : Index := 192#32
  let c0_97 : Index := 0#32
  ![v223.toNat, 192, 0]
def k0_off47 (i : grid0.Coords) : Fin 3 → Nat :=
  let arg0 : BitVec 32 := BitVec.ofNat 32 (i 0).val
  let c9_i32_3 : BitVec 32 := 9#32
  let v9 : BitVec 32 := Scalar.subi arg0 c9_i32_3
  let c1_i32 : BitVec 32 := 1#32
  let v11 : BitVec 32 := Scalar.addi v9 c1_i32
  let c11_i32 : BitVec 32 := 11#32
  let v12 : BitVec 32 := Scalar.minsi v11 c11_i32
  let c2_i32_87 : BitVec 32 := 2#32
  let v199 : BitVec 32 := Scalar.remsi v12 c2_i32_87
  let v227 : Index := Scalar.indexCast v199
  let c192_98 : Index := 192#32
  let c1280_99 : Index := 1280#32
  ![v227.toNat, 192, 1280]
def k0_off48 (i : grid0.Coords) : Fin 3 → Nat :=
  let arg0 : BitVec 32 := BitVec.ofNat 32 (i 0).val
  let c9_i32_3 : BitVec 32 := 9#32
  let v9 : BitVec 32 := Scalar.subi arg0 c9_i32_3
  let c1_i32 : BitVec 32 := 1#32
  let v11 : BitVec 32 := Scalar.addi v9 c1_i32
  let c11_i32 : BitVec 32 := 11#32
  let v12 : BitVec 32 := Scalar.minsi v11 c11_i32
  let c2_i32_87 : BitVec 32 := 2#32
  let v199 : BitVec 32 := Scalar.remsi v12 c2_i32_87
  let v231 : Index := Scalar.indexCast v199
  let c192_100 : Index := 192#32
  let c2560_101 : Index := 2560#32
  ![v231.toNat, 192, 2560]
def k0_off49 (i : grid0.Coords) : Fin 3 → Nat :=
  let arg0 : BitVec 32 := BitVec.ofNat 32 (i 0).val
  let c9_i32_3 : BitVec 32 := 9#32
  let v9 : BitVec 32 := Scalar.subi arg0 c9_i32_3
  let c1_i32 : BitVec 32 := 1#32
  let v11 : BitVec 32 := Scalar.addi v9 c1_i32
  let c11_i32 : BitVec 32 := 11#32
  let v12 : BitVec 32 := Scalar.minsi v11 c11_i32
  let c2_i32_113 : BitVec 32 := 2#32
  let v254 : BitVec 32 := Scalar.remsi v12 c2_i32_113
  let v278 : Index := Scalar.indexCast v254
  let c256 : Index := 256#32
  let c0_123 : Index := 0#32
  ![v278.toNat, 256, 0]
def k0_off50 (i : grid0.Coords) : Fin 3 → Nat :=
  let arg0 : BitVec 32 := BitVec.ofNat 32 (i 0).val
  let c9_i32_3 : BitVec 32 := 9#32
  let v9 : BitVec 32 := Scalar.subi arg0 c9_i32_3
  let c1_i32 : BitVec 32 := 1#32
  let v11 : BitVec 32 := Scalar.addi v9 c1_i32
  let c11_i32 : BitVec 32 := 11#32
  let v12 : BitVec 32 := Scalar.minsi v11 c11_i32
  let c2_i32_113 : BitVec 32 := 2#32
  let v254 : BitVec 32 := Scalar.remsi v12 c2_i32_113
  let v282 : Index := Scalar.indexCast v254
  let c256_124 : Index := 256#32
  let c1280_125 : Index := 1280#32
  ![v282.toNat, 256, 1280]
def k0_off51 (i : grid0.Coords) : Fin 3 → Nat :=
  let arg0 : BitVec 32 := BitVec.ofNat 32 (i 0).val
  let c9_i32_3 : BitVec 32 := 9#32
  let v9 : BitVec 32 := Scalar.subi arg0 c9_i32_3
  let c1_i32 : BitVec 32 := 1#32
  let v11 : BitVec 32 := Scalar.addi v9 c1_i32
  let c11_i32 : BitVec 32 := 11#32
  let v12 : BitVec 32 := Scalar.minsi v11 c11_i32
  let c2_i32_113 : BitVec 32 := 2#32
  let v254 : BitVec 32 := Scalar.remsi v12 c2_i32_113
  let v286 : Index := Scalar.indexCast v254
  let c256_126 : Index := 256#32
  let c2560_127 : Index := 2560#32
  ![v286.toNat, 256, 2560]
def k0_off52 (i : grid0.Coords) : Fin 3 → Nat :=
  let arg0 : BitVec 32 := BitVec.ofNat 32 (i 0).val
  let c9_i32_3 : BitVec 32 := 9#32
  let v9 : BitVec 32 := Scalar.subi arg0 c9_i32_3
  let c1_i32 : BitVec 32 := 1#32
  let v11 : BitVec 32 := Scalar.addi v9 c1_i32
  let c11_i32 : BitVec 32 := 11#32
  let v12 : BitVec 32 := Scalar.minsi v11 c11_i32
  let c2_i32_135 : BitVec 32 := 2#32
  let v305 : BitVec 32 := Scalar.remsi v12 c2_i32_135
  let v329 : Index := Scalar.indexCast v305
  let c320 : Index := 320#32
  let c0_145 : Index := 0#32
  ![v329.toNat, 320, 0]
def k0_off53 (i : grid0.Coords) : Fin 3 → Nat :=
  let arg0 : BitVec 32 := BitVec.ofNat 32 (i 0).val
  let c9_i32_3 : BitVec 32 := 9#32
  let v9 : BitVec 32 := Scalar.subi arg0 c9_i32_3
  let c1_i32 : BitVec 32 := 1#32
  let v11 : BitVec 32 := Scalar.addi v9 c1_i32
  let c11_i32 : BitVec 32 := 11#32
  let v12 : BitVec 32 := Scalar.minsi v11 c11_i32
  let c2_i32_135 : BitVec 32 := 2#32
  let v305 : BitVec 32 := Scalar.remsi v12 c2_i32_135
  let v333 : Index := Scalar.indexCast v305
  let c320_146 : Index := 320#32
  let c1280_147 : Index := 1280#32
  ![v333.toNat, 320, 1280]
def k0_off54 (i : grid0.Coords) : Fin 3 → Nat :=
  let arg0 : BitVec 32 := BitVec.ofNat 32 (i 0).val
  let c9_i32_3 : BitVec 32 := 9#32
  let v9 : BitVec 32 := Scalar.subi arg0 c9_i32_3
  let c1_i32 : BitVec 32 := 1#32
  let v11 : BitVec 32 := Scalar.addi v9 c1_i32
  let c11_i32 : BitVec 32 := 11#32
  let v12 : BitVec 32 := Scalar.minsi v11 c11_i32
  let c2_i32_135 : BitVec 32 := 2#32
  let v305 : BitVec 32 := Scalar.remsi v12 c2_i32_135
  let v337 : Index := Scalar.indexCast v305
  let c320_148 : Index := 320#32
  let c2560_149 : Index := 2560#32
  ![v337.toNat, 320, 2560]
def k0_off55 (i : grid0.Coords) : Fin 3 → Nat :=
  let arg0 : BitVec 32 := BitVec.ofNat 32 (i 0).val
  let c9_i32_3 : BitVec 32 := 9#32
  let v9 : BitVec 32 := Scalar.subi arg0 c9_i32_3
  let c1_i32 : BitVec 32 := 1#32
  let v11 : BitVec 32 := Scalar.addi v9 c1_i32
  let c11_i32 : BitVec 32 := 11#32
  let v12 : BitVec 32 := Scalar.minsi v11 c11_i32
  let c2_i32_158 : BitVec 32 := 2#32
  let v356 : BitVec 32 := Scalar.remsi v12 c2_i32_158
  let v380 : Index := Scalar.indexCast v356
  let c384 : Index := 384#32
  let c0_168 : Index := 0#32
  ![v380.toNat, 384, 0]
def k0_off56 (i : grid0.Coords) : Fin 3 → Nat :=
  let arg0 : BitVec 32 := BitVec.ofNat 32 (i 0).val
  let c9_i32_3 : BitVec 32 := 9#32
  let v9 : BitVec 32 := Scalar.subi arg0 c9_i32_3
  let c1_i32 : BitVec 32 := 1#32
  let v11 : BitVec 32 := Scalar.addi v9 c1_i32
  let c11_i32 : BitVec 32 := 11#32
  let v12 : BitVec 32 := Scalar.minsi v11 c11_i32
  let c2_i32_158 : BitVec 32 := 2#32
  let v356 : BitVec 32 := Scalar.remsi v12 c2_i32_158
  let v384 : Index := Scalar.indexCast v356
  let c384_169 : Index := 384#32
  let c1280_170 : Index := 1280#32
  ![v384.toNat, 384, 1280]
def k0_off57 (i : grid0.Coords) : Fin 3 → Nat :=
  let arg0 : BitVec 32 := BitVec.ofNat 32 (i 0).val
  let c9_i32_3 : BitVec 32 := 9#32
  let v9 : BitVec 32 := Scalar.subi arg0 c9_i32_3
  let c1_i32 : BitVec 32 := 1#32
  let v11 : BitVec 32 := Scalar.addi v9 c1_i32
  let c11_i32 : BitVec 32 := 11#32
  let v12 : BitVec 32 := Scalar.minsi v11 c11_i32
  let c2_i32_158 : BitVec 32 := 2#32
  let v356 : BitVec 32 := Scalar.remsi v12 c2_i32_158
  let v388 : Index := Scalar.indexCast v356
  let c384_171 : Index := 384#32
  let c2560_172 : Index := 2560#32
  ![v388.toNat, 384, 2560]
def k0_off58 (i : grid0.Coords) : Fin 3 → Nat :=
  let arg0 : BitVec 32 := BitVec.ofNat 32 (i 0).val
  let c9_i32_3 : BitVec 32 := 9#32
  let v9 : BitVec 32 := Scalar.subi arg0 c9_i32_3
  let c1_i32 : BitVec 32 := 1#32
  let v11 : BitVec 32 := Scalar.addi v9 c1_i32
  let c11_i32 : BitVec 32 := 11#32
  let v12 : BitVec 32 := Scalar.minsi v11 c11_i32
  let c2_i32_180 : BitVec 32 := 2#32
  let v407 : BitVec 32 := Scalar.remsi v12 c2_i32_180
  let v431 : Index := Scalar.indexCast v407
  let c448 : Index := 448#32
  let c0_190 : Index := 0#32
  ![v431.toNat, 448, 0]
def k0_off59 (i : grid0.Coords) : Fin 3 → Nat :=
  let arg0 : BitVec 32 := BitVec.ofNat 32 (i 0).val
  let c9_i32_3 : BitVec 32 := 9#32
  let v9 : BitVec 32 := Scalar.subi arg0 c9_i32_3
  let c1_i32 : BitVec 32 := 1#32
  let v11 : BitVec 32 := Scalar.addi v9 c1_i32
  let c11_i32 : BitVec 32 := 11#32
  let v12 : BitVec 32 := Scalar.minsi v11 c11_i32
  let c2_i32_180 : BitVec 32 := 2#32
  let v407 : BitVec 32 := Scalar.remsi v12 c2_i32_180
  let v435 : Index := Scalar.indexCast v407
  let c448_191 : Index := 448#32
  let c1280_192 : Index := 1280#32
  ![v435.toNat, 448, 1280]
def k0_off60 (i : grid0.Coords) : Fin 3 → Nat :=
  let arg0 : BitVec 32 := BitVec.ofNat 32 (i 0).val
  let c9_i32_3 : BitVec 32 := 9#32
  let v9 : BitVec 32 := Scalar.subi arg0 c9_i32_3
  let c1_i32 : BitVec 32 := 1#32
  let v11 : BitVec 32 := Scalar.addi v9 c1_i32
  let c11_i32 : BitVec 32 := 11#32
  let v12 : BitVec 32 := Scalar.minsi v11 c11_i32
  let c2_i32_180 : BitVec 32 := 2#32
  let v407 : BitVec 32 := Scalar.remsi v12 c2_i32_180
  let v439 : Index := Scalar.indexCast v407
  let c448_193 : Index := 448#32
  let c2560_194 : Index := 2560#32
  ![v439.toNat, 448, 2560]
def k0_off61 (i : grid0.Coords) : Fin 3 → Nat :=
  let arg0 : BitVec 32 := BitVec.ofNat 32 (i 0).val
  let c9_i32_3 : BitVec 32 := 9#32
  let v9 : BitVec 32 := Scalar.subi arg0 c9_i32_3
  let c1_i32 : BitVec 32 := 1#32
  let v11 : BitVec 32 := Scalar.addi v9 c1_i32
  let c11_i32 : BitVec 32 := 11#32
  let v12 : BitVec 32 := Scalar.minsi v11 c11_i32
  let c2_i32_207 : BitVec 32 := 2#32
  let v462 : BitVec 32 := Scalar.remsi v12 c2_i32_207
  let v486 : Index := Scalar.indexCast v462
  let c512_217 : Index := 512#32
  let c0_218 : Index := 0#32
  ![v486.toNat, 512, 0]
def k0_off62 (i : grid0.Coords) : Fin 3 → Nat :=
  let arg0 : BitVec 32 := BitVec.ofNat 32 (i 0).val
  let c9_i32_3 : BitVec 32 := 9#32
  let v9 : BitVec 32 := Scalar.subi arg0 c9_i32_3
  let c1_i32 : BitVec 32 := 1#32
  let v11 : BitVec 32 := Scalar.addi v9 c1_i32
  let c11_i32 : BitVec 32 := 11#32
  let v12 : BitVec 32 := Scalar.minsi v11 c11_i32
  let c2_i32_207 : BitVec 32 := 2#32
  let v462 : BitVec 32 := Scalar.remsi v12 c2_i32_207
  let v490 : Index := Scalar.indexCast v462
  let c512_219 : Index := 512#32
  let c1280_220 : Index := 1280#32
  ![v490.toNat, 512, 1280]
def k0_off63 (i : grid0.Coords) : Fin 3 → Nat :=
  let arg0 : BitVec 32 := BitVec.ofNat 32 (i 0).val
  let c9_i32_3 : BitVec 32 := 9#32
  let v9 : BitVec 32 := Scalar.subi arg0 c9_i32_3
  let c1_i32 : BitVec 32 := 1#32
  let v11 : BitVec 32 := Scalar.addi v9 c1_i32
  let c11_i32 : BitVec 32 := 11#32
  let v12 : BitVec 32 := Scalar.minsi v11 c11_i32
  let c2_i32_207 : BitVec 32 := 2#32
  let v462 : BitVec 32 := Scalar.remsi v12 c2_i32_207
  let v494 : Index := Scalar.indexCast v462
  let c512_221 : Index := 512#32
  let c2560_222 : Index := 2560#32
  ![v494.toNat, 512, 2560]
def k0_off64 (i : grid0.Coords) : Fin 3 → Nat :=
  let arg0 : BitVec 32 := BitVec.ofNat 32 (i 0).val
  let c9_i32_3 : BitVec 32 := 9#32
  let v9 : BitVec 32 := Scalar.subi arg0 c9_i32_3
  let c1_i32 : BitVec 32 := 1#32
  let v11 : BitVec 32 := Scalar.addi v9 c1_i32
  let c11_i32 : BitVec 32 := 11#32
  let v12 : BitVec 32 := Scalar.minsi v11 c11_i32
  let c2_i32_234 : BitVec 32 := 2#32
  let v517 : BitVec 32 := Scalar.remsi v12 c2_i32_234
  let v541 : Index := Scalar.indexCast v517
  let c576 : Index := 576#32
  let c0_244 : Index := 0#32
  ![v541.toNat, 576, 0]
def k0_off65 (i : grid0.Coords) : Fin 3 → Nat :=
  let arg0 : BitVec 32 := BitVec.ofNat 32 (i 0).val
  let c9_i32_3 : BitVec 32 := 9#32
  let v9 : BitVec 32 := Scalar.subi arg0 c9_i32_3
  let c1_i32 : BitVec 32 := 1#32
  let v11 : BitVec 32 := Scalar.addi v9 c1_i32
  let c11_i32 : BitVec 32 := 11#32
  let v12 : BitVec 32 := Scalar.minsi v11 c11_i32
  let c2_i32_234 : BitVec 32 := 2#32
  let v517 : BitVec 32 := Scalar.remsi v12 c2_i32_234
  let v545 : Index := Scalar.indexCast v517
  let c576_245 : Index := 576#32
  let c1280_246 : Index := 1280#32
  ![v545.toNat, 576, 1280]
def k0_off66 (i : grid0.Coords) : Fin 3 → Nat :=
  let arg0 : BitVec 32 := BitVec.ofNat 32 (i 0).val
  let c9_i32_3 : BitVec 32 := 9#32
  let v9 : BitVec 32 := Scalar.subi arg0 c9_i32_3
  let c1_i32 : BitVec 32 := 1#32
  let v11 : BitVec 32 := Scalar.addi v9 c1_i32
  let c11_i32 : BitVec 32 := 11#32
  let v12 : BitVec 32 := Scalar.minsi v11 c11_i32
  let c2_i32_234 : BitVec 32 := 2#32
  let v517 : BitVec 32 := Scalar.remsi v12 c2_i32_234
  let v549 : Index := Scalar.indexCast v517
  let c576_247 : Index := 576#32
  let c2560_248 : Index := 2560#32
  ![v549.toNat, 576, 2560]
def cc0_transform_0 (i : grid0.Coords) : Fin 2 → Nat :=
  let arg0 : BitVec 32 := BitVec.ofNat 32 (i 0).val
  let c9_i32 : BitVec 32 := 9#32
  let v0 : BitVec 32 := Scalar.subi arg0 c9_i32
  let c1_i32 : BitVec 32 := 1#32
  let v1 : BitVec 32 := Scalar.addi v0 c1_i32
  let c0_i32 : BitVec 32 := 0#32
  let c11_i32 : BitVec 32 := 11#32
  let v2 : BitVec 32 := Scalar.maxsi c0_i32 v1
  let v3 : BitVec 32 := Scalar.minsi c11_i32 v2
  let c0_i32_0 : BitVec 32 := 0#32
  let c0_i32_1 : BitVec 32 := 0#32
  ![v3.toNat, c0_i32_0.toNat]

def cc0_transform_1 (i : grid0.Coords) : Fin 2 → Nat :=
  let arg0 : BitVec 32 := BitVec.ofNat 32 (i 0).val
  let c9_i32 : BitVec 32 := 9#32
  let v0 : BitVec 32 := Scalar.subi arg0 c9_i32
  let c1_i32 : BitVec 32 := 1#32
  let v1 : BitVec 32 := Scalar.addi v0 c1_i32
  let c0_i32 : BitVec 32 := 0#32
  let c11_i32 : BitVec 32 := 11#32
  let v2 : BitVec 32 := Scalar.maxsi c0_i32 v1
  let v3 : BitVec 32 := Scalar.minsi c11_i32 v2
  let c8_i32 : BitVec 32 := 8#32
  let v4 : BitVec 32 := Scalar.muli v3 c8_i32
  let c1_i32_0 : BitVec 32 := 1#32
  let v5 : BitVec 32 := Scalar.subi v4 c1_i32_0
  let c0_i32_1 : BitVec 32 := 0#32
  let v6 : BitVec 32 := Scalar.maxsi v5 c0_i32_1
  let c0_i32_2 : BitVec 32 := 0#32
  let c0_i32_3 : BitVec 32 := 0#32
  ![v6.toNat, c0_i32_2.toNat]

def cc0_transform_2 (i : grid0.Coords) : Fin 2 → Nat :=
  let arg0 : BitVec 32 := BitVec.ofNat 32 (i 0).val
  let c9_i32 : BitVec 32 := 9#32
  let v0 : BitVec 32 := Scalar.subi arg0 c9_i32
  let c1_i32 : BitVec 32 := 1#32
  let v1 : BitVec 32 := Scalar.addi v0 c1_i32
  let c0_i32 : BitVec 32 := 0#32
  let c11_i32 : BitVec 32 := 11#32
  let v2 : BitVec 32 := Scalar.maxsi c0_i32 v1
  let v3 : BitVec 32 := Scalar.minsi c11_i32 v2
  let c8_i32 : BitVec 32 := 8#32
  let v4 : BitVec 32 := Scalar.muli v3 c8_i32
  let c8_i32_0 : BitVec 32 := 8#32
  let v5 : BitVec 32 := Scalar.addi v4 c8_i32_0
  let c95_i32 : BitVec 32 := 95#32
  let v6 : BitVec 32 := Scalar.minsi v5 c95_i32
  let c0_i32_1 : BitVec 32 := 0#32
  let c0_i32_2 : BitVec 32 := 0#32
  ![v6.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c8_i32 : BitVec 32 := 8#32
  let v0 : BitVec 32 := Scalar.minsi arg0 c8_i32
  let c0_i32 : BitVec 32 := 0#32
  let c0_i32_0 : BitVec 32 := 0#32
  let c0_i32_1 : BitVec 32 := 0#32
  ![v0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c9_i32 : BitVec 32 := 9#32
  let v0 : BitVec 32 := Scalar.subi arg0 c9_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x1280 .fp8e5m2 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1280 .fp8e5m2 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1280 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S96x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1280x1280 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1280 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1280 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
variable {F : FTy → Type} [FloatOps F]
-- ==== ReferenceIdeal.lean ====
abbrev S6144x1280 : Shape := ⟨2, ![6144, 1280]⟩
abbrev S96x64 : Shape := ⟨2, ![96, 64]⟩
abbrev S9x1280x1280 : Shape := ⟨3, ![9, 1280, 1280]⟩
abbrev S1x1280 : Shape := ⟨2, ![1, 1280]⟩
abbrev S6144x1 : Shape := ⟨2, ![6144, 1]⟩
abbrev S2x48x64x1280 : Shape := ⟨4, ![2, 48, 64, 1280]⟩
abbrev S_ : Shape := ⟨0, ![]⟩
abbrev S2x50x66x1280 : Shape := ⟨4, ![2, 50, 66, 1280]⟩
abbrev S1x1x1280 : Shape := ⟨3, ![1, 1, 1280]⟩
abbrev S3x3x1280x1280 : Shape := ⟨4, ![3, 3, 1280, 1280]⟩
abbrev S1x1x1280x1280 : Shape := ⟨4, ![1, 1, 1280, 1280]⟩
abbrev S1280x1280 : Shape := ⟨2, ![1280, 1280]⟩

abbrev nBuf : Space → Nat
  | .hbm => 65
  | .vmem => 4
  | .smem => 0
  | _ => 0

abbrev bufTy : (tb : Table) → Fin (tcTables nBuf tb) → BufTy
  | .hbm, ⟨0, _⟩ => ⟨S6144x1280, .fp8e5m2⟩
  | .hbm, ⟨1, _⟩ => ⟨S96x64, .f32⟩
  | .hbm, ⟨2, _⟩ => ⟨S9x1280x1280, .fp8e4m3⟩
  | .hbm, ⟨3, _⟩ => ⟨S1x1280, .f32⟩
  | .hbm, ⟨4, _⟩ => ⟨S6144x1280, .bf16⟩
  | .hbm, ⟨5, _⟩ => ⟨S9x1280x1280, .bf16⟩
  | .hbm, ⟨6, _⟩ => ⟨S96x64, .bf16⟩
  | .hbm, ⟨7, _⟩ => ⟨S6144x1, .bf16⟩
  | .hbm, ⟨8, _⟩ => ⟨S6144x1280, .bf16⟩
  | .hbm, ⟨9, _⟩ => ⟨S6144x1280, .bf16⟩
  | .hbm, ⟨10, _⟩ => ⟨S2x48x64x1280, .bf16⟩
  | .hbm, ⟨11, _⟩ => ⟨S_, .i32⟩
  | .hbm, ⟨12, _⟩ => ⟨S_, .bf16⟩
  | .hbm, ⟨13, _⟩ => ⟨S2x50x66x1280, .bf16⟩
  | .hbm, ⟨14, _⟩ => ⟨S1x1280, .bf16⟩
  | .hbm, ⟨15, _⟩ => ⟨S1x1x1280, .bf16⟩
  | .hbm, ⟨16, _⟩ => ⟨S9x1280x1280, .bf16⟩
  | .hbm, ⟨17, _⟩ => ⟨S9x1280x1280, .bf16⟩
  | .hbm, ⟨18, _⟩ => ⟨S3x3x1280x1280, .bf16⟩
  | .hbm, ⟨19, _⟩ => ⟨S2x48x64x1280, .bf16⟩
  | .hbm, ⟨20, _⟩ => ⟨S1x1x1280x1280, .bf16⟩
  | .hbm, ⟨21, _⟩ => ⟨S1280x1280, .bf16⟩
  | .hbm, ⟨22, _⟩ => ⟨S2x48x64x1280, .f32⟩
  | .hbm, ⟨23, _⟩ => ⟨S2x48x64x1280, .bf16⟩
  | .hbm, ⟨24, _⟩ => ⟨S1x1x1280x1280, .bf16⟩
  | .hbm, ⟨25, _⟩ => ⟨S1280x1280, .bf16⟩
  | .hbm, ⟨26, _⟩ => ⟨S2x48x64x1280, .f32⟩
  | .hbm, ⟨27, _⟩ => ⟨S2x48x64x1280, .f32⟩
  | .hbm, ⟨28, _⟩ => ⟨S2x48x64x1280, .bf16⟩
  | .hbm, ⟨29, _⟩ => ⟨S1x1x1280x1280, .bf16⟩
  | .hbm, ⟨30, _⟩ => ⟨S1280x1280, .bf16⟩
  | .hbm, ⟨31, _⟩ => ⟨S2x48x64x1280, .f32⟩
  | .hbm, ⟨32, _⟩ => ⟨S2x48x64x1280, .f32⟩
  | .hbm, ⟨33, _⟩ => ⟨S2x48x64x1280, .bf16⟩
  | .hbm, ⟨34, _⟩ => ⟨S1x1x1280x1280, .bf16⟩
  | .hbm, ⟨35, _⟩ => ⟨S1280x1280, .bf16⟩
  | .hbm, ⟨36, _⟩ => ⟨S2x48x64x1280, .f32⟩
  | .hbm, ⟨37, _⟩ => ⟨S2x48x64x1280, .f32⟩
  | .hbm, ⟨38, _⟩ => ⟨S2x48x64x1280, .bf16⟩
  | .hbm, ⟨39, _⟩ => ⟨S1x1x1280x1280, .bf16⟩
  | .hbm, ⟨40, _⟩ => ⟨S1280x1280, .bf16⟩
  | .hbm, ⟨41, _⟩ => ⟨S2x48x64x1280, .f32⟩
  | .hbm, ⟨42, _⟩ => ⟨S2x48x64x1280, .f32⟩
  | .hbm, ⟨43, _⟩ => ⟨S2x48x64x1280, .bf16⟩
  | .hbm, ⟨44, _⟩ => ⟨S1x1x1280x1280, .bf16⟩
  | .hbm, ⟨45, _⟩ => ⟨S1280x1280, .bf16⟩
  | .hbm, ⟨46, _⟩ => ⟨S2x48x64x1280, .f32⟩
  | .hbm, ⟨47, _⟩ => ⟨S2x48x64x1280, .f32⟩
  | .hbm, ⟨48, _⟩ => ⟨S2x48x64x1280, .bf16⟩
  | .hbm, ⟨49, _⟩ => ⟨S1x1x1280x1280, .bf16⟩
  | .hbm, ⟨50, _⟩ => ⟨S1280x1280, .bf16⟩
  | .hbm, ⟨51, _⟩ => ⟨S2x48x64x1280, .f32⟩
  | .hbm, ⟨52, _⟩ => ⟨S2x48x64x1280, .f32⟩
  | .hbm, ⟨53, _⟩ => ⟨S2x48x64x1280, .bf16⟩
  | .hbm, ⟨54, _⟩ => ⟨S1x1x1280x1280, .bf16⟩
  | .hbm, ⟨55, _⟩ => ⟨S1280x1280, .bf16⟩
  | .hbm, ⟨56, _⟩ => ⟨S2x48x64x1280, .f32⟩
  | .hbm, ⟨57, _⟩ => ⟨S2x48x64x1280, .f32⟩
  | .hbm, ⟨58, _⟩ => ⟨S2x48x64x1280, .bf16⟩
  | .hbm, ⟨59, _⟩ => ⟨S1x1x1280x1280, .bf16⟩
  | .hbm, ⟨60, _⟩ => ⟨S1280x1280, .bf16⟩
  | .hbm, ⟨61, _⟩ => ⟨S2x48x64x1280, .f32⟩
  | .hbm, ⟨62, _⟩ => ⟨S2x48x64x1280, .f32⟩
  | .hbm, ⟨63, _⟩ => ⟨S2x48x64x1280, .bf16⟩
  | .hbm, ⟨64, _⟩ => ⟨S6144x1280, .bf16⟩
  | .local _ .vmem, ⟨0, _⟩ => ⟨S6144x1280, .fp8e5m2⟩
  | .local _ .vmem, ⟨1, _⟩ => ⟨S9x1280x1280, .fp8e4m3⟩
  | .local _ .vmem, ⟨2, _⟩ => ⟨S6144x1280, .bf16⟩
  | .local _ .vmem, ⟨3, _⟩ => ⟨S9x1280x1280, .bf16⟩
  | _, _ => ⟨S6144x1280, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S6144x1280 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S9x1280x1280 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6144x1280 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S9x1280x1280 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Weight.lean ====
abbrev S1280x6144 : Shape := ⟨2, ![1280, 6144]⟩
abbrev S6144x1280 : Shape := ⟨2, ![6144, 1280]⟩
abbrev S96x64 : Shape := ⟨2, ![96, 64]⟩
abbrev S3x3x1280x1280 : Shape := ⟨4, ![3, 3, 1280, 1280]⟩
abbrev S6144x256 : Shape := ⟨2, ![6144, 256]⟩
abbrev S3x1x1280x256 : Shape := ⟨4, ![3, 1, 1280, 256]⟩
abbrev S2x2x3200x256 : Shape := ⟨4, ![2, 2, 3200, 256]⟩
abbrev S64x256 : Shape := ⟨2, ![64, 256]⟩
abbrev S1x1x64x256 : Shape := ⟨4, ![1, 1, 64, 256]⟩
abbrev S1x64 : Shape := ⟨2, ![1, 64]⟩
abbrev S128x64 : Shape := ⟨2, ![128, 64]⟩
abbrev S64x128 : Shape := ⟨2, ![64, 128]⟩
abbrev S32x256 : Shape := ⟨2, ![32, 256]⟩
abbrev S1x1x3072x256 : Shape := ⟨4, ![1, 1, 3072, 256]⟩
abbrev S3072x256 : Shape := ⟨2, ![3072, 256]⟩
abbrev S1280x3072 : Shape := ⟨2, ![1280, 3072]⟩
abbrev S1280x256 : Shape := ⟨2, ![1280, 256]⟩
abbrev S1x1x1280x256 : Shape := ⟨4, ![1, 1, 1280, 256]⟩

abbrev nBuf : Space → Nat
  | .hbm => 4
  | .vmem => 7
  | .smem => 0
  | _ => 0

abbrev bufTy : (tb : Table) → Fin (tcTables nBuf tb) → BufTy
  | .hbm, ⟨0, _⟩ => ⟨S1280x6144, .bf16⟩
  | .hbm, ⟨1, _⟩ => ⟨S6144x1280, .fp8e5m2⟩
  | .hbm, ⟨2, _⟩ => ⟨S96x64, .f32⟩
  | .hbm, ⟨3, _⟩ => ⟨S3x3x1280x1280, .f32⟩
  | .local _ .vmem, ⟨0, _⟩ => ⟨S1280x6144, .bf16⟩
  | .local _ .vmem, ⟨1, _⟩ => ⟨S6144x256, .fp8e5m2⟩
  | .local _ .vmem, ⟨2, _⟩ => ⟨S6144x256, .fp8e5m2⟩
  | .local _ .vmem, ⟨3, _⟩ => ⟨S96x64, .f32⟩
  | .local _ .vmem, ⟨4, _⟩ => ⟨S3x1x1280x256, .f32⟩
  | .local _ .vmem, ⟨5, _⟩ => ⟨S3x1x1280x256, .f32⟩
  | .local _ .vmem, ⟨6, _⟩ => ⟨S2x2x3200x256, .bf16⟩
  | _, _ => ⟨S1280x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [BitOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 : Fin 4 → Nat :=
  let c0_i32_45 : BitVec 32 := 0#32
  let c2_i32 : BitVec 32 := 2#32
  let v68 : BitVec 32 := Scalar.remsi c0_i32_45 c2_i32
  let v69 : Index := Scalar.indexCast v68
  let c0_46 : Index := 0#32
  let c64 : Index := 64#32
  let c0_47 : Index := 0#32
  ![v69.toNat, 0, 64, 0]
def k0_off2 : Fin 4 → Nat :=
  let c0_i32_65 : BitVec 32 := 0#32
  let c2_i32_66 : BitVec 32 := 2#32
  let v110 : BitVec 32 := Scalar.remsi c0_i32_65 c2_i32_66
  let v111 : Index := Scalar.indexCast v110
  let c0_67 : Index := 0#32
  let c128 : Index := 128#32
  let c0_68 : Index := 0#32
  ![v111.toNat, 0, 128, 0]
def k0_off3 : Fin 4 → Nat :=
  let c0_i32_85 : BitVec 32 := 0#32
  let c2_i32_86 : BitVec 32 := 2#32
  let v152 : BitVec 32 := Scalar.remsi c0_i32_85 c2_i32_86
  let v153 : Index := Scalar.indexCast v152
  let c0_87 : Index := 0#32
  let c192 : Index := 192#32
  let c0_88 : Index := 0#32
  ![v153.toNat, 0, 192, 0]
def k0_off4 : Fin 4 → Nat :=
  let c0_i32_105 : BitVec 32 := 0#32
  let c2_i32_106 : BitVec 32 := 2#32
  let v194 : BitVec 32 := Scalar.remsi c0_i32_105 c2_i32_106
  let v195 : Index := Scalar.indexCast v194
  let c0_107 : Index := 0#32
  let c256 : Index := 256#32
  let c0_108 : Index := 0#32
  ![v195.toNat, 0, 256, 0]
def k0_off5 : Fin 4 → Nat :=
  let c0_i32_125 : BitVec 32 := 0#32
  let c2_i32_126 : BitVec 32 := 2#32
  let v236 : BitVec 32 := Scalar.remsi c0_i32_125 c2_i32_126
  let v237 : Index := Scalar.indexCast v236
  let c0_127 : Index := 0#32
  let c320 : Index := 320#32
  let c0_128 : Index := 0#32
  ![v237.toNat, 0, 320, 0]
def k0_off6 : Fin 4 → Nat :=
  let c0_i32_145 : BitVec 32 := 0#32
  let c2_i32_146 : BitVec 32 := 2#32
  let v278 : BitVec 32 := Scalar.remsi c0_i32_145 c2_i32_146
  let v279 : Index := Scalar.indexCast v278
  let c0_147 : Index := 0#32
  let c384 : Index := 384#32
  let c0_148 : Index := 0#32
  ![v279.toNat, 0, 384, 0]
def k0_off7 : Fin 4 → Nat :=
  let c0_i32_165 : BitVec 32 := 0#32
  let c2_i32_166 : BitVec 32 := 2#32
  let v320 : BitVec 32 := Scalar.remsi c0_i32_165 c2_i32_166
  let v321 : Index := Scalar.indexCast v320
  let c0_167 : Index := 0#32
  let c448 : Index := 448#32
  let c0_168 : Index := 0#32
  ![v321.toNat, 0, 448, 0]
def k0_off8 : Fin 4 → Nat :=
  let c0_i32_185 : BitVec 32 := 0#32
  let c2_i32_186 : BitVec 32 := 2#32
  let v362 : BitVec 32 := Scalar.remsi c0_i32_185 c2_i32_186
  let v363 : Index := Scalar.indexCast v362
  let c0_187 : Index := 0#32
  let c512 : Index := 512#32
  let c0_188 : Index := 0#32
  ![v363.toNat, 0, 512, 0]
def k0_off9 : Fin 4 → Nat :=
  let c0_i32_205 : BitVec 32 := 0#32
  let c2_i32_206 : BitVec 32 := 2#32
  let v404 : BitVec 32 := Scalar.remsi c0_i32_205 c2_i32_206
  let v405 : Index := Scalar.indexCast v404
  let c0_207 : Index := 0#32
  let c576 : Index := 576#32
  let c0_208 : Index := 0#32
  ![v405.toNat, 0, 576, 0]
def k0_off10 : Fin 4 → Nat :=
  let c0_i32_225 : BitVec 32 := 0#32
  let c2_i32_226 : BitVec 32 := 2#32
  let v446 : BitVec 32 := Scalar.remsi c0_i32_225 c2_i32_226
  let v447 : Index := Scalar.indexCast v446
  let c0_227 : Index := 0#32
  let c640 : Index := 640#32
  let c0_228 : Index := 0#32
  ![v447.toNat, 0, 640, 0]
def k0_off11 : Fin 4 → Nat :=
  let c0_i32_245 : BitVec 32 := 0#32
  let c2_i32_246 : BitVec 32 := 2#32
  let v488 : BitVec 32 := Scalar.remsi c0_i32_245 c2_i32_246
  let v489 : Index := Scalar.indexCast v488
  let c0_247 : Index := 0#32
  let c704 : Index := 704#32
  let c0_248 : Index := 0#32
  ![v489.toNat, 0, 704, 0]
def k0_off12 : Fin 4 → Nat :=
  let c0_i32_265 : BitVec 32 := 0#32
  let c2_i32_266 : BitVec 32 := 2#32
  let v530 : BitVec 32 := Scalar.remsi c0_i32_265 c2_i32_266
  let v531 : Index := Scalar.indexCast v530
  let c0_267 : Index := 0#32
  let c768 : Index := 768#32
  let c0_268 : Index := 0#32
  ![v531.toNat, 0, 768, 0]
def k0_off13 : Fin 4 → Nat :=
  let c0_i32_285 : BitVec 32 := 0#32
  let c2_i32_286 : BitVec 32 := 2#32
  let v572 : BitVec 32 := Scalar.remsi c0_i32_285 c2_i32_286
  let v573 : Index := Scalar.indexCast v572
  let c0_287 : Index := 0#32
  let c832 : Index := 832#32
  let c0_288 : Index := 0#32
  ![v573.toNat, 0, 832, 0]
def k0_off14 : Fin 4 → Nat :=
  let c0_i32_305 : BitVec 32 := 0#32
  let c2_i32_306 : BitVec 32 := 2#32
  let v614 : BitVec 32 := Scalar.remsi c0_i32_305 c2_i32_306
  let v615 : Index := Scalar.indexCast v614
  let c0_307 : Index := 0#32
  let c896 : Index := 896#32
  let c0_308 : Index := 0#32
  ![v615.toNat, 0, 896, 0]
def k0_off15 : Fin 4 → Nat :=
  let c0_i32_325 : BitVec 32 := 0#32
  let c2_i32_326 : BitVec 32 := 2#32
  let v656 : BitVec 32 := Scalar.remsi c0_i32_325 c2_i32_326
  let v657 : Index := Scalar.indexCast v656
  let c0_327 : Index := 0#32
  let c960 : Index := 960#32
  let c0_328 : Index := 0#32
  ![v657.toNat, 0, 960, 0]
def k0_off16 : Fin 4 → Nat :=
  let c0_i32_345 : BitVec 32 := 0#32
  let c2_i32_346 : BitVec 32 := 2#32
  let v698 : BitVec 32 := Scalar.remsi c0_i32_345 c2_i32_346
  let v699 : Index := Scalar.indexCast v698
  let c0_347 : Index := 0#32
  let c1024 : Index := 1024#32
  let c0_348 : Index := 0#32
  ![v699.toNat, 0, 1024, 0]
def k0_off17 : Fin 4 → Nat :=
  let c0_i32_365 : BitVec 32 := 0#32
  let c2_i32_366 : BitVec 32 := 2#32
  let v740 : BitVec 32 := Scalar.remsi c0_i32_365 c2_i32_366
  let v741 : Index := Scalar.indexCast v740
  let c0_367 : Index := 0#32
  let c1088 : Index := 1088#32
  let c0_368 : Index := 0#32
  ![v741.toNat, 0, 1088, 0]
def k0_off18 : Fin 4 → Nat :=
  let c0_i32_385 : BitVec 32 := 0#32
  let c2_i32_386 : BitVec 32 := 2#32
  let v782 : BitVec 32 := Scalar.remsi c0_i32_385 c2_i32_386
  let v783 : Index := Scalar.indexCast v782
  let c0_387 : Index := 0#32
  let c1152 : Index := 1152#32
  let c0_388 : Index := 0#32
  ![v783.toNat, 0, 1152, 0]
def k0_off19 : Fin 4 → Nat :=
  let c0_i32_405 : BitVec 32 := 0#32
  let c2_i32_406 : BitVec 32 := 2#32
  let v824 : BitVec 32 := Scalar.remsi c0_i32_405 c2_i32_406
  let v825 : Index := Scalar.indexCast v824
  let c0_407 : Index := 0#32
  let c1216 : Index := 1216#32
  let c0_408 : Index := 0#32
  ![v825.toNat, 0, 1216, 0]
def k0_off20 : Fin 4 → Nat :=
  let c0_i32_425 : BitVec 32 := 0#32
  let c2_i32_426 : BitVec 32 := 2#32
  let v866 : BitVec 32 := Scalar.remsi c0_i32_425 c2_i32_426
  let v867 : Index := Scalar.indexCast v866
  let c0_427 : Index := 0#32
  let c1280 : Index := 1280#32
  let c0_428 : Index := 0#32
  ![v867.toNat, 0, 1280, 0]
def k0_off21 : Fin 4 → Nat :=
  let c0_i32_445 : BitVec 32 := 0#32
  let c2_i32_446 : BitVec 32 := 2#32
  let v908 : BitVec 32 := Scalar.remsi c0_i32_445 c2_i32_446
  let v909 : Index := Scalar.indexCast v908
  let c0_447 : Index := 0#32
  let c1344 : Index := 1344#32
  let c0_448 : Index := 0#32
  ![v909.toNat, 0, 1344, 0]
def k0_off22 : Fin 4 → Nat :=
  let c0_i32_465 : BitVec 32 := 0#32
  let c2_i32_466 : BitVec 32 := 2#32
  let v950 : BitVec 32 := Scalar.remsi c0_i32_465 c2_i32_466
  let v951 : Index := Scalar.indexCast v950
  let c0_467 : Index := 0#32
  let c1408 : Index := 1408#32
  let c0_468 : Index := 0#32
  ![v951.toNat, 0, 1408, 0]
def k0_off23 : Fin 4 → Nat :=
  let c0_i32_485 : BitVec 32 := 0#32
  let c2_i32_486 : BitVec 32 := 2#32
  let v992 : BitVec 32 := Scalar.remsi c0_i32_485 c2_i32_486
  let v993 : Index := Scalar.indexCast v992
  let c0_487 : Index := 0#32
  let c1472 : Index := 1472#32
  let c0_488 : Index := 0#32
  ![v993.toNat, 0, 1472, 0]
def k0_off24 : Fin 4 → Nat :=
  let c0_i32_505 : BitVec 32 := 0#32
  let c2_i32_506 : BitVec 32 := 2#32
  let v1034 : BitVec 32 := Scalar.remsi c0_i32_505 c2_i32_506
  let v1035 : Index := Scalar.indexCast v1034
  let c0_507 : Index := 0#32
  let c1536 : Index := 1536#32
  let c0_508 : Index := 0#32
  ![v1035.toNat, 0, 1536, 0]
def k0_off25 : Fin 4 → Nat :=
  let c0_i32_525 : BitVec 32 := 0#32
  let c2_i32_526 : BitVec 32 := 2#32
  let v1076 : BitVec 32 := Scalar.remsi c0_i32_525 c2_i32_526
  let v1077 : Index := Scalar.indexCast v1076
  let c0_527 : Index := 0#32
  let c1600 : Index := 1600#32
  let c0_528 : Index := 0#32
  ![v1077.toNat, 0, 1600, 0]
def k0_off26 : Fin 4 → Nat :=
  let c0_i32_545 : BitVec 32 := 0#32
  let c2_i32_546 : BitVec 32 := 2#32
  let v1118 : BitVec 32 := Scalar.remsi c0_i32_545 c2_i32_546
  let v1119 : Index := Scalar.indexCast v1118
  let c0_547 : Index := 0#32
  let c1664 : Index := 1664#32
  let c0_548 : Index := 0#32
  ![v1119.toNat, 0, 1664, 0]
def k0_off27 : Fin 4 → Nat :=
  let c0_i32_565 : BitVec 32 := 0#32
  let c2_i32_566 : BitVec 32 := 2#32
  let v1160 : BitVec 32 := Scalar.remsi c0_i32_565 c2_i32_566
  let v1161 : Index := Scalar.indexCast v1160
  let c0_567 : Index := 0#32
  let c1728 : Index := 1728#32
  let c0_568 : Index := 0#32
  ![v1161.toNat, 0, 1728, 0]
def k0_off28 : Fin 4 → Nat :=
  let c0_i32_585 : BitVec 32 := 0#32
  let c2_i32_586 : BitVec 32 := 2#32
  let v1202 : BitVec 32 := Scalar.remsi c0_i32_585 c2_i32_586
  let v1203 : Index := Scalar.indexCast v1202
  let c0_587 : Index := 0#32
  let c1792 : Index := 1792#32
  let c0_588 : Index := 0#32
  ![v1203.toNat, 0, 1792, 0]
def k0_off29 : Fin 4 → Nat :=
  let c0_i32_605 : BitVec 32 := 0#32
  let c2_i32_606 : BitVec 32 := 2#32
  let v1244 : BitVec 32 := Scalar.remsi c0_i32_605 c2_i32_606
  let v1245 : Index := Scalar.indexCast v1244
  let c0_607 : Index := 0#32
  let c1856 : Index := 1856#32
  let c0_608 : Index := 0#32
  ![v1245.toNat, 0, 1856, 0]
def k0_off30 : Fin 4 → Nat :=
  let c0_i32_625 : BitVec 32 := 0#32
  let c2_i32_626 : BitVec 32 := 2#32
  let v1286 : BitVec 32 := Scalar.remsi c0_i32_625 c2_i32_626
  let v1287 : Index := Scalar.indexCast v1286
  let c0_627 : Index := 0#32
  let c1920 : Index := 1920#32
  let c0_628 : Index := 0#32
  ![v1287.toNat, 0, 1920, 0]
def k0_off31 : Fin 4 → Nat :=
  let c0_i32_645 : BitVec 32 := 0#32
  let c2_i32_646 : BitVec 32 := 2#32
  let v1328 : BitVec 32 := Scalar.remsi c0_i32_645 c2_i32_646
  let v1329 : Index := Scalar.indexCast v1328
  let c0_647 : Index := 0#32
  let c1984 : Index := 1984#32
  let c0_648 : Index := 0#32
  ![v1329.toNat, 0, 1984, 0]
def k0_off32 : Fin 4 → Nat :=
  let c0_i32_665 : BitVec 32 := 0#32
  let c2_i32_666 : BitVec 32 := 2#32
  let v1370 : BitVec 32 := Scalar.remsi c0_i32_665 c2_i32_666
  let v1371 : Index := Scalar.indexCast v1370
  let c0_667 : Index := 0#32
  let c2048 : Index := 2048#32
  let c0_668 : Index := 0#32
  ![v1371.toNat, 0, 2048, 0]
def k0_off33 : Fin 4 → Nat :=
  let c0_i32_685 : BitVec 32 := 0#32
  let c2_i32_686 : BitVec 32 := 2#32
  let v1412 : BitVec 32 := Scalar.remsi c0_i32_685 c2_i32_686
  let v1413 : Index := Scalar.indexCast v1412
  let c0_687 : Index := 0#32
  let c2112 : Index := 2112#32
  let c0_688 : Index := 0#32
  ![v1413.toNat, 0, 2112, 0]
def k0_off34 : Fin 4 → Nat :=
  let c0_i32_705 : BitVec 32 := 0#32
  let c2_i32_706 : BitVec 32 := 2#32
  let v1454 : BitVec 32 := Scalar.remsi c0_i32_705 c2_i32_706
  let v1455 : Index := Scalar.indexCast v1454
  let c0_707 : Index := 0#32
  let c2176 : Index := 2176#32
  let c0_708 : Index := 0#32
  ![v1455.toNat, 0, 2176, 0]
def k0_off35 : Fin 4 → Nat :=
  let c0_i32_725 : BitVec 32 := 0#32
  let c2_i32_726 : BitVec 32 := 2#32
  let v1496 : BitVec 32 := Scalar.remsi c0_i32_725 c2_i32_726
  let v1497 : Index := Scalar.indexCast v1496
  let c0_727 : Index := 0#32
  let c2240 : Index := 2240#32
  let c0_728 : Index := 0#32
  ![v1497.toNat, 0, 2240, 0]
def k0_off36 : Fin 4 → Nat :=
  let c0_i32_745 : BitVec 32 := 0#32
  let c2_i32_746 : BitVec 32 := 2#32
  let v1538 : BitVec 32 := Scalar.remsi c0_i32_745 c2_i32_746
  let v1539 : Index := Scalar.indexCast v1538
  let c0_747 : Index := 0#32
  let c2304 : Index := 2304#32
  let c0_748 : Index := 0#32
  ![v1539.toNat, 0, 2304, 0]
def k0_off37 : Fin 4 → Nat :=
  let c0_i32_765 : BitVec 32 := 0#32
  let c2_i32_766 : BitVec 32 := 2#32
  let v1580 : BitVec 32 := Scalar.remsi c0_i32_765 c2_i32_766
  let v1581 : Index := Scalar.indexCast v1580
  let c0_767 : Index := 0#32
  let c2368 : Index := 2368#32
  let c0_768 : Index := 0#32
  ![v1581.toNat, 0, 2368, 0]
def k0_off38 : Fin 4 → Nat :=
  let c0_i32_785 : BitVec 32 := 0#32
  let c2_i32_786 : BitVec 32 := 2#32
  let v1622 : BitVec 32 := Scalar.remsi c0_i32_785 c2_i32_786
  let v1623 : Index := Scalar.indexCast v1622
  let c0_787 : Index := 0#32
  let c2432 : Index := 2432#32
  let c0_788 : Index := 0#32
  ![v1623.toNat, 0, 2432, 0]
def k0_off39 : Fin 4 → Nat :=
  let c0_i32_805 : BitVec 32 := 0#32
  let c2_i32_806 : BitVec 32 := 2#32
  let v1664 : BitVec 32 := Scalar.remsi c0_i32_805 c2_i32_806
  let v1665 : Index := Scalar.indexCast v1664
  let c0_807 : Index := 0#32
  let c2496 : Index := 2496#32
  let c0_808 : Index := 0#32
  ![v1665.toNat, 0, 2496, 0]
def k0_off40 : Fin 4 → Nat :=
  let c0_i32_825 : BitVec 32 := 0#32
  let c2_i32_826 : BitVec 32 := 2#32
  let v1706 : BitVec 32 := Scalar.remsi c0_i32_825 c2_i32_826
  let v1707 : Index := Scalar.indexCast v1706
  let c0_827 : Index := 0#32
  let c2560 : Index := 2560#32
  let c0_828 : Index := 0#32
  ![v1707.toNat, 0, 2560, 0]
def k0_off41 : Fin 4 → Nat :=
  let c0_i32_845 : BitVec 32 := 0#32
  let c2_i32_846 : BitVec 32 := 2#32
  let v1748 : BitVec 32 := Scalar.remsi c0_i32_845 c2_i32_846
  let v1749 : Index := Scalar.indexCast v1748
  let c0_847 : Index := 0#32
  let c2624 : Index := 2624#32
  let c0_848 : Index := 0#32
  ![v1749.toNat, 0, 2624, 0]
def k0_off42 : Fin 4 → Nat :=
  let c0_i32_865 : BitVec 32 := 0#32
  let c2_i32_866 : BitVec 32 := 2#32
  let v1790 : BitVec 32 := Scalar.remsi c0_i32_865 c2_i32_866
  let v1791 : Index := Scalar.indexCast v1790
  let c0_867 : Index := 0#32
  let c2688 : Index := 2688#32
  let c0_868 : Index := 0#32
  ![v1791.toNat, 0, 2688, 0]
def k0_off43 : Fin 4 → Nat :=
  let c0_i32_885 : BitVec 32 := 0#32
  let c2_i32_886 : BitVec 32 := 2#32
  let v1832 : BitVec 32 := Scalar.remsi c0_i32_885 c2_i32_886
  let v1833 : Index := Scalar.indexCast v1832
  let c0_887 : Index := 0#32
  let c2752 : Index := 2752#32
  let c0_888 : Index := 0#32
  ![v1833.toNat, 0, 2752, 0]
def k0_off44 : Fin 4 → Nat :=
  let c0_i32_905 : BitVec 32 := 0#32
  let c2_i32_906 : BitVec 32 := 2#32
  let v1874 : BitVec 32 := Scalar.remsi c0_i32_905 c2_i32_906
  let v1875 : Index := Scalar.indexCast v1874
  let c0_907 : Index := 0#32
  let c2816 : Index := 2816#32
  let c0_908 : Index := 0#32
  ![v1875.toNat, 0, 2816, 0]
def k0_off45 : Fin 4 → Nat :=
  let c0_i32_925 : BitVec 32 := 0#32
  let c2_i32_926 : BitVec 32 := 2#32
  let v1916 : BitVec 32 := Scalar.remsi c0_i32_925 c2_i32_926
  let v1917 : Index := Scalar.indexCast v1916
  let c0_927 : Index := 0#32
  let c2880 : Index := 2880#32
  let c0_928 : Index := 0#32
  ![v1917.toNat, 0, 2880, 0]
def k0_off46 : Fin 4 → Nat :=
  let c0_i32_945 : BitVec 32 := 0#32
  let c2_i32_946 : BitVec 32 := 2#32
  let v1958 : BitVec 32 := Scalar.remsi c0_i32_945 c2_i32_946
  let v1959 : Index := Scalar.indexCast v1958
  let c0_947 : Index := 0#32
  let c2944 : Index := 2944#32
  let c0_948 : Index := 0#32
  ![v1959.toNat, 0, 2944, 0]
def k0_off47 : Fin 4 → Nat :=
  let c0_i32_965 : BitVec 32 := 0#32
  let c2_i32_966 : BitVec 32 := 2#32
  let v2000 : BitVec 32 := Scalar.remsi c0_i32_965 c2_i32_966
  let v2001 : Index := Scalar.indexCast v2000
  let c0_967 : Index := 0#32
  let c3008 : Index := 3008#32
  let c0_968 : Index := 0#32
  ![v2001.toNat, 0, 3008, 0]
def k0_off48 : Fin 4 → Nat :=
  let c0_i32_985 : BitVec 32 := 0#32
  let c2_i32_986 : BitVec 32 := 2#32
  let v2042 : BitVec 32 := Scalar.remsi c0_i32_985 c2_i32_986
  let v2043 : Index := Scalar.indexCast v2042
  let c0_987 : Index := 0#32
  let c3072 : Index := 3072#32
  let c0_988 : Index := 0#32
  ![v2043.toNat, 0, 3072, 0]
def k0_off49 : Fin 4 → Nat :=
  let c0_i32_1005 : BitVec 32 := 0#32
  let c2_i32_1006 : BitVec 32 := 2#32
  let v2084 : BitVec 32 := Scalar.remsi c0_i32_1005 c2_i32_1006
  let v2085 : Index := Scalar.indexCast v2084
  let c1_1007 : Index := 1#32
  let c64_1008 : Index := 64#32
  let c0_1009 : Index := 0#32
  ![v2085.toNat, 1, 64, 0]
def k0_off50 : Fin 4 → Nat :=
  let c0_i32_1026 : BitVec 32 := 0#32
  let c2_i32_1027 : BitVec 32 := 2#32
  let v2126 : BitVec 32 := Scalar.remsi c0_i32_1026 c2_i32_1027
  let v2127 : Index := Scalar.indexCast v2126
  let c1_1028 : Index := 1#32
  let c128_1029 : Index := 128#32
  let c0_1030 : Index := 0#32
  ![v2127.toNat, 1, 128, 0]
def k0_off51 : Fin 4 → Nat :=
  let c0_i32_1046 : BitVec 32 := 0#32
  let c2_i32_1047 : BitVec 32 := 2#32
  let v2168 : BitVec 32 := Scalar.remsi c0_i32_1046 c2_i32_1047
  let v2169 : Index := Scalar.indexCast v2168
  let c1_1048 : Index := 1#32
  let c192_1049 : Index := 192#32
  let c0_1050 : Index := 0#32
  ![v2169.toNat, 1, 192, 0]
def k0_off52 : Fin 4 → Nat :=
  let c0_i32_1066 : BitVec 32 := 0#32
  let c2_i32_1067 : BitVec 32 := 2#32
  let v2210 : BitVec 32 := Scalar.remsi c0_i32_1066 c2_i32_1067
  let v2211 : Index := Scalar.indexCast v2210
  let c1_1068 : Index := 1#32
  let c256_1069 : Index := 256#32
  let c0_1070 : Index := 0#32
  ![v2211.toNat, 1, 256, 0]
def k0_off53 : Fin 4 → Nat :=
  let c0_i32_1086 : BitVec 32 := 0#32
  let c2_i32_1087 : BitVec 32 := 2#32
  let v2252 : BitVec 32 := Scalar.remsi c0_i32_1086 c2_i32_1087
  let v2253 : Index := Scalar.indexCast v2252
  let c1_1088 : Index := 1#32
  let c320_1089 : Index := 320#32
  let c0_1090 : Index := 0#32
  ![v2253.toNat, 1, 320, 0]
def k0_off54 : Fin 4 → Nat :=
  let c0_i32_1106 : BitVec 32 := 0#32
  let c2_i32_1107 : BitVec 32 := 2#32
  let v2294 : BitVec 32 := Scalar.remsi c0_i32_1106 c2_i32_1107
  let v2295 : Index := Scalar.indexCast v2294
  let c1_1108 : Index := 1#32
  let c384_1109 : Index := 384#32
  let c0_1110 : Index := 0#32
  ![v2295.toNat, 1, 384, 0]
def k0_off55 : Fin 4 → Nat :=
  let c0_i32_1126 : BitVec 32 := 0#32
  let c2_i32_1127 : BitVec 32 := 2#32
  let v2336 : BitVec 32 := Scalar.remsi c0_i32_1126 c2_i32_1127
  let v2337 : Index := Scalar.indexCast v2336
  let c1_1128 : Index := 1#32
  let c448_1129 : Index := 448#32
  let c0_1130 : Index := 0#32
  ![v2337.toNat, 1, 448, 0]
def k0_off56 : Fin 4 → Nat :=
  let c0_i32_1146 : BitVec 32 := 0#32
  let c2_i32_1147 : BitVec 32 := 2#32
  let v2378 : BitVec 32 := Scalar.remsi c0_i32_1146 c2_i32_1147
  let v2379 : Index := Scalar.indexCast v2378
  let c1_1148 : Index := 1#32
  let c512_1149 : Index := 512#32
  let c0_1150 : Index := 0#32
  ![v2379.toNat, 1, 512, 0]
def k0_off57 : Fin 4 → Nat :=
  let c0_i32_1166 : BitVec 32 := 0#32
  let c2_i32_1167 : BitVec 32 := 2#32
  let v2420 : BitVec 32 := Scalar.remsi c0_i32_1166 c2_i32_1167
  let v2421 : Index := Scalar.indexCast v2420
  let c1_1168 : Index := 1#32
  let c576_1169 : Index := 576#32
  let c0_1170 : Index := 0#32
  ![v2421.toNat, 1, 576, 0]
def k0_off58 : Fin 4 → Nat :=
  let c0_i32_1186 : BitVec 32 := 0#32
  let c2_i32_1187 : BitVec 32 := 2#32
  let v2462 : BitVec 32 := Scalar.remsi c0_i32_1186 c2_i32_1187
  let v2463 : Index := Scalar.indexCast v2462
  let c1_1188 : Index := 1#32
  let c640_1189 : Index := 640#32
  let c0_1190 : Index := 0#32
  ![v2463.toNat, 1, 640, 0]
def k0_off59 : Fin 4 → Nat :=
  let c0_i32_1206 : BitVec 32 := 0#32
  let c2_i32_1207 : BitVec 32 := 2#32
  let v2504 : BitVec 32 := Scalar.remsi c0_i32_1206 c2_i32_1207
  let v2505 : Index := Scalar.indexCast v2504
  let c1_1208 : Index := 1#32
  let c704_1209 : Index := 704#32
  let c0_1210 : Index := 0#32
  ![v2505.toNat, 1, 704, 0]
def k0_off60 : Fin 4 → Nat :=
  let c0_i32_1226 : BitVec 32 := 0#32
  let c2_i32_1227 : BitVec 32 := 2#32
  let v2546 : BitVec 32 := Scalar.remsi c0_i32_1226 c2_i32_1227
  let v2547 : Index := Scalar.indexCast v2546
  let c1_1228 : Index := 1#32
  let c768_1229 : Index := 768#32
  let c0_1230 : Index := 0#32
  ![v2547.toNat, 1, 768, 0]
def k0_off61 : Fin 4 → Nat :=
  let c0_i32_1246 : BitVec 32 := 0#32
  let c2_i32_1247 : BitVec 32 := 2#32
  let v2588 : BitVec 32 := Scalar.remsi c0_i32_1246 c2_i32_1247
  let v2589 : Index := Scalar.indexCast v2588
  let c1_1248 : Index := 1#32
  let c832_1249 : Index := 832#32
  let c0_1250 : Index := 0#32
  ![v2589.toNat, 1, 832, 0]
def k0_off62 : Fin 4 → Nat :=
  let c0_i32_1266 : BitVec 32 := 0#32
  let c2_i32_1267 : BitVec 32 := 2#32
  let v2630 : BitVec 32 := Scalar.remsi c0_i32_1266 c2_i32_1267
  let v2631 : Index := Scalar.indexCast v2630
  let c1_1268 : Index := 1#32
  let c896_1269 : Index := 896#32
  let c0_1270 : Index := 0#32
  ![v2631.toNat, 1, 896, 0]
def k0_off63 : Fin 4 → Nat :=
  let c0_i32_1286 : BitVec 32 := 0#32
  let c2_i32_1287 : BitVec 32 := 2#32
  let v2672 : BitVec 32 := Scalar.remsi c0_i32_1286 c2_i32_1287
  let v2673 : Index := Scalar.indexCast v2672
  let c1_1288 : Index := 1#32
  let c960_1289 : Index := 960#32
  let c0_1290 : Index := 0#32
  ![v2673.toNat, 1, 960, 0]
def k0_off64 : Fin 4 → Nat :=
  let c0_i32_1306 : BitVec 32 := 0#32
  let c2_i32_1307 : BitVec 32 := 2#32
  let v2714 : BitVec 32 := Scalar.remsi c0_i32_1306 c2_i32_1307
  let v2715 : Index := Scalar.indexCast v2714
  let c1_1308 : Index := 1#32
  let c1024_1309 : Index := 1024#32
  let c0_1310 : Index := 0#32
  ![v2715.toNat, 1, 1024, 0]
def k0_off65 : Fin 4 → Nat :=
  let c0_i32_1327 : BitVec 32 := 0#32
  let c2_i32_1328 : BitVec 32 := 2#32
  let v2756 : BitVec 32 := Scalar.remsi c0_i32_1327 c2_i32_1328
  let v2757 : Index := Scalar.indexCast v2756
  let c1_1329 : Index := 1#32
  let c1088_1330 : Index := 1088#32
  let c0_1331 : Index := 0#32
  ![v2757.toNat, 1, 1088, 0]
def k0_off66 : Fin 4 → Nat :=
  let c0_i32_1347 : BitVec 32 := 0#32
  let c2_i32_1348 : BitVec 32 := 2#32
  let v2798 : BitVec 32 := Scalar.remsi c0_i32_1347 c2_i32_1348
  let v2799 : Index := Scalar.indexCast v2798
  let c1_1349 : Index := 1#32
  let c1152_1350 : Index := 1152#32
  let c0_1351 : Index := 0#32
  ![v2799.toNat, 1, 1152, 0]
def k0_off67 : Fin 4 → Nat :=
  let c0_i32_1367 : BitVec 32 := 0#32
  let c2_i32_1368 : BitVec 32 := 2#32
  let v2840 : BitVec 32 := Scalar.remsi c0_i32_1367 c2_i32_1368
  let v2841 : Index := Scalar.indexCast v2840
  let c1_1369 : Index := 1#32
  let c1216_1370 : Index := 1216#32
  let c0_1371 : Index := 0#32
  ![v2841.toNat, 1, 1216, 0]
def k0_off68 : Fin 4 → Nat :=
  let c0_i32_1387 : BitVec 32 := 0#32
  let c2_i32_1388 : BitVec 32 := 2#32
  let v2882 : BitVec 32 := Scalar.remsi c0_i32_1387 c2_i32_1388
  let v2883 : Index := Scalar.indexCast v2882
  let c1_1389 : Index := 1#32
  let c1280_1390 : Index := 1280#32
  let c0_1391 : Index := 0#32
  ![v2883.toNat, 1, 1280, 0]
def k0_off69 : Fin 4 → Nat :=
  let c0_i32_1407 : BitVec 32 := 0#32
  let c2_i32_1408 : BitVec 32 := 2#32
  let v2924 : BitVec 32 := Scalar.remsi c0_i32_1407 c2_i32_1408
  let v2925 : Index := Scalar.indexCast v2924
  let c1_1409 : Index := 1#32
  let c1344_1410 : Index := 1344#32
  let c0_1411 : Index := 0#32
  ![v2925.toNat, 1, 1344, 0]
def k0_off70 : Fin 4 → Nat :=
  let c0_i32_1427 : BitVec 32 := 0#32
  let c2_i32_1428 : BitVec 32 := 2#32
  let v2966 : BitVec 32 := Scalar.remsi c0_i32_1427 c2_i32_1428
  let v2967 : Index := Scalar.indexCast v2966
  let c1_1429 : Index := 1#32
  let c1408_1430 : Index := 1408#32
  let c0_1431 : Index := 0#32
  ![v2967.toNat, 1, 1408, 0]
def k0_off71 : Fin 4 → Nat :=
  let c0_i32_1447 : BitVec 32 := 0#32
  let c2_i32_1448 : BitVec 32 := 2#32
  let v3008 : BitVec 32 := Scalar.remsi c0_i32_1447 c2_i32_1448
  let v3009 : Index := Scalar.indexCast v3008
  let c1_1449 : Index := 1#32
  let c1472_1450 : Index := 1472#32
  let c0_1451 : Index := 0#32
  ![v3009.toNat, 1, 1472, 0]
def k0_off72 : Fin 4 → Nat :=
  let c0_i32_1467 : BitVec 32 := 0#32
  let c2_i32_1468 : BitVec 32 := 2#32
  let v3050 : BitVec 32 := Scalar.remsi c0_i32_1467 c2_i32_1468
  let v3051 : Index := Scalar.indexCast v3050
  let c1_1469 : Index := 1#32
  let c1536_1470 : Index := 1536#32
  let c0_1471 : Index := 0#32
  ![v3051.toNat, 1, 1536, 0]
def k0_off73 : Fin 4 → Nat :=
  let c0_i32_1487 : BitVec 32 := 0#32
  let c2_i32_1488 : BitVec 32 := 2#32
  let v3092 : BitVec 32 := Scalar.remsi c0_i32_1487 c2_i32_1488
  let v3093 : Index := Scalar.indexCast v3092
  let c1_1489 : Index := 1#32
  let c1600_1490 : Index := 1600#32
  let c0_1491 : Index := 0#32
  ![v3093.toNat, 1, 1600, 0]
def k0_off74 : Fin 4 → Nat :=
  let c0_i32_1507 : BitVec 32 := 0#32
  let c2_i32_1508 : BitVec 32 := 2#32
  let v3134 : BitVec 32 := Scalar.remsi c0_i32_1507 c2_i32_1508
  let v3135 : Index := Scalar.indexCast v3134
  let c1_1509 : Index := 1#32
  let c1664_1510 : Index := 1664#32
  let c0_1511 : Index := 0#32
  ![v3135.toNat, 1, 1664, 0]
def k0_off75 : Fin 4 → Nat :=
  let c0_i32_1527 : BitVec 32 := 0#32
  let c2_i32_1528 : BitVec 32 := 2#32
  let v3176 : BitVec 32 := Scalar.remsi c0_i32_1527 c2_i32_1528
  let v3177 : Index := Scalar.indexCast v3176
  let c1_1529 : Index := 1#32
  let c1728_1530 : Index := 1728#32
  let c0_1531 : Index := 0#32
  ![v3177.toNat, 1, 1728, 0]
def k0_off76 : Fin 4 → Nat :=
  let c0_i32_1547 : BitVec 32 := 0#32
  let c2_i32_1548 : BitVec 32 := 2#32
  let v3218 : BitVec 32 := Scalar.remsi c0_i32_1547 c2_i32_1548
  let v3219 : Index := Scalar.indexCast v3218
  let c1_1549 : Index := 1#32
  let c1792_1550 : Index := 1792#32
  let c0_1551 : Index := 0#32
  ![v3219.toNat, 1, 1792, 0]
def k0_off77 : Fin 4 → Nat :=
  let c0_i32_1567 : BitVec 32 := 0#32
  let c2_i32_1568 : BitVec 32 := 2#32
  let v3260 : BitVec 32 := Scalar.remsi c0_i32_1567 c2_i32_1568
  let v3261 : Index := Scalar.indexCast v3260
  let c1_1569 : Index := 1#32
  let c1856_1570 : Index := 1856#32
  let c0_1571 : Index := 0#32
  ![v3261.toNat, 1, 1856, 0]
def k0_off78 : Fin 4 → Nat :=
  let c0_i32_1587 : BitVec 32 := 0#32
  let c2_i32_1588 : BitVec 32 := 2#32
  let v3302 : BitVec 32 := Scalar.remsi c0_i32_1587 c2_i32_1588
  let v3303 : Index := Scalar.indexCast v3302
  let c1_1589 : Index := 1#32
  let c1920_1590 : Index := 1920#32
  let c0_1591 : Index := 0#32
  ![v3303.toNat, 1, 1920, 0]
def k0_off79 : Fin 4 → Nat :=
  let c0_i32_1607 : BitVec 32 := 0#32
  let c2_i32_1608 : BitVec 32 := 2#32
  let v3344 : BitVec 32 := Scalar.remsi c0_i32_1607 c2_i32_1608
  let v3345 : Index := Scalar.indexCast v3344
  let c1_1609 : Index := 1#32
  let c1984_1610 : Index := 1984#32
  let c0_1611 : Index := 0#32
  ![v3345.toNat, 1, 1984, 0]
def k0_off80 : Fin 4 → Nat :=
  let c0_i32_1627 : BitVec 32 := 0#32
  let c2_i32_1628 : BitVec 32 := 2#32
  let v3386 : BitVec 32 := Scalar.remsi c0_i32_1627 c2_i32_1628
  let v3387 : Index := Scalar.indexCast v3386
  let c1_1629 : Index := 1#32
  let c2048_1630 : Index := 2048#32
  let c0_1631 : Index := 0#32
  ![v3387.toNat, 1, 2048, 0]
def k0_off81 : Fin 4 → Nat :=
  let c0_i32_1647 : BitVec 32 := 0#32
  let c2_i32_1648 : BitVec 32 := 2#32
  let v3428 : BitVec 32 := Scalar.remsi c0_i32_1647 c2_i32_1648
  let v3429 : Index := Scalar.indexCast v3428
  let c1_1649 : Index := 1#32
  let c2112_1650 : Index := 2112#32
  let c0_1651 : Index := 0#32
  ![v3429.toNat, 1, 2112, 0]
def k0_off82 : Fin 4 → Nat :=
  let c0_i32_1667 : BitVec 32 := 0#32
  let c2_i32_1668 : BitVec 32 := 2#32
  let v3470 : BitVec 32 := Scalar.remsi c0_i32_1667 c2_i32_1668
  let v3471 : Index := Scalar.indexCast v3470
  let c1_1669 : Index := 1#32
  let c2176_1670 : Index := 2176#32
  let c0_1671 : Index := 0#32
  ![v3471.toNat, 1, 2176, 0]
def k0_off83 : Fin 4 → Nat :=
  let c0_i32_1687 : BitVec 32 := 0#32
  let c2_i32_1688 : BitVec 32 := 2#32
  let v3512 : BitVec 32 := Scalar.remsi c0_i32_1687 c2_i32_1688
  let v3513 : Index := Scalar.indexCast v3512
  let c1_1689 : Index := 1#32
  let c2240_1690 : Index := 2240#32
  let c0_1691 : Index := 0#32
  ![v3513.toNat, 1, 2240, 0]
def k0_off84 : Fin 4 → Nat :=
  let c0_i32_1707 : BitVec 32 := 0#32
  let c2_i32_1708 : BitVec 32 := 2#32
  let v3554 : BitVec 32 := Scalar.remsi c0_i32_1707 c2_i32_1708
  let v3555 : Index := Scalar.indexCast v3554
  let c1_1709 : Index := 1#32
  let c2304_1710 : Index := 2304#32
  let c0_1711 : Index := 0#32
  ![v3555.toNat, 1, 2304, 0]
def k0_off85 : Fin 4 → Nat :=
  let c0_i32_1727 : BitVec 32 := 0#32
  let c2_i32_1728 : BitVec 32 := 2#32
  let v3596 : BitVec 32 := Scalar.remsi c0_i32_1727 c2_i32_1728
  let v3597 : Index := Scalar.indexCast v3596
  let c1_1729 : Index := 1#32
  let c2368_1730 : Index := 2368#32
  let c0_1731 : Index := 0#32
  ![v3597.toNat, 1, 2368, 0]
def k0_off86 : Fin 4 → Nat :=
  let c0_i32_1747 : BitVec 32 := 0#32
  let c2_i32_1748 : BitVec 32 := 2#32
  let v3638 : BitVec 32 := Scalar.remsi c0_i32_1747 c2_i32_1748
  let v3639 : Index := Scalar.indexCast v3638
  let c1_1749 : Index := 1#32
  let c2432_1750 : Index := 2432#32
  let c0_1751 : Index := 0#32
  ![v3639.toNat, 1, 2432, 0]
def k0_off87 : Fin 4 → Nat :=
  let c0_i32_1767 : BitVec 32 := 0#32
  let c2_i32_1768 : BitVec 32 := 2#32
  let v3680 : BitVec 32 := Scalar.remsi c0_i32_1767 c2_i32_1768
  let v3681 : Index := Scalar.indexCast v3680
  let c1_1769 : Index := 1#32
  let c2496_1770 : Index := 2496#32
  let c0_1771 : Index := 0#32
  ![v3681.toNat, 1, 2496, 0]
def k0_off88 : Fin 4 → Nat :=
  let c0_i32_1787 : BitVec 32 := 0#32
  let c2_i32_1788 : BitVec 32 := 2#32
  let v3722 : BitVec 32 := Scalar.remsi c0_i32_1787 c2_i32_1788
  let v3723 : Index := Scalar.indexCast v3722
  let c1_1789 : Index := 1#32
  let c2560_1790 : Index := 2560#32
  let c0_1791 : Index := 0#32
  ![v3723.toNat, 1, 2560, 0]
def k0_off89 : Fin 4 → Nat :=
  let c0_i32_1807 : BitVec 32 := 0#32
  let c2_i32_1808 : BitVec 32 := 2#32
  let v3764 : BitVec 32 := Scalar.remsi c0_i32_1807 c2_i32_1808
  let v3765 : Index := Scalar.indexCast v3764
  let c1_1809 : Index := 1#32
  let c2624_1810 : Index := 2624#32
  let c0_1811 : Index := 0#32
  ![v3765.toNat, 1, 2624, 0]
def k0_off90 : Fin 4 → Nat :=
  let c0_i32_1827 : BitVec 32 := 0#32
  let c2_i32_1828 : BitVec 32 := 2#32
  let v3806 : BitVec 32 := Scalar.remsi c0_i32_1827 c2_i32_1828
  let v3807 : Index := Scalar.indexCast v3806
  let c1_1829 : Index := 1#32
  let c2688_1830 : Index := 2688#32
  let c0_1831 : Index := 0#32
  ![v3807.toNat, 1, 2688, 0]
def k0_off91 : Fin 4 → Nat :=
  let c0_i32_1847 : BitVec 32 := 0#32
  let c2_i32_1848 : BitVec 32 := 2#32
  let v3848 : BitVec 32 := Scalar.remsi c0_i32_1847 c2_i32_1848
  let v3849 : Index := Scalar.indexCast v3848
  let c1_1849 : Index := 1#32
  let c2752_1850 : Index := 2752#32
  let c0_1851 : Index := 0#32
  ![v3849.toNat, 1, 2752, 0]
def k0_off92 : Fin 4 → Nat :=
  let c0_i32_1867 : BitVec 32 := 0#32
  let c2_i32_1868 : BitVec 32 := 2#32
  let v3890 : BitVec 32 := Scalar.remsi c0_i32_1867 c2_i32_1868
  let v3891 : Index := Scalar.indexCast v3890
  let c1_1869 : Index := 1#32
  let c2816_1870 : Index := 2816#32
  let c0_1871 : Index := 0#32
  ![v3891.toNat, 1, 2816, 0]
def k0_off93 : Fin 4 → Nat :=
  let c0_i32_1887 : BitVec 32 := 0#32
  let c2_i32_1888 : BitVec 32 := 2#32
  let v3932 : BitVec 32 := Scalar.remsi c0_i32_1887 c2_i32_1888
  let v3933 : Index := Scalar.indexCast v3932
  let c1_1889 : Index := 1#32
  let c2880_1890 : Index := 2880#32
  let c0_1891 : Index := 0#32
  ![v3933.toNat, 1, 2880, 0]
def k0_off94 : Fin 4 → Nat :=
  let c0_i32_1907 : BitVec 32 := 0#32
  let c2_i32_1908 : BitVec 32 := 2#32
  let v3974 : BitVec 32 := Scalar.remsi c0_i32_1907 c2_i32_1908
  let v3975 : Index := Scalar.indexCast v3974
  let c1_1909 : Index := 1#32
  let c2944_1910 : Index := 2944#32
  let c0_1911 : Index := 0#32
  ![v3975.toNat, 1, 2944, 0]
def k0_off95 : Fin 4 → Nat :=
  let c0_i32_1927 : BitVec 32 := 0#32
  let c2_i32_1928 : BitVec 32 := 2#32
  let v4016 : BitVec 32 := Scalar.remsi c0_i32_1927 c2_i32_1928
  let v4017 : Index := Scalar.indexCast v4016
  let c1_1929 : Index := 1#32
  let c3008_1930 : Index := 3008#32
  let c0_1931 : Index := 0#32
  ![v4017.toNat, 1, 3008, 0]
def k0_off96 : Fin 4 → Nat :=
  let c0_i32_1947 : BitVec 32 := 0#32
  let c2_i32_1948 : BitVec 32 := 2#32
  let v4058 : BitVec 32 := Scalar.remsi c0_i32_1947 c2_i32_1948
  let v4059 : Index := Scalar.indexCast v4058
  let c1_1949 : Index := 1#32
  let c3072_1950 : Index := 3072#32
  let c0_1951 : Index := 0#32
  ![v4059.toNat, 1, 3072, 0]
def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def k0_off97 (i : grid0.Coords) : Fin 4 → Nat :=
  let arg0 : BitVec 32 := BitVec.ofNat 32 (i 0).val
  let c1_i32 : BitVec 32 := 1#32
  let v6 : BitVec 32 := Scalar.subi arg0 c1_i32
  let c2_i32 : BitVec 32 := 2#32
  let v7 : BitVec 32 := Scalar.remsi v6 c2_i32
  let v9 : Index := Scalar.indexCast v7
  let c0 : Index := 0#32
  let c128 : Index := 128#32
  let c0_3 : Index := 0#32
  ![v9.toNat, 0, 128, 0]
def k0_off98 (i : grid0.Coords) : Fin 4 → Nat :=
  let arg0 : BitVec 32 := BitVec.ofNat 32 (i 0).val
  let c1_i32 : BitVec 32 := 1#32
  let v6 : BitVec 32 := Scalar.subi arg0 c1_i32
  let c2_i32 : BitVec 32 := 2#32
  let v7 : BitVec 32 := Scalar.remsi v6 c2_i32
  let v14 : Index := Scalar.indexCast v7
  let c1 : Index := 1#32
  let c128_6 : Index := 128#32
  let c0_7 : Index := 0#32
  ![v14.toNat, 1, 128, 0]
def k0_off99 (i : grid0.Coords) : Fin 4 → Nat :=
  let arg0 : BitVec 32 := BitVec.ofNat 32 (i 0).val
  let c14_i32 : BitVec 32 := 14#32
  let v8 : BitVec 32 := Scalar.minsi arg0 c14_i32
  let c2_i32_27 : BitVec 32 := 2#32
  let v60 : BitVec 32 := Scalar.remsi v8 c2_i32_27
  let v61 : Index := Scalar.indexCast v60
  let c0_28 : Index := 0#32
  let c64 : Index := 64#32
  let c0_29 : Index := 0#32
  ![v61.toNat, 0, 64, 0]
def k0_off100 (i : grid0.Coords) : Fin 4 → Nat :=
  let arg0 : BitVec 32 := BitVec.ofNat 32 (i 0).val
  let c14_i32 : BitVec 32 := 14#32
  let v8 : BitVec 32 := Scalar.minsi arg0 c14_i32
  let c2_i32_46 : BitVec 32 := 2#32
  let v102 : BitVec 32 := Scalar.remsi v8 c2_i32_46
  let v103 : Index := Scalar.indexCast v102
  let c0_47 : Index := 0#32
  let c128_48 : Index := 128#32
  let c0_49 : Index := 0#32
  ![v103.toNat, 0, 128, 0]
def k0_off101 (i : grid0.Coords) : Fin 4 → Nat :=
  let arg0 : BitVec 32 := BitVec.ofNat 32 (i 0).val
  let c14_i32 : BitVec 32 := 14#32
  let v8 : BitVec 32 := Scalar.minsi arg0 c14_i32
  let c2_i32_65 : BitVec 32 := 2#32
  let v144 : BitVec 32 := Scalar.remsi v8 c2_i32_65
  let v145 : Index := Scalar.indexCast v144
  let c0_66 : Index := 0#32
  let c192 : Index := 192#32
  let c0_67 : Index := 0#32
  ![v145.toNat, 0, 192, 0]
def k0_off102 (i : grid0.Coords) : Fin 4 → Nat :=
  let arg0 : BitVec 32 := BitVec.ofNat 32 (i 0).val
  let c14_i32 : BitVec 32 := 14#32
  let v8 : BitVec 32 := Scalar.minsi arg0 c14_i32
  let c2_i32_83 : BitVec 32 := 2#32
  let v186 : BitVec 32 := Scalar.remsi v8 c2_i32_83
  let v187 : Index := Scalar.indexCast v186
  let c0_84 : Index := 0#32
  let c256 : Index := 256#32
  let c0_85 : Index := 0#32
  ![v187.toNat, 0, 256, 0]
def k0_off103 (i : grid0.Coords) : Fin 4 → Nat :=
  let arg0 : BitVec 32 := BitVec.ofNat 32 (i 0).val
  let c14_i32 : BitVec 32 := 14#32
  let v8 : BitVec 32 := Scalar.minsi arg0 c14_i32
  let c2_i32_101 : BitVec 32 := 2#32
  let v228 : BitVec 32 := Scalar.remsi v8 c2_i32_101
  let v229 : Index := Scalar.indexCast v228
  let c0_102 : Index := 0#32
  let c320 : Index := 320#32
  let c0_103 : Index := 0#32
  ![v229.toNat, 0, 320, 0]
def k0_off104 (i : grid0.Coords) : Fin 4 → Nat :=
  let arg0 : BitVec 32 := BitVec.ofNat 32 (i 0).val
  let c14_i32 : BitVec 32 := 14#32
  let v8 : BitVec 32 := Scalar.minsi arg0 c14_i32
  let c2_i32_119 : BitVec 32 := 2#32
  let v270 : BitVec 32 := Scalar.remsi v8 c2_i32_119
  let v271 : Index := Scalar.indexCast v270
  let c0_120 : Index := 0#32
  let c384 : Index := 384#32
  let c0_121 : Index := 0#32
  ![v271.toNat, 0, 384, 0]
def k0_off105 (i : grid0.Coords) : Fin 4 → Nat :=
  let arg0 : BitVec 32 := BitVec.ofNat 32 (i 0).val
  let c14_i32 : BitVec 32 := 14#32
  let v8 : BitVec 32 := Scalar.minsi arg0 c14_i32
  let c2_i32_137 : BitVec 32 := 2#32
  let v312 : BitVec 32 := Scalar.remsi v8 c2_i32_137
  let v313 : Index := Scalar.indexCast v312
  let c0_138 : Index := 0#32
  let c448 : Index := 448#32
  let c0_139 : Index := 0#32
  ![v313.toNat, 0, 448, 0]
def k0_off106 (i : grid0.Coords) : Fin 4 → Nat :=
  let arg0 : BitVec 32 := BitVec.ofNat 32 (i 0).val
  let c14_i32 : BitVec 32 := 14#32
  let v8 : BitVec 32 := Scalar.minsi arg0 c14_i32
  let c2_i32_155 : BitVec 32 := 2#32
  let v354 : BitVec 32 := Scalar.remsi v8 c2_i32_155
  let v355 : Index := Scalar.indexCast v354
  let c0_156 : Index := 0#32
  let c512 : Index := 512#32
  let c0_157 : Index := 0#32
  ![v355.toNat, 0, 512, 0]
def k0_off107 (i : grid0.Coords) : Fin 4 → Nat :=
  let arg0 : BitVec 32 := BitVec.ofNat 32 (i 0).val
  let c14_i32 : BitVec 32 := 14#32
  let v8 : BitVec 32 := Scalar.minsi arg0 c14_i32
  let c2_i32_173 : BitVec 32 := 2#32
  let v396 : BitVec 32 := Scalar.remsi v8 c2_i32_173
  let v397 : Index := Scalar.indexCast v396
  let c0_174 : Index := 0#32
  let c576 : Index := 576#32
  let c0_175 : Index := 0#32
  ![v397.toNat, 0, 576, 0]
def k0_off108 (i : grid0.Coords) : Fin 4 → Nat :=
  let arg0 : BitVec 32 := BitVec.ofNat 32 (i 0).val
  let c14_i32 : BitVec 32 := 14#32
  let v8 : BitVec 32 := Scalar.minsi arg0 c14_i32
  let c2_i32_191 : BitVec 32 := 2#32
  let v438 : BitVec 32 := Scalar.remsi v8 c2_i32_191
  let v439 : Index := Scalar.indexCast v438
  let c0_192 : Index := 0#32
  let c640 : Index := 640#32
  let c0_193 : Index := 0#32
  ![v439.toNat, 0, 640, 0]
def k0_off109 (i : grid0.Coords) : Fin 4 → Nat :=
  let arg0 : BitVec 32 := BitVec.ofNat 32 (i 0).val
  let c14_i32 : BitVec 32 := 14#32
  let v8 : BitVec 32 := Scalar.minsi arg0 c14_i32
  let c2_i32_209 : BitVec 32 := 2#32
  let v480 : BitVec 32 := Scalar.remsi v8 c2_i32_209
  let v481 : Index := Scalar.indexCast v480
  let c0_210 : Index := 0#32
  let c704 : Index := 704#32
  let c0_211 : Index := 0#32
  ![v481.toNat, 0, 704, 0]
def k0_off110 (i : grid0.Coords) : Fin 4 → Nat :=
  let arg0 : BitVec 32 := BitVec.ofNat 32 (i 0).val
  let c14_i32 : BitVec 32 := 14#32
  let v8 : BitVec 32 := Scalar.minsi arg0 c14_i32
  let c2_i32_227 : BitVec 32 := 2#32
  let v522 : BitVec 32 := Scalar.remsi v8 c2_i32_227
  let v523 : Index := Scalar.indexCast v522
  let c0_228 : Index := 0#32
  let c768 : Index := 768#32
  let c0_229 : Index := 0#32
  ![v523.toNat, 0, 768, 0]
def k0_off111 (i : grid0.Coords) : Fin 4 → Nat :=
  let arg0 : BitVec 32 := BitVec.ofNat 32 (i 0).val
  let c14_i32 : BitVec 32 := 14#32
  let v8 : BitVec 32 := Scalar.minsi arg0 c14_i32
  let c2_i32_245 : BitVec 32 := 2#32
  let v564 : BitVec 32 := Scalar.remsi v8 c2_i32_245
  let v565 : Index := Scalar.indexCast v564
  let c0_246 : Index := 0#32
  let c832 : Index := 832#32
  let c0_247 : Index := 0#32
  ![v565.toNat, 0, 832, 0]
def k0_off112 (i : grid0.Coords) : Fin 4 → Nat :=
  let arg0 : BitVec 32 := BitVec.ofNat 32 (i 0).val
  let c14_i32 : BitVec 32 := 14#32
  let v8 : BitVec 32 := Scalar.minsi arg0 c14_i32
  let c2_i32_263 : BitVec 32 := 2#32
  let v606 : BitVec 32 := Scalar.remsi v8 c2_i32_263
  let v607 : Index := Scalar.indexCast v606
  let c0_264 : Index := 0#32
  let c896 : Index := 896#32
  let c0_265 : Index := 0#32
  ![v607.toNat, 0, 896, 0]
def k0_off113 (i : grid0.Coords) : Fin 4 → Nat :=
  let arg0 : BitVec 32 := BitVec.ofNat 32 (i 0).val
  let c14_i32 : BitVec 32 := 14#32
  let v8 : BitVec 32 := Scalar.minsi arg0 c14_i32
  let c2_i32_281 : BitVec 32 := 2#32
  let v648 : BitVec 32 := Scalar.remsi v8 c2_i32_281
  let v649 : Index := Scalar.indexCast v648
  let c0_282 : Index := 0#32
  let c960 : Index := 960#32
  let c0_283 : Index := 0#32
  ![v649.toNat, 0, 960, 0]
def k0_off114 (i : grid0.Coords) : Fin 4 → Nat :=
  let arg0 : BitVec 32 := BitVec.ofNat 32 (i 0).val
  let c14_i32 : BitVec 32 := 14#32
  let v8 : BitVec 32 := Scalar.minsi arg0 c14_i32
  let c2_i32_299 : BitVec 32 := 2#32
  let v690 : BitVec 32 := Scalar.remsi v8 c2_i32_299
  let v691 : Index := Scalar.indexCast v690
  let c0_300 : Index := 0#32
  let c1024 : Index := 1024#32
  let c0_301 : Index := 0#32
  ![v691.toNat, 0, 1024, 0]
def k0_off115 (i : grid0.Coords) : Fin 4 → Nat :=
  let arg0 : BitVec 32 := BitVec.ofNat 32 (i 0).val
  let c14_i32 : BitVec 32 := 14#32
  let v8 : BitVec 32 := Scalar.minsi arg0 c14_i32
  let c2_i32_317 : BitVec 32 := 2#32
  let v732 : BitVec 32 := Scalar.remsi v8 c2_i32_317
  let v733 : Index := Scalar.indexCast v732
  let c0_318 : Index := 0#32
  let c1088 : Index := 1088#32
  let c0_319 : Index := 0#32
  ![v733.toNat, 0, 1088, 0]
def k0_off116 (i : grid0.Coords) : Fin 4 → Nat :=
  let arg0 : BitVec 32 := BitVec.ofNat 32 (i 0).val
  let c14_i32 : BitVec 32 := 14#32
  let v8 : BitVec 32 := Scalar.minsi arg0 c14_i32
  let c2_i32_335 : BitVec 32 := 2#32
  let v774 : BitVec 32 := Scalar.remsi v8 c2_i32_335
  let v775 : Index := Scalar.indexCast v774
  let c0_336 : Index := 0#32
  let c1152 : Index := 1152#32
  let c0_337 : Index := 0#32
  ![v775.toNat, 0, 1152, 0]
def k0_off117 (i : grid0.Coords) : Fin 4 → Nat :=
  let arg0 : BitVec 32 := BitVec.ofNat 32 (i 0).val
  let c14_i32 : BitVec 32 := 14#32
  let v8 : BitVec 32 := Scalar.minsi arg0 c14_i32
  let c2_i32_353 : BitVec 32 := 2#32
  let v816 : BitVec 32 := Scalar.remsi v8 c2_i32_353
  let v817 : Index := Scalar.indexCast v816
  let c0_354 : Index := 0#32
  let c1216 : Index := 1216#32
  let c0_355 : Index := 0#32
  ![v817.toNat, 0, 1216, 0]
def k0_off118 (i : grid0.Coords) : Fin 4 → Nat :=
  let arg0 : BitVec 32 := BitVec.ofNat 32 (i 0).val
  let c14_i32 : BitVec 32 := 14#32
  let v8 : BitVec 32 := Scalar.minsi arg0 c14_i32
  let c2_i32_371 : BitVec 32 := 2#32
  let v858 : BitVec 32 := Scalar.remsi v8 c2_i32_371
  let v859 : Index := Scalar.indexCast v858
  let c0_372 : Index := 0#32
  let c1280 : Index := 1280#32
  let c0_373 : Index := 0#32
  ![v859.toNat, 0, 1280, 0]
def k0_off119 (i : grid0.Coords) : Fin 4 → Nat :=
  let arg0 : BitVec 32 := BitVec.ofNat 32 (i 0).val
  let c14_i32 : BitVec 32 := 14#32
  let v8 : BitVec 32 := Scalar.minsi arg0 c14_i32
  let c2_i32_389 : BitVec 32 := 2#32
  let v900 : BitVec 32 := Scalar.remsi v8 c2_i32_389
  let v901 : Index := Scalar.indexCast v900
  let c0_390 : Index := 0#32
  let c1344 : Index := 1344#32
  let c0_391 : Index := 0#32
  ![v901.toNat, 0, 1344, 0]
def k0_off120 (i : grid0.Coords) : Fin 4 → Nat :=
  let arg0 : BitVec 32 := BitVec.ofNat 32 (i 0).val
  let c14_i32 : BitVec 32 := 14#32
  let v8 : BitVec 32 := Scalar.minsi arg0 c14_i32
  let c2_i32_407 : BitVec 32 := 2#32
  let v942 : BitVec 32 := Scalar.remsi v8 c2_i32_407
  let v943 : Index := Scalar.indexCast v942
  let c0_408 : Index := 0#32
  let c1408 : Index := 1408#32
  let c0_409 : Index := 0#32
  ![v943.toNat, 0, 1408, 0]
def k0_off121 (i : grid0.Coords) : Fin 4 → Nat :=
  let arg0 : BitVec 32 := BitVec.ofNat 32 (i 0).val
  let c14_i32 : BitVec 32 := 14#32
  let v8 : BitVec 32 := Scalar.minsi arg0 c14_i32
  let c2_i32_425 : BitVec 32 := 2#32
  let v984 : BitVec 32 := Scalar.remsi v8 c2_i32_425
  let v985 : Index := Scalar.indexCast v984
  let c0_426 : Index := 0#32
  let c1472 : Index := 1472#32
  let c0_427 : Index := 0#32
  ![v985.toNat, 0, 1472, 0]
def k0_off122 (i : grid0.Coords) : Fin 4 → Nat :=
  let arg0 : BitVec 32 := BitVec.ofNat 32 (i 0).val
  let c14_i32 : BitVec 32 := 14#32
  let v8 : BitVec 32 := Scalar.minsi arg0 c14_i32
  let c2_i32_443 : BitVec 32 := 2#32
  let v1026 : BitVec 32 := Scalar.remsi v8 c2_i32_443
  let v1027 : Index := Scalar.indexCast v1026
  let c0_444 : Index := 0#32
  let c1536 : Index := 1536#32
  let c0_445 : Index := 0#32
  ![v1027.toNat, 0, 1536, 0]
def k0_off123 (i : grid0.Coords) : Fin 4 → Nat :=
  let arg0 : BitVec 32 := BitVec.ofNat 32 (i 0).val
  let c14_i32 : BitVec 32 := 14#32
  let v8 : BitVec 32 := Scalar.minsi arg0 c14_i32
  let c2_i32_461 : BitVec 32 := 2#32
  let v1068 : BitVec 32 := Scalar.remsi v8 c2_i32_461
  let v1069 : Index := Scalar.indexCast v1068
  let c0_462 : Index := 0#32
  let c1600 : Index := 1600#32
  let c0_463 : Index := 0#32
  ![v1069.toNat, 0, 1600, 0]
def k0_off124 (i : grid0.Coords) : Fin 4 → Nat :=
  let arg0 : BitVec 32 := BitVec.ofNat 32 (i 0).val
  let c14_i32 : BitVec 32 := 14#32
  let v8 : BitVec 32 := Scalar.minsi arg0 c14_i32
  let c2_i32_479 : BitVec 32 := 2#32
  let v1110 : BitVec 32 := Scalar.remsi v8 c2_i32_479
  let v1111 : Index := Scalar.indexCast v1110
  let c0_480 : Index := 0#32
  let c1664 : Index := 1664#32
  let c0_481 : Index := 0#32
  ![v1111.toNat, 0, 1664, 0]
def k0_off125 (i : grid0.Coords) : Fin 4 → Nat :=
  let arg0 : BitVec 32 := BitVec.ofNat 32 (i 0).val
  let c14_i32 : BitVec 32 := 14#32
  let v8 : BitVec 32 := Scalar.minsi arg0 c14_i32
  let c2_i32_497 : BitVec 32 := 2#32
  let v1152 : BitVec 32 := Scalar.remsi v8 c2_i32_497
  let v1153 : Index := Scalar.indexCast v1152
  let c0_498 : Index := 0#32
  let c1728 : Index := 1728#32
  let c0_499 : Index := 0#32
  ![v1153.toNat, 0, 1728, 0]
def k0_off126 (i : grid0.Coords) : Fin 4 → Nat :=
  let arg0 : BitVec 32 := BitVec.ofNat 32 (i 0).val
  let c14_i32 : BitVec 32 := 14#32
  let v8 : BitVec 32 := Scalar.minsi arg0 c14_i32
  let c2_i32_515 : BitVec 32 := 2#32
  let v1194 : BitVec 32 := Scalar.remsi v8 c2_i32_515
  let v1195 : Index := Scalar.indexCast v1194
  let c0_516 : Index := 0#32
  let c1792 : Index := 1792#32
  let c0_517 : Index := 0#32
  ![v1195.toNat, 0, 1792, 0]
def k0_off127 (i : grid0.Coords) : Fin 4 → Nat :=
  let arg0 : BitVec 32 := BitVec.ofNat 32 (i 0).val
  let c14_i32 : BitVec 32 := 14#32
  let v8 : BitVec 32 := Scalar.minsi arg0 c14_i32
  let c2_i32_533 : BitVec 32 := 2#32
  let v1236 : BitVec 32 := Scalar.remsi v8 c2_i32_533
  let v1237 : Index := Scalar.indexCast v1236
  let c0_534 : Index := 0#32
  let c1856 : Index := 1856#32
  let c0_535 : Index := 0#32
  ![v1237.toNat, 0, 1856, 0]
def k0_off128 (i : grid0.Coords) : Fin 4 → Nat :=
  let arg0 : BitVec 32 := BitVec.ofNat 32 (i 0).val
  let c14_i32 : BitVec 32 := 14#32
  let v8 : BitVec 32 := Scalar.minsi arg0 c14_i32
  let c2_i32_551 : BitVec 32 := 2#32
  let v1278 : BitVec 32 := Scalar.remsi v8 c2_i32_551
  let v1279 : Index := Scalar.indexCast v1278
  let c0_552 : Index := 0#32
  let c1920 : Index := 1920#32
  let c0_553 : Index := 0#32
  ![v1279.toNat, 0, 1920, 0]
def k0_off129 (i : grid0.Coords) : Fin 4 → Nat :=
  let arg0 : BitVec 32 := BitVec.ofNat 32 (i 0).val
  let c14_i32 : BitVec 32 := 14#32
  let v8 : BitVec 32 := Scalar.minsi arg0 c14_i32
  let c2_i32_569 : BitVec 32 := 2#32
  let v1320 : BitVec 32 := Scalar.remsi v8 c2_i32_569
  let v1321 : Index := Scalar.indexCast v1320
  let c0_570 : Index := 0#32
  let c1984 : Index := 1984#32
  let c0_571 : Index := 0#32
  ![v1321.toNat, 0, 1984, 0]
def k0_off130 (i : grid0.Coords) : Fin 4 → Nat :=
  let arg0 : BitVec 32 := BitVec.ofNat 32 (i 0).val
  let c14_i32 : BitVec 32 := 14#32
  let v8 : BitVec 32 := Scalar.minsi arg0 c14_i32
  let c2_i32_587 : BitVec 32 := 2#32
  let v1362 : BitVec 32 := Scalar.remsi v8 c2_i32_587
  let v1363 : Index := Scalar.indexCast v1362
  let c0_588 : Index := 0#32
  let c2048 : Index := 2048#32
  let c0_589 : Index := 0#32
  ![v1363.toNat, 0, 2048, 0]
def k0_off131 (i : grid0.Coords) : Fin 4 → Nat :=
  let arg0 : BitVec 32 := BitVec.ofNat 32 (i 0).val
  let c1_i32 : BitVec 32 := 1#32
  let v6 : BitVec 32 := Scalar.subi arg0 c1_i32
  let c2_i32 : BitVec 32 := 2#32
  let v7 : BitVec 32 := Scalar.remsi v6 c2_i32
  let v1367 : Index := Scalar.indexCast v7
  let c0_590 : Index := 0#32
  let c64_591 : Index := 64#32
  let c0_592 : Index := 0#32
  ![v1367.toNat, 0, 64, 0]
def k0_off132 (i : grid0.Coords) : Fin 4 → Nat :=
  let arg0 : BitVec 32 := BitVec.ofNat 32 (i 0).val
  let c1_i32 : BitVec 32 := 1#32
  let v6 : BitVec 32 := Scalar.subi arg0 c1_i32
  let c2_i32 : BitVec 32 := 2#32
  let v7 : BitVec 32 := Scalar.remsi v6 c2_i32
  let v1372 : Index := Scalar.indexCast v7
  let c1_596 : Index := 1#32
  let c64_597 : Index := 64#32
  let c0_598 : Index := 0#32
  ![v1372.toNat, 1, 64, 0]
def k0_off133 (i : grid0.Coords) : Fin 4 → Nat :=
  let arg0 : BitVec 32 := BitVec.ofNat 32 (i 0).val
  let c14_i32 : BitVec 32 := 14#32
  let v8 : BitVec 32 := Scalar.minsi arg0 c14_i32
  let c2_i32_621 : BitVec 32 := 2#32
  let v1418 : BitVec 32 := Scalar.remsi v8 c2_i32_621
  let v1419 : Index := Scalar.indexCast v1418
  let c0_622 : Index := 0#32
  let c2112 : Index := 2112#32
  let c0_623 : Index := 0#32
  ![v1419.toNat, 0, 2112, 0]
def k0_off134 (i : grid0.Coords) : Fin 4 → Nat :=
  let arg0 : BitVec 32 := BitVec.ofNat 32 (i 0).val
  let c14_i32 : BitVec 32 := 14#32
  let v8 : BitVec 32 := Scalar.minsi arg0 c14_i32
  let c2_i32_639 : BitVec 32 := 2#32
  let v1460 : BitVec 32 := Scalar.remsi v8 c2_i32_639
  let v1461 : Index := Scalar.indexCast v1460
  let c0_640 : Index := 0#32
  let c2176 : Index := 2176#32
  let c0_641 : Index := 0#32
  ![v1461.toNat, 0, 2176, 0]
def k0_off135 (i : grid0.Coords) : Fin 4 → Nat :=
  let arg0 : BitVec 32 := BitVec.ofNat 32 (i 0).val
  let c14_i32 : BitVec 32 := 14#32
  let v8 : BitVec 32 := Scalar.minsi arg0 c14_i32
  let c2_i32_657 : BitVec 32 := 2#32
  let v1502 : BitVec 32 := Scalar.remsi v8 c2_i32_657
  let v1503 : Index := Scalar.indexCast v1502
  let c0_658 : Index := 0#32
  let c2240 : Index := 2240#32
  let c0_659 : Index := 0#32
  ![v1503.toNat, 0, 2240, 0]
def k0_off136 (i : grid0.Coords) : Fin 4 → Nat :=
  let arg0 : BitVec 32 := BitVec.ofNat 32 (i 0).val
  let c14_i32 : BitVec 32 := 14#32
  let v8 : BitVec 32 := Scalar.minsi arg0 c14_i32
  let c2_i32_675 : BitVec 32 := 2#32
  let v1544 : BitVec 32 := Scalar.remsi v8 c2_i32_675
  let v1545 : Index := Scalar.indexCast v1544
  let c0_676 : Index := 0#32
  let c2304 : Index := 2304#32
  let c0_677 : Index := 0#32
  ![v1545.toNat, 0, 2304, 0]
def k0_off137 (i : grid0.Coords) : Fin 4 → Nat :=
  let arg0 : BitVec 32 := BitVec.ofNat 32 (i 0).val
  let c14_i32 : BitVec 32 := 14#32
  let v8 : BitVec 32 := Scalar.minsi arg0 c14_i32
  let c2_i32_693 : BitVec 32 := 2#32
  let v1586 : BitVec 32 := Scalar.remsi v8 c2_i32_693
  let v1587 : Index := Scalar.indexCast v1586
  let c0_694 : Index := 0#32
  let c2368 : Index := 2368#32
  let c0_695 : Index := 0#32
  ![v1587.toNat, 0, 2368, 0]
def k0_off138 (i : grid0.Coords) : Fin 4 → Nat :=
  let arg0 : BitVec 32 := BitVec.ofNat 32 (i 0).val
  let c14_i32 : BitVec 32 := 14#32
  let v8 : BitVec 32 := Scalar.minsi arg0 c14_i32
  let c2_i32_711 : BitVec 32 := 2#32
  let v1628 : BitVec 32 := Scalar.remsi v8 c2_i32_711
  let v1629 : Index := Scalar.indexCast v1628
  let c0_712 : Index := 0#32
  let c2432 : Index := 2432#32
  let c0_713 : Index := 0#32
  ![v1629.toNat, 0, 2432, 0]
def k0_off139 (i : grid0.Coords) : Fin 4 → Nat :=
  let arg0 : BitVec 32 := BitVec.ofNat 32 (i 0).val
  let c14_i32 : BitVec 32 := 14#32
  let v8 : BitVec 32 := Scalar.minsi arg0 c14_i32
  let c2_i32_729 : BitVec 32 := 2#32
  let v1670 : BitVec 32 := Scalar.remsi v8 c2_i32_729
  let v1671 : Index := Scalar.indexCast v1670
  let c0_730 : Index := 0#32
  let c2496 : Index := 2496#32
  let c0_731 : Index := 0#32
  ![v1671.toNat, 0, 2496, 0]
def k0_off140 (i : grid0.Coords) : Fin 4 → Nat :=
  let arg0 : BitVec 32 := BitVec.ofNat 32 (i 0).val
  let c14_i32 : BitVec 32 := 14#32
  let v8 : BitVec 32 := Scalar.minsi arg0 c14_i32
  let c2_i32_747 : BitVec 32 := 2#32
  let v1712 : BitVec 32 := Scalar.remsi v8 c2_i32_747
  let v1713 : Index := Scalar.indexCast v1712
  let c0_748 : Index := 0#32
  let c2560 : Index := 2560#32
  let c0_749 : Index := 0#32
  ![v1713.toNat, 0, 2560, 0]
def k0_off141 (i : grid0.Coords) : Fin 4 → Nat :=
  let arg0 : BitVec 32 := BitVec.ofNat 32 (i 0).val
  let c14_i32 : BitVec 32 := 14#32
  let v8 : BitVec 32 := Scalar.minsi arg0 c14_i32
  let c2_i32_765 : BitVec 32 := 2#32
  let v1754 : BitVec 32 := Scalar.remsi v8 c2_i32_765
  let v1755 : Index := Scalar.indexCast v1754
  let c0_766 : Index := 0#32
  let c2624 : Index := 2624#32
  let c0_767 : Index := 0#32
  ![v1755.toNat, 0, 2624, 0]
def k0_off142 (i : grid0.Coords) : Fin 4 → Nat :=
  let arg0 : BitVec 32 := BitVec.ofNat 32 (i 0).val
  let c14_i32 : BitVec 32 := 14#32
  let v8 : BitVec 32 := Scalar.minsi arg0 c14_i32
  let c2_i32_783 : BitVec 32 := 2#32
  let v1796 : BitVec 32 := Scalar.remsi v8 c2_i32_783
  let v1797 : Index := Scalar.indexCast v1796
  let c0_784 : Index := 0#32
  let c2688 : Index := 2688#32
  let c0_785 : Index := 0#32
  ![v1797.toNat, 0, 2688, 0]
def k0_off143 (i : grid0.Coords) : Fin 4 → Nat :=
  let arg0 : BitVec 32 := BitVec.ofNat 32 (i 0).val
  let c14_i32 : BitVec 32 := 14#32
  let v8 : BitVec 32 := Scalar.minsi arg0 c14_i32
  let c2_i32_801 : BitVec 32 := 2#32
  let v1838 : BitVec 32 := Scalar.remsi v8 c2_i32_801
  let v1839 : Index := Scalar.indexCast v1838
  let c0_802 : Index := 0#32
  let c2752 : Index := 2752#32
  let c0_803 : Index := 0#32
  ![v1839.toNat, 0, 2752, 0]
def k0_off144 (i : grid0.Coords) : Fin 4 → Nat :=
  let arg0 : BitVec 32 := BitVec.ofNat 32 (i 0).val
  let c14_i32 : BitVec 32 := 14#32
  let v8 : BitVec 32 := Scalar.minsi arg0 c14_i32
  let c2_i32_819 : BitVec 32 := 2#32
  let v1880 : BitVec 32 := Scalar.remsi v8 c2_i32_819
  let v1881 : Index := Scalar.indexCast v1880
  let c0_820 : Index := 0#32
  let c2816 : Index := 2816#32
  let c0_821 : Index := 0#32
  ![v1881.toNat, 0, 2816, 0]
def k0_off145 (i : grid0.Coords) : Fin 4 → Nat :=
  let arg0 : BitVec 32 := BitVec.ofNat 32 (i 0).val
  let c14_i32 : BitVec 32 := 14#32
  let v8 : BitVec 32 := Scalar.minsi arg0 c14_i32
  let c2_i32_837 : BitVec 32 := 2#32
  let v1922 : BitVec 32 := Scalar.remsi v8 c2_i32_837
  let v1923 : Index := Scalar.indexCast v1922
  let c0_838 : Index := 0#32
  let c2880 : Index := 2880#32
  let c0_839 : Index := 0#32
  ![v1923.toNat, 0, 2880, 0]
def k0_off146 (i : grid0.Coords) : Fin 4 → Nat :=
  let arg0 : BitVec 32 := BitVec.ofNat 32 (i 0).val
  let c14_i32 : BitVec 32 := 14#32
  let v8 : BitVec 32 := Scalar.minsi arg0 c14_i32
  let c2_i32_855 : BitVec 32 := 2#32
  let v1964 : BitVec 32 := Scalar.remsi v8 c2_i32_855
  let v1965 : Index := Scalar.indexCast v1964
  let c0_856 : Index := 0#32
  let c2944 : Index := 2944#32
  let c0_857 : Index := 0#32
  ![v1965.toNat, 0, 2944, 0]
def k0_off147 (i : grid0.Coords) : Fin 4 → Nat :=
  let arg0 : BitVec 32 := BitVec.ofNat 32 (i 0).val
  let c14_i32 : BitVec 32 := 14#32
  let v8 : BitVec 32 := Scalar.minsi arg0 c14_i32
  let c2_i32_873 : BitVec 32 := 2#32
  let v2006 : BitVec 32 := Scalar.remsi v8 c2_i32_873
  let v2007 : Index := Scalar.indexCast v2006
  let c0_874 : Index := 0#32
  let c3008 : Index := 3008#32
  let c0_875 : Index := 0#32
  ![v2007.toNat, 0, 3008, 0]
def k0_off148 (i : grid0.Coords) : Fin 4 → Nat :=
  let arg0 : BitVec 32 := BitVec.ofNat 32 (i 0).val
  let c14_i32 : BitVec 32 := 14#32
  let v8 : BitVec 32 := Scalar.minsi arg0 c14_i32
  let c2_i32_891 : BitVec 32 := 2#32
  let v2048 : BitVec 32 := Scalar.remsi v8 c2_i32_891
  let v2049 : Index := Scalar.indexCast v2048
  let c0_892 : Index := 0#32
  let c3072_893 : Index := 3072#32
  let c0_894 : Index := 0#32
  ![v2049.toNat, 0, 3072, 0]
def k0_off149 (i : grid0.Coords) : Fin 4 → Nat :=
  let arg0 : BitVec 32 := BitVec.ofNat 32 (i 0).val
  let c14_i32 : BitVec 32 := 14#32
  let v8 : BitVec 32 := Scalar.minsi arg0 c14_i32
  let c2_i32_910 : BitVec 32 := 2#32
  let v2090 : BitVec 32 := Scalar.remsi v8 c2_i32_910
  let v2091 : Index := Scalar.indexCast v2090
  let c1_911 : Index := 1#32
  let c64_912 : Index := 64#32
  let c0_913 : Index := 0#32
  ![v2091.toNat, 1, 64, 0]
def k0_off150 (i : grid0.Coords) : Fin 4 → Nat :=
  let arg0 : BitVec 32 := BitVec.ofNat 32 (i 0).val
  let c14_i32 : BitVec 32 := 14#32
  let v8 : BitVec 32 := Scalar.minsi arg0 c14_i32
  let c2_i32_928 : BitVec 32 := 2#32
  let v2132 : BitVec 32 := Scalar.remsi v8 c2_i32_928
  let v2133 : Index := Scalar.indexCast v2132
  let c1_929 : Index := 1#32
  let c128_930 : Index := 128#32
  let c0_931 : Index := 0#32
  ![v2133.toNat, 1, 128, 0]
def k0_off151 (i : grid0.Coords) : Fin 4 → Nat :=
  let arg0 : BitVec 32 := BitVec.ofNat 32 (i 0).val
  let c14_i32 : BitVec 32 := 14#32
  let v8 : BitVec 32 := Scalar.minsi arg0 c14_i32
  let c2_i32_946 : BitVec 32 := 2#32
  let v2174 : BitVec 32 := Scalar.remsi v8 c2_i32_946
  let v2175 : Index := Scalar.indexCast v2174
  let c1_947 : Index := 1#32
  let c192_948 : Index := 192#32
  let c0_949 : Index := 0#32
  ![v2175.toNat, 1, 192, 0]
def k0_off152 (i : grid0.Coords) : Fin 4 → Nat :=
  let arg0 : BitVec 32 := BitVec.ofNat 32 (i 0).val
  let c14_i32 : BitVec 32 := 14#32
  let v8 : BitVec 32 := Scalar.minsi arg0 c14_i32
  let c2_i32_964 : BitVec 32 := 2#32
  let v2216 : BitVec 32 := Scalar.remsi v8 c2_i32_964
  let v2217 : Index := Scalar.indexCast v2216
  let c1_965 : Index := 1#32
  let c256_966 : Index := 256#32
  let c0_967 : Index := 0#32
  ![v2217.toNat, 1, 256, 0]
def k0_off153 (i : grid0.Coords) : Fin 4 → Nat :=
  let arg0 : BitVec 32 := BitVec.ofNat 32 (i 0).val
  let c14_i32 : BitVec 32 := 14#32
  let v8 : BitVec 32 := Scalar.minsi arg0 c14_i32
  let c2_i32_982 : BitVec 32 := 2#32
  let v2258 : BitVec 32 := Scalar.remsi v8 c2_i32_982
  let v2259 : Index := Scalar.indexCast v2258
  let c1_983 : Index := 1#32
  let c320_984 : Index := 320#32
  let c0_985 : Index := 0#32
  ![v2259.toNat, 1, 320, 0]
def k0_off154 (i : grid0.Coords) : Fin 4 → Nat :=
  let arg0 : BitVec 32 := BitVec.ofNat 32 (i 0).val
  let c14_i32 : BitVec 32 := 14#32
  let v8 : BitVec 32 := Scalar.minsi arg0 c14_i32
  let c2_i32_1000 : BitVec 32 := 2#32
  let v2300 : BitVec 32 := Scalar.remsi v8 c2_i32_1000
  let v2301 : Index := Scalar.indexCast v2300
  let c1_1001 : Index := 1#32
  let c384_1002 : Index := 384#32
  let c0_1003 : Index := 0#32
  ![v2301.toNat, 1, 384, 0]
def k0_off155 (i : grid0.Coords) : Fin 4 → Nat :=
  let arg0 : BitVec 32 := BitVec.ofNat 32 (i 0).val
  let c14_i32 : BitVec 32 := 14#32
  let v8 : BitVec 32 := Scalar.minsi arg0 c14_i32
  let c2_i32_1018 : BitVec 32 := 2#32
  let v2342 : BitVec 32 := Scalar.remsi v8 c2_i32_1018
  let v2343 : Index := Scalar.indexCast v2342
  let c1_1019 : Index := 1#32
  let c448_1020 : Index := 448#32
  let c0_1021 : Index := 0#32
  ![v2343.toNat, 1, 448, 0]
def k0_off156 (i : grid0.Coords) : Fin 4 → Nat :=
  let arg0 : BitVec 32 := BitVec.ofNat 32 (i 0).val
  let c14_i32 : BitVec 32 := 14#32
  let v8 : BitVec 32 := Scalar.minsi arg0 c14_i32
  let c2_i32_1036 : BitVec 32 := 2#32
  let v2384 : BitVec 32 := Scalar.remsi v8 c2_i32_1036
  let v2385 : Index := Scalar.indexCast v2384
  let c1_1037 : Index := 1#32
  let c512_1038 : Index := 512#32
  let c0_1039 : Index := 0#32
  ![v2385.toNat, 1, 512, 0]
def k0_off157 (i : grid0.Coords) : Fin 4 → Nat :=
  let arg0 : BitVec 32 := BitVec.ofNat 32 (i 0).val
  let c14_i32 : BitVec 32 := 14#32
  let v8 : BitVec 32 := Scalar.minsi arg0 c14_i32
  let c2_i32_1054 : BitVec 32 := 2#32
  let v2426 : BitVec 32 := Scalar.remsi v8 c2_i32_1054
  let v2427 : Index := Scalar.indexCast v2426
  let c1_1055 : Index := 1#32
  let c576_1056 : Index := 576#32
  let c0_1057 : Index := 0#32
  ![v2427.toNat, 1, 576, 0]
def k0_off158 (i : grid0.Coords) : Fin 4 → Nat :=
  let arg0 : BitVec 32 := BitVec.ofNat 32 (i 0).val
  let c14_i32 : BitVec 32 := 14#32
  let v8 : BitVec 32 := Scalar.minsi arg0 c14_i32
  let c2_i32_1072 : BitVec 32 := 2#32
  let v2468 : BitVec 32 := Scalar.remsi v8 c2_i32_1072
  let v2469 : Index := Scalar.indexCast v2468
  let c1_1073 : Index := 1#32
  let c640_1074 : Index := 640#32
  let c0_1075 : Index := 0#32
  ![v2469.toNat, 1, 640, 0]
def k0_off159 (i : grid0.Coords) : Fin 4 → Nat :=
  let arg0 : BitVec 32 := BitVec.ofNat 32 (i 0).val
  let c14_i32 : BitVec 32 := 14#32
  let v8 : BitVec 32 := Scalar.minsi arg0 c14_i32
  let c2_i32_1090 : BitVec 32 := 2#32
  let v2510 : BitVec 32 := Scalar.remsi v8 c2_i32_1090
  let v2511 : Index := Scalar.indexCast v2510
  let c1_1091 : Index := 1#32
  let c704_1092 : Index := 704#32
  let c0_1093 : Index := 0#32
  ![v2511.toNat, 1, 704, 0]
def k0_off160 (i : grid0.Coords) : Fin 4 → Nat :=
  let arg0 : BitVec 32 := BitVec.ofNat 32 (i 0).val
  let c14_i32 : BitVec 32 := 14#32
  let v8 : BitVec 32 := Scalar.minsi arg0 c14_i32
  let c2_i32_1108 : BitVec 32 := 2#32
  let v2552 : BitVec 32 := Scalar.remsi v8 c2_i32_1108
  let v2553 : Index := Scalar.indexCast v2552
  let c1_1109 : Index := 1#32
  let c768_1110 : Index := 768#32
  let c0_1111 : Index := 0#32
  ![v2553.toNat, 1, 768, 0]
def k0_off161 (i : grid0.Coords) : Fin 4 → Nat :=
  let arg0 : BitVec 32 := BitVec.ofNat 32 (i 0).val
  let c14_i32 : BitVec 32 := 14#32
  let v8 : BitVec 32 := Scalar.minsi arg0 c14_i32
  let c2_i32_1126 : BitVec 32 := 2#32
  let v2594 : BitVec 32 := Scalar.remsi v8 c2_i32_1126
  let v2595 : Index := Scalar.indexCast v2594
  let c1_1127 : Index := 1#32
  let c832_1128 : Index := 832#32
  let c0_1129 : Index := 0#32
  ![v2595.toNat, 1, 832, 0]
def k0_off162 (i : grid0.Coords) : Fin 4 → Nat :=
  let arg0 : BitVec 32 := BitVec.ofNat 32 (i 0).val
  let c14_i32 : BitVec 32 := 14#32
  let v8 : BitVec 32 := Scalar.minsi arg0 c14_i32
  let c2_i32_1144 : BitVec 32 := 2#32
  let v2636 : BitVec 32 := Scalar.remsi v8 c2_i32_1144
  let v2637 : Index := Scalar.indexCast v2636
  let c1_1145 : Index := 1#32
  let c896_1146 : Index := 896#32
  let c0_1147 : Index := 0#32
  ![v2637.toNat, 1, 896, 0]
def k0_off163 (i : grid0.Coords) : Fin 4 → Nat :=
  let arg0 : BitVec 32 := BitVec.ofNat 32 (i 0).val
  let c14_i32 : BitVec 32 := 14#32
  let v8 : BitVec 32 := Scalar.minsi arg0 c14_i32
  let c2_i32_1162 : BitVec 32 := 2#32
  let v2678 : BitVec 32 := Scalar.remsi v8 c2_i32_1162
  let v2679 : Index := Scalar.indexCast v2678
  let c1_1163 : Index := 1#32
  let c960_1164 : Index := 960#32
  let c0_1165 : Index := 0#32
  ![v2679.toNat, 1, 960, 0]
def k0_off164 (i : grid0.Coords) : Fin 4 → Nat :=
  let arg0 : BitVec 32 := BitVec.ofNat 32 (i 0).val
  let c14_i32 : BitVec 32 := 14#32
  let v8 : BitVec 32 := Scalar.minsi arg0 c14_i32
  let c2_i32_1180 : BitVec 32 := 2#32
  let v2720 : BitVec 32 := Scalar.remsi v8 c2_i32_1180
  let v2721 : Index := Scalar.indexCast v2720
  let c1_1181 : Index := 1#32
  let c1024_1182 : Index := 1024#32
  let c0_1183 : Index := 0#32
  ![v2721.toNat, 1, 1024, 0]
def k0_off165 (i : grid0.Coords) : Fin 4 → Nat :=
  let arg0 : BitVec 32 := BitVec.ofNat 32 (i 0).val
  let c1_i32 : BitVec 32 := 1#32
  let v6 : BitVec 32 := Scalar.subi arg0 c1_i32
  let c2_i32 : BitVec 32 := 2#32
  let v7 : BitVec 32 := Scalar.remsi v6 c2_i32
  let v2725 : Index := Scalar.indexCast v7
  let c0_1184 : Index := 0#32
  let c0_1185 : Index := 0#32
  let c0_1186 : Index := 0#32
  ![v2725.toNat, 0, 0, 0]
def k0_off166 (i : grid0.Coords) : Fin 4 → Nat :=
  let arg0 : BitVec 32 := BitVec.ofNat 32 (i 0).val
  let c1_i32 : BitVec 32 := 1#32
  let v6 : BitVec 32 := Scalar.subi arg0 c1_i32
  let c2_i32 : BitVec 32 := 2#32
  let v7 : BitVec 32 := Scalar.remsi v6 c2_i32
  let v2730 : Index := Scalar.indexCast v7
  let c1_1190 : Index := 1#32
  let c0_1191 : Index := 0#32
  let c0_1192 : Index := 0#32
  ![v2730.toNat, 1, 0, 0]
def k0_off167 (i : grid0.Coords) : Fin 4 → Nat :=
  let arg0 : BitVec 32 := BitVec.ofNat 32 (i 0).val
  let c14_i32 : BitVec 32 := 14#32
  let v8 : BitVec 32 := Scalar.minsi arg0 c14_i32
  let c2_i32_1215 : BitVec 32 := 2#32
  let v2776 : BitVec 32 := Scalar.remsi v8 c2_i32_1215
  let v2777 : Index := Scalar.indexCast v2776
  let c1_1216 : Index := 1#32
  let c1088_1217 : Index := 1088#32
  let c0_1218 : Index := 0#32
  ![v2777.toNat, 1, 1088, 0]
def k0_off168 (i : grid0.Coords) : Fin 4 → Nat :=
  let arg0 : BitVec 32 := BitVec.ofNat 32 (i 0).val
  let c14_i32 : BitVec 32 := 14#32
  let v8 : BitVec 32 := Scalar.minsi arg0 c14_i32
  let c2_i32_1233 : BitVec 32 := 2#32
  let v2818 : BitVec 32 := Scalar.remsi v8 c2_i32_1233
  let v2819 : Index := Scalar.indexCast v2818
  let c1_1234 : Index := 1#32
  let c1152_1235 : Index := 1152#32
  let c0_1236 : Index := 0#32
  ![v2819.toNat, 1, 1152, 0]
def k0_off169 (i : grid0.Coords) : Fin 4 → Nat :=
  let arg0 : BitVec 32 := BitVec.ofNat 32 (i 0).val
  let c14_i32 : BitVec 32 := 14#32
  let v8 : BitVec 32 := Scalar.minsi arg0 c14_i32
  let c2_i32_1251 : BitVec 32 := 2#32
  let v2860 : BitVec 32 := Scalar.remsi v8 c2_i32_1251
  let v2861 : Index := Scalar.indexCast v2860
  let c1_1252 : Index := 1#32
  let c1216_1253 : Index := 1216#32
  let c0_1254 : Index := 0#32
  ![v2861.toNat, 1, 1216, 0]
def k0_off170 (i : grid0.Coords) : Fin 4 → Nat :=
  let arg0 : BitVec 32 := BitVec.ofNat 32 (i 0).val
  let c14_i32 : BitVec 32 := 14#32
  let v8 : BitVec 32 := Scalar.minsi arg0 c14_i32
  let c2_i32_1269 : BitVec 32 := 2#32
  let v2902 : BitVec 32 := Scalar.remsi v8 c2_i32_1269
  let v2903 : Index := Scalar.indexCast v2902
  let c1_1270 : Index := 1#32
  let c1280_1271 : Index := 1280#32
  let c0_1272 : Index := 0#32
  ![v2903.toNat, 1, 1280, 0]
def k0_off171 (i : grid0.Coords) : Fin 4 → Nat :=
  let arg0 : BitVec 32 := BitVec.ofNat 32 (i 0).val
  let c14_i32 : BitVec 32 := 14#32
  let v8 : BitVec 32 := Scalar.minsi arg0 c14_i32
  let c2_i32_1287 : BitVec 32 := 2#32
  let v2944 : BitVec 32 := Scalar.remsi v8 c2_i32_1287
  let v2945 : Index := Scalar.indexCast v2944
  let c1_1288 : Index := 1#32
  let c1344_1289 : Index := 1344#32
  let c0_1290 : Index := 0#32
  ![v2945.toNat, 1, 1344, 0]
def k0_off172 (i : grid0.Coords) : Fin 4 → Nat :=
  let arg0 : BitVec 32 := BitVec.ofNat 32 (i 0).val
  let c14_i32 : BitVec 32 := 14#32
  let v8 : BitVec 32 := Scalar.minsi arg0 c14_i32
  let c2_i32_1305 : BitVec 32 := 2#32
  let v2986 : BitVec 32 := Scalar.remsi v8 c2_i32_1305
  let v2987 : Index := Scalar.indexCast v2986
  let c1_1306 : Index := 1#32
  let c1408_1307 : Index := 1408#32
  let c0_1308 : Index := 0#32
  ![v2987.toNat, 1, 1408, 0]
def k0_off173 (i : grid0.Coords) : Fin 4 → Nat :=
  let arg0 : BitVec 32 := BitVec.ofNat 32 (i 0).val
  let c14_i32 : BitVec 32 := 14#32
  let v8 : BitVec 32 := Scalar.minsi arg0 c14_i32
  let c2_i32_1323 : BitVec 32 := 2#32
  let v3028 : BitVec 32 := Scalar.remsi v8 c2_i32_1323
  let v3029 : Index := Scalar.indexCast v3028
  let c1_1324 : Index := 1#32
  let c1472_1325 : Index := 1472#32
  let c0_1326 : Index := 0#32
  ![v3029.toNat, 1, 1472, 0]
def k0_off174 (i : grid0.Coords) : Fin 4 → Nat :=
  let arg0 : BitVec 32 := BitVec.ofNat 32 (i 0).val
  let c14_i32 : BitVec 32 := 14#32
  let v8 : BitVec 32 := Scalar.minsi arg0 c14_i32
  let c2_i32_1341 : BitVec 32 := 2#32
  let v3070 : BitVec 32 := Scalar.remsi v8 c2_i32_1341
  let v3071 : Index := Scalar.indexCast v3070
  let c1_1342 : Index := 1#32
  let c1536_1343 : Index := 1536#32
  let c0_1344 : Index := 0#32
  ![v3071.toNat, 1, 1536, 0]
def k0_off175 (i : grid0.Coords) : Fin 4 → Nat :=
  let arg0 : BitVec 32 := BitVec.ofNat 32 (i 0).val
  let c14_i32 : BitVec 32 := 14#32
  let v8 : BitVec 32 := Scalar.minsi arg0 c14_i32
  let c2_i32_1359 : BitVec 32 := 2#32
  let v3112 : BitVec 32 := Scalar.remsi v8 c2_i32_1359
  let v3113 : Index := Scalar.indexCast v3112
  let c1_1360 : Index := 1#32
  let c1600_1361 : Index := 1600#32
  let c0_1362 : Index := 0#32
  ![v3113.toNat, 1, 1600, 0]
def k0_off176 (i : grid0.Coords) : Fin 4 → Nat :=
  let arg0 : BitVec 32 := BitVec.ofNat 32 (i 0).val
  let c14_i32 : BitVec 32 := 14#32
  let v8 : BitVec 32 := Scalar.minsi arg0 c14_i32
  let c2_i32_1377 : BitVec 32 := 2#32
  let v3154 : BitVec 32 := Scalar.remsi v8 c2_i32_1377
  let v3155 : Index := Scalar.indexCast v3154
  let c1_1378 : Index := 1#32
  let c1664_1379 : Index := 1664#32
  let c0_1380 : Index := 0#32
  ![v3155.toNat, 1, 1664, 0]
def k0_off177 (i : grid0.Coords) : Fin 4 → Nat :=
  let arg0 : BitVec 32 := BitVec.ofNat 32 (i 0).val
  let c14_i32 : BitVec 32 := 14#32
  let v8 : BitVec 32 := Scalar.minsi arg0 c14_i32
  let c2_i32_1395 : BitVec 32 := 2#32
  let v3196 : BitVec 32 := Scalar.remsi v8 c2_i32_1395
  let v3197 : Index := Scalar.indexCast v3196
  let c1_1396 : Index := 1#32
  let c1728_1397 : Index := 1728#32
  let c0_1398 : Index := 0#32
  ![v3197.toNat, 1, 1728, 0]
def k0_off178 (i : grid0.Coords) : Fin 4 → Nat :=
  let arg0 : BitVec 32 := BitVec.ofNat 32 (i 0).val
  let c14_i32 : BitVec 32 := 14#32
  let v8 : BitVec 32 := Scalar.minsi arg0 c14_i32
  let c2_i32_1413 : BitVec 32 := 2#32
  let v3238 : BitVec 32 := Scalar.remsi v8 c2_i32_1413
  let v3239 : Index := Scalar.indexCast v3238
  let c1_1414 : Index := 1#32
  let c1792_1415 : Index := 1792#32
  let c0_1416 : Index := 0#32
  ![v3239.toNat, 1, 1792, 0]
def k0_off179 (i : grid0.Coords) : Fin 4 → Nat :=
  let arg0 : BitVec 32 := BitVec.ofNat 32 (i 0).val
  let c14_i32 : BitVec 32 := 14#32
  let v8 : BitVec 32 := Scalar.minsi arg0 c14_i32
  let c2_i32_1431 : BitVec 32 := 2#32
  let v3280 : BitVec 32 := Scalar.remsi v8 c2_i32_1431
  let v3281 : Index := Scalar.indexCast v3280
  let c1_1432 : Index := 1#32
  let c1856_1433 : Index := 1856#32
  let c0_1434 : Index := 0#32
  ![v3281.toNat, 1, 1856, 0]
def k0_off180 (i : grid0.Coords) : Fin 4 → Nat :=
  let arg0 : BitVec 32 := BitVec.ofNat 32 (i 0).val
  let c14_i32 : BitVec 32 := 14#32
  let v8 : BitVec 32 := Scalar.minsi arg0 c14_i32
  let c2_i32_1449 : BitVec 32 := 2#32
  let v3322 : BitVec 32 := Scalar.remsi v8 c2_i32_1449
  let v3323 : Index := Scalar.indexCast v3322
  let c1_1450 : Index := 1#32
  let c1920_1451 : Index := 1920#32
  let c0_1452 : Index := 0#32
  ![v3323.toNat, 1, 1920, 0]
def k0_off181 (i : grid0.Coords) : Fin 4 → Nat :=
  let arg0 : BitVec 32 := BitVec.ofNat 32 (i 0).val
  let c14_i32 : BitVec 32 := 14#32
  let v8 : BitVec 32 := Scalar.minsi arg0 c14_i32
  let c2_i32_1467 : BitVec 32 := 2#32
  let v3364 : BitVec 32 := Scalar.remsi v8 c2_i32_1467
  let v3365 : Index := Scalar.indexCast v3364
  let c1_1468 : Index := 1#32
  let c1984_1469 : Index := 1984#32
  let c0_1470 : Index := 0#32
  ![v3365.toNat, 1, 1984, 0]
def k0_off182 (i : grid0.Coords) : Fin 4 → Nat :=
  let arg0 : BitVec 32 := BitVec.ofNat 32 (i 0).val
  let c14_i32 : BitVec 32 := 14#32
  let v8 : BitVec 32 := Scalar.minsi arg0 c14_i32
  let c2_i32_1485 : BitVec 32 := 2#32
  let v3406 : BitVec 32 := Scalar.remsi v8 c2_i32_1485
  let v3407 : Index := Scalar.indexCast v3406
  let c1_1486 : Index := 1#32
  let c2048_1487 : Index := 2048#32
  let c0_1488 : Index := 0#32
  ![v3407.toNat, 1, 2048, 0]
def k0_off183 (i : grid0.Coords) : Fin 4 → Nat :=
  let arg0 : BitVec 32 := BitVec.ofNat 32 (i 0).val
  let c14_i32 : BitVec 32 := 14#32
  let v8 : BitVec 32 := Scalar.minsi arg0 c14_i32
  let c2_i32_1503 : BitVec 32 := 2#32
  let v3448 : BitVec 32 := Scalar.remsi v8 c2_i32_1503
  let v3449 : Index := Scalar.indexCast v3448
  let c1_1504 : Index := 1#32
  let c2112_1505 : Index := 2112#32
  let c0_1506 : Index := 0#32
  ![v3449.toNat, 1, 2112, 0]
def k0_off184 (i : grid0.Coords) : Fin 4 → Nat :=
  let arg0 : BitVec 32 := BitVec.ofNat 32 (i 0).val
  let c14_i32 : BitVec 32 := 14#32
  let v8 : BitVec 32 := Scalar.minsi arg0 c14_i32
  let c2_i32_1521 : BitVec 32 := 2#32
  let v3490 : BitVec 32 := Scalar.remsi v8 c2_i32_1521
  let v3491 : Index := Scalar.indexCast v3490
  let c1_1522 : Index := 1#32
  let c2176_1523 : Index := 2176#32
  let c0_1524 : Index := 0#32
  ![v3491.toNat, 1, 2176, 0]
def k0_off185 (i : grid0.Coords) : Fin 4 → Nat :=
  let arg0 : BitVec 32 := BitVec.ofNat 32 (i 0).val
  let c14_i32 : BitVec 32 := 14#32
  let v8 : BitVec 32 := Scalar.minsi arg0 c14_i32
  let c2_i32_1539 : BitVec 32 := 2#32
  let v3532 : BitVec 32 := Scalar.remsi v8 c2_i32_1539
  let v3533 : Index := Scalar.indexCast v3532
  let c1_1540 : Index := 1#32
  let c2240_1541 : Index := 2240#32
  let c0_1542 : Index := 0#32
  ![v3533.toNat, 1, 2240, 0]
def k0_off186 (i : grid0.Coords) : Fin 4 → Nat :=
  let arg0 : BitVec 32 := BitVec.ofNat 32 (i 0).val
  let c14_i32 : BitVec 32 := 14#32
  let v8 : BitVec 32 := Scalar.minsi arg0 c14_i32
  let c2_i32_1557 : BitVec 32 := 2#32
  let v3574 : BitVec 32 := Scalar.remsi v8 c2_i32_1557
  let v3575 : Index := Scalar.indexCast v3574
  let c1_1558 : Index := 1#32
  let c2304_1559 : Index := 2304#32
  let c0_1560 : Index := 0#32
  ![v3575.toNat, 1, 2304, 0]
def k0_off187 (i : grid0.Coords) : Fin 4 → Nat :=
  let arg0 : BitVec 32 := BitVec.ofNat 32 (i 0).val
  let c14_i32 : BitVec 32 := 14#32
  let v8 : BitVec 32 := Scalar.minsi arg0 c14_i32
  let c2_i32_1575 : BitVec 32 := 2#32
  let v3616 : BitVec 32 := Scalar.remsi v8 c2_i32_1575
  let v3617 : Index := Scalar.indexCast v3616
  let c1_1576 : Index := 1#32
  let c2368_1577 : Index := 2368#32
  let c0_1578 : Index := 0#32
  ![v3617.toNat, 1, 2368, 0]
def k0_off188 (i : grid0.Coords) : Fin 4 → Nat :=
  let arg0 : BitVec 32 := BitVec.ofNat 32 (i 0).val
  let c14_i32 : BitVec 32 := 14#32
  let v8 : BitVec 32 := Scalar.minsi arg0 c14_i32
  let c2_i32_1593 : BitVec 32 := 2#32
  let v3658 : BitVec 32 := Scalar.remsi v8 c2_i32_1593
  let v3659 : Index := Scalar.indexCast v3658
  let c1_1594 : Index := 1#32
  let c2432_1595 : Index := 2432#32
  let c0_1596 : Index := 0#32
  ![v3659.toNat, 1, 2432, 0]
def k0_off189 (i : grid0.Coords) : Fin 4 → Nat :=
  let arg0 : BitVec 32 := BitVec.ofNat 32 (i 0).val
  let c14_i32 : BitVec 32 := 14#32
  let v8 : BitVec 32 := Scalar.minsi arg0 c14_i32
  let c2_i32_1611 : BitVec 32 := 2#32
  let v3700 : BitVec 32 := Scalar.remsi v8 c2_i32_1611
  let v3701 : Index := Scalar.indexCast v3700
  let c1_1612 : Index := 1#32
  let c2496_1613 : Index := 2496#32
  let c0_1614 : Index := 0#32
  ![v3701.toNat, 1, 2496, 0]
def k0_off190 (i : grid0.Coords) : Fin 4 → Nat :=
  let arg0 : BitVec 32 := BitVec.ofNat 32 (i 0).val
  let c14_i32 : BitVec 32 := 14#32
  let v8 : BitVec 32 := Scalar.minsi arg0 c14_i32
  let c2_i32_1629 : BitVec 32 := 2#32
  let v3742 : BitVec 32 := Scalar.remsi v8 c2_i32_1629
  let v3743 : Index := Scalar.indexCast v3742
  let c1_1630 : Index := 1#32
  let c2560_1631 : Index := 2560#32
  let c0_1632 : Index := 0#32
  ![v3743.toNat, 1, 2560, 0]
def k0_off191 (i : grid0.Coords) : Fin 4 → Nat :=
  let arg0 : BitVec 32 := BitVec.ofNat 32 (i 0).val
  let c14_i32 : BitVec 32 := 14#32
  let v8 : BitVec 32 := Scalar.minsi arg0 c14_i32
  let c2_i32_1647 : BitVec 32 := 2#32
  let v3784 : BitVec 32 := Scalar.remsi v8 c2_i32_1647
  let v3785 : Index := Scalar.indexCast v3784
  let c1_1648 : Index := 1#32
  let c2624_1649 : Index := 2624#32
  let c0_1650 : Index := 0#32
  ![v3785.toNat, 1, 2624, 0]
def k0_off192 (i : grid0.Coords) : Fin 4 → Nat :=
  let arg0 : BitVec 32 := BitVec.ofNat 32 (i 0).val
  let c14_i32 : BitVec 32 := 14#32
  let v8 : BitVec 32 := Scalar.minsi arg0 c14_i32
  let c2_i32_1665 : BitVec 32 := 2#32
  let v3826 : BitVec 32 := Scalar.remsi v8 c2_i32_1665
  let v3827 : Index := Scalar.indexCast v3826
  let c1_1666 : Index := 1#32
  let c2688_1667 : Index := 2688#32
  let c0_1668 : Index := 0#32
  ![v3827.toNat, 1, 2688, 0]
def k0_off193 (i : grid0.Coords) : Fin 4 → Nat :=
  let arg0 : BitVec 32 := BitVec.ofNat 32 (i 0).val
  let c14_i32 : BitVec 32 := 14#32
  let v8 : BitVec 32 := Scalar.minsi arg0 c14_i32
  let c2_i32_1683 : BitVec 32 := 2#32
  let v3868 : BitVec 32 := Scalar.remsi v8 c2_i32_1683
  let v3869 : Index := Scalar.indexCast v3868
  let c1_1684 : Index := 1#32
  let c2752_1685 : Index := 2752#32
  let c0_1686 : Index := 0#32
  ![v3869.toNat, 1, 2752, 0]
def k0_off194 (i : grid0.Coords) : Fin 4 → Nat :=
  let arg0 : BitVec 32 := BitVec.ofNat 32 (i 0).val
  let c14_i32 : BitVec 32 := 14#32
  let v8 : BitVec 32 := Scalar.minsi arg0 c14_i32
  let c2_i32_1701 : BitVec 32 := 2#32
  let v3910 : BitVec 32 := Scalar.remsi v8 c2_i32_1701
  let v3911 : Index := Scalar.indexCast v3910
  let c1_1702 : Index := 1#32
  let c2816_1703 : Index := 2816#32
  let c0_1704 : Index := 0#32
  ![v3911.toNat, 1, 2816, 0]
def k0_off195 (i : grid0.Coords) : Fin 4 → Nat :=
  let arg0 : BitVec 32 := BitVec.ofNat 32 (i 0).val
  let c14_i32 : BitVec 32 := 14#32
  let v8 : BitVec 32 := Scalar.minsi arg0 c14_i32
  let c2_i32_1719 : BitVec 32 := 2#32
  let v3952 : BitVec 32 := Scalar.remsi v8 c2_i32_1719
  let v3953 : Index := Scalar.indexCast v3952
  let c1_1720 : Index := 1#32
  let c2880_1721 : Index := 2880#32
  let c0_1722 : Index := 0#32
  ![v3953.toNat, 1, 2880, 0]
def k0_off196 (i : grid0.Coords) : Fin 4 → Nat :=
  let arg0 : BitVec 32 := BitVec.ofNat 32 (i 0).val
  let c14_i32 : BitVec 32 := 14#32
  let v8 : BitVec 32 := Scalar.minsi arg0 c14_i32
  let c2_i32_1737 : BitVec 32 := 2#32
  let v3994 : BitVec 32 := Scalar.remsi v8 c2_i32_1737
  let v3995 : Index := Scalar.indexCast v3994
  let c1_1738 : Index := 1#32
  let c2944_1739 : Index := 2944#32
  let c0_1740 : Index := 0#32
  ![v3995.toNat, 1, 2944, 0]
def k0_off197 (i : grid0.Coords) : Fin 4 → Nat :=
  let arg0 : BitVec 32 := BitVec.ofNat 32 (i 0).val
  let c14_i32 : BitVec 32 := 14#32
  let v8 : BitVec 32 := Scalar.minsi arg0 c14_i32
  let c2_i32_1755 : BitVec 32 := 2#32
  let v4036 : BitVec 32 := Scalar.remsi v8 c2_i32_1755
  let v4037 : Index := Scalar.indexCast v4036
  let c1_1756 : Index := 1#32
  let c3008_1757 : Index := 3008#32
  let c0_1758 : Index := 0#32
  ![v4037.toNat, 1, 3008, 0]
def k0_off198 (i : grid0.Coords) : Fin 4 → Nat :=
  let arg0 : BitVec 32 := BitVec.ofNat 32 (i 0).val
  let c14_i32 : BitVec 32 := 14#32
  let v8 : BitVec 32 := Scalar.minsi arg0 c14_i32
  let c2_i32_1773 : BitVec 32 := 2#32
  let v4078 : BitVec 32 := Scalar.remsi v8 c2_i32_1773
  let v4079 : Index := Scalar.indexCast v4078
  let c1_1774 : Index := 1#32
  let c3072_1775 : Index := 3072#32
  let c0_1776 : Index := 0#32
  ![v4079.toNat, 1, 3072, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c14_i32 : BitVec 32 := 14#32
  let v0 : BitVec 32 := Scalar.minsi arg0 c14_i32
  let c3_i32 : BitVec 32 := 3#32
  let v1 : BitVec 32 := Scalar.divsi v0 c3_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c3_i32 c0_i32_1
  let v8 : BitVec 32 := Scalar.extui v7
  let c0_i32_2 : BitVec 32 := 0#32
  let v9 : BitVec 1 := Scalar.cmpi .slt c3_i32 c0_i32_2
  let v10 : BitVec 32 := Scalar.extui v9
  let v11 : BitVec 32 := Scalar.subi v8 v10
  let v12 : BitVec 1 := Scalar.cmpi .ne v6 v11
  let v13 : BitVec 32 := Scalar.remsi v0 c3_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![c0_i32_4.toNat, v17.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c3_i32 : BitVec 32 := 3#32
  let v2 : BitVec 32 := Scalar.remsi v1 c3_i32
  let c1_i32_0 : BitVec 32 := 1#32
  let v3 : BitVec 32 := Scalar.subi arg0 c1_i32_0
  let c0_i32_1 : BitVec 32 := 0#32
  let v4 : BitVec 32 := Scalar.maxsi v3 c0_i32_1
  let c3_i32_2 : BitVec 32 := 3#32
  let v5 : BitVec 32 := Scalar.divsi v4 c3_i32_2
  let c0_i32_3 : BitVec 32 := 0#32
  let v6 : BitVec 1 := Scalar.cmpi .sgt v4 c0_i32_3
  let v7 : BitVec 32 := Scalar.extui v6
  let c0_i32_4 : BitVec 32 := 0#32
  let v8 : BitVec 1 := Scalar.cmpi .slt v4 c0_i32_4
  let v9 : BitVec 32 := Scalar.extui v8
  let v10 : BitVec 32 := Scalar.subi v7 v9
  let c0_i32_5 : BitVec 32 := 0#32
  let v11 : BitVec 1 := Scalar.cmpi .sgt c3_i32_2 c0_i32_5
  let v12 : BitVec 32 := Scalar.extui v11
  let c0_i32_6 : BitVec 32 := 0#32
  let v13 : BitVec 1 := Scalar.cmpi .slt c3_i32_2 c0_i32_6
  let v14 : BitVec 32 := Scalar.extui v13
  let v15 : BitVec 32 := Scalar.subi v12 v14
  let v16 : BitVec 1 := Scalar.cmpi .ne v10 v15
  let v17 : BitVec 32 := Scalar.remsi v4 c3_i32_2
  let c0_i32_7 : BitVec 32 := 0#32
  let v18 : BitVec 1 := Scalar.cmpi .ne v17 c0_i32_7
  let v19 : BitVec 1 := Scalar.andi v16 v18
  let c1_i32_8 : BitVec 32 := 1#32
  let v20 : BitVec 32 := Scalar.subi v5 c1_i32_8
  let v21 : BitVec 32 := Scalar.select v19 v20 v5
  let c0_i32_9 : BitVec 32 := 0#32
  let c0_i32_10 : BitVec 32 := 0#32
  let c0_i32_11 : BitVec 32 := 0#32
  ![c0_i32_9.toNat, v2.toNat, c0_i32_10.toNat, v21.toNat]

abbrev stage0_0 : Fin 1 → Memref sig .tc .vmem S1280x6144 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S6144x256 .fp8e5m2 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S96x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S3x1x1280x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== WeightIdeal.lean ====
variable {F : FTy → Type} [FloatOps F]
-- ==== WeightReferenceIdeal.lean ====
abbrev S1280x6144 : Shape := ⟨2, ![1280, 6144]⟩
abbrev S6144x1280 : Shape := ⟨2, ![6144, 1280]⟩
abbrev S96x64 : Shape := ⟨2, ![96, 64]⟩
abbrev S2x48x64x1280 : Shape := ⟨4, ![2, 48, 64, 1280]⟩
abbrev S_ : Shape := ⟨0, ![]⟩
abbrev S2x50x66x1280 : Shape := ⟨4, ![2, 50, 66, 1280]⟩
abbrev S6144x1 : Shape := ⟨2, ![6144, 1]⟩
abbrev S1280x1280 : Shape := ⟨2, ![1280, 1280]⟩
abbrev S1x1280x1280 : Shape := ⟨3, ![1, 1280, 1280]⟩
abbrev S3x1280x1280 : Shape := ⟨3, ![3, 1280, 1280]⟩
abbrev S1x3x1280x1280 : Shape := ⟨4, ![1, 3, 1280, 1280]⟩
abbrev S3x3x1280x1280 : Shape := ⟨4, ![3, 3, 1280, 1280]⟩

abbrev nBuf : Space → Nat
  | .hbm => 56
  | .vmem => 2
  | .smem => 0
  | _ => 0

abbrev bufTy : (tb : Table) → Fin (tcTables nBuf tb) → BufTy
  | .hbm, ⟨0, _⟩ => ⟨S1280x6144, .bf16⟩
  | .hbm, ⟨1, _⟩ => ⟨S6144x1280, .fp8e5m2⟩
  | .hbm, ⟨2, _⟩ => ⟨S96x64, .f32⟩
  | .hbm, ⟨3, _⟩ => ⟨S6144x1280, .bf16⟩
  | .hbm, ⟨4, _⟩ => ⟨S2x48x64x1280, .bf16⟩
  | .hbm, ⟨5, _⟩ => ⟨S_, .i32⟩
  | .hbm, ⟨6, _⟩ => ⟨S_, .bf16⟩
  | .hbm, ⟨7, _⟩ => ⟨S2x50x66x1280, .bf16⟩
  | .hbm, ⟨8, _⟩ => ⟨S6144x1280, .bf16⟩
  | .hbm, ⟨9, _⟩ => ⟨S96x64, .bf16⟩
  | .hbm, ⟨10, _⟩ => ⟨S6144x1, .bf16⟩
  | .hbm, ⟨11, _⟩ => ⟨S6144x1280, .bf16⟩
  | .hbm, ⟨12, _⟩ => ⟨S6144x1280, .bf16⟩
  | .hbm, ⟨13, _⟩ => ⟨S2x48x64x1280, .bf16⟩
  | .hbm, ⟨14, _⟩ => ⟨S6144x1280, .bf16⟩
  | .hbm, ⟨15, _⟩ => ⟨S1280x1280, .f32⟩
  | .hbm, ⟨16, _⟩ => ⟨S2x48x64x1280, .bf16⟩
  | .hbm, ⟨17, _⟩ => ⟨S6144x1280, .bf16⟩
  | .hbm, ⟨18, _⟩ => ⟨S1280x1280, .f32⟩
  | .hbm, ⟨19, _⟩ => ⟨S2x48x64x1280, .bf16⟩
  | .hbm, ⟨20, _⟩ => ⟨S6144x1280, .bf16⟩
  | .hbm, ⟨21, _⟩ => ⟨S1280x1280, .f32⟩
  | .hbm, ⟨22, _⟩ => ⟨S1x1280x1280, .f32⟩
  | .hbm, ⟨23, _⟩ => ⟨S1x1280x1280, .f32⟩
  | .hbm, ⟨24, _⟩ => ⟨S1x1280x1280, .f32⟩
  | .hbm, ⟨25, _⟩ => ⟨S3x1280x1280, .f32⟩
  | .hbm, ⟨26, _⟩ => ⟨S2x48x64x1280, .bf16⟩
  | .hbm, ⟨27, _⟩ => ⟨S6144x1280, .bf16⟩
  | .hbm, ⟨28, _⟩ => ⟨S1280x1280, .f32⟩
  | .hbm, ⟨29, _⟩ => ⟨S2x48x64x1280, .bf16⟩
  | .hbm, ⟨30, _⟩ => ⟨S6144x1280, .bf16⟩
  | .hbm, ⟨31, _⟩ => ⟨S1280x1280, .f32⟩
  | .hbm, ⟨32, _⟩ => ⟨S2x48x64x1280, .bf16⟩
  | .hbm, ⟨33, _⟩ => ⟨S6144x1280, .bf16⟩
  | .hbm, ⟨34, _⟩ => ⟨S1280x1280, .f32⟩
  | .hbm, ⟨35, _⟩ => ⟨S1x1280x1280, .f32⟩
  | .hbm, ⟨36, _⟩ => ⟨S1x1280x1280, .f32⟩
  | .hbm, ⟨37, _⟩ => ⟨S1x1280x1280, .f32⟩
  | .hbm, ⟨38, _⟩ => ⟨S3x1280x1280, .f32⟩
  | .hbm, ⟨39, _⟩ => ⟨S2x48x64x1280, .bf16⟩
  | .hbm, ⟨40, _⟩ => ⟨S6144x1280, .bf16⟩
  | .hbm, ⟨41, _⟩ => ⟨S1280x1280, .f32⟩
  | .hbm, ⟨42, _⟩ => ⟨S2x48x64x1280, .bf16⟩
  | .hbm, ⟨43, _⟩ => ⟨S6144x1280, .bf16⟩
  | .hbm, ⟨44, _⟩ => ⟨S1280x1280, .f32⟩
  | .hbm, ⟨45, _⟩ => ⟨S2x48x64x1280, .bf16⟩
  | .hbm, ⟨46, _⟩ => ⟨S6144x1280, .bf16⟩
  | .hbm, ⟨47, _⟩ => ⟨S1280x1280, .f32⟩
  | .hbm, ⟨48, _⟩ => ⟨S1x1280x1280, .f32⟩
  | .hbm, ⟨49, _⟩ => ⟨S1x1280x1280, .f32⟩
  | .hbm, ⟨50, _⟩ => ⟨S1x1280x1280, .f32⟩
  | .hbm, ⟨51, _⟩ => ⟨S3x1280x1280, .f32⟩
  | .hbm, ⟨52, _⟩ => ⟨S1x3x1280x1280, .f32⟩
  | .hbm, ⟨53, _⟩ => ⟨S1x3x1280x1280, .f32⟩
  | .hbm, ⟨54, _⟩ => ⟨S1x3x1280x1280, .f32⟩
  | .hbm, ⟨55, _⟩ => ⟨S3x3x1280x1280, .f32⟩
  | .local _ .vmem, ⟨0, _⟩ => ⟨S6144x1280, .fp8e5m2⟩
  | .local _ .vmem, ⟨1, _⟩ => ⟨S6144x1280, .bf16⟩
  | _, _ => ⟨S1280x6144, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S6144x1280 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6144x1280 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Kernel.Offsets.lean ====
module

public import proofs.«01_k».proof.Proof.Gen.Kernel.Frame

/-! Where the product steps (grid points 9 to 20) of the input-gradient kernel read and write its second scratch
buffer: the slot read is the parity of the step, the slot written the parity of the step after it. The body computes
these offsets with 32-bit words; the closed forms here hold at the points where the body uses them. -/

@[expose] public section

set_option maxRecDepth 16384

noncomputable section

namespace Cert.Kernel.Hand

open Idealize.ShloMosaic Idealize.ShloMosaic.TcCoe Idealize.ShloMosaic.Tactic

/-- The slot of the strip that step `i` multiplies. -/
abbrev slotR (i : grid0.Coords) : ℕ := ((i 0).val - 9) % 2
/-- The slot of the strip that step `i` prepares (the last step prepares the last strip once more). -/
abbrev slotW (i : grid0.Coords) : ℕ := min ((i 0).val - 8) 11 % 2

instance {i : grid0.Coords} [h : Fact (9 ≤ (i 0).val)] : ClosedOff (k0_off33 i) := ⟨![slotR i, 128, 0], (by decide +kernel : ∀ i : grid0.Coords, 9 ≤ (i 0).val → k0_off33 i = ![slotR i, 128, 0]) i h.out⟩
instance {i : grid0.Coords} [h : Fact (9 ≤ (i 0).val)] : ClosedOff (k0_off34 i) := ⟨![slotR i, 64, 0], (by decide +kernel : ∀ i : grid0.Coords, 9 ≤ (i 0).val → k0_off34 i = ![slotR i, 64, 0]) i h.out⟩
instance {i : grid0.Coords} [h : Fact (9 ≤ (i 0).val)] : ClosedOff (k0_off35 i) := ⟨![slotR i, 0, 0], (by decide +kernel : ∀ i : grid0.Coords, 9 ≤ (i 0).val → k0_off35 i = ![slotR i, 0, 0]) i h.out⟩
instance {i : grid0.Coords} [h : Fact (9 ≤ (i 0).val)] : ClosedOff (k0_off37 i) := ⟨![slotW i, 0, 0], (by decide +kernel : ∀ i : grid0.Coords, 9 ≤ (i 0).val → k0_off37 i = ![slotW i, 0, 0]) i h.out⟩
instance {i : grid0.Coords} [h : Fact (9 ≤ (i 0).val)] : ClosedOff (k0_off38 i) := ⟨![slotW i, 0, 1280], (by decide +kernel : ∀ i : grid0.Coords, 9 ≤ (i 0).val → k0_off38 i = ![slotW i, 0, 1280]) i h.out⟩
instance {i : grid0.Coords} [h : Fact (9 ≤ (i 0).val)] : ClosedOff (k0_off39 i) := ⟨![slotW i, 0, 2560], (by decide +kernel : ∀ i : grid0.Coords, 9 ≤ (i 0).val → k0_off39 i = ![slotW i, 0, 2560]) i h.out⟩
instance {i : grid0.Coords} [h : Fact (9 ≤ (i 0).val)] : ClosedOff (k0_off40 i) := ⟨![slotW i, 64, 0], (by decide +kernel : ∀ i : grid0.Coords, 9 ≤ (i 0).val → k0_off40 i = ![slotW i, 64, 0]) i h.out⟩
instance {i : grid0.Coords} [h : Fact (9 ≤ (i 0).val)] : ClosedOff (k0_off41 i) := ⟨![slotW i, 64, 1280], (by decide +kernel : ∀ i : grid0.Coords, 9 ≤ (i 0).val → k0_off41 i = ![slotW i, 64, 1280]) i h.out⟩
instance {i : grid0.Coords} [h : Fact (9 ≤ (i 0).val)] : ClosedOff (k0_off42 i) := ⟨![slotW i, 64, 2560], (by decide +kernel : ∀ i : grid0.Coords, 9 ≤ (i 0).val → k0_off42 i = ![slotW i, 64, 2560]) i h.out⟩
instance {i : grid0.Coords} [h : Fact (9 ≤ (i 0).val)] : ClosedOff (k0_off43 i) := ⟨![slotW i, 128, 0], (by decide +kernel : ∀ i : grid0.Coords, 9 ≤ (i 0).val → k0_off43 i = ![slotW i, 128, 0]) i h.out⟩
instance {i : grid0.Coords} [h : Fact (9 ≤ (i 0).val)] : ClosedOff (k0_off44 i) := ⟨![slotW i, 128, 1280], (by decide +kernel : ∀ i : grid0.Coords, 9 ≤ (i 0).val → k0_off44 i = ![slotW i, 128, 1280]) i h.out⟩
instance {i : grid0.Coords} [h : Fact (9 ≤ (i 0).val)] : ClosedOff (k0_off45 i) := ⟨![slotW i, 128, 2560], (by decide +kernel : ∀ i : grid0.Coords, 9 ≤ (i 0).val → k0_off45 i = ![slotW i, 128, 2560]) i h.out⟩
instance {i : grid0.Coords} [h : Fact (9 ≤ (i 0).val)] : ClosedOff (k0_off46 i) := ⟨![slotW i, 192, 0], (by decide +kernel : ∀ i : grid0.Coords, 9 ≤ (i 0).val → k0_off46 i = ![slotW i, 192, 0]) i h.out⟩
instance {i : grid0.Coords} [h : Fact (9 ≤ (i 0).val)] : ClosedOff (k0_off47 i) := ⟨![slotW i, 192, 1280], (by decide +kernel : ∀ i : grid0.Coords, 9 ≤ (i 0).val → k0_off47 i = ![slotW i, 192, 1280]) i h.out⟩
instance {i : grid0.Coords} [h : Fact (9 ≤ (i 0).val)] : ClosedOff (k0_off48 i) := ⟨![slotW i, 192, 2560], (by decide +kernel : ∀ i : grid0.Coords, 9 ≤ (i 0).val → k0_off48 i = ![slotW i, 192, 2560]) i h.out⟩
instance {i : grid0.Coords} [h : Fact (9 ≤ (i 0).val)] : ClosedOff (k0_off49 i) := ⟨![slotW i, 256, 0], (by decide +kernel : ∀ i : grid0.Coords, 9 ≤ (i 0).val → k0_off49 i = ![slotW i, 256, 0]) i h.out⟩
instance {i : grid0.Coords} [h : Fact (9 ≤ (i 0).val)] : ClosedOff (k0_off50 i) := ⟨![slotW i, 256, 1280], (by decide +kernel : ∀ i : grid0.Coords, 9 ≤ (i 0).val → k0_off50 i = ![slotW i, 256, 1280]) i h.out⟩
instance {i : grid0.Coords} [h : Fact (9 ≤ (i 0).val)] : ClosedOff (k0_off51 i) := ⟨![slotW i, 256, 2560], (by decide +kernel : ∀ i : grid0.Coords, 9 ≤ (i 0).val → k0_off51 i = ![slotW i, 256, 2560]) i h.out⟩
instance {i : grid0.Coords} [h : Fact (9 ≤ (i 0).val)] : ClosedOff (k0_off52 i) := ⟨![slotW i, 320, 0], (by decide +kernel : ∀ i : grid0.Coords, 9 ≤ (i 0).val → k0_off52 i = ![slotW i, 320, 0]) i h.out⟩
instance {i : grid0.Coords} [h : Fact (9 ≤ (i 0).val)] : ClosedOff (k0_off53 i) := ⟨![slotW i, 320, 1280], (by decide +kernel : ∀ i : grid0.Coords, 9 ≤ (i 0).val → k0_off53 i = ![slotW i, 320, 1280]) i h.out⟩
instance {i : grid0.Coords} [h : Fact (9 ≤ (i 0).val)] : ClosedOff (k0_off54 i) := ⟨![slotW i, 320, 2560], (by decide +kernel : ∀ i : grid0.Coords, 9 ≤ (i 0).val → k0_off54 i = ![slotW i, 320, 2560]) i h.out⟩
instance {i : grid0.Coords} [h : Fact (9 ≤ (i 0).val)] : ClosedOff (k0_off55 i) := ⟨![slotW i, 384, 0], (by decide +kernel : ∀ i : grid0.Coords, 9 ≤ (i 0).val → k0_off55 i = ![slotW i, 384, 0]) i h.out⟩
instance {i : grid0.Coords} [h : Fact (9 ≤ (i 0).val)] : ClosedOff (k0_off56 i) := ⟨![slotW i, 384, 1280], (by decide +kernel : ∀ i : grid0.Coords, 9 ≤ (i 0).val → k0_off56 i = ![slotW i, 384, 1280]) i h.out⟩
instance {i : grid0.Coords} [h : Fact (9 ≤ (i 0).val)] : ClosedOff (k0_off57 i) := ⟨![slotW i, 384, 2560], (by decide +kernel : ∀ i : grid0.Coords, 9 ≤ (i 0).val → k0_off57 i = ![slotW i, 384, 2560]) i h.out⟩
instance {i : grid0.Coords} [h : Fact (9 ≤ (i 0).val)] : ClosedOff (k0_off58 i) := ⟨![slotW i, 448, 0], (by decide +kernel : ∀ i : grid0.Coords, 9 ≤ (i 0).val → k0_off58 i = ![slotW i, 448, 0]) i h.out⟩
instance {i : grid0.Coords} [h : Fact (9 ≤ (i 0).val)] : ClosedOff (k0_off59 i) := ⟨![slotW i, 448, 1280], (by decide +kernel : ∀ i : grid0.Coords, 9 ≤ (i 0).val → k0_off59 i = ![slotW i, 448, 1280]) i h.out⟩
instance {i : grid0.Coords} [h : Fact (9 ≤ (i 0).val)] : ClosedOff (k0_off60 i) := ⟨![slotW i, 448, 2560], (by decide +kernel : ∀ i : grid0.Coords, 9 ≤ (i 0).val → k0_off60 i = ![slotW i, 448, 2560]) i h.out⟩
instance {i : grid0.Coords} [h : Fact (9 ≤ (i 0).val)] : ClosedOff (k0_off61 i) := ⟨![slotW i, 512, 0], (by decide +kernel : ∀ i : grid0.Coords, 9 ≤ (i 0).val → k0_off61 i = ![slotW i, 512, 0]) i h.out⟩
instance {i : grid0.Coords} [h : Fact (9 ≤ (i 0).val)] : ClosedOff (k0_off62 i) := ⟨![slotW i, 512, 1280], (by decide +kernel : ∀ i : grid0.Coords, 9 ≤ (i 0).val → k0_off62 i = ![slotW i, 512, 1280]) i h.out⟩
instance {i : grid0.Coords} [h : Fact (9 ≤ (i 0).val)] : ClosedOff (k0_off63 i) := ⟨![slotW i, 512, 2560], (by decide +kernel : ∀ i : grid0.Coords, 9 ≤ (i 0).val → k0_off63 i = ![slotW i, 512, 2560]) i h.out⟩
instance {i : grid0.Coords} [h : Fact (9 ≤ (i 0).val)] : ClosedOff (k0_off64 i) := ⟨![slotW i, 576, 0], (by decide +kernel : ∀ i : grid0.Coords, 9 ≤ (i 0).val → k0_off64 i = ![slotW i, 576, 0]) i h.out⟩
instance {i : grid0.Coords} [h : Fact (9 ≤ (i 0).val)] : ClosedOff (k0_off65 i) := ⟨![slotW i, 576, 1280], (by decide +kernel : ∀ i : grid0.Coords, 9 ≤ (i 0).val → k0_off65 i = ![slotW i, 576, 1280]) i h.out⟩
instance {i : grid0.Coords} [h : Fact (9 ≤ (i 0).val)] : ClosedOff (k0_off66 i) := ⟨![slotW i, 576, 2560], (by decide +kernel : ∀ i : grid0.Coords, 9 ≤ (i 0).val → k0_off66 i = ![slotW i, 576, 2560]) i h.out⟩

end Cert.Kernel.Hand
-- ==== Proof.Kernel.RunA.lean ====
module

public import proofs.«01_k».proof.Proof.Kernel.Offsets
public import proofs.«01_k».proof.Proof.Gen.Kernel.Skeleton

/-! The body of the input-gradient kernel run at the first eight points: a weight slab is unpacked. -/

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

set_option maxHeartbeats 3996000 in
/-- The body at the first eight points: a weight slab is unpacked: the inputs stay as they are; the output block and the two scratch buffers
    end at some contents. -/
theorem kernelRun_A (c : Dev nD) (i : grid0.Coords) (arg1 : Memref sig .tc .vmem S512x1280 .fp8e5m2) (harg1 : arg1.IsWhole) (arg2 : Memref sig .tc .vmem S64x1280 .fp8e5m2) (harg2 : arg2.IsWhole) (arg3 : Memref sig .tc .vmem S64x1280 .fp8e5m2) (harg3 : arg3.IsWhole) (arg4 : Memref sig .tc .vmem S96x64 .f32) (harg4 : arg4.IsWhole) (arg5 : Memref sig .tc .vmem S1x1280x1280 .fp8e4m3) (harg5 : arg5.IsWhole) (arg6 : Memref sig .tc .vmem S1x1280 .f32) (harg6 : arg6.IsWhole) (arg7 : Memref sig .tc .vmem S512x1280 .bf16) (harg7 : arg7.IsWhole) (arg8 : Memref sig .tc .vmem S1280x11520 .bf16) (harg8 : arg8.IsWhole) (arg9 : Memref sig .tc .vmem S2x640x3840 .bf16) (harg9 : arg9.IsWhole)
    (hc1 : k0_cond1 i = 1#1) (hc2 : ¬ k0_cond2 i = 1#1) (hc3 : ¬ k0_cond3 i = 1#1)
    (x0 : Vec F S512x1280 .fp8e5m2) (x1 : Vec F S64x1280 .fp8e5m2) (x2 : Vec F S64x1280 .fp8e5m2) (x3 : Vec F S96x64 .f32) (x4 : Vec F S1x1280x1280 .fp8e4m3) (x5 : Vec F S1x1280 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) E (cc0_grad_input i arg1 harg1 arg2 harg2 arg3 harg3 arg4 harg4 arg5 harg5 arg6 harg6 arg7 harg7 arg8 harg8 arg9 harg9) K := by
    intro E K
    simp only [cc0_grad_input_eq_skeleton]; unfold cc0_grad_input_skel
    skip
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _, _; isplitr; swap; · iexact H6
      ipureintro; rfl
    isplitl [H7]
    · iexists _, _; isplitr; swap; · iexact H7
      ipureintro; rfl
    iexists _, _; isplitr; swap; · iexact H8
    ipureintro; rfl

end Cert.Kernel.Hand
-- ==== Proof.Kernel.RunB.lean ====
module

public import proofs.«01_k».proof.Proof.Kernel.RunA
public import proofs.«01_k».proof.Proof.Gen.Kernel.Skeleton

/-! The body of the input-gradient kernel run at point 8: the last weight slab, and the first strip is prepared. -/

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

set_option maxHeartbeats 3996000 in
/-- The body at point 8: the last weight slab, and the first strip is prepared: the inputs stay as they are; the output block and the two scratch buffers
    end at some contents. -/
theorem kernelRun_B (c : Dev nD) (i : grid0.Coords) (arg1 : Memref sig .tc .vmem S512x1280 .fp8e5m2) (harg1 : arg1.IsWhole) (arg2 : Memref sig .tc .vmem S64x1280 .fp8e5m2) (harg2 : arg2.IsWhole) (arg3 : Memref sig .tc .vmem S64x1280 .fp8e5m2) (harg3 : arg3.IsWhole) (arg4 : Memref sig .tc .vmem S96x64 .f32) (harg4 : arg4.IsWhole) (arg5 : Memref sig .tc .vmem S1x1280x1280 .fp8e4m3) (harg5 : arg5.IsWhole) (arg6 : Memref sig .tc .vmem S1x1280 .f32) (harg6 : arg6.IsWhole) (arg7 : Memref sig .tc .vmem S512x1280 .bf16) (harg7 : arg7.IsWhole) (arg8 : Memref sig .tc .vmem S1280x11520 .bf16) (harg8 : arg8.IsWhole) (arg9 : Memref sig .tc .vmem S2x640x3840 .bf16) (harg9 : arg9.IsWhole)
    (hc1 : k0_cond1 i = 1#1) (hc2 : k0_cond2 i = 1#1) (hc3 : ¬ k0_cond3 i = 1#1)
    (x0 : Vec F S512x1280 .fp8e5m2) (x1 : Vec F S64x1280 .fp8e5m2) (x2 : Vec F S64x1280 .fp8e5m2) (x3 : Vec F S96x64 .f32) (x4 : Vec F S1x1280x1280 .fp8e4m3) (x5 : Vec F S1x1280 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) E (cc0_grad_input i arg1 harg1 arg2 harg2 arg3 harg3 arg4 harg4 arg5 harg5 arg6 harg6 arg7 harg7 arg8 harg8 arg9 harg9) K := by
    intro E K
    simp only [cc0_grad_input_eq_skeleton]; unfold cc0_grad_input_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _, _; isplitr; swap; · iexact H6
      ipureintro; rfl
    isplitl [H7]
    · iexists _, _; isplitr; swap; · iexact H7
      ipureintro; rfl
    iexists _, _; isplitr; swap; · iexact H8
    ipureintro; rfl

end Cert.Kernel.Hand
-- ==== Proof.Kernel.RunC.lean ====
module

public import proofs.«01_k».proof.Proof.Kernel.RunB
public import proofs.«01_k».proof.Proof.Gen.Kernel.Skeleton

/-! The body of the input-gradient kernel run at points 9 to 20: a strip is multiplied, the next one prepared. -/

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

set_option maxHeartbeats 3996000 in
/-- The body at points 9 to 20: a strip is multiplied, the next one prepared: the inputs stay as they are; the output block and the two scratch buffers
    end at some contents. -/
theorem kernelRun_C (c : Dev nD) (i : grid0.Coords) (arg1 : Memref sig .tc .vmem S512x1280 .fp8e5m2) (harg1 : arg1.IsWhole) (arg2 : Memref sig .tc .vmem S64x1280 .fp8e5m2) (harg2 : arg2.IsWhole) (arg3 : Memref sig .tc .vmem S64x1280 .fp8e5m2) (harg3 : arg3.IsWhole) (arg4 : Memref sig .tc .vmem S96x64 .f32) (harg4 : arg4.IsWhole) (arg5 : Memref sig .tc .vmem S1x1280x1280 .fp8e4m3) (harg5 : arg5.IsWhole) (arg6 : Memref sig .tc .vmem S1x1280 .f32) (harg6 : arg6.IsWhole) (arg7 : Memref sig .tc .vmem S512x1280 .bf16) (harg7 : arg7.IsWhole) (arg8 : Memref sig .tc .vmem S1280x11520 .bf16) (harg8 : arg8.IsWhole) (arg9 : Memref sig .tc .vmem S2x640x3840 .bf16) (harg9 : arg9.IsWhole)
    (hc1 : ¬ k0_cond1 i = 1#1) (hc2 : ¬ k0_cond2 i = 1#1) (hc3 : k0_cond3 i = 1#1) (h9 : 9 ≤ (i 0).val)
    (x0 : Vec F S512x1280 .fp8e5m2) (x1 : Vec F S64x1280 .fp8e5m2) (x2 : Vec F S64x1280 .fp8e5m2) (x3 : Vec F S96x64 .f32) (x4 : Vec F S1x1280x1280 .fp8e4m3) (x5 : Vec F S1x1280 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) E (cc0_grad_input i arg1 harg1 arg2 harg2 arg3 harg3 arg4 harg4 arg5 harg5 arg6 harg6 arg7 harg7 arg8 harg8 arg9 harg9) K := by
    intro E K
    haveI : Fact (9 ≤ (i 0).val) := ⟨h9⟩
    simp only [cc0_grad_input_eq_skeleton]; unfold cc0_grad_input_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _, _; isplitr; swap; · iexact H6
      ipureintro; rfl
    isplitl [H7]
    · iexists _, _; isplitr; swap; · iexact H7
      ipureintro; rfl
    iexists _, _; isplitr; swap; · iexact H8
    ipureintro; rfl

end Cert.Kernel.Hand
-- ==== Proof.Kernel.Frame.lean ====
module

public import proofs.«01_k».proof.Proof.Kernel.RunC
public import Idealize.ShloMosaic.Lib.Pipeline.Frame

/-! The frame of the input-gradient kernel as compiled: from any memory it ends, with its four arguments unchanged. The
weight slabs and the two scratch buffers are held at some contents and the output block is forgotten, so the three runs of
the body (one for each kind of grid point) are all that is needed. The three windows of the gradient codes share one array. -/

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- Weight slabs are unpacked at points 0 to 8, -/
theorem cond1_iff : ∀ t : Fin cfg0.N, k0_cond1 (grid0.coords t) = 1#1 ↔ t.val < 9 :=
  (by decide +kernel : ∀ t : Fin grid0.N, k0_cond1 (grid0.coords t) = 1#1 ↔ t.val < 9)
/-- the first strip is prepared at point 8, -/
theorem cond2_iff : ∀ t : Fin cfg0.N, k0_cond2 (grid0.coords t) = 1#1 ↔ t.val = 8 :=
  (by decide +kernel : ∀ t : Fin grid0.N, k0_cond2 (grid0.coords t) = 1#1 ↔ t.val = 8)
/-- and strips are multiplied at points 9 to 20. -/
theorem cond3_iff : ∀ t : Fin cfg0.N, k0_cond3 (grid0.coords t) = 1#1 ↔ 9 ≤ t.val :=
  (by decide +kernel : ∀ t : Fin grid0.N, k0_cond3 (grid0.coords t) = 1#1 ↔ 9 ≤ t.val)
/-- The grid has one axis. -/
theorem coords_val : ∀ t : Fin cfg0.N, (grid0.coords t 0).val = t.val :=
  (by decide +kernel : ∀ t : Fin grid0.N, (grid0.coords t 0).val = t.val)

/-- The output window is forgotten. -/
def forgets0 : Fin 7 → Bool := fun w => w.val == 6

/-- The proof data: every input's buffer at its block, the output forgotten, the scratch at some contents. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

abbrev ms0_0 (t : Fin cfg0.N) : Memref sig .tc .vmem S512x1280 .fp8e5m2 := win0_0.stage (cfg0.slots t 0)
abbrev ms0_1 (t : Fin cfg0.N) : Memref sig .tc .vmem S64x1280 .fp8e5m2 := win0_1.stage (cfg0.slots t 1)
abbrev ms0_2 (t : Fin cfg0.N) : Memref sig .tc .vmem S64x1280 .fp8e5m2 := win0_2.stage (cfg0.slots t 2)
abbrev ms0_3 (t : Fin cfg0.N) : Memref sig .tc .vmem S96x64 .f32 := win0_3.stage (cfg0.slots t 3)
abbrev ms0_4 (t : Fin cfg0.N) : Memref sig .tc .vmem S1x1280x1280 .fp8e4m3 := win0_4.stage (cfg0.slots t 4)
abbrev ms0_5 (t : Fin cfg0.N) : Memref sig .tc .vmem S1x1280 .f32 := win0_5.stage (cfg0.slots t 5)
abbrev ms0_6 (t : Fin cfg0.N) : Memref sig .tc .vmem S512x1280 .bf16 := win0_6.stage (cfg0.slots t 6)
/-- The two scratch buffers: the unpacked weights and the two prepared strips. -/
abbrev scM0_0 : Memref sig .tc .vmem S1280x11520 .bf16 := Memref.whole cc0_scratch0
abbrev scM0_1 : Memref sig .tc .vmem S2x640x3840 .bf16 := Memref.whole cc0_scratch1

/-- What a kernel may keep between points: its scratch buffers and the generator register, at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (∃ d, owns (c : Thread nD τ) (ms0_6 t) fullShare d))

/-- The body's state at a point with the inputs at their blocks. -/
def held (c : Dev nD) (t : Fin cfg0.N) : sProp 𝕄 :=
  iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ (∃ d, owns (c : Thread nD τ) (ms0_6 t) fullShare d)
    ∗ (∃ d, owns (c : Thread nD τ) scM0_0 fullShare d) ∗ (∃ d, owns (c : Thread nD τ) scM0_1 fullShare d))

/-- Nine conjuncts and a tenth, regrouped. -/
theorem regroup {M : Type} [URA M] {A0 A1 A2 A3 A4 A5 A6 A7 A8 R : sProp M} :
    iprop((A0 ∗ A1 ∗ A2 ∗ A3 ∗ A4 ∗ A5 ∗ A6 ∗ A7 ∗ A8) ∗ R) ⊢ iprop(A0 ∗ A1 ∗ A2 ∗ A3 ∗ A4 ∗ A5 ∗ A6 ∗ A7 ∗ A8 ∗ R) := by
  iintro ⟨⟨H0, H1, H2, H3, H4, H5, H6, H7, H8⟩, R⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact R

/-- The body at any point keeps `held`: one of the three runs. -/
theorem body_held (c : Dev nD) (t : Fin cfg0.N) (E : Set ℕ) (K : PUnit → sProp 𝕄) :
    iprop(held m c t ∗ (held m c t -∗ K ⟨⟩)) ⊢ wp frame (wpE (defs₀ (F := F)) Variants.none c none) E (bodyAt0 t) K := by
  have hN : t.val < 21 := lt_of_lt_of_eq t.isLt (show cfg0.N = 21 from N_0)
  unfold bodyAt0 held
  by_cases h1 : t.val < 9
  · by_cases h2 : t.val = 8
    · exact regroup.trans (kernelRun_B c (grid0.coords t) _ _ _ _ _ _ _ _ _ _ _ _ _ _ _ _ _ _ ((cond1_iff t).mpr h1) ((cond2_iff t).mpr h2) (fun h => absurd ((cond3_iff t).mp h) (by omega))
          (iblk m c 0 t) (iblk m c 1 t) (iblk m c 2 t) (iblk m c 3 t) (iblk m c 4 t) (iblk m c 5 t) E K)
    · exact regroup.trans (kernelRun_A c (grid0.coords t) _ _ _ _ _ _ _ _ _ _ _ _ _ _ _ _ _ _ ((cond1_iff t).mpr h1) (fun h => h2 ((cond2_iff t).mp h)) (fun h => absurd ((cond3_iff t).mp h) (by omega))
          (iblk m c 0 t) (iblk m c 1 t) (iblk m c 2 t) (iblk m c 3 t) (iblk m c 4 t) (iblk m c 5 t) E K)
  · exact regroup.trans (kernelRun_C c (grid0.coords t) _ _ _ _ _ _ _ _ _ _ _ _ _ _ _ _ _ _ (fun h => h1 ((cond1_iff t).mp h)) (fun h => absurd ((cond2_iff t).mp h) (by omega)) ((cond3_iff t).mpr (by omega)) (by rw [coords_val]; omega)
          (iblk m c 0 t) (iblk m c 1 t) (iblk m c 2 t) (iblk m c 3 t) (iblk m c 4 t) (iblk m c 5 t) E K)

set_option maxHeartbeats 800000 in
/-- The body at any point, in the terms of the proof data. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  rw [show (dats m 0 c).leavesExact 0 t = owns (c : Thread nD τ) (ms0_0 t) fullShare (iblk m c 0 t) from rfl]
  rw [show (dats m 0 c).leavesExact 1 t = owns (c : Thread nD τ) (ms0_1 t) fullShare (iblk m c 1 t) from rfl]
  rw [show (dats m 0 c).leavesExact 2 t = owns (c : Thread nD τ) (ms0_2 t) fullShare (iblk m c 2 t) from rfl]
  rw [show (dats m 0 c).leavesExact 3 t = owns (c : Thread nD τ) (ms0_3 t) fullShare (iblk m c 3 t) from rfl]
  rw [show (dats m 0 c).leavesExact 4 t = owns (c : Thread nD τ) (ms0_4 t) fullShare (iblk m c 4 t) from rfl]
  rw [show (dats m 0 c).leavesExact 5 t = owns (c : Thread nD τ) (ms0_5 t) fullShare (iblk m c 5 t) from rfl]
  iintro ⟨⟨⟨HS0, HS1⟩, Hg⟩, Ho, ⟨%d0, H0⟩, ⟨%d1, H1⟩, ⟨%d2, H2⟩, ⟨%d3, H3⟩, ⟨%d4, H4⟩, ⟨%d5, H5⟩, H6⟩
  iapply (body_held m c t Set.univ _)
  unfold held
  isplitl [H0 H1 H2 H3 H4 H5 H6 HS0 HS1]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    iexact HS1
  iintro ⟨H0, H1, H2, H3, H4, H5, H6, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t` is the body. -/
theorem defs₀_row (t : Fin cfg0.N) :
    defs₀ (F := F) .tc cfg0.body (cfg0.bodyArgs t (cfg0.slots t)) = bodyAt0 t := by
  unfold defs₀; rw [Defs.onTc_tc]

/-- The pipeline's body obligation, at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The launch: every run ends with the argument arrays as launched and every semaphore counter at zero. -/
theorem run_main : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(Pipeline.RDat.FramePost.arr_in h.1 c 2 rfl).trans ((A_eq m c 2).trans (V_main_arg0 m c)),
      (Pipeline.RDat.FramePost.arr_in h.1 c 3 rfl).trans ((A_eq m c 3).trans (V_main_arg1 m c)),
      (Pipeline.RDat.FramePost.arr_in h.1 c 4 rfl).trans ((A_eq m c 4).trans (V_main_arg2 m c)),
      (Pipeline.RDat.FramePost.arr_in h.1 c 5 rfl).trans ((A_eq m c 5).trans (V_main_arg3 m c))⟩, h.2⟩) (run_main m ρ)

end Cert.Kernel.Hand
-- ==== Proof.KernelIdeal.Offsets.lean ====
module

public import proofs.«01_k».proof.Proof.Gen.KernelIdeal.Frame

/-! Where the product steps (grid points 9 to 20) of the input-gradient kernel read and write its second scratch
buffer: the slot read is the parity of the step, the slot written the parity of the step after it. The body computes
these offsets with 32-bit words; the closed forms here hold at the points where the body uses them. -/

@[expose] public section

set_option maxRecDepth 16384

noncomputable section

namespace Cert.KernelIdeal.Hand

open Idealize.ShloMosaic Idealize.ShloMosaic.TcCoe Idealize.ShloMosaic.Tactic

/-- The slot of the strip that step `i` multiplies. -/
abbrev slotR (i : grid0.Coords) : ℕ := ((i 0).val - 9) % 2
/-- The slot of the strip that step `i` prepares (the last step prepares the last strip once more). -/
abbrev slotW (i : grid0.Coords) : ℕ := min ((i 0).val - 8) 11 % 2

instance {i : grid0.Coords} [h : Fact (9 ≤ (i 0).val)] : ClosedOff (k0_off33 i) := ⟨![slotR i, 128, 0], (by decide +kernel : ∀ i : grid0.Coords, 9 ≤ (i 0).val → k0_off33 i = ![slotR i, 128, 0]) i h.out⟩
instance {i : grid0.Coords} [h : Fact (9 ≤ (i 0).val)] : ClosedOff (k0_off34 i) := ⟨![slotR i, 64, 0], (by decide +kernel : ∀ i : grid0.Coords, 9 ≤ (i 0).val → k0_off34 i = ![slotR i, 64, 0]) i h.out⟩
instance {i : grid0.Coords} [h : Fact (9 ≤ (i 0).val)] : ClosedOff (k0_off35 i) := ⟨![slotR i, 0, 0], (by decide +kernel : ∀ i : grid0.Coords, 9 ≤ (i 0).val → k0_off35 i = ![slotR i, 0, 0]) i h.out⟩
instance {i : grid0.Coords} [h : Fact (9 ≤ (i 0).val)] : ClosedOff (k0_off37 i) := ⟨![slotW i, 0, 0], (by decide +kernel : ∀ i : grid0.Coords, 9 ≤ (i 0).val → k0_off37 i = ![slotW i, 0, 0]) i h.out⟩
instance {i : grid0.Coords} [h : Fact (9 ≤ (i 0).val)] : ClosedOff (k0_off38 i) := ⟨![slotW i, 0, 1280], (by decide +kernel : ∀ i : grid0.Coords, 9 ≤ (i 0).val → k0_off38 i = ![slotW i, 0, 1280]) i h.out⟩
instance {i : grid0.Coords} [h : Fact (9 ≤ (i 0).val)] : ClosedOff (k0_off39 i) := ⟨![slotW i, 0, 2560], (by decide +kernel : ∀ i : grid0.Coords, 9 ≤ (i 0).val → k0_off39 i = ![slotW i, 0, 2560]) i h.out⟩
instance {i : grid0.Coords} [h : Fact (9 ≤ (i 0).val)] : ClosedOff (k0_off40 i) := ⟨![slotW i, 64, 0], (by decide +kernel : ∀ i : grid0.Coords, 9 ≤ (i 0).val → k0_off40 i = ![slotW i, 64, 0]) i h.out⟩
instance {i : grid0.Coords} [h : Fact (9 ≤ (i 0).val)] : ClosedOff (k0_off41 i) := ⟨![slotW i, 64, 1280], (by decide +kernel : ∀ i : grid0.Coords, 9 ≤ (i 0).val → k0_off41 i = ![slotW i, 64, 1280]) i h.out⟩
instance {i : grid0.Coords} [h : Fact (9 ≤ (i 0).val)] : ClosedOff (k0_off42 i) := ⟨![slotW i, 64, 2560], (by decide +kernel : ∀ i : grid0.Coords, 9 ≤ (i 0).val → k0_off42 i = ![slotW i, 64, 2560]) i h.out⟩
instance {i : grid0.Coords} [h : Fact (9 ≤ (i 0).val)] : ClosedOff (k0_off43 i) := ⟨![slotW i, 128, 0], (by decide +kernel : ∀ i : grid0.Coords, 9 ≤ (i 0).val → k0_off43 i = ![slotW i, 128, 0]) i h.out⟩
instance {i : grid0.Coords} [h : Fact (9 ≤ (i 0).val)] : ClosedOff (k0_off44 i) := ⟨![slotW i, 128, 1280], (by decide +kernel : ∀ i : grid0.Coords, 9 ≤ (i 0).val → k0_off44 i = ![slotW i, 128, 1280]) i h.out⟩
instance {i : grid0.Coords} [h : Fact (9 ≤ (i 0).val)] : ClosedOff (k0_off45 i) := ⟨![slotW i, 128, 2560], (by decide +kernel : ∀ i : grid0.Coords, 9 ≤ (i 0).val → k0_off45 i = ![slotW i, 128, 2560]) i h.out⟩
instance {i : grid0.Coords} [h : Fact (9 ≤ (i 0).val)] : ClosedOff (k0_off46 i) := ⟨![slotW i, 192, 0], (by decide +kernel : ∀ i : grid0.Coords, 9 ≤ (i 0).val → k0_off46 i = ![slotW i, 192, 0]) i h.out⟩
instance {i : grid0.Coords} [h : Fact (9 ≤ (i 0).val)] : ClosedOff (k0_off47 i) := ⟨![slotW i, 192, 1280], (by decide +kernel : ∀ i : grid0.Coords, 9 ≤ (i 0).val → k0_off47 i = ![slotW i, 192, 1280]) i h.out⟩
instance {i : grid0.Coords} [h : Fact (9 ≤ (i 0).val)] : ClosedOff (k0_off48 i) := ⟨![slotW i, 192, 2560], (by decide +kernel : ∀ i : grid0.Coords, 9 ≤ (i 0).val → k0_off48 i = ![slotW i, 192, 2560]) i h.out⟩
instance {i : grid0.Coords} [h : Fact (9 ≤ (i 0).val)] : ClosedOff (k0_off49 i) := ⟨![slotW i, 256, 0], (by decide +kernel : ∀ i : grid0.Coords, 9 ≤ (i 0).val → k0_off49 i = ![slotW i, 256, 0]) i h.out⟩
instance {i : grid0.Coords} [h : Fact (9 ≤ (i 0).val)] : ClosedOff (k0_off50 i) := ⟨![slotW i, 256, 1280], (by decide +kernel : ∀ i : grid0.Coords, 9 ≤ (i 0).val → k0_off50 i = ![slotW i, 256, 1280]) i h.out⟩
instance {i : grid0.Coords} [h : Fact (9 ≤ (i 0).val)] : ClosedOff (k0_off51 i) := ⟨![slotW i, 256, 2560], (by decide +kernel : ∀ i : grid0.Coords, 9 ≤ (i 0).val → k0_off51 i = ![slotW i, 256, 2560]) i h.out⟩
instance {i : grid0.Coords} [h : Fact (9 ≤ (i 0).val)] : ClosedOff (k0_off52 i) := ⟨![slotW i, 320, 0], (by decide +kernel : ∀ i : grid0.Coords, 9 ≤ (i 0).val → k0_off52 i = ![slotW i, 320, 0]) i h.out⟩
instance {i : grid0.Coords} [h : Fact (9 ≤ (i 0).val)] : ClosedOff (k0_off53 i) := ⟨![slotW i, 320, 1280], (by decide +kernel : ∀ i : grid0.Coords, 9 ≤ (i 0).val → k0_off53 i = ![slotW i, 320, 1280]) i h.out⟩
instance {i : grid0.Coords} [h : Fact (9 ≤ (i 0).val)] : ClosedOff (k0_off54 i) := ⟨![slotW i, 320, 2560], (by decide +kernel : ∀ i : grid0.Coords, 9 ≤ (i 0).val → k0_off54 i = ![slotW i, 320, 2560]) i h.out⟩
instance {i : grid0.Coords} [h : Fact (9 ≤ (i 0).val)] : ClosedOff (k0_off55 i) := ⟨![slotW i, 384, 0], (by decide +kernel : ∀ i : grid0.Coords, 9 ≤ (i 0).val → k0_off55 i = ![slotW i, 384, 0]) i h.out⟩
instance {i : grid0.Coords} [h : Fact (9 ≤ (i 0).val)] : ClosedOff (k0_off56 i) := ⟨![slotW i, 384, 1280], (by decide +kernel : ∀ i : grid0.Coords, 9 ≤ (i 0).val → k0_off56 i = ![slotW i, 384, 1280]) i h.out⟩
instance {i : grid0.Coords} [h : Fact (9 ≤ (i 0).val)] : ClosedOff (k0_off57 i) := ⟨![slotW i, 384, 2560], (by decide +kernel : ∀ i : grid0.Coords, 9 ≤ (i 0).val → k0_off57 i = ![slotW i, 384, 2560]) i h.out⟩
instance {i : grid0.Coords} [h : Fact (9 ≤ (i 0).val)] : ClosedOff (k0_off58 i) := ⟨![slotW i, 448, 0], (by decide +kernel : ∀ i : grid0.Coords, 9 ≤ (i 0).val → k0_off58 i = ![slotW i, 448, 0]) i h.out⟩
instance {i : grid0.Coords} [h : Fact (9 ≤ (i 0).val)] : ClosedOff (k0_off59 i) := ⟨![slotW i, 448, 1280], (by decide +kernel : ∀ i : grid0.Coords, 9 ≤ (i 0).val → k0_off59 i = ![slotW i, 448, 1280]) i h.out⟩
instance {i : grid0.Coords} [h : Fact (9 ≤ (i 0).val)] : ClosedOff (k0_off60 i) := ⟨![slotW i, 448, 2560], (by decide +kernel : ∀ i : grid0.Coords, 9 ≤ (i 0).val → k0_off60 i = ![slotW i, 448, 2560]) i h.out⟩
instance {i : grid0.Coords} [h : Fact (9 ≤ (i 0).val)] : ClosedOff (k0_off61 i) := ⟨![slotW i, 512, 0], (by decide +kernel : ∀ i : grid0.Coords, 9 ≤ (i 0).val → k0_off61 i = ![slotW i, 512, 0]) i h.out⟩
instance {i : grid0.Coords} [h : Fact (9 ≤ (i 0).val)] : ClosedOff (k0_off62 i) := ⟨![slotW i, 512, 1280], (by decide +kernel : ∀ i : grid0.Coords, 9 ≤ (i 0).val → k0_off62 i = ![slotW i, 512, 1280]) i h.out⟩
instance {i : grid0.Coords} [h : Fact (9 ≤ (i 0).val)] : ClosedOff (k0_off63 i) := ⟨![slotW i, 512, 2560], (by decide +kernel : ∀ i : grid0.Coords, 9 ≤ (i 0).val → k0_off63 i = ![slotW i, 512, 2560]) i h.out⟩
instance {i : grid0.Coords} [h : Fact (9 ≤ (i 0).val)] : ClosedOff (k0_off64 i) := ⟨![slotW i, 576, 0], (by decide +kernel : ∀ i : grid0.Coords, 9 ≤ (i 0).val → k0_off64 i = ![slotW i, 576, 0]) i h.out⟩
instance {i : grid0.Coords} [h : Fact (9 ≤ (i 0).val)] : ClosedOff (k0_off65 i) := ⟨![slotW i, 576, 1280], (by decide +kernel : ∀ i : grid0.Coords, 9 ≤ (i 0).val → k0_off65 i = ![slotW i, 576, 1280]) i h.out⟩
instance {i : grid0.Coords} [h : Fact (9 ≤ (i 0).val)] : ClosedOff (k0_off66 i) := ⟨![slotW i, 576, 2560], (by decide +kernel : ∀ i : grid0.Coords, 9 ≤ (i 0).val → k0_off66 i = ![slotW i, 576, 2560]) i h.out⟩

end Cert.KernelIdeal.Hand
-- ==== Proof.KernelIdeal.RunA.lean ====
module

public import proofs.«01_k».proof.Proof.KernelIdeal.Offsets
public import proofs.«01_k».proof.Proof.Gen.KernelIdeal.Skeleton

/-! The body of the input-gradient kernel run at the first eight points: a weight slab is unpacked. -/

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 3996000 in
/-- The body at the first eight points: a weight slab is unpacked: the inputs stay as they are; the output block and the two scratch buffers
    end at some contents. -/
theorem kernelRun_A (c : Dev nD) (i : grid0.Coords) (arg1 : Memref sig .tc .vmem S512x1280 .fp8e5m2) (harg1 : arg1.IsWhole) (arg2 : Memref sig .tc .vmem S64x1280 .fp8e5m2) (harg2 : arg2.IsWhole) (arg3 : Memref sig .tc .vmem S64x1280 .fp8e5m2) (harg3 : arg3.IsWhole) (arg4 : Memref sig .tc .vmem S96x64 .f32) (harg4 : arg4.IsWhole) (arg5 : Memref sig .tc .vmem S1x1280x1280 .fp8e4m3) (harg5 : arg5.IsWhole) (arg6 : Memref sig .tc .vmem S1x1280 .f32) (harg6 : arg6.IsWhole) (arg7 : Memref sig .tc .vmem S512x1280 .bf16) (harg7 : arg7.IsWhole) (arg8 : Memref sig .tc .vmem S1280x11520 .bf16) (harg8 : arg8.IsWhole) (arg9 : Memref sig .tc .vmem S2x640x3840 .bf16) (harg9 : arg9.IsWhole)
    (hc1 : k0_cond1 i = 1#1) (hc2 : ¬ k0_cond2 i = 1#1) (hc3 : ¬ k0_cond3 i = 1#1)
    (x0 : Vec F S512x1280 .fp8e5m2) (x1 : Vec F S64x1280 .fp8e5m2) (x2 : Vec F S64x1280 .fp8e5m2) (x3 : Vec F S96x64 .f32) (x4 : Vec F S1x1280x1280 .fp8e4m3) (x5 : Vec F S1x1280 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) E (cc0_grad_input i arg1 harg1 arg2 harg2 arg3 harg3 arg4 harg4 arg5 harg5 arg6 harg6 arg7 harg7 arg8 harg8 arg9 harg9) K := by
    intro E K
    simp only [cc0_grad_input_eq_skeleton]; unfold cc0_grad_input_skel
    skip
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _, _; isplitr; swap; · iexact H6
      ipureintro; rfl
    isplitl [H7]
    · iexists _, _; isplitr; swap; · iexact H7
      ipureintro; rfl
    iexists _, _; isplitr; swap; · iexact H8
    ipureintro; rfl

end Cert.KernelIdeal.Hand
-- ==== Proof.KernelIdeal.RunB.lean ====
module

public import proofs.«01_k».proof.Proof.KernelIdeal.RunA
public import proofs.«01_k».proof.Proof.Gen.KernelIdeal.Skeleton

/-! The body of the input-gradient kernel run at point 8: the last weight slab, and the first strip is prepared. -/

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 3996000 in
/-- The body at point 8: the last weight slab, and the first strip is prepared: the inputs stay as they are; the output block and the two scratch buffers
    end at some contents. -/
theorem kernelRun_B (c : Dev nD) (i : grid0.Coords) (arg1 : Memref sig .tc .vmem S512x1280 .fp8e5m2) (harg1 : arg1.IsWhole) (arg2 : Memref sig .tc .vmem S64x1280 .fp8e5m2) (harg2 : arg2.IsWhole) (arg3 : Memref sig .tc .vmem S64x1280 .fp8e5m2) (harg3 : arg3.IsWhole) (arg4 : Memref sig .tc .vmem S96x64 .f32) (harg4 : arg4.IsWhole) (arg5 : Memref sig .tc .vmem S1x1280x1280 .fp8e4m3) (harg5 : arg5.IsWhole) (arg6 : Memref sig .tc .vmem S1x1280 .f32) (harg6 : arg6.IsWhole) (arg7 : Memref sig .tc .vmem S512x1280 .bf16) (harg7 : arg7.IsWhole) (arg8 : Memref sig .tc .vmem S1280x11520 .bf16) (harg8 : arg8.IsWhole) (arg9 : Memref sig .tc .vmem S2x640x3840 .bf16) (harg9 : arg9.IsWhole)
    (hc1 : k0_cond1 i = 1#1) (hc2 : k0_cond2 i = 1#1) (hc3 : ¬ k0_cond3 i = 1#1)
    (x0 : Vec F S512x1280 .fp8e5m2) (x1 : Vec F S64x1280 .fp8e5m2) (x2 : Vec F S64x1280 .fp8e5m2) (x3 : Vec F S96x64 .f32) (x4 : Vec F S1x1280x1280 .fp8e4m3) (x5 : Vec F S1x1280 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) E (cc0_grad_input i arg1 harg1 arg2 harg2 arg3 harg3 arg4 harg4 arg5 harg5 arg6 harg6 arg7 harg7 arg8 harg8 arg9 harg9) K := by
    intro E K
    simp only [cc0_grad_input_eq_skeleton]; unfold cc0_grad_input_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _, _; isplitr; swap; · iexact H6
      ipureintro; rfl
    isplitl [H7]
    · iexists _, _; isplitr; swap; · iexact H7
      ipureintro; rfl
    iexists _, _; isplitr; swap; · iexact H8
    ipureintro; rfl

end Cert.KernelIdeal.Hand
-- ==== Proof.KernelIdeal.RunC.lean ====
module

public import proofs.«01_k».proof.Proof.KernelIdeal.RunB
public import proofs.«01_k».proof.Proof.Gen.KernelIdeal.Skeleton

/-! The body of the input-gradient kernel run at points 9 to 20: a strip is multiplied, the next one prepared. -/

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 3996000 in
/-- The body at points 9 to 20: a strip is multiplied, the next one prepared: the inputs stay as they are; the output block and the two scratch buffers
    end at some contents. -/
theorem kernelRun_C (c : Dev nD) (i : grid0.Coords) (arg1 : Memref sig .tc .vmem S512x1280 .fp8e5m2) (harg1 : arg1.IsWhole) (arg2 : Memref sig .tc .vmem S64x1280 .fp8e5m2) (harg2 : arg2.IsWhole) (arg3 : Memref sig .tc .vmem S64x1280 .fp8e5m2) (harg3 : arg3.IsWhole) (arg4 : Memref sig .tc .vmem S96x64 .f32) (harg4 : arg4.IsWhole) (arg5 : Memref sig .tc .vmem S1x1280x1280 .fp8e4m3) (harg5 : arg5.IsWhole) (arg6 : Memref sig .tc .vmem S1x1280 .f32) (harg6 : arg6.IsWhole) (arg7 : Memref sig .tc .vmem S512x1280 .bf16) (harg7 : arg7.IsWhole) (arg8 : Memref sig .tc .vmem S1280x11520 .bf16) (harg8 : arg8.IsWhole) (arg9 : Memref sig .tc .vmem S2x640x3840 .bf16) (harg9 : arg9.IsWhole)
    (hc1 : ¬ k0_cond1 i = 1#1) (hc2 : ¬ k0_cond2 i = 1#1) (hc3 : k0_cond3 i = 1#1) (h9 : 9 ≤ (i 0).val)
    (x0 : Vec F S512x1280 .fp8e5m2) (x1 : Vec F S64x1280 .fp8e5m2) (x2 : Vec F S64x1280 .fp8e5m2) (x3 : Vec F S96x64 .f32) (x4 : Vec F S1x1280x1280 .fp8e4m3) (x5 : Vec F S1x1280 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) E (cc0_grad_input i arg1 harg1 arg2 harg2 arg3 harg3 arg4 harg4 arg5 harg5 arg6 harg6 arg7 harg7 arg8 harg8 arg9 harg9) K := by
    intro E K
    haveI : Fact (9 ≤ (i 0).val) := ⟨h9⟩
    simp only [cc0_grad_input_eq_skeleton]; unfold cc0_grad_input_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _, _; isplitr; swap; · iexact H6
      ipureintro; rfl
    isplitl [H7]
    · iexists _, _; isplitr; swap; · iexact H7
      ipureintro; rfl
    iexists _, _; isplitr; swap; · iexact H8
    ipureintro; rfl

end Cert.KernelIdeal.Hand
-- ==== Proof.KernelIdeal.Frame.lean ====
module

public import proofs.«01_k».proof.Proof.KernelIdeal.RunC
public import Idealize.ShloMosaic.Lib.Pipeline.Frame

/-! The frame of the input-gradient kernel over the extended reals: from any memory it ends, with its four arguments unchanged. The
weight slabs and the two scratch buffers are held at some contents and the output block is forgotten, so the three runs of
the body (one for each kind of grid point) are all that is needed. The three windows of the gradient codes share one array. -/

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Weight slabs are unpacked at points 0 to 8, -/
theorem cond1_iff : ∀ t : Fin cfg0.N, k0_cond1 (grid0.coords t) = 1#1 ↔ t.val < 9 :=
  (by decide +kernel : ∀ t : Fin grid0.N, k0_cond1 (grid0.coords t) = 1#1 ↔ t.val < 9)
/-- the first strip is prepared at point 8, -/
theorem cond2_iff : ∀ t : Fin cfg0.N, k0_cond2 (grid0.coords t) = 1#1 ↔ t.val = 8 :=
  (by decide +kernel : ∀ t : Fin grid0.N, k0_cond2 (grid0.coords t) = 1#1 ↔ t.val = 8)
/-- and strips are multiplied at points 9 to 20. -/
theorem cond3_iff : ∀ t : Fin cfg0.N, k0_cond3 (grid0.coords t) = 1#1 ↔ 9 ≤ t.val :=
  (by decide +kernel : ∀ t : Fin grid0.N, k0_cond3 (grid0.coords t) = 1#1 ↔ 9 ≤ t.val)
/-- The grid has one axis. -/
theorem coords_val : ∀ t : Fin cfg0.N, (grid0.coords t 0).val = t.val :=
  (by decide +kernel : ∀ t : Fin grid0.N, (grid0.coords t 0).val = t.val)

/-- The output window is forgotten. -/
def forgets0 : Fin 7 → Bool := fun w => w.val == 6

/-- The proof data: every input's buffer at its block, the output forgotten, the scratch at some contents. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

abbrev ms0_0 (t : Fin cfg0.N) : Memref sig .tc .vmem S512x1280 .fp8e5m2 := win0_0.stage (cfg0.slots t 0)
abbrev ms0_1 (t : Fin cfg0.N) : Memref sig .tc .vmem S64x1280 .fp8e5m2 := win0_1.stage (cfg0.slots t 1)
abbrev ms0_2 (t : Fin cfg0.N) : Memref sig .tc .vmem S64x1280 .fp8e5m2 := win0_2.stage (cfg0.slots t 2)
abbrev ms0_3 (t : Fin cfg0.N) : Memref sig .tc .vmem S96x64 .f32 := win0_3.stage (cfg0.slots t 3)
abbrev ms0_4 (t : Fin cfg0.N) : Memref sig .tc .vmem S1x1280x1280 .fp8e4m3 := win0_4.stage (cfg0.slots t 4)
abbrev ms0_5 (t : Fin cfg0.N) : Memref sig .tc .vmem S1x1280 .f32 := win0_5.stage (cfg0.slots t 5)
abbrev ms0_6 (t : Fin cfg0.N) : Memref sig .tc .vmem S512x1280 .bf16 := win0_6.stage (cfg0.slots t 6)
/-- The two scratch buffers: the unpacked weights and the two prepared strips. -/
abbrev scM0_0 : Memref sig .tc .vmem S1280x11520 .bf16 := Memref.whole cc0_scratch0
abbrev scM0_1 : Memref sig .tc .vmem S2x640x3840 .bf16 := Memref.whole cc0_scratch1

/-- What a kernel may keep between points: its scratch buffers and the generator register, at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (∃ d, owns (c : Thread nD τ) (ms0_6 t) fullShare d))

/-- The body's state at a point with the inputs at their blocks. -/
def held (c : Dev nD) (t : Fin cfg0.N) : sProp 𝕄 :=
  iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ (∃ d, owns (c : Thread nD τ) (ms0_6 t) fullShare d)
    ∗ (∃ d, owns (c : Thread nD τ) scM0_0 fullShare d) ∗ (∃ d, owns (c : Thread nD τ) scM0_1 fullShare d))

/-- Nine conjuncts and a tenth, regrouped. -/
theorem regroup {M : Type} [URA M] {A0 A1 A2 A3 A4 A5 A6 A7 A8 R : sProp M} :
    iprop((A0 ∗ A1 ∗ A2 ∗ A3 ∗ A4 ∗ A5 ∗ A6 ∗ A7 ∗ A8) ∗ R) ⊢ iprop(A0 ∗ A1 ∗ A2 ∗ A3 ∗ A4 ∗ A5 ∗ A6 ∗ A7 ∗ A8 ∗ R) := by
  iintro ⟨⟨H0, H1, H2, H3, H4, H5, H6, H7, H8⟩, R⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact R

/-- The body at any point keeps `held`: one of the three runs. -/
theorem body_held (c : Dev nD) (t : Fin cfg0.N) (E : Set ℕ) (K : PUnit → sProp 𝕄) :
    iprop(held m c t ∗ (held m c t -∗ K ⟨⟩)) ⊢ wp frame (wpE (defs₀ (F := F)) Variants.none c none) E (bodyAt0 t) K := by
  have hN : t.val < 21 := lt_of_lt_of_eq t.isLt (show cfg0.N = 21 from N_0)
  unfold bodyAt0 held
  by_cases h1 : t.val < 9
  · by_cases h2 : t.val = 8
    · exact regroup.trans (kernelRun_B c (grid0.coords t) _ _ _ _ _ _ _ _ _ _ _ _ _ _ _ _ _ _ ((cond1_iff t).mpr h1) ((cond2_iff t).mpr h2) (fun h => absurd ((cond3_iff t).mp h) (by omega))
          (iblk m c 0 t) (iblk m c 1 t) (iblk m c 2 t) (iblk m c 3 t) (iblk m c 4 t) (iblk m c 5 t) E K)
    · exact regroup.trans (kernelRun_A c (grid0.coords t) _ _ _ _ _ _ _ _ _ _ _ _ _ _ _ _ _ _ ((cond1_iff t).mpr h1) (fun h => h2 ((cond2_iff t).mp h)) (fun h => absurd ((cond3_iff t).mp h) (by omega))
          (iblk m c 0 t) (iblk m c 1 t) (iblk m c 2 t) (iblk m c 3 t) (iblk m c 4 t) (iblk m c 5 t) E K)
  · exact regroup.trans (kernelRun_C c (grid0.coords t) _ _ _ _ _ _ _ _ _ _ _ _ _ _ _ _ _ _ (fun h => h1 ((cond1_iff t).mp h)) (fun h => absurd ((cond2_iff t).mp h) (by omega)) ((cond3_iff t).mpr (by omega)) (by rw [coords_val]; omega)
          (iblk m c 0 t) (iblk m c 1 t) (iblk m c 2 t) (iblk m c 3 t) (iblk m c 4 t) (iblk m c 5 t) E K)

set_option maxHeartbeats 800000 in
/-- The body at any point, in the terms of the proof data. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  rw [show (dats m 0 c).leavesExact 0 t = owns (c : Thread nD τ) (ms0_0 t) fullShare (iblk m c 0 t) from rfl]
  rw [show (dats m 0 c).leavesExact 1 t = owns (c : Thread nD τ) (ms0_1 t) fullShare (iblk m c 1 t) from rfl]
  rw [show (dats m 0 c).leavesExact 2 t = owns (c : Thread nD τ) (ms0_2 t) fullShare (iblk m c 2 t) from rfl]
  rw [show (dats m 0 c).leavesExact 3 t = owns (c : Thread nD τ) (ms0_3 t) fullShare (iblk m c 3 t) from rfl]
  rw [show (dats m 0 c).leavesExact 4 t = owns (c : Thread nD τ) (ms0_4 t) fullShare (iblk m c 4 t) from rfl]
  rw [show (dats m 0 c).leavesExact 5 t = owns (c : Thread nD τ) (ms0_5 t) fullShare (iblk m c 5 t) from rfl]
  iintro ⟨⟨⟨HS0, HS1⟩, Hg⟩, Ho, ⟨%d0, H0⟩, ⟨%d1, H1⟩, ⟨%d2, H2⟩, ⟨%d3, H3⟩, ⟨%d4, H4⟩, ⟨%d5, H5⟩, H6⟩
  iapply (body_held m c t Set.univ _)
  unfold held
  isplitl [H0 H1 H2 H3 H4 H5 H6 HS0 HS1]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    iexact HS1
  iintro ⟨H0, H1, H2, H3, H4, H5, H6, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t` is the body. -/
theorem defs₀_row (t : Fin cfg0.N) :
    defs₀ (F := F) .tc cfg0.body (cfg0.bodyArgs t (cfg0.slots t)) = bodyAt0 t := by
  unfold defs₀; rw [Defs.onTc_tc]

/-- The pipeline's body obligation, at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The launch: every run ends with the argument arrays as launched and every semaphore counter at zero. -/
theorem run_main : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(Pipeline.RDat.FramePost.arr_in h.1 c 2 rfl).trans ((A_eq m c 2).trans (V_main_arg0 m c)),
      (Pipeline.RDat.FramePost.arr_in h.1 c 3 rfl).trans ((A_eq m c 3).trans (V_main_arg1 m c)),
      (Pipeline.RDat.FramePost.arr_in h.1 c 4 rfl).trans ((A_eq m c 4).trans (V_main_arg2 m c)),
      (Pipeline.RDat.FramePost.arr_in h.1 c 5 rfl).trans ((A_eq m c 5).trans (V_main_arg3 m c))⟩, h.2⟩) (run_main m ρ)

end Cert.KernelIdeal.Hand
-- ==== Proof.Spec.lean ====
module

public import Idealize.ShloMosaic.Lib.ValueIdxCore
public import Idealize.ShloMosaic.PureOps.Ideal.Laws

/-! The input gradient over the extended reals: the codes of the output gradient times their pixel's scale with a border of zeros
around each image, and its correlation with the nine dequantised weight slabs. -/

@[expose] public section

noncomputable section

namespace Cert.Spec

open Idealize.ShloMosaic
open Idealize.ShloMosaic.ValueIdx (ix2 ix3)

/-- The dequantised gradient of image `b` with its border, at row `h` and column `w` counted from the border. -/
def gp (dy : (⟨2, ![6144, 1280]⟩ : Shape).Idx → EReal) (ds : (⟨2, ![96, 64]⟩ : Shape).Idx → EReal) (b h w : ℕ) (ch : Fin 1280) : EReal :=
  if hh : b < 2 ∧ (1 ≤ h ∧ h ≤ 48) ∧ 1 ≤ w ∧ w ≤ 64 then
    dy (ix2 (n0 := 6144) (n1 := 1280) ⟨(b * 48 + (h - 1)) * 64 + (w - 1), by omega⟩ ch)
      * ds (ix2 (n0 := 96) (n1 := 64) ⟨b * 48 + (h - 1), by omega⟩ ⟨w - 1, by omega⟩)
  else 0

theorem gp_in {dy : (⟨2, ![6144, 1280]⟩ : Shape).Idx → EReal} {ds : (⟨2, ![96, 64]⟩ : Shape).Idx → EReal} {b h w : ℕ} {ch : Fin 1280}
    (hb : b < 2) (h1 : 1 ≤ h) (h2 : h ≤ 48) (w1 : 1 ≤ w) (w2 : w ≤ 64) (i : (⟨2, ![6144, 1280]⟩ : Shape).Idx) (j : (⟨2, ![96, 64]⟩ : Shape).Idx)
    (i0 : (i 0).val = (b * 48 + (h - 1)) * 64 + (w - 1)) (i1 : (i 1).val = ch.val) (j0 : (j 0).val = b * 48 + (h - 1)) (j1 : (j 1).val = w - 1) :
    gp dy ds b h w ch = dy i * ds j := by
  unfold gp
  rw [dif_pos ⟨hb, ⟨h1, h2⟩, w1, w2⟩]
  refine congrArg₂ (fun x y => dy x * ds y) (funext fun a => Fin.ext ?_) (funext fun a => Fin.ext ?_)
  · match a with
    | ⟨0, _⟩ => exact i0.symm
    | ⟨1, _⟩ => exact i1.symm
  · match a with
    | ⟨0, _⟩ => exact j0.symm
    | ⟨1, _⟩ => exact j1.symm

theorem gp_out {dy : (⟨2, ![6144, 1280]⟩ : Shape).Idx → EReal} {ds : (⟨2, ![96, 64]⟩ : Shape).Idx → EReal} {b h w : ℕ} {ch : Fin 1280}
    (hh : ¬((1 ≤ h ∧ h ≤ 48) ∧ 1 ≤ w ∧ w ≤ 64)) : gp dy ds b h w ch = 0 := by
  unfold gp
  rw [dif_neg fun h => hh h.2]

/-- The dequantised weight of tap `k`, from input channel `o` to output channel `ch`. -/
def wt (w : (⟨3, ![9, 1280, 1280]⟩ : Shape).Idx → EReal) (ws : (⟨2, ![1, 1280]⟩ : Shape).Idx → EReal) (k : Fin 9) (o ch : Fin 1280) : EReal :=
  w (ix3 (n0 := 9) (n1 := 1280) (n2 := 1280) k o ch) * ws (ix2 (n0 := 1) (n1 := 1280) 0 ch)

/-- The part of the input gradient that tap `k` contributes. -/
def tapSum (dy : (⟨2, ![6144, 1280]⟩ : Shape).Idx → EReal) (ds : (⟨2, ![96, 64]⟩ : Shape).Idx → EReal)
    (w : (⟨3, ![9, 1280, 1280]⟩ : Shape).Idx → EReal) (ws : (⟨2, ![1, 1280]⟩ : Shape).Idx → EReal) (b h x : ℕ) (o : Fin 1280) (k : Fin 9) : EReal :=
  ∑ ch : Fin 1280, gp dy ds b (h + (2 - k.val / 3)) (x + (2 - k.val % 3)) ch * wt w ws k o ch

/-- The input gradient at pixel `p` and channel `o`. -/
def grad (dy : (⟨2, ![6144, 1280]⟩ : Shape).Idx → EReal) (ds : (⟨2, ![96, 64]⟩ : Shape).Idx → EReal)
    (w : (⟨3, ![9, 1280, 1280]⟩ : Shape).Idx → EReal) (ws : (⟨2, ![1, 1280]⟩ : Shape).Idx → EReal) (p : ℕ) (o : Fin 1280) : EReal :=
  ∑ k : Fin 9, tapSum dy ds w ws (p / 3072) (p / 64 % 48) (p % 64) o k

end Cert.Spec
-- ==== Proof.KernelIdeal.Row.lean ====
module

public import proofs.«01_k».proof.Proof.KernelIdeal.Offsets
public import proofs.«01_k».proof.Proof.Gen.KernelIdeal.Skeleton
public import Idealize.ShloMosaic.Lib.WholeRead
public import Idealize.ShloMosaic.Lib.WritesUnit
public import Idealize.ShloMosaic.Lib.ValueIdxCore
public import Idealize.ShloMosaic.Lib.Pipeline.Value

/-! What the input-gradient kernel writes for one image row of a strip: the dequantised row itself (column block 1), the row
moved one pixel up (block 0) and one pixel down (block 2). A strip has ten rows; `bufOf` is the strip buffer they fill, and
`Filled` says that a list of stores fills the first rows of one slot of the buffer with it. -/

@[expose] public section

set_option maxRecDepth 16384

noncomputable section

namespace Cert.KernelIdeal.Hand

open Cert.KernelIdeal.Gen
open Idealize.ShloMosaic Idealize.ShloMosaic.TcCoe Idealize.ShloMosaic.Tactic
open Idealize.ShloMosaic.ValueIdx (ix2 ix3)

variable {F : FTy → Type} [FloatOps F]

/-- One row of scales as a column of 64 pixels, repeated over 128 lanes. -/
def scaleCol (sc : Vec F S1x64 .f32) : FVec F S64x128 .f32 :=
  transpose S64x128 [1, 0] (broadcastTo S128x64 (shapeCast S1x64 sc shapeCasts_S1x64_S1x64) broadcasts_S1x64_S128x64)
    transposes_S128x64_p1_0_S64x128

/-- A row of codes times a column of scales. -/
def rowOfCol (cd : Vec F S64x1280 .fp8e5m2) (col : FVec F S64x128 .f32) : FVec F S64x1280 .bf16 :=
  mulf (extf .bf16 cd bitsLt_fp8e5m2_bf16)
    (concatenate S64x1280 1 [⟨S64x128, truncf .bf16 col bitsLt_bf16_f32⟩, ⟨S64x128, truncf .bf16 col bitsLt_bf16_f32⟩,
      ⟨S64x128, truncf .bf16 col bitsLt_bf16_f32⟩, ⟨S64x128, truncf .bf16 col bitsLt_bf16_f32⟩,
      ⟨S64x128, truncf .bf16 col bitsLt_bf16_f32⟩, ⟨S64x128, truncf .bf16 col bitsLt_bf16_f32⟩,
      ⟨S64x128, truncf .bf16 col bitsLt_bf16_f32⟩, ⟨S64x128, truncf .bf16 col bitsLt_bf16_f32⟩,
      ⟨S64x128, truncf .bf16 col bitsLt_bf16_f32⟩, ⟨S64x128, truncf .bf16 col bitsLt_bf16_f32⟩]
      concatenates_S64x128_S64x128_S64x128_S64x128_S64x128_S64x128_S64x128_S64x128_S64x128_S64x128_S64x1280_d1)

/-- An interior row of a strip, -/
def rowMid (cd : Vec F S64x1280 .fp8e5m2) (sc : Vec F S1x64 .f32) : FVec F S64x1280 .bf16 := rowOfCol cd (scaleCol sc)

/-- and an edge row, whose scales are zeroed where it lies outside the image. -/
def rowEdge (ok : BitVec 1) (cd : Vec F S64x1280 .fp8e5m2) (sc : Vec F S1x64 .f32) : FVec F S64x1280 .bf16 :=
  rowOfCol cd (Scalar.select ok (scaleCol sc) (broadcast S64x128 (Scalar.ofBits .f32 0x00000000#32)))

/-- The row moved up by one pixel, a zero entering at the end. -/
def upOf (a : FVec F S64x1280 .bf16) : FVec F S64x1280 .bf16 :=
  interleaveRows S64x1280 (rowsOfParity 1 S32x1280 a bitcasts_S64x1280_w16_S32x1280_w32)
    (select (cmpi .eq (iota .tc S32x1280 32 [0] iota_S32x1280_d0_w32) (broadcast S32x1280 31#32)) (constant S32x1280 .bf16 0x0000#16)
      (dynamicRotate 0 31#32 none (rowsOfParity 0 S32x1280 a bitcasts_S64x1280_w16_S32x1280_w32) rotates_S32x1280_d0))
    bitcasts_S64x1280_w16_S32x1280_w32

/-- The row moved down by one pixel, a zero entering at the start. -/
def downOf (a : FVec F S64x1280 .bf16) : FVec F S64x1280 .bf16 :=
  interleaveRows S64x1280
    (select (cmpi .eq (iota .tc S32x1280 32 [0] iota_S32x1280_d0_w32) (broadcast S32x1280 0#32)) (constant S32x1280 .bf16 0x0000#16)
      (dynamicRotate 0 1#32 none (rowsOfParity 1 S32x1280 a bitcasts_S64x1280_w16_S32x1280_w32) rotates_S32x1280_d0))
    (rowsOfParity 0 S32x1280 a bitcasts_S64x1280_w16_S32x1280_w32) bitcasts_S64x1280_w16_S32x1280_w32

/-- The row as column block `k` of the strip buffer holds it. -/
def tapOf (k : ℕ) (a : FVec F S64x1280 .bf16) : FVec F S64x1280 .bf16 :=
  if k = 0 then upOf a else if k = 1 then a else downOf a

/-- An index of one row of a strip. -/
abbrev rowIx (p c : ℕ) (hp : p < 64) (hc : c < 1280) : S64x1280.Idx := ix2 (n0 := 64) (n1 := 1280) ⟨p, hp⟩ ⟨c, hc⟩

/-- The strip buffer whose rows are `row 0` to `row 9`. -/
def bufOf (row : ℕ → FVec F S64x1280 .bf16) (y : S2x640x3840.Idx) : F .bf16 :=
  tapOf ((y 2).val / 1280) (row ((y 1).val / 64))
    (rowIx ((y 1).val % 64) ((y 2).val % 1280) (Nat.mod_lt _ (by decide)) (Nat.mod_lt _ (by decide)))

/-- The stores `L` fill the first `n` rows of slot `s` of the strip buffer with `bufOf row`. -/
structure Filled (row : ℕ → FVec F S64x1280 .bf16) (s n : ℕ) (L : List (View.Piece (Elt F) S2x640x3840 .bf16)) : Prop where
  pay : ∀ p ∈ L, ∀ x : p.1.shape.Idx, p.2 x = bufOf row (p.1.emb x)
  cover : ∀ y : S2x640x3840.Idx, (y 0).val = s → (y 1).val < 64 * n → ∃ p ∈ L, y ∈ p.1.set

theorem Filled.nil (row : ℕ → FVec F S64x1280 .bf16) (s : ℕ) : Filled row s 0 [] :=
  ⟨fun _ h => absurd h List.not_mem_nil, fun y _ h => absurd h (by omega)⟩

/-- A store of one block of a row holds what `bufOf` has there. -/
theorem pay_of_tap (row : ℕ → FVec F S64x1280 .bf16) (s n k : ℕ) (off : Fin 3 → ℕ) (hoff : off = ![s, 64 * n, 1280 * k])
    (inb : ∀ a, off a + (![1, 64, 1280] : Fin 3 → ℕ) a ≤ S2x640x3840.size a)
    (w : Vec F S1x64x1280 .bf16) (hw : w = shapeCast S1x64x1280 (tapOf k (row n)) shapeCasts_S64x1280_S1x64x1280) (x : S1x64x1280.Idx) :
    w x = bufOf row ((Rect.unit (s := S2x640x3840) off ![1, 64, 1280] inb).emb x) := by
  subst hoff hw
  have h1 : (x 1).val < 64 := (x 1).isLt
  have h2 : (x 2).val < 1280 := (x 2).isLt
  have h0 : (x 0).val = 0 := by have : (x 0).val < 1 := (x 0).isLt; omega
  have e1 : (((Rect.unit (s := S2x640x3840) ![s, 64 * n, 1280 * k] ![1, 64, 1280] inb).emb x) 1).val = 64 * n + (x 1).val := by
    show 64 * n + 1 * (x 1).val = _; omega
  have e2 : (((Rect.unit (s := S2x640x3840) ![s, 64 * n, 1280 * k] ![1, 64, 1280] inb).emb x) 2).val = 1280 * k + (x 2).val := by
    show 1280 * k + 1 * (x 2).val = _; omega
  refine (shapeCast_addUnit_apply ![64, 1280] (tapOf k (row n)) shapeCasts_S64x1280_S1x64x1280 x).trans ?_
  generalize (Rect.unit (s := S2x640x3840) ![s, 64 * n, 1280 * k] ![1, 64, 1280] inb).emb x = y at e1 e2
  unfold bufOf
  rw [show (y 2).val / 1280 = k by omega, show (y 1).val / 64 = n by omega]
  refine congrArg _ (funext fun a => ?_)
  match a with
  | ⟨0, _⟩ => exact Fin.ext (by show (x 1).val = (y 1).val % 64; omega)
  | ⟨1, _⟩ => exact Fin.ext (by show (x 2).val = (y 2).val % 1280; omega)

/-- The three stores of row `n` extend a filled list by that row. -/
theorem Filled.row {row : ℕ → FVec F S64x1280 .bf16} {s n : ℕ} {L : List (View.Piece (Elt F) S2x640x3840 .bf16)} (h : Filled row s n L)
    {offA offB offC : Fin 3 → ℕ} {inbA : ∀ a, offA a + (![1, 64, 1280] : Fin 3 → ℕ) a ≤ S2x640x3840.size a}
    {inbB : ∀ a, offB a + (![1, 64, 1280] : Fin 3 → ℕ) a ≤ S2x640x3840.size a}
    {inbC : ∀ a, offC a + (![1, 64, 1280] : Fin 3 → ℕ) a ≤ S2x640x3840.size a}
    {wA wB wC : Vec F S1x64x1280 .bf16}
    {X : FVec F S64x1280 .bf16} (hX : X = row n)
    (hA : offA = ![s, 64 * n, 1280 * 0]) (hB : offB = ![s, 64 * n, 1280 * 1]) (hC : offC = ![s, 64 * n, 1280 * 2])
    (pA : wA = shapeCast S1x64x1280 (upOf X) shapeCasts_S64x1280_S1x64x1280)
    (pB : wB = shapeCast S1x64x1280 X shapeCasts_S64x1280_S1x64x1280)
    (pC : wC = shapeCast S1x64x1280 (downOf X) shapeCasts_S64x1280_S1x64x1280) :
    Filled row s (n + 1) ((⟨Rect.unit offC ![1, 64, 1280] inbC, wC⟩ : View.Piece (Elt F) S2x640x3840 .bf16)
      :: ⟨Rect.unit offB ![1, 64, 1280] inbB, wB⟩ :: ⟨Rect.unit offA ![1, 64, 1280] inbA, wA⟩ :: L) where
  pay p hp := by
    rcases List.mem_cons.1 hp with rfl | hp
    · exact pay_of_tap row s n 2 offC hC inbC wC (by rw [pC, hX]; rfl)
    rcases List.mem_cons.1 hp with rfl | hp
    · exact pay_of_tap row s n 1 offB hB inbB wB (by rw [pB, hX]; rfl)
    rcases List.mem_cons.1 hp with rfl | hp
    · exact pay_of_tap row s n 0 offA hA inbA wA (by rw [pA, hX]; rfl)
    exact h.pay p hp
  cover y h0 h1 := by
    by_cases hlt : (y 1).val < 64 * n
    · obtain ⟨p, hp, hy⟩ := h.cover y h0 hlt
      exact ⟨p, List.mem_cons_of_mem _ (List.mem_cons_of_mem _ (List.mem_cons_of_mem _ hp)), hy⟩
    have h2 : (y 2).val < 3840 := (y 2).isLt
    have hm : ∀ (off : Fin 3 → ℕ) (inb : ∀ a, off a + (![1, 64, 1280] : Fin 3 → ℕ) a ≤ S2x640x3840.size a) (k : ℕ),
        off = ![s, 64 * n, 1280 * k] → 1280 * k ≤ (y 2).val → (y 2).val < 1280 * k + 1280 →
        y ∈ (Rect.unit (s := S2x640x3840) off ![1, 64, 1280] inb).set := by
      intro off inb k he l u
      subst he
      rw [Rect.mem_set_unit]
      intro a
      match a with
      | ⟨0, _⟩ => exact ⟨le_of_eq h0.symm, by show (y 0).val < s + 1; omega⟩
      | ⟨1, _⟩ => exact ⟨by show 64 * n ≤ (y 1).val; omega, by show (y 1).val < 64 * n + 64; omega⟩
      | ⟨2, _⟩ => exact ⟨l, u⟩
    by_cases c0 : (y 2).val < 1280
    · exact ⟨_, List.mem_cons_of_mem _ (List.mem_cons_of_mem _ List.mem_cons_self), hm offA inbA 0 hA (by omega) (by omega)⟩
    by_cases c1 : (y 2).val < 2560
    · exact ⟨_, List.mem_cons_of_mem _ List.mem_cons_self, hm offB inbB 1 hB (by omega) (by omega)⟩
    exact ⟨_, List.mem_cons_self, hm offC inbC 2 hC (by omega) (by omega)⟩

/-- Ten filled rows fill the slot. -/
theorem Filled.read {κ : Kind} {sp : Space} (v : View sig κ sp S2x640x3840 .bf16) (f : v.ty.Contents (Elt F)) {row : ℕ → FVec F S64x1280 .bf16}
    {s : ℕ} {L : List (View.Piece (Elt F) S2x640x3840 .bf16)} (h : Filled row s 10 L) (y : S2x640x3840.Idx) (hy : (y 0).val = s) :
    v.read (Elt F) (v.writes (Elt F) f L) y = bufOf row y :=
  View.read_writes_apply_of_pieces v f (bufOf row) L h.pay y (h.cover y hy (by have : (y 1).val < 640 := (y 1).isLt; omega))

end Cert.KernelIdeal.Hand
-- ==== Proof.KernelIdeal.Strip.lean ====
module

public import proofs.«01_k».proof.Proof.KernelIdeal.Row

/-! The ten rows of a strip as values of the blocks the body reads, the product of a prepared strip with the unpacked weights,
and the loads of the body read as those values. -/

@[expose] public section

set_option maxRecDepth 16384

noncomputable section

namespace Cert.KernelIdeal.Hand

open Cert.KernelIdeal.Gen
open Idealize.ShloMosaic Idealize.ShloMosaic.TcCoe Idealize.ShloMosaic.Tactic
open Idealize.ShloMosaic.ValueIdx (ix2 ix3)

variable {F : FTy → Type} [FloatOps F]

/-! ## The rows of a strip -/

/-- The image line of row `r` of strip `t`, counted over both images and kept inside them. -/
def lineNo (t r : ℕ) : ℕ := min (8 * t + r - 1) 95

theorem lineNo_lt (t r : ℕ) : lineNo t r < 96 := by unfold lineNo; omega

/-- Line `l` of the scales. -/
def lineAt (x3 : Vec F S96x64 .f32) (l : ℕ) : Vec F S1x64 .f32 := fun j =>
  x3 (ix2 (n0 := 96) (n1 := 64) ⟨l % 96, Nat.mod_lt _ (by decide)⟩ (j 1))

/-- Row `r` of a block of eight rows of codes. -/
def codeAt (x0 : Vec F S512x1280 .fp8e5m2) (r : ℕ) : Vec F S64x1280 .fp8e5m2 := fun j =>
  x0 (ix2 (n0 := 512) (n1 := 1280) ⟨(64 * r + (j 0).val) % 512, Nat.mod_lt _ (by decide)⟩ (j 1))

/-- Strip `n` (a word) does not start an image, -/
def okFirst (n : BitVec 32) : BitVec 1 := Scalar.cmpi .ne (Scalar.remsi n 6#32) 0#32
/-- and does not end one. -/
def okLast (n : BitVec 32) : BitVec 1 := Scalar.cmpi .ne (Scalar.remsi n 6#32) 5#32

/-- Row `r` of a strip, from its rows of codes `cd`, the rows `c0` before and `c9` after it, and its lines of scales; `n` is the
number of the strip as a word. -/
def rowsOf (n : BitVec 32) (cd : ℕ → Vec F S64x1280 .fp8e5m2) (c0 c9 : Vec F S64x1280 .fp8e5m2) (ln : ℕ → Vec F S1x64 .f32) (r : ℕ) :
    FVec F S64x1280 .bf16 :=
  if r = 0 then rowEdge (okFirst n) c0 (ln 0) else if r = 9 then rowEdge (okLast n) c9 (ln 9) else rowMid (cd (r - 1)) (ln r)

theorem rowsOf_congr {n : BitVec 32} {cd cd' : ℕ → Vec F S64x1280 .fp8e5m2} {c0 c0' c9 c9' : Vec F S64x1280 .fp8e5m2}
    {ln ln' : ℕ → Vec F S1x64 .f32} (hcd : ∀ r < 8, cd r = cd' r) (h0 : c0 = c0') (h9 : c9 = c9') (hln : ∀ r < 10, ln r = ln' r)
    (r : ℕ) (hr : r < 10) : rowsOf n cd c0 c9 ln r = rowsOf n cd' c0' c9' ln' r := by
  unfold rowsOf
  by_cases h : r = 0
  · rw [if_pos h, if_pos h, h0, hln 0 (by omega)]
  by_cases h' : r = 9
  · rw [if_neg h, if_neg h, if_pos h', if_pos h', h9, hln 9 (by omega)]
  rw [if_neg h, if_neg h, if_neg h', if_neg h', hcd (r - 1) (by omega), hln r hr]

/-- Row `r` of strip `t` (`n` the same number as a word), from the strip's block of codes `x0`, the rows of codes before
and after it, `x1` and `x2`, and the scales `x3`. -/
def stripRow (t : ℕ) (n : BitVec 32) (x0 : Vec F S512x1280 .fp8e5m2) (x1 x2 : Vec F S64x1280 .fp8e5m2) (x3 : Vec F S96x64 .f32) :
    ℕ → FVec F S64x1280 .bf16 :=
  rowsOf n (codeAt x0) x1 x2 fun r => lineAt x3 (lineNo t r)

/-! ## The product -/

/-- Rows `o` to `o + 512` of slot `s` of the strip buffer. -/
def bufRows (x8 : Vec F S2x640x3840 .bf16) (s o : ℕ) : Vec F S1x512x3840 .bf16 := fun j =>
  x8 (ix3 (n0 := 2) (n1 := 640) (n2 := 3840) ⟨s % 2, Nat.mod_lt _ (by decide)⟩ ⟨(o + (j 1).val) % 640, Nat.mod_lt _ (by decide)⟩ (j 2))

/-- The left operand: three windows of 512 rows of the strip buffer, side by side. -/
def lhsOf (a b c : Vec F S1x512x3840 .bf16) : FVec F S512x11520 .bf16 :=
  concatenate S512x11520 1 [⟨S512x3840, shapeCast S512x3840 a shapeCasts_S1x512x3840_S512x3840⟩,
    ⟨S512x3840, shapeCast S512x3840 b shapeCasts_S1x512x3840_S512x3840⟩, ⟨S512x3840, shapeCast S512x3840 c shapeCasts_S1x512x3840_S512x3840⟩]
    concatenates_S512x3840_S512x3840_S512x3840_S512x11520_d1

/-- 512 rows of the unpacked weights from row `o`, -/
def wRows512 (x7 : Vec F S1280x11520 .bf16) (o : ℕ) : Vec F S512x11520 .bf16 := fun j =>
  x7 (ix2 (n0 := 1280) (n1 := 11520) ⟨(o + (j 0).val) % 1280, Nat.mod_lt _ (by decide)⟩ (j 1))
/-- and 256 rows. -/
def wRows256 (x7 : Vec F S1280x11520 .bf16) (o : ℕ) : Vec F S256x11520 .bf16 := fun j =>
  x7 (ix2 (n0 := 1280) (n1 := 11520) ⟨(o + (j 0).val) % 1280, Nat.mod_lt _ (by decide)⟩ (j 1))

/-- A tile of 512 output columns, -/
def tile512 (lhs : FVec F S512x11520 .bf16) (w : Vec F S512x11520 .bf16) : FVec F S512x512 .bf16 :=
  truncf .bf16 (matmul dot_S512x11520_S512x11520_S512x512_1_1_0_0_n_n none lhs w (constant S512x512 .f32 0x00000000#32)) bitsLt_bf16_f32
/-- and one of 256. -/
def tile256 (lhs : FVec F S512x11520 .bf16) (w : Vec F S256x11520 .bf16) : FVec F S512x256 .bf16 :=
  truncf .bf16 (matmul dot_S512x11520_S256x11520_S512x256_1_1_0_0_n_n none lhs w (constant S512x256 .f32 0x00000000#32)) bitsLt_bf16_f32

/-- The block written for the strip in slot `s` of the buffer `x8`, with the unpacked weights `x7`. -/
def outOf (s : ℕ) (x7 : Vec F S1280x11520 .bf16) (x8 : Vec F S2x640x3840 .bf16) : Vec F S512x1280 .bf16 := fun y =>
  let lhs := lhsOf (bufRows x8 s 128) (bufRows x8 s 64) (bufRows x8 s 0)
  if h0 : (y 1).val < 512 then tile512 lhs (wRows512 x7 0) (ix2 (n0 := 512) (n1 := 512) (y 0) ⟨(y 1).val, h0⟩)
  else if h1 : (y 1).val < 1024 then tile512 lhs (wRows512 x7 512) (ix2 (n0 := 512) (n1 := 512) (y 0) ⟨(y 1).val - 512, by omega⟩)
  else tile256 lhs (wRows256 x7 1024) (ix2 (n0 := 512) (n1 := 256) (y 0)
    ⟨(y 1).val - 1024, by have : (y 1).val < 1280 := (y 1).isLt; omega⟩)

/-- The unpacked weights after slab `k` (codes `x4`, scales `x5`) is put over column block `k` of `x7`. -/
def slabPut (k : ℕ) (x4 : Vec F S1x1280x1280 .fp8e4m3) (x5 : Vec F S1x1280 .f32) (x7 : Vec F S1280x11520 .bf16) : Vec F S1280x11520 .bf16 :=
  fun y => if (y 1).val / 1280 = k then
    k0_pay1 x4 x5 (ix2 (n0 := 1280) (n1 := 1280) (y 0) ⟨(y 1).val % 1280, Nat.mod_lt _ (by decide)⟩) else x7 y

/-! ## The body's loads -/

/-- A load of a block of a buffer that holds `x`, told by the coordinates of the elements it reads. -/
theorem readAt_block {κ : Kind} {sp : Space} {s : Shape} {e : EltTy} {M : Memref sig κ sp s e} (h : M.IsWhole) (x : s.Idx → Elt F e)
    {off size : Fin s.rank → ℕ} (inb : ∀ a, off a + size a ≤ s.size a) {off' : Fin s.rank → ℕ} (heq : off = off')
    (g : (⟨s.rank, size⟩ : Shape).Idx → s.Idx) (hg : ∀ j a, (g j a).val = off' a + (j a).val) :
    View.readAt (Elt F) M.view (Rect.unit off size inb).toLoadRect (h.unread x) = fun j => x (g j) := by
  subst heq
  funext j
  rw [h.readAt_unread]
  refine congrArg x (funext fun a => Fin.ext ?_)
  rw [hg j a]
  show off a + 1 * (j a).val = _
  rw [Nat.one_mul]

/-- A row of the strip's codes in the buffer `M`. -/
def codeRead {M : Memref sig .tc .vmem S512x1280 .fp8e5m2} (h : M.IsWhole) (x0 : Vec F S512x1280 .fp8e5m2) (r : Fin 8) : Vec F S64x1280 .fp8e5m2 :=
  View.readAt (Elt F) M.view (Rect.unit (s := S512x1280) ![64 * r.val, 0] S64x1280.size
    (Fin.forall_fin_two.2 ⟨by show 64 * r.val + 64 ≤ 512; omega, by show 0 + 1280 ≤ 1280; omega⟩)).toLoadRect (h.unread x0)

theorem codeRead_eq {M : Memref sig .tc .vmem S512x1280 .fp8e5m2} (h : M.IsWhole) (x0 : Vec F S512x1280 .fp8e5m2) (r : Fin 8) :
    codeRead h x0 r = codeAt x0 r.val :=
  readAt_block h x0 _ rfl _ fun j => Fin.forall_fin_two.2 ⟨by
    have : (j 0).val < 64 := (j 0).isLt
    show (64 * r.val + (j 0).val) % 512 = 64 * r.val + (j 0).val; omega, by show (j 1).val = 0 + (j 1).val; omega⟩

/-- A line of the scales in the buffer `M`. -/
theorem lineRead_eq {M : Memref sig .tc .vmem S96x64 .f32} (h : M.IsWhole) (x3 : Vec F S96x64 .f32) {off : Fin 2 → ℕ} {l : ℕ}
    (inb : ∀ a, off a + S1x64.size a ≤ S96x64.size a) (heq : off = ![l, 0]) (hl : l < 96) :
    View.readAt (Elt F) M.view (Rect.unit (s := S96x64) off S1x64.size inb).toLoadRect (h.unread x3) = lineAt x3 l :=
  readAt_block h x3 _ heq _ fun j => Fin.forall_fin_two.2 ⟨by
    have : (j 0).val < 1 := (j 0).isLt
    show l % 96 = l + (j 0).val; omega, by show (j 1).val = 0 + (j 1).val; omega⟩

/-- Row `r` of a strip's codes as loaded, -/
def codesIn {M : Memref sig .tc .vmem S512x1280 .fp8e5m2} (h : M.IsWhole) (x0 : Vec F S512x1280 .fp8e5m2) (r : ℕ) : Vec F S64x1280 .fp8e5m2 :=
  codeRead h x0 ⟨r % 8, Nat.mod_lt _ (by decide)⟩

theorem codesIn_eq {M : Memref sig .tc .vmem S512x1280 .fp8e5m2} (h : M.IsWhole) (x0 : Vec F S512x1280 .fp8e5m2) (r : ℕ) (hr : r < 8) :
    codesIn h x0 r = codeAt x0 r := by
  unfold codesIn
  rw [codeRead_eq, show (⟨r % 8, Nat.mod_lt _ (by decide)⟩ : Fin 8).val = r from Nat.mod_eq_of_lt hr]

/-- a whole row of codes as loaded, -/
def edgeIn {M : Memref sig .tc .vmem S64x1280 .fp8e5m2} (h : M.IsWhole) (x1 : Vec F S64x1280 .fp8e5m2) : Vec F S64x1280 .fp8e5m2 :=
  View.readAt (Elt F) M.view (Rect.unit (s := S64x1280) ![0, 0] S64x1280.size
    (Fin.forall_fin_two.2 ⟨by show 0 + 64 ≤ 64; omega, by show 0 + 1280 ≤ 1280; omega⟩)).toLoadRect (h.unread x1)

/-- and a line of scales as loaded. -/
def lineIn {M : Memref sig .tc .vmem S96x64 .f32} (h : M.IsWhole) (x3 : Vec F S96x64 .f32) (off : Fin 10 → Fin 2 → ℕ)
    (inb : ∀ r a, off r a + S1x64.size a ≤ S96x64.size a) (r : ℕ) : Vec F S1x64 .f32 :=
  View.readAt (Elt F) M.view (Rect.unit (s := S96x64) (off ⟨r % 10, Nat.mod_lt _ (by decide)⟩) S1x64.size (inb _)).toLoadRect (h.unread x3)

/-- A load of a whole buffer of rank two. -/
theorem wholeRead_eq {a b : ℕ} {e : EltTy} {M : Memref sig .tc .vmem ⟨2, ![a, b]⟩ e} (h : M.IsWhole) (x : (⟨2, ![a, b]⟩ : Shape).Idx → Elt F e)
    (inb : ∀ i, (![0, 0] : Fin 2 → ℕ) i + (![a, b] : Fin 2 → ℕ) i ≤ (![a, b] : Fin 2 → ℕ) i) :
    View.readAt (Elt F) M.view (Rect.unit (s := ⟨2, ![a, b]⟩) ![0, 0] ![a, b] inb).toLoadRect (h.unread x) = x :=
  readAt_block h x _ rfl (fun j => j) fun j => Fin.forall_fin_two.2 ⟨(Nat.zero_add _).symm, (Nat.zero_add _).symm⟩

theorem edgeIn_eq {M : Memref sig .tc .vmem S64x1280 .fp8e5m2} (h : M.IsWhole) (x1 : Vec F S64x1280 .fp8e5m2) : edgeIn h x1 = x1 :=
  wholeRead_eq h x1 _

theorem lineIn_eq {M : Memref sig .tc .vmem S96x64 .f32} (h : M.IsWhole) (x3 : Vec F S96x64 .f32) (off : Fin 10 → Fin 2 → ℕ)
    (inb : ∀ r a, off r a + S1x64.size a ≤ S96x64.size a) (t : ℕ) (hoff : ∀ r : Fin 10, off r = ![lineNo t r.val, 0]) (r : ℕ) (hr : r < 10) :
    lineIn h x3 off inb r = lineAt x3 (lineNo t r) := by
  unfold lineIn
  rw [lineRead_eq h x3 _ (hoff _) (lineNo_lt _ _), show (⟨r % 10, Nat.mod_lt _ (by decide)⟩ : Fin 10).val = r from Nat.mod_eq_of_lt hr]

/-- The rows as loaded are the strip's rows. -/
theorem rowsIn_eq {M0 : Memref sig .tc .vmem S512x1280 .fp8e5m2} (g0 : M0.IsWhole) {M1 M2 : Memref sig .tc .vmem S64x1280 .fp8e5m2}
    (g1 : M1.IsWhole) (g2 : M2.IsWhole) {M3 : Memref sig .tc .vmem S96x64 .f32} (g3 : M3.IsWhole)
    (x0 : Vec F S512x1280 .fp8e5m2) (x1 x2 : Vec F S64x1280 .fp8e5m2) (x3 : Vec F S96x64 .f32) (off : Fin 10 → Fin 2 → ℕ)
    (inb : ∀ r a, off r a + S1x64.size a ≤ S96x64.size a) (t : ℕ) (n : BitVec 32) (hoff : ∀ r : Fin 10, off r = ![lineNo t r.val, 0])
    (r : ℕ) (hr : r < 10) :
    rowsOf n (codesIn g0 x0) (edgeIn g1 x1) (edgeIn g2 x2) (lineIn g3 x3 off inb) r = stripRow t n x0 x1 x2 x3 r :=
  rowsOf_congr (fun r hr => codesIn_eq g0 x0 r hr) (edgeIn_eq g1 x1) (edgeIn_eq g2 x2) (fun r hr => lineIn_eq g3 x3 off inb t hoff r hr) r hr

/-- A load of a whole buffer of rank three. -/
theorem wholeRead3_eq {a b c : ℕ} {e : EltTy} {M : Memref sig .tc .vmem ⟨3, ![a, b, c]⟩ e} (h : M.IsWhole) (x : (⟨3, ![a, b, c]⟩ : Shape).Idx → Elt F e)
    (inb : ∀ i, (![0, 0, 0] : Fin 3 → ℕ) i + (![a, b, c] : Fin 3 → ℕ) i ≤ (![a, b, c] : Fin 3 → ℕ) i) :
    View.readAt (Elt F) M.view (Rect.unit (s := ⟨3, ![a, b, c]⟩) ![0, 0, 0] ![a, b, c] inb).toLoadRect (h.unread x) = x :=
  readAt_block h x _ rfl (fun j => j) fun j i => by
    match i with
    | ⟨0, _⟩ => exact (Nat.zero_add _).symm
    | ⟨1, _⟩ => exact (Nat.zero_add _).symm
    | ⟨2, _⟩ => exact (Nat.zero_add _).symm

/-- A load of 512 rows of a slot of the strip buffer. -/
theorem bufRead_eq {M : Memref sig .tc .vmem S2x640x3840 .bf16} (h : M.IsWhole) (x8 : Vec F S2x640x3840 .bf16) {off : Fin 3 → ℕ} {s o : ℕ}
    (inb : ∀ a, off a + S1x512x3840.size a ≤ S2x640x3840.size a) (heq : off = ![s, o, 0]) (hs : s < 2) (ho : o ≤ 128) :
    View.readAt (Elt F) M.view (Rect.unit (s := S2x640x3840) off S1x512x3840.size inb).toLoadRect (h.unread x8) = bufRows x8 s o :=
  readAt_block h x8 _ heq _ fun j i => by
    have h0 : (j 0).val < 1 := (j 0).isLt
    have h1 : (j 1).val < 512 := (j 1).isLt
    match i with
    | ⟨0, _⟩ => show s % 2 = s + (j 0).val; omega
    | ⟨1, _⟩ => show (o + (j 1).val) % 640 = o + (j 1).val; omega
    | ⟨2, _⟩ => show (j 2).val = 0 + (j 2).val; omega

/-- A load of 512 rows of the unpacked weights. -/
theorem wRead512_eq {M : Memref sig .tc .vmem S1280x11520 .bf16} (h : M.IsWhole) (x7 : Vec F S1280x11520 .bf16) (o : ℕ)
    (inb : ∀ a, (![o, 0] : Fin 2 → ℕ) a + S512x11520.size a ≤ S1280x11520.size a) :
    View.readAt (Elt F) M.view (Rect.unit (s := S1280x11520) ![o, 0] S512x11520.size inb).toLoadRect (h.unread x7) = wRows512 x7 o :=
  readAt_block h x7 _ rfl _ fun j => Fin.forall_fin_two.2 ⟨by
    have h0 : (j 0).val < 512 := (j 0).isLt
    have := inb 0
    have h2 : o + 512 ≤ 1280 := this
    show (o + (j 0).val) % 1280 = o + (j 0).val; omega, by show (j 1).val = 0 + (j 1).val; omega⟩

/-- A load of 256 rows of the unpacked weights. -/
theorem wRead256_eq {M : Memref sig .tc .vmem S1280x11520 .bf16} (h : M.IsWhole) (x7 : Vec F S1280x11520 .bf16) (o : ℕ)
    (inb : ∀ a, (![o, 0] : Fin 2 → ℕ) a + S256x11520.size a ≤ S1280x11520.size a) :
    View.readAt (Elt F) M.view (Rect.unit (s := S1280x11520) ![o, 0] S256x11520.size inb).toLoadRect (h.unread x7) = wRows256 x7 o :=
  readAt_block h x7 _ rfl _ fun j => Fin.forall_fin_two.2 ⟨by
    have h0 : (j 0).val < 256 := (j 0).isLt
    have := inb 0
    have h2 : o + 256 ≤ 1280 := this
    show (o + (j 0).val) % 1280 = o + (j 0).val; omega, by show (j 1).val = 0 + (j 1).val; omega⟩

/-- Three stores of a tile each leave the product. -/
theorem writes_out {κ : Kind} {sp : Space} (v : View sig κ sp S512x1280 .bf16) (f : v.ty.Contents (Elt F)) (s : ℕ)
    (x7 : Vec F S1280x11520 .bf16) (x8 : Vec F S2x640x3840 .bf16)
    (inb0 : ∀ a, (![0, 0] : Fin 2 → ℕ) a + S512x512.size a ≤ S512x1280.size a)
    (inb1 : ∀ a, (![0, 512] : Fin 2 → ℕ) a + S512x512.size a ≤ S512x1280.size a)
    (inb2 : ∀ a, (![0, 1024] : Fin 2 → ℕ) a + S512x256.size a ≤ S512x1280.size a)
    (w0 : Vec F S512x512 .bf16) (w1 : Vec F S512x512 .bf16) (w2 : Vec F S512x256 .bf16)
    (h0 : w0 = tile512 (lhsOf (bufRows x8 s 128) (bufRows x8 s 64) (bufRows x8 s 0)) (wRows512 x7 0))
    (h1 : w1 = tile512 (lhsOf (bufRows x8 s 128) (bufRows x8 s 64) (bufRows x8 s 0)) (wRows512 x7 512))
    (h2 : w2 = tile256 (lhsOf (bufRows x8 s 128) (bufRows x8 s 64) (bufRows x8 s 0)) (wRows256 x7 1024)) :
    v.read (Elt F) (v.writes (Elt F) f
      [⟨Rect.unit (s := S512x1280) ![0, 1024] S512x256.size inb2, w2⟩, ⟨Rect.unit (s := S512x1280) ![0, 512] S512x512.size inb1, w1⟩,
        ⟨Rect.unit (s := S512x1280) ![0, 0] S512x512.size inb0, w0⟩]) = outOf s x7 x8 := by
  subst h0 h1 h2
  funext y
  have hy : (y 1).val < 1280 := (y 1).isLt
  unfold outOf
  dsimp only
  by_cases c1 : (y 1).val < 1024
  · rw [View.read_writes_cons_unit_of_not_mem v f inb2 _ _ y rfl 1 (Or.inl c1)]
    by_cases c0 : (y 1).val < 512
    · rw [View.read_writes_cons_unit_of_not_mem v f inb1 _ _ y rfl 1 (Or.inl c0), dif_pos c0]
      exact View.read_writes_cons_unit_of_mem v f inb0 _ _ y (ix2 (n0 := 512) (n1 := 512) (y 0) ⟨(y 1).val, c0⟩) rfl
        (Fin.forall_fin_two.2 ⟨(Nat.zero_add _).symm, (Nat.zero_add _).symm⟩)
    · rw [dif_neg c0, dif_pos c1]
      exact View.read_writes_cons_unit_of_mem v f inb1 _ _ y (ix2 (n0 := 512) (n1 := 512) (y 0) ⟨(y 1).val - 512, by omega⟩) rfl
        (Fin.forall_fin_two.2 ⟨(Nat.zero_add _).symm, by show (y 1).val = 512 + ((y 1).val - 512); omega⟩)
  · rw [dif_neg (by omega), dif_neg c1]
    exact View.read_writes_cons_unit_of_mem v f inb2 _ _ y (ix2 (n0 := 512) (n1 := 256) (y 0) ⟨(y 1).val - 1024, by omega⟩) rfl
      (Fin.forall_fin_two.2 ⟨(Nat.zero_add _).symm, by show (y 1).val = 1024 + ((y 1).val - 1024); omega⟩)

end Cert.KernelIdeal.Hand
-- ==== Proof.KernelIdeal.RowIdeal.lean ====
module

public import proofs.«01_k».proof.Proof.KernelIdeal.Strip
public import Idealize.ShloMosaic.PureOps.Ideal.Laws
public import Idealize.ShloMosaic.Lib.KernelVsHost
public import Idealize.ShloMosaic.Lib.IdealHost

/-! One image row of a strip over the extended reals, element by element: the dequantised row, and the row moved by one pixel. -/

@[expose] public section

set_option maxRecDepth 16384

noncomputable section

namespace Cert.KernelIdeal.Hand

open Cert.KernelIdeal.Gen
open Idealize.ShloMosaic Idealize.ShloMosaic.TcCoe Idealize.ShloMosaic.Ideal
open Idealize.ShloMosaic.ValueIdx (ix2 ix3)

theorem scaleCol_apply (sc : Vec Ideal S1x64 .f32) (j : S64x128.Idx) : scaleCol sc j = sc (ix2 (n0 := 1) (n1 := 64) 0 (j 0)) := by
  unfold scaleCol
  rw [shapeCast_self]
  refine (transpose_apply _ _ _ j (ix2 (n0 := 128) (n1 := 64) (j 1) (j 0)) (fun b => ?_)).trans ?_
  · match b with
    | ⟨0, _⟩ => rfl
    | ⟨1, _⟩ => rfl
  · refine broadcastTo_apply sc broadcasts_S1x64_S128x64 _ (ix2 (n0 := 1) (n1 := 64) 0 (j 0)) fun a => ?_
    match a with
    | ⟨0, _⟩ => rfl
    | ⟨1, _⟩ => rfl

/-- A row of codes times a column of scales. -/
theorem rowOfCol_apply (cd : Vec Ideal S64x1280 .fp8e5m2) (col : FVec Ideal S64x128 .f32) (p c : ℕ) (hp : p < 64) (hc : c < 1280) :
    rowOfCol cd col (rowIx p c hp hc)
      = (cd (rowIx p c hp hc) : EReal) * col (ix2 (n0 := 64) (n1 := 128) ⟨p, hp⟩ ⟨c % 128, Nat.mod_lt _ (by decide)⟩) := by
  unfold rowOfCol
  refine congrArg ((cd (rowIx p c hp hc) : EReal) * ·) ?_
  exact concatenate_replicate_apply (t := S64x1280) (s₁ := S64x128) 1 10 (truncf .bf16 col bitsLt_bf16_f32)
    concatenates_S64x128_S64x128_S64x128_S64x128_S64x128_S64x128_S64x128_S64x128_S64x128_S64x128_S64x1280_d1 rfl (rowIx p c hp hc)
    (ix2 (n0 := 64) (n1 := 128) ⟨p, hp⟩ ⟨c % 128, Nat.mod_lt _ (by decide)⟩) rfl fun b hb => by
      match b with
      | ⟨0, _⟩ => rfl
      | ⟨1, _⟩ => exact absurd rfl hb

theorem rowMid_apply (cd : Vec Ideal S64x1280 .fp8e5m2) (sc : Vec Ideal S1x64 .f32) (p c : ℕ) (hp : p < 64) (hc : c < 1280) :
    rowMid cd sc (rowIx p c hp hc) = (cd (rowIx p c hp hc) : EReal) * sc (ix2 (n0 := 1) (n1 := 64) 0 ⟨p, hp⟩) := by
  unfold rowMid
  rw [rowOfCol_apply, scaleCol_apply]

theorem rowEdge_one (cd : Vec Ideal S64x1280 .fp8e5m2) (sc : Vec Ideal S1x64 .f32) : rowEdge 1#1 cd sc = rowMid cd sc := rfl

theorem rowEdge_zero (cd : Vec Ideal S64x1280 .fp8e5m2) (sc : Vec Ideal S1x64 .f32) (p c : ℕ) (hp : p < 64) (hc : c < 1280) :
    rowEdge 0#1 cd sc (rowIx p c hp hc) = (0 : EReal) := by
  unfold rowEdge
  rw [rowOfCol_apply]
  show _ * Ideal.ofBits .f32 0x00000000#32 = _
  rw [ofBits_zero_f32]
  exact mul_zero (M₀ := EReal) _

/-- Two rows of words read at a pixel: the even pixels from the first, the odd ones from the second. -/
theorem interleave_at (lo hi : FVec Ideal S32x1280 .bf16) (p c : ℕ) (hp : p < 64) (hc : c < 1280) :
    interleaveRows S64x1280 lo hi bitcasts_S64x1280_w16_S32x1280_w32 (rowIx p c hp hc)
      = if p % 2 = 0 then lo (ix2 (n0 := 32) (n1 := 1280) ⟨p / 2, by omega⟩ ⟨c, hc⟩) else hi (ix2 (n0 := 32) (n1 := 1280) ⟨p / 2, by omega⟩ ⟨c, hc⟩) := by
  have e : ∀ x : FVec Ideal S32x1280 .bf16, ∀ j : S32x1280.Idx, (j 0).val = p / 2 → (j 1).val = c →
      x j = x (ix2 (n0 := 32) (n1 := 1280) ⟨p / 2, by omega⟩ ⟨c, hc⟩) := fun x j h0 h1 => congrArg x (funext fun b => Fin.ext (by
    match b with
    | ⟨0, _⟩ => exact h0
    | ⟨1, _⟩ => exact h1))
  unfold interleaveRows
  show (if p % 2 = 0 then _ else _) = _
  by_cases he : p % 2 = 0
  · rw [if_pos he, if_pos he]
    exact e lo _ rfl rfl
  · rw [if_neg he, if_neg he]
    exact e hi _ rfl rfl

/-- The pixels of one parity. -/
theorem parity_at (q : Fin 2) (a : FVec Ideal S64x1280 .bf16) (j : S32x1280.Idx) (p c : ℕ) (hp : p < 64) (hc : c < 1280)
    (h0 : 2 * (j 0).val + q.val = p) (h1 : (j 1).val = c) :
    rowsOfParity q S32x1280 a bitcasts_S64x1280_w16_S32x1280_w32 j = a (rowIx p c hp hc) := by
  refine congrArg a (funext fun b => Fin.ext ?_)
  match b with
  | ⟨0, _⟩ => exact h0
  | ⟨1, _⟩ => exact h1

/-- Zero in word row `k`, and the rotated rows elsewhere. -/
theorem rotated_at (k n : BitVec 32) (b : FVec Ideal S32x1280 .bf16) (r c : ℕ) (hr : r < 32) (hc : c < 1280) (r' : ℕ) (hr' : r' < 32)
    (hk : (r + 32 - n.toNat % 32) % 32 = r') :
    select (cmpi .eq (iota .tc S32x1280 32 [0] iota_S32x1280_d0_w32) (broadcast S32x1280 k)) (constant S32x1280 .bf16 0x0000#16)
      (dynamicRotate 0 n none b rotates_S32x1280_d0) (ix2 (n0 := 32) (n1 := 1280) ⟨r, hr⟩ ⟨c, hc⟩)
      = if BitVec.ofNat 32 r = k then (0 : EReal) else b (ix2 (n0 := 32) (n1 := 1280) ⟨r', hr'⟩ ⟨c, hc⟩) := by
  rw [ValueIdx.select_apply]
  rw [dynamicRotate_apply 0 n b rotates_S32x1280_d0 _ (ix2 (n0 := 32) (n1 := 1280) ⟨r', hr'⟩ ⟨c, hc⟩) fun x => by
    match x with
    | ⟨0, _⟩ => exact hk.symm
    | ⟨1, _⟩ => rfl]
  have hc' : cmpi .eq (iota .tc S32x1280 32 [0] iota_S32x1280_d0_w32) (broadcast S32x1280 k) (ix2 (n0 := 32) (n1 := 1280) ⟨r, hr⟩ ⟨c, hc⟩)
      = BitVec.ofBool (BitVec.ofNat 32 r == k) := by
    show BitVec.ofBool (iota .tc S32x1280 32 [0] iota_S32x1280_d0_w32 _ == k) = _
    rw [iota_single_apply]
  rw [hc']
  by_cases he : BitVec.ofNat 32 r = k
  · rw [if_pos he, beq_iff_eq.2 he]
    exact ofBits_zero_bf16
  · rw [if_neg he, beq_eq_false_iff_ne.2 he]
    rfl

/-- The row moved up reads the next pixel. -/
theorem upOf_apply (a : FVec Ideal S64x1280 .bf16) (p c : ℕ) (hp : p < 64) (hc : c < 1280) :
    upOf a (rowIx p c hp hc) = if h : p + 1 < 64 then a (rowIx (p + 1) c h hc) else (0 : EReal) := by
  unfold upOf
  rw [interleave_at]
  by_cases he : p % 2 = 0
  · rw [if_pos he, dif_pos (by omega)]
    exact parity_at 1 a _ _ _ _ _ (by show 2 * (p / 2) + 1 = p + 1; omega) rfl
  · rw [if_neg he, rotated_at 31#32 31#32 _ _ _ _ _ ((p / 2 + 1) % 32) (Nat.mod_lt _ (by decide)) (by show (p / 2 + 32 - 31) % 32 = _; omega)]
    by_cases hl : p + 1 < 64
    · rw [dif_pos hl, if_neg fun h => ?_]
      · exact parity_at 0 a _ _ _ _ _ (by show 2 * ((p / 2 + 1) % 32) + 0 = p + 1; omega) rfl
      · have := congrArg BitVec.toNat h
        rw [BitVec.toNat_ofNat] at this
        have h31 : (31#32).toNat = 31 := rfl
        omega
    · rw [dif_neg hl, if_pos (by rw [show p / 2 = 31 by omega])]

/-- The row moved down reads the pixel before. -/
theorem downOf_apply (a : FVec Ideal S64x1280 .bf16) (p c : ℕ) (hp : p < 64) (hc : c < 1280) :
    downOf a (rowIx p c hp hc) = if h : 1 ≤ p then a (rowIx (p - 1) c (by omega) hc) else (0 : EReal) := by
  unfold downOf
  rw [interleave_at]
  by_cases he : p % 2 = 0
  · rw [if_pos he, rotated_at 0#32 1#32 _ _ _ _ _ ((p / 2 + 31) % 32) (Nat.mod_lt _ (by decide)) (by show (p / 2 + 32 - 1) % 32 = _; omega)]
    by_cases hl : 1 ≤ p
    · rw [dif_pos hl, if_neg fun h => ?_]
      · exact parity_at 1 a _ _ _ _ _ (by show 2 * ((p / 2 + 31) % 32) + 1 = p - 1; omega) rfl
      · have := congrArg BitVec.toNat h
        rw [BitVec.toNat_ofNat] at this
        have h31 : (0#32).toNat = 0 := rfl
        omega
    · rw [dif_neg hl, if_pos (by rw [show p / 2 = 0 by omega])]
  · rw [if_neg he, dif_pos (by omega)]
    exact parity_at 0 a _ _ _ _ _ (by show 2 * (p / 2) + 0 = p - 1; omega) rfl

end Cert.KernelIdeal.Hand
-- ==== Proof.KernelIdeal.ValA.lean ====
module

public import Idealize.ShloMosaic.Lib.Tactic.Stretches
public import proofs.«01_k».proof.Proof.KernelIdeal.Strip

/-! The body of the input-gradient kernel at points 0 to 7, with what it computes: weight slab `i`, unpacked, is put over column block
`i` of the unpacked weights. -/

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Idealize.ShloMosaic.Pipeline (Dat Cfg Window BodyObligation cellOf)

variable {F : FTy → Type} [FloatOps F]

local notation "𝕄" => MT nD τ sig Unit (Elt F) ℕ (UR sig nD τ) ℕ

theorem off1_eq : ∀ i : grid0.Coords, (i 0).val < 9 → k0_off1 i = ![0, 1280 * (i 0).val] := by
  decide +kernel

/-- One store of an unpacked slab over column block `k` of the unpacked weights. -/
theorem slab_writes {κ : Kind} {sp : Space} (v : View sig κ sp S1280x11520 .bf16) (x4 : Vec F S1x1280x1280 .fp8e4m3) (x5 : Vec F S1x1280 .f32)
    (x7 : Vec F S1280x11520 .bf16) (f : v.ty.Contents (Elt F)) (hf : v.read (Elt F) f = x7) {k : ℕ} {off : Fin 2 → ℕ} (hoff : off = ![0, 1280 * k])
    (inb : ∀ a, off a + S1280x1280.size a ≤ S1280x11520.size a) {w : Vec F S1280x1280 .bf16} (hw : w = k0_pay1 x4 x5) :
    v.read (Elt F) (v.writes (Elt F) f [⟨Rect.unit (s := S1280x11520) off S1280x1280.size inb, w⟩]) = slabPut k x4 x5 x7 := by
  subst hoff hw hf
  funext y
  unfold slabPut
  have hy : (y 1).val < 11520 := (y 1).isLt
  by_cases hk : (y 1).val / 1280 = k
  · rw [if_pos hk]
    exact View.read_writes_cons_unit_of_mem v f inb _ _ y (ix2 (n0 := 1280) (n1 := 1280) (y 0) ⟨(y 1).val % 1280, Nat.mod_lt _ (by decide)⟩) rfl
      (Fin.forall_fin_two.2 ⟨(Nat.zero_add _).symm, by show (y 1).val = 1280 * k + (y 1).val % 1280; omega⟩)
  · rw [if_neg hk, View.read_writes_cons_unit_of_not_mem v f inb _ _ y rfl 1
      (by show (y 1).val < 1280 * k ∨ 1280 * k + 1280 ≤ (y 1).val; omega)]
    rfl

set_option maxHeartbeats 3996000 in
/-- The body at points 0 to 7: weight slab `i` is put over column block `i` of the unpacked weights. -/
theorem valueRun_A (c : Dev nD) (i : grid0.Coords) (arg1 : Memref sig .tc .vmem S512x1280 .fp8e5m2) (harg1 : arg1.IsWhole) (arg2 : Memref sig .tc .vmem S64x1280 .fp8e5m2) (harg2 : arg2.IsWhole) (arg3 : Memref sig .tc .vmem S64x1280 .fp8e5m2) (harg3 : arg3.IsWhole) (arg4 : Memref sig .tc .vmem S96x64 .f32) (harg4 : arg4.IsWhole) (arg5 : Memref sig .tc .vmem S1x1280x1280 .fp8e4m3) (harg5 : arg5.IsWhole) (arg6 : Memref sig .tc .vmem S1x1280 .f32) (harg6 : arg6.IsWhole) (arg7 : Memref sig .tc .vmem S512x1280 .bf16) (harg7 : arg7.IsWhole) (arg8 : Memref sig .tc .vmem S1280x11520 .bf16) (harg8 : arg8.IsWhole) (arg9 : Memref sig .tc .vmem S2x640x3840 .bf16) (harg9 : arg9.IsWhole)
    (hc1 : k0_cond1 i = 1#1) (hc2 : ¬ k0_cond2 i = 1#1) (hc3 : ¬ k0_cond3 i = 1#1) (h9 : (i 0).val < 9)
    (x0 : Vec F S512x1280 .fp8e5m2) (x1 : Vec F S64x1280 .fp8e5m2) (x2 : Vec F S64x1280 .fp8e5m2) (x3 : Vec F S96x64 .f32) (x4 : Vec F S1x1280x1280 .fp8e4m3) (x5 : Vec F S1x1280 .f32) (x7 : Vec F S1280x11520 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare x7 ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare (slabPut (i 0).val x4 x5 x7) ∗ (∃ d, owns (c : Thread nD τ) arg9 fullShare d)) -∗ K ⟨⟩))
          ⊢ wp frame (wpE (defs₀ (F := F)) Variants.none c none) E (cc0_grad_input i arg1 harg1 arg2 harg2 arg3 harg3 arg4 harg4 arg5 harg5 arg6 harg6 arg7 harg7 arg8 harg8 arg9 harg9) K := by
    intro E K
    simp only [cc0_grad_input_eq_skeleton]; unfold cc0_grad_input_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%d8, %f8, -, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7
    sl_exec (disch := first | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _, _; isplitr; swap; · iexact H6
      ipureintro; rfl
    isplitl [H7]
    · iexists _; isplitr; swap; · iexact H7
      ipureintro
      refine slab_writes arg8.view x4 x5 x7 (harg8.unread x7) (harg8.read_unread x7) (off1_eq i h9) _ ?_
      rw [wholeRead3_eq harg5 x4, wholeRead_eq harg6 x5]
    iexists _, _; isplitr; swap; · iexact H8
    ipureintro; rfl

end Cert.KernelIdeal.Hand
-- ==== Proof.KernelIdeal.ValB.lean ====
module

public import Idealize.ShloMosaic.Lib.Tactic.Stretches
public import proofs.«01_k».proof.Proof.KernelIdeal.Strip
public import proofs.«01_k».proof.Proof.KernelIdeal.ValA

/-! The body of the input-gradient kernel at point 8, with what it computes: the last weight slab, unpacked, is put over the last column
block of the unpacked weights, and the first strip's rows are put in slot 0. -/

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Idealize.ShloMosaic.Pipeline (Dat Cfg Window BodyObligation cellOf)

variable {F : FTy → Type} [FloatOps F]

local notation "𝕄" => MT nD τ sig Unit (Elt F) ℕ (UR sig nD τ) ℕ

/-- The rows of the scales that point 8 loads. -/
def off2 (r : Fin 10) : Fin 2 → ℕ := ![lineNo 0 r.val, 0]

theorem off2_inb (r : Fin 10) : ∀ a, off2 r a + S1x64.size a ≤ S96x64.size a :=
  Fin.forall_fin_two.2 ⟨by show lineNo 0 r.val + 1 ≤ 96; exact lineNo_lt _ _, by show 0 + 64 ≤ 64; omega⟩

set_option maxHeartbeats 3996000 in
/-- The body at point 8: the last weight slab is unpacked and slot 0 holds the first strip. -/
theorem valueRun_B (c : Dev nD) (i : grid0.Coords) (arg1 : Memref sig .tc .vmem S512x1280 .fp8e5m2) (harg1 : arg1.IsWhole) (arg2 : Memref sig .tc .vmem S64x1280 .fp8e5m2) (harg2 : arg2.IsWhole) (arg3 : Memref sig .tc .vmem S64x1280 .fp8e5m2) (harg3 : arg3.IsWhole) (arg4 : Memref sig .tc .vmem S96x64 .f32) (harg4 : arg4.IsWhole) (arg5 : Memref sig .tc .vmem S1x1280x1280 .fp8e4m3) (harg5 : arg5.IsWhole) (arg6 : Memref sig .tc .vmem S1x1280 .f32) (harg6 : arg6.IsWhole) (arg7 : Memref sig .tc .vmem S512x1280 .bf16) (harg7 : arg7.IsWhole) (arg8 : Memref sig .tc .vmem S1280x11520 .bf16) (harg8 : arg8.IsWhole) (arg9 : Memref sig .tc .vmem S2x640x3840 .bf16) (harg9 : arg9.IsWhole)
    (hc1 : k0_cond1 i = 1#1) (hc2 : k0_cond2 i = 1#1) (hc3 : ¬ k0_cond3 i = 1#1) (h9 : (i 0).val < 9)
    (x0 : Vec F S512x1280 .fp8e5m2) (x1 : Vec F S64x1280 .fp8e5m2) (x2 : Vec F S64x1280 .fp8e5m2) (x3 : Vec F S96x64 .f32) (x4 : Vec F S1x1280x1280 .fp8e4m3) (x5 : Vec F S1x1280 .f32) (x7 : Vec F S1280x11520 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare x7 ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare (slabPut (i 0).val x4 x5 x7) ∗ (∃ d, ⌜∀ y, (y 0).val = 0 → d y = bufOf (stripRow 0 0#32 x0 x1 x2 x3) y⌝ ∗ owns (c : Thread nD τ) arg9 fullShare d)) -∗ K ⟨⟩))
          ⊢ wp frame (wpE (defs₀ (F := F)) Variants.none c none) E (cc0_grad_input i arg1 harg1 arg2 harg2 arg3 harg3 arg4 harg4 arg5 harg5 arg6 harg6 arg7 harg7 arg8 harg8 arg9 harg9) K := by
    intro E K
    simp only [cc0_grad_input_eq_skeleton]; unfold cc0_grad_input_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%d8, %f8, -, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7
    sl_exec (disch := first | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _, _; isplitr; swap; · iexact H6
      ipureintro; rfl
    isplitl [H7]
    · iexists _; isplitr; swap; · iexact H7
      ipureintro
      refine slab_writes arg8.view x4 x5 x7 (harg8.unread x7) (harg8.read_unread x7) (off1_eq i h9) _ ?_
      rw [wholeRead3_eq harg5 x4, wholeRead_eq harg6 x5]
    iexists _; isplitr; swap
    · iexists _; isplitr; swap; · iexact H8
      ipureintro; rfl
    ipureintro
    refine Filled.read arg9.view _ ?_
    have hX := rowsIn_eq harg1 harg2 harg3 harg4 x0 x1 x2 x3 off2 off2_inb 0 0#32 (fun r => rfl)
    refine Filled.row (n := 9) ?_ (hX 9 (by omega)) (by decide +kernel) (by decide +kernel) (by decide +kernel) (by sl_open_run; sl_open_pay; rfl) (by sl_open_run; sl_open_pay; rfl) (by sl_open_run; sl_open_pay; rfl)
    refine Filled.row (n := 8) ?_ (hX 8 (by omega)) (by decide +kernel) (by decide +kernel) (by decide +kernel) (by sl_open_run; sl_open_pay; rfl) (by sl_open_run; sl_open_pay; rfl) (by sl_open_run; sl_open_pay; rfl)
    refine Filled.row (n := 7) ?_ (hX 7 (by omega)) (by decide +kernel) (by decide +kernel) (by decide +kernel) (by sl_open_run; sl_open_pay; rfl) (by sl_open_run; sl_open_pay; rfl) (by sl_open_run; sl_open_pay; rfl)
    refine Filled.row (n := 6) ?_ (hX 6 (by omega)) (by decide +kernel) (by decide +kernel) (by decide +kernel) (by sl_open_run; sl_open_pay; rfl) (by sl_open_run; sl_open_pay; rfl) (by sl_open_run; sl_open_pay; rfl)
    refine Filled.row (n := 5) ?_ (hX 5 (by omega)) (by decide +kernel) (by decide +kernel) (by decide +kernel) (by sl_open_run; sl_open_pay; rfl) (by sl_open_run; sl_open_pay; rfl) (by sl_open_run; sl_open_pay; rfl)
    refine Filled.row (n := 4) ?_ (hX 4 (by omega)) (by decide +kernel) (by decide +kernel) (by decide +kernel) (by sl_open_run; sl_open_pay; rfl) (by sl_open_run; sl_open_pay; rfl) (by sl_open_run; sl_open_pay; rfl)
    refine Filled.row (n := 3) ?_ (hX 3 (by omega)) (by decide +kernel) (by decide +kernel) (by decide +kernel) (by sl_open_run; sl_open_pay; rfl) (by sl_open_run; sl_open_pay; rfl) (by sl_open_run; sl_open_pay; rfl)
    refine Filled.row (n := 2) ?_ (hX 2 (by omega)) (by decide +kernel) (by decide +kernel) (by decide +kernel) (by sl_open_run; sl_open_pay; rfl) (by sl_open_run; sl_open_pay; rfl) (by sl_open_run; sl_open_pay; rfl)
    refine Filled.row (n := 1) ?_ (hX 1 (by omega)) (by decide +kernel) (by decide +kernel) (by decide +kernel) (by sl_open_run; sl_open_pay; rfl) (by sl_open_run; sl_open_pay; rfl) (by sl_open_run; sl_open_pay; rfl)
    refine Filled.row (n := 0) ?_ (hX 0 (by omega)) (by decide +kernel) (by decide +kernel) (by decide +kernel) (by sl_open_run; sl_open_pay; rfl) (by sl_open_run; sl_open_pay; rfl) (by sl_open_run; sl_open_pay; rfl)
    exact Filled.nil _ _

end Cert.KernelIdeal.Hand
-- ==== Proof.KernelIdeal.ValC.lean ====
module

public import Idealize.ShloMosaic.Lib.Tactic.Stretches
public import proofs.«01_k».proof.Proof.KernelIdeal.Strip
public import proofs.«01_k».proof.Proof.KernelIdeal.RunC

/-! The body of the input-gradient kernel at points 9 to 20, with what it computes: the strip in the slot it reads is multiplied
by the unpacked weights, and the next strip's rows are put in the slot it writes. -/

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Idealize.ShloMosaic.Pipeline (Dat Cfg Window BodyObligation cellOf)

variable {F : FTy → Type} [FloatOps F]

local notation "𝕄" => MT nD τ sig Unit (Elt F) ℕ (UR sig nD τ) ℕ

/-- The number of the strip that step `i` prepares, -/
abbrev nextStrip (i : grid0.Coords) : ℕ := min ((i 0).val - 8) 11
/-- as the body computes it. -/
abbrev nextWord (i : grid0.Coords) : BitVec 32 := Scalar.minsi (Scalar.addi (Scalar.subi (BitVec.ofNat 32 (i 0).val) 9#32) 1#32) 11#32

theorem off36_eq : ∀ i : grid0.Coords, 9 ≤ (i 0).val → ∀ r : Fin 10, k0_off36 i (BitVec.ofNat 32 r.val) = ![lineNo (nextStrip i) r.val, 0] := by
  decide +kernel

theorem slotR_lt (i : grid0.Coords) : slotR i < 2 := Nat.mod_lt _ (by decide)

set_option maxHeartbeats 3996000 in
/-- The body at points 9 to 20: the output block is the product, and the slot it writes holds the next strip. -/
theorem valueRun_C (c : Dev nD) (i : grid0.Coords) (arg1 : Memref sig .tc .vmem S512x1280 .fp8e5m2) (harg1 : arg1.IsWhole) (arg2 : Memref sig .tc .vmem S64x1280 .fp8e5m2) (harg2 : arg2.IsWhole) (arg3 : Memref sig .tc .vmem S64x1280 .fp8e5m2) (harg3 : arg3.IsWhole) (arg4 : Memref sig .tc .vmem S96x64 .f32) (harg4 : arg4.IsWhole) (arg5 : Memref sig .tc .vmem S1x1280x1280 .fp8e4m3) (harg5 : arg5.IsWhole) (arg6 : Memref sig .tc .vmem S1x1280 .f32) (harg6 : arg6.IsWhole) (arg7 : Memref sig .tc .vmem S512x1280 .bf16) (harg7 : arg7.IsWhole) (arg8 : Memref sig .tc .vmem S1280x11520 .bf16) (harg8 : arg8.IsWhole) (arg9 : Memref sig .tc .vmem S2x640x3840 .bf16) (harg9 : arg9.IsWhole)
    (hc1 : ¬ k0_cond1 i = 1#1) (hc2 : ¬ k0_cond2 i = 1#1) (hc3 : k0_cond3 i = 1#1) (h9 : 9 ≤ (i 0).val)
    (x0 : Vec F S512x1280 .fp8e5m2) (x1 : Vec F S64x1280 .fp8e5m2) (x2 : Vec F S64x1280 .fp8e5m2) (x3 : Vec F S96x64 .f32) (x4 : Vec F S1x1280x1280 .fp8e4m3) (x5 : Vec F S1x1280 .f32) (x7 : Vec F S1280x11520 .bf16) (x8 : Vec F S2x640x3840 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare x7 ∗ owns (c : Thread nD τ) arg9 fullShare x8
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (outOf (slotR i) x7 x8) ∗ owns (c : Thread nD τ) arg8 fullShare x7 ∗ (∃ d, ⌜∀ y : S2x640x3840.Idx, (y 0).val = slotW i → d y = bufOf (stripRow (nextStrip i) (nextWord i) x0 x1 x2 x3) y⌝ ∗ owns (c : Thread nD τ) arg9 fullShare d)) -∗ K ⟨⟩))
          ⊢ wp frame (wpE (defs₀ (F := F)) Variants.none c none) E (cc0_grad_input i arg1 harg1 arg2 harg2 arg3 harg3 arg4 harg4 arg5 harg5 arg6 harg6 arg7 harg7 arg8 harg8 arg9 harg9) K := by
    intro E K
    haveI : Fact (9 ≤ (i 0).val) := ⟨h9⟩
    simp only [cc0_grad_input_eq_skeleton]; unfold cc0_grad_input_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8
    sl_exec (disch := first | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; swap; · iexact H6
      ipureintro
      refine writes_out arg7.view f6 (slotR i) x7 x8 _ _ _ _ _ _ ?_ ?_ ?_
      · sl_open_run; sl_open_pay
        rw [bufRead_eq harg9 x8 _ (ClosedOff.eq : k0_off33 i = _) (slotR_lt i) (by omega), bufRead_eq harg9 x8 _ (ClosedOff.eq : k0_off34 i = _) (slotR_lt i) (by omega),
          bufRead_eq harg9 x8 _ (ClosedOff.eq : k0_off35 i = _) (slotR_lt i) (by omega), wRead512_eq harg8 x7 0]; rfl
      · sl_open_run; sl_open_pay
        rw [bufRead_eq harg9 x8 _ (ClosedOff.eq : k0_off33 i = _) (slotR_lt i) (by omega), bufRead_eq harg9 x8 _ (ClosedOff.eq : k0_off34 i = _) (slotR_lt i) (by omega),
          bufRead_eq harg9 x8 _ (ClosedOff.eq : k0_off35 i = _) (slotR_lt i) (by omega), wRead512_eq harg8 x7 512]; rfl
      · sl_open_run; sl_open_pay
        rw [bufRead_eq harg9 x8 _ (ClosedOff.eq : k0_off33 i = _) (slotR_lt i) (by omega), bufRead_eq harg9 x8 _ (ClosedOff.eq : k0_off34 i = _) (slotR_lt i) (by omega),
          bufRead_eq harg9 x8 _ (ClosedOff.eq : k0_off35 i = _) (slotR_lt i) (by omega), wRead256_eq harg8 x7 1024]; rfl
    isplitl [H7]
    · iexists _; isplitr; · ipureintro; exact harg8.read_unread _
      iexact H7
    iexists _; isplitr; swap
    · iexists _; isplitr; swap; · iexact H8
      ipureintro; rfl
    ipureintro
    refine Filled.read arg9.view _ ?_
    have hX := rowsIn_eq harg1 harg2 harg3 harg4 x0 x1 x2 x3 (fun r => k0_off36 i (BitVec.ofNat 32 r.val)) (fun r => k0_off36_inb i hc3 r)
      (nextStrip i) (nextWord i) (off36_eq i h9)
    refine Filled.row (n := 9) ?_ (hX 9 (by omega)) ClosedOff.eq ClosedOff.eq ClosedOff.eq (by sl_open_run; sl_open_pay; rfl) (by sl_open_run; sl_open_pay; rfl) (by sl_open_run; sl_open_pay; rfl)
    refine Filled.row (n := 8) ?_ (hX 8 (by omega)) ClosedOff.eq ClosedOff.eq ClosedOff.eq (by sl_open_run; sl_open_pay; rfl) (by sl_open_run; sl_open_pay; rfl) (by sl_open_run; sl_open_pay; rfl)
    refine Filled.row (n := 7) ?_ (hX 7 (by omega)) ClosedOff.eq ClosedOff.eq ClosedOff.eq (by sl_open_run; sl_open_pay; rfl) (by sl_open_run; sl_open_pay; rfl) (by sl_open_run; sl_open_pay; rfl)
    refine Filled.row (n := 6) ?_ (hX 6 (by omega)) ClosedOff.eq ClosedOff.eq ClosedOff.eq (by sl_open_run; sl_open_pay; rfl) (by sl_open_run; sl_open_pay; rfl) (by sl_open_run; sl_open_pay; rfl)
    refine Filled.row (n := 5) ?_ (hX 5 (by omega)) ClosedOff.eq ClosedOff.eq ClosedOff.eq (by sl_open_run; sl_open_pay; rfl) (by sl_open_run; sl_open_pay; rfl) (by sl_open_run; sl_open_pay; rfl)
    refine Filled.row (n := 4) ?_ (hX 4 (by omega)) ClosedOff.eq ClosedOff.eq ClosedOff.eq (by sl_open_run; sl_open_pay; rfl) (by sl_open_run; sl_open_pay; rfl) (by sl_open_run; sl_open_pay; rfl)
    refine Filled.row (n := 3) ?_ (hX 3 (by omega)) ClosedOff.eq ClosedOff.eq ClosedOff.eq (by sl_open_run; sl_open_pay; rfl) (by sl_open_run; sl_open_pay; rfl) (by sl_open_run; sl_open_pay; rfl)
    refine Filled.row (n := 2) ?_ (hX 2 (by omega)) ClosedOff.eq ClosedOff.eq ClosedOff.eq (by sl_open_run; sl_open_pay; rfl) (by sl_open_run; sl_open_pay; rfl) (by sl_open_run; sl_open_pay; rfl)
    refine Filled.row (n := 1) ?_ (hX 1 (by omega)) ClosedOff.eq ClosedOff.eq ClosedOff.eq (by sl_open_run; sl_open_pay; rfl) (by sl_open_run; sl_open_pay; rfl) (by sl_open_run; sl_open_pay; rfl)
    refine Filled.row (n := 0) ?_ (hX 0 (by omega)) ClosedOff.eq ClosedOff.eq ClosedOff.eq (by sl_open_run; sl_open_pay; rfl) (by sl_open_run; sl_open_pay; rfl) (by sl_open_run; sl_open_pay; rfl)
    exact Filled.nil _ _

end Cert.KernelIdeal.Hand
-- ==== Proof.KernelIdeal.Held.lean ====
module

public import proofs.«01_k».proof.Proof.KernelIdeal.ValA
public import proofs.«01_k».proof.Proof.KernelIdeal.ValB
public import proofs.«01_k».proof.Proof.KernelIdeal.ValC
public import proofs.«01_k».proof.Proof.KernelIdeal.Frame

/-! What the input-gradient kernel holds between its grid points, and the body at any point in those terms. -/

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Point `n` of the grid. -/
def pt (n : ℕ) : Fin cfg0.N := ⟨min n 20, by rw [show cfg0.N = 21 from N_0]; omega⟩

theorem pt_val (t : Fin cfg0.N) : pt t.val = t :=
  Fin.ext (by have := lt_of_lt_of_eq t.isLt (show cfg0.N = 21 from N_0); show min t.val 20 = t.val; omega)

/-- The unpacked weights: column block `k` is slab `k`, unpacked. -/
def wFull (c : Dev nD) : Vec F S1280x11520 .bf16 := fun y =>
  k0_pay1 (F := F) (iblk m c 4 (pt ((y 1).val / 1280))) (iblk m c 5 (pt ((y 1).val / 1280)))
    (ix2 (n0 := 1280) (n1 := 1280) (y 0) ⟨(y 1).val % 1280, Nat.mod_lt _ (by decide)⟩)

/-- The rows of the strip prepared at point `t`. -/
def prepRows (c : Dev nD) (t : Fin cfg0.N) : ℕ → FVec F S64x1280 .bf16 :=
  stripRow (min (t.val - 8) 11) (BitVec.ofNat 32 (min (t.val - 8) 11)) (iblk m c 0 t) (iblk m c 1 t) (iblk m c 2 t) (iblk m c 3 t)

/-- The block that point `t` writes: the strip prepared one point before, multiplied. -/
def outAt (c : Dev nD) (t : Fin cfg0.N) : Vec F S512x1280 .bf16 :=
  outOf 0 (wFull m c) (bufOf (prepRows m c (pt (t.val - 1))))

/-- Before point `n` the first `n` column blocks of the unpacked weights are done, -/
def InvW (c : Dev nD) (n : ℕ) (W : Vec F S1280x11520 .bf16) : Prop := ∀ y : S1280x11520.Idx, (y 1).val / 1280 < n → W y = wFull m c y

/-- and from point 9 on the slot that point `n` reads holds the strip prepared at the point before. -/
def InvB (c : Dev nD) (n : ℕ) (B : Vec F S2x640x3840 .bf16) : Prop :=
  9 ≤ n → ∀ y : S2x640x3840.Idx, (y 0).val = min (n - 9) 11 % 2 → B y = bufOf (prepRows m c (pt (n - 1))) y

/-- What the output block must be after point `t`. -/
def OutOk (c : Dev nD) (t : Fin cfg0.N) (X : Vec F S512x1280 .bf16) : Prop := 9 ≤ t.val → X = outAt m c t

theorem bufRows_congr {x8 x8' : Vec F S2x640x3840 .bf16} {s s' : ℕ}
    (h : ∀ y y' : S2x640x3840.Idx, (y 0).val = s % 2 → (y' 0).val = s' % 2 → y 1 = y' 1 → y 2 = y' 2 → x8 y = x8' y') (o : ℕ) :
    bufRows x8 s o = bufRows x8' s' o :=
  funext fun j => h _ _ rfl rfl rfl rfl

theorem outOf_congr {x7 : Vec F S1280x11520 .bf16} {x8 x8' : Vec F S2x640x3840 .bf16} {s s' : ℕ}
    (h : ∀ y y' : S2x640x3840.Idx, (y 0).val = s % 2 → (y' 0).val = s' % 2 → y 1 = y' 1 → y 2 = y' 2 → x8 y = x8' y') :
    outOf s x7 x8 = outOf s' x7 x8' := by
  unfold outOf
  rw [bufRows_congr h, bufRows_congr h, bufRows_congr h]

/-- A slab put over its column block keeps the invariant of the weights. -/
theorem InvW.slab {c : Dev nD} {t : Fin cfg0.N} {W : Vec F S1280x11520 .bf16} (h : InvW m c t.val W) :
    InvW m c (t.val + 1) (slabPut (grid0.coords t 0).val (iblk m c 4 t) (iblk m c 5 t) W) := fun y hy => by
  unfold slabPut
  rw [coords_val]
  by_cases hk : (y 1).val / 1280 = t.val
  · rw [if_pos hk]
    unfold wFull
    rw [hk, pt_val]
  · rw [if_neg hk]
    exact h y (by omega)

/-- From point 9 on the weights are all unpacked. -/
theorem InvW.full {c : Dev nD} {n : ℕ} {W : Vec F S1280x11520 .bf16} (h : InvW m c n W) (hn : 9 ≤ n) : W = wFull m c :=
  funext fun y => h y (by have : (y 1).val < 11520 := (y 1).isLt; omega)

theorem bufOf_congr (row : ℕ → FVec F S64x1280 .bf16) {y y' : S2x640x3840.Idx} (h1 : y 1 = y' 1) (h2 : y 2 = y' 2) :
    bufOf row y = bufOf row y' := by
  have h : ∀ a a' b b' : ℕ, a = a' → b = b' →
      tapOf (b / 1280) (row (a / 64)) (rowIx (a % 64) (b % 1280) (Nat.mod_lt _ (by decide)) (Nat.mod_lt _ (by decide)))
        = tapOf (b' / 1280) (row (a' / 64)) (rowIx (a' % 64) (b' % 1280) (Nat.mod_lt _ (by decide)) (Nat.mod_lt _ (by decide))) := by
    rintro a _ b _ rfl rfl
    rfl
  exact h _ _ _ _ (congrArg Fin.val h1) (congrArg Fin.val h2)

/-- The block written from point 9 on is the product of the strip prepared before. -/
theorem out_ok {c : Dev nD} {t : Fin cfg0.N} {W : Vec F S1280x11520 .bf16} {B : Vec F S2x640x3840 .bf16} (hW : InvW m c t.val W)
    (hB : InvB m c t.val B) (h9 : 9 ≤ t.val) : OutOk m c t (outOf (slotR (grid0.coords t)) W B) := fun _ => by
  rw [hW.full m h9]
  unfold outAt
  have hN : t.val < 21 := lt_of_lt_of_eq t.isLt (show cfg0.N = 21 from N_0)
  refine outOf_congr fun y y' h0 h0' h1 h2 => ?_
  rw [show slotR (grid0.coords t) = (t.val - 9) % 2 by rw [← coords_val t]] at h0
  rw [hB h9 y (by omega)]
  exact bufOf_congr _ h1 h2

theorem nextWord_eq : ∀ i : grid0.Coords, 9 ≤ (i 0).val → nextWord i = BitVec.ofNat 32 (min ((i 0).val - 8) 11) := by decide +kernel

/-- The slot written at point `t` holds the strip prepared there. -/
theorem InvB.next {c : Dev nD} {t : Fin cfg0.N} {B : Vec F S2x640x3840 .bf16} (h9 : 9 ≤ t.val)
    (h : ∀ y : S2x640x3840.Idx, (y 0).val = slotW (grid0.coords t) →
      B y = bufOf (stripRow (nextStrip (grid0.coords t)) (nextWord (grid0.coords t)) (iblk m c 0 t) (iblk m c 1 t) (iblk m c 2 t) (iblk m c 3 t)) y) :
    InvB m c (t.val + 1) B := fun _ y hy => by
  rw [h y (by show (y 0).val = min ((grid0.coords t 0).val - 8) 11 % 2; rw [coords_val, hy, show t.val + 1 - 9 = t.val - 8 by omega]),
    show t.val + 1 - 1 = t.val from rfl, pt_val, nextWord_eq _ (by rw [coords_val]; exact h9)]
  unfold prepRows nextStrip
  rw [coords_val]

/-- Slot 0 holds the first strip after point 8. -/
theorem InvB.first {c : Dev nD} {t : Fin cfg0.N} {B : Vec F S2x640x3840 .bf16} (h8 : t.val = 8)
    (h : ∀ y : S2x640x3840.Idx, (y 0).val = 0 → B y = bufOf (stripRow 0 0#32 (iblk m c 0 t) (iblk m c 1 t) (iblk m c 2 t) (iblk m c 3 t)) y) :
    InvB m c (t.val + 1) B := fun _ y hy => by
  rw [h y (by rw [hy, h8]; rfl), show t.val + 1 - 1 = t.val from rfl, pt_val]
  unfold prepRows
  rw [h8]
  rfl

/-- The inputs' blocks at point `t`. -/
def ins (c : Dev nD) (t : Fin cfg0.N) : sProp 𝕄 :=
  iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t))

/-- What the body holds before point `t`, -/
def heldPre (c : Dev nD) (t : Fin cfg0.N) : sProp 𝕄 :=
  iprop(ins m c t ∗ (∃ d, owns (c : Thread nD τ) (ms0_6 t) fullShare d)
    ∗ (∃ W, ⌜InvW m c t.val W⌝ ∗ owns (c : Thread nD τ) scM0_0 fullShare W) ∗ (∃ B, ⌜InvB m c t.val B⌝ ∗ owns (c : Thread nD τ) scM0_1 fullShare B))

/-- and after it. -/
def heldPost (c : Dev nD) (t : Fin cfg0.N) : sProp 𝕄 :=
  iprop(ins m c t ∗ (∃ X, ⌜OutOk m c t X⌝ ∗ owns (c : Thread nD τ) (ms0_6 t) fullShare X)
    ∗ (∃ W, ⌜InvW m c (t.val + 1) W⌝ ∗ owns (c : Thread nD τ) scM0_0 fullShare W)
    ∗ (∃ B, ⌜InvB m c (t.val + 1) B⌝ ∗ owns (c : Thread nD τ) scM0_1 fullShare B))

set_option maxHeartbeats 1000000 in
/-- The body at points 0 to 7. -/
theorem body_A (c : Dev nD) (t : Fin cfg0.N) (h : t.val < 8) (E : Set ℕ) (K : PUnit → sProp 𝕄) :
    iprop(heldPre m c t ∗ (heldPost m c t -∗ K ⟨⟩)) ⊢ wp Idealize.ShloMosaic.frame (wpE (defs₀ (F := F)) Variants.none c none) E (bodyAt0 t) K := by
  unfold bodyAt0 heldPre heldPost ins
  iintro ⟨⟨⟨H0, H1, H2, H3, H4, H5⟩, H6, ⟨%W, %hW, H7⟩, ⟨%B, %hB, H8⟩⟩, Hk⟩
  iapply (valueRun_A c (grid0.coords t) _ _ _ _ _ _ _ _ _ _ _ _ _ _ _ _ _ _ ((cond1_iff t).mpr (by omega)) (fun h => absurd ((cond2_iff t).mp h) (by omega)) (fun h => absurd ((cond3_iff t).mp h) (by omega)) (by rw [coords_val]; omega)
    (iblk m c 0 t) (iblk m c 1 t) (iblk m c 2 t) (iblk m c 3 t) (iblk m c 4 t) (iblk m c 5 t) W E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, ⟨%d8, H8⟩⟩
  iapply Hk
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [H6]
  · icases H6 with ⟨%d6, H6⟩
    iexists _; isplitr; swap; · iexact H6
    ipureintro; intro h; omega
  isplitl [H7]
  · iexists _; isplitr; swap; · iexact H7
    ipureintro; exact hW.slab m
  iexists _; isplitr; swap; · iexact H8
  ipureintro; intro h; omega

set_option maxHeartbeats 1000000 in
/-- The body at point 8. -/
theorem body_B (c : Dev nD) (t : Fin cfg0.N) (h : t.val = 8) (E : Set ℕ) (K : PUnit → sProp 𝕄) :
    iprop(heldPre m c t ∗ (heldPost m c t -∗ K ⟨⟩)) ⊢ wp Idealize.ShloMosaic.frame (wpE (defs₀ (F := F)) Variants.none c none) E (bodyAt0 t) K := by
  unfold bodyAt0 heldPre heldPost ins
  iintro ⟨⟨⟨H0, H1, H2, H3, H4, H5⟩, H6, ⟨%W, %hW, H7⟩, ⟨%B, %hB, H8⟩⟩, Hk⟩
  iapply (valueRun_B c (grid0.coords t) _ _ _ _ _ _ _ _ _ _ _ _ _ _ _ _ _ _ ((cond1_iff t).mpr (by omega)) ((cond2_iff t).mpr (by omega)) (fun h => absurd ((cond3_iff t).mp h) (by omega)) (by rw [coords_val]; omega)
    (iblk m c 0 t) (iblk m c 1 t) (iblk m c 2 t) (iblk m c 3 t) (iblk m c 4 t) (iblk m c 5 t) W E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, ⟨%d8, %h8, H8⟩⟩
  iapply Hk
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [H6]
  · icases H6 with ⟨%d6, H6⟩
    iexists _; isplitr; swap; · iexact H6
    ipureintro; intro h; omega
  isplitl [H7]
  · iexists _; isplitr; swap; · iexact H7
    ipureintro; exact hW.slab m
  iexists _; isplitr; swap; · iexact H8
  ipureintro; exact InvB.first m h h8

set_option maxHeartbeats 1000000 in
/-- The body at points 9 to 20. -/
theorem body_C (c : Dev nD) (t : Fin cfg0.N) (h : 9 ≤ t.val) (E : Set ℕ) (K : PUnit → sProp 𝕄) :
    iprop(heldPre m c t ∗ (heldPost m c t -∗ K ⟨⟩)) ⊢ wp Idealize.ShloMosaic.frame (wpE (defs₀ (F := F)) Variants.none c none) E (bodyAt0 t) K := by
  unfold bodyAt0 heldPre heldPost ins
  iintro ⟨⟨⟨H0, H1, H2, H3, H4, H5⟩, H6, ⟨%W, %hW, H7⟩, ⟨%B, %hB, H8⟩⟩, Hk⟩
  iapply (valueRun_C c (grid0.coords t) _ _ _ _ _ _ _ _ _ _ _ _ _ _ _ _ _ _ (fun h => absurd ((cond1_iff t).mp h) (by omega)) (fun h => absurd ((cond2_iff t).mp h) (by omega)) ((cond3_iff t).mpr (by omega)) (by rw [coords_val]; omega)
    (iblk m c 0 t) (iblk m c 1 t) (iblk m c 2 t) (iblk m c 3 t) (iblk m c 4 t) (iblk m c 5 t) W B E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H0, H1, H2, H3, H4, H5, H6, H7, ⟨%d8, %h8, H8⟩⟩
  iapply Hk
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [H6]
  · iexists _; isplitr; swap; · iexact H6
    ipureintro; exact out_ok m hW hB h
  isplitl [H7]
  · iexists _; isplitr; swap; · iexact H7
    ipureintro; intro y hy; exact hW y (by have : (y 1).val < 11520 := (y 1).isLt; omega)
  iexists _; isplitr; swap; · iexact H8
  ipureintro; exact InvB.next m h h8

/-- The body at any point. -/
theorem body_value (c : Dev nD) (t : Fin cfg0.N) (E : Set ℕ) (K : PUnit → sProp 𝕄) :
    iprop(heldPre m c t ∗ (heldPost m c t -∗ K ⟨⟩)) ⊢ wp Idealize.ShloMosaic.frame (wpE (defs₀ (F := F)) Variants.none c none) E (bodyAt0 t) K := by
  rcases Nat.lt_trichotomy t.val 8 with h | h | h
  · exact body_A m c t h E K
  · exact body_B m c t h E K
  · exact body_C m c t h E K

end Cert.KernelIdeal.Hand
-- ==== Proof.KernelIdeal.Launch.lean ====
module

public import proofs.«01_k».proof.Proof.KernelIdeal.Held
public import Idealize.ShloMosaic.Lib.Pipeline.DatRel
public import Idealize.ShloMosaic.Lib.Pipeline.ArrRel

/-! The launch of the input-gradient kernel with its value: every block of the result holds the product of its strip. -/

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What is kept between points: the two scratch buffers, with what is known of them, and the generator register. -/
def PhiV (c : Dev nD) (n : ℕ) : sProp 𝕄 :=
  iprop(iprop((∃ W, ⌜InvW m c n W⌝ ∗ owns (c : Thread nD τ) scM0_0 fullShare W) ∗ (∃ B, ⌜InvB m c n B⌝ ∗ owns (c : Thread nD τ) scM0_1 fullShare B))
    ∗ (∃ r, prngReg c r))

/-- The proof data: those of the frame, with the scratch buffers' contents told. -/
def datV (c : Dev nD) : Dat τ (Elt F) Unit ℕ (UR sig nD τ) ℕ cfg0 c where
  A w := V m c (Pipeline.arrRef spec0 w)
  after w t := (dats m 0 c).after w t
  Φ t := PhiV m c t.val
  q w := Pipeline.shareOf spec0 w
  owed _ := 0

/-- The output block after each point. -/
def RlV (c : Dev nD) : (w : Fin cfg0.W) → Fin cfg0.N → ((cfg0.win w).block.Idx → Elt F (cfg0.win w).elt) → Prop := fun w t => match w with
  | ⟨6, _⟩ => fun X => OutOk m c t X
  | _ => fun _ => True

theorem beforeV_0 (c : Dev nD) (t : Fin cfg0.N) (d) : (datV m c).before 0 t d = iblk m c 0 t :=
  before0_0_of m (datV m c) rfl (after0_0 m c) t d
theorem beforeV_1 (c : Dev nD) (t : Fin cfg0.N) (d) : (datV m c).before 1 t d = iblk m c 1 t :=
  before0_1_of m (datV m c) rfl (after0_1 m c) t d
theorem beforeV_2 (c : Dev nD) (t : Fin cfg0.N) (d) : (datV m c).before 2 t d = iblk m c 2 t :=
  before0_2_of m (datV m c) rfl (after0_2 m c) t d
theorem beforeV_3 (c : Dev nD) (t : Fin cfg0.N) (d) : (datV m c).before 3 t d = iblk m c 3 t :=
  before0_3_of m (datV m c) rfl (after0_3 m c) t d
theorem beforeV_4 (c : Dev nD) (t : Fin cfg0.N) (d) : (datV m c).before 4 t d = iblk m c 4 t :=
  before0_4_of m (datV m c) rfl (after0_4 m c) t d
theorem beforeV_5 (c : Dev nD) (t : Fin cfg0.N) (d) : (datV m c).before 5 t d = iblk m c 5 t :=
  before0_5_of m (datV m c) rfl (after0_5 m c) t d

/-- What the body is called with at point `t`, -/
def preV (c : Dev nD) (t : Fin cfg0.N) : sProp 𝕄 :=
  iprop((datV m c).Φ t.castSucc ∗ (datV m c).owesAt () t.castSucc
    ∗ (∃ d, owns (c : Thread nD τ) (ms0_0 t) fullShare ((datV m c).before 0 t d))
    ∗ (∃ d, owns (c : Thread nD τ) (ms0_1 t) fullShare ((datV m c).before 1 t d))
    ∗ (∃ d, owns (c : Thread nD τ) (ms0_2 t) fullShare ((datV m c).before 2 t d))
    ∗ (∃ d, owns (c : Thread nD τ) (ms0_3 t) fullShare ((datV m c).before 3 t d))
    ∗ (∃ d, owns (c : Thread nD τ) (ms0_4 t) fullShare ((datV m c).before 4 t d))
    ∗ (∃ d, owns (c : Thread nD τ) (ms0_5 t) fullShare ((datV m c).before 5 t d))
    ∗ (∃ Y, ⌜((datV m c).toRRel forgets0 (RlV m c)).Finds 6 t Y⌝ ∗ owns (c : Thread nD τ) (ms0_6 t) fullShare Y))

/-- and what it returns. -/
def postV (c : Dev nD) (t : Fin cfg0.N) : sProp 𝕄 :=
  iprop((datV m c).Φ t.succ ∗ (datV m c).owesAt () t.succ
    ∗ (datV m c).leavesExact 0 t
    ∗ (datV m c).leavesExact 1 t
    ∗ (datV m c).leavesExact 2 t
    ∗ (datV m c).leavesExact 3 t
    ∗ (datV m c).leavesExact 4 t
    ∗ (datV m c).leavesExact 5 t
    ∗ (∃ X, ⌜RlV m c 6 t X⌝ ∗ owns (c : Thread nD τ) (ms0_6 t) fullShare X))

set_option maxHeartbeats 1000000 in
/-- The body at any point, in the terms of the proof data. -/
theorem soundV (c : Dev nD) (t : Fin cfg0.N) :
    preV m c t ⊢ wp Idealize.ShloMosaic.frame (wpE (defs₀ (F := F)) Variants.none c none) Set.univ (bodyAt0 t) (fun _ => postV m c t) := by
  unfold preV postV
  simp only [beforeV_0, beforeV_1, beforeV_2, beforeV_3, beforeV_4, beforeV_5]
  rw [show (datV m c).Φ t.succ = PhiV m c (t.val + 1) from rfl, show (datV m c).owesAt () t.succ = (datV m c).owesAt () t.castSucc from rfl,
    show (datV m c).Φ t.castSucc = PhiV m c t.val from rfl]
  rw [show (datV m c).leavesExact 0 t = owns (c : Thread nD τ) (ms0_0 t) fullShare (iblk m c 0 t) from rfl]
  rw [show (datV m c).leavesExact 1 t = owns (c : Thread nD τ) (ms0_1 t) fullShare (iblk m c 1 t) from rfl]
  rw [show (datV m c).leavesExact 2 t = owns (c : Thread nD τ) (ms0_2 t) fullShare (iblk m c 2 t) from rfl]
  rw [show (datV m c).leavesExact 3 t = owns (c : Thread nD τ) (ms0_3 t) fullShare (iblk m c 3 t) from rfl]
  rw [show (datV m c).leavesExact 4 t = owns (c : Thread nD τ) (ms0_4 t) fullShare (iblk m c 4 t) from rfl]
  rw [show (datV m c).leavesExact 5 t = owns (c : Thread nD τ) (ms0_5 t) fullShare (iblk m c 5 t) from rfl]
  unfold PhiV
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, -, H6⟩⟩
  iapply (body_value m c t Set.univ _)
  unfold heldPre heldPost ins
  isplitl [H0 H1 H2 H3 H4 H5 H6 HS0 HS1]
  · isplitl [H0 H1 H2 H3 H4 H5]
    · isplitl [H0]; · iexact H0
      isplitl [H1]; · iexact H1
      isplitl [H2]; · iexact H2
      isplitl [H3]; · iexact H3
      isplitl [H4]; · iexact H4
      iexact H5
    isplitl [H6]; · iexists _; iexact H6
    isplitl [HS0]; · iexact HS0
    iexact HS1
  iintro ⟨⟨H0, H1, H2, H3, H4, H5⟩, H6, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem obligationV (c : Dev nD) :
    Pipeline.BodyObligationRel (datV (F := F) m c) (defs₀ (F := F)) Variants.none () Set.univ forgets0 (RlV m c) := fun t => by
  rw [bigSep_W0, bigSep_W0, defs₀_row]
  exact triple_restated (soundV m c t) rfl .rfl fun _ => .rfl

theorem hinV (c : Dev nD) : Pipeline.ΦA spec0 c ⊢ (PhiV m c 0 : sProp 𝕄) := by
  rw [PhiA0_eq]
  unfold PhiV
  iintro ⟨⟨⟨%d0, H0⟩, ⟨%d1, H1⟩⟩, Hg⟩
  isplitl [H0 H1]
  · isplitl [H0]
    · iexists _; isplitr; swap; · iexact H0
      ipureintro; intro y h; exact absurd h (Nat.not_lt_zero _)
    iexists _; isplitr; swap; · iexact H1
    ipureintro; intro h; exact absurd h (by decide)
  iexact Hg

theorem houtV (c : Dev nD) (n : ℕ) : (PhiV m c n : sProp 𝕄) ⊢ Pipeline.ΦA spec0 c := by
  rw [PhiA0_eq]
  unfold PhiV
  iintro ⟨⟨⟨%d0, %h0, H0⟩, ⟨%d1, %h1, H1⟩⟩, Hg⟩
  isplitl [H0 H1]
  · isplitl [H0]; · iexists _; iexact H0
    iexists _; iexact H1
  iexact Hg

set_option backward.isDefEq.respectTransparency.types false in
/-- The launch: every run ends with each block of the output array such as the body may have left it, and every semaphore counter at zero. -/
theorem run_value : θ_run defs (onTc (τ := τ) (main (F := F))) (s₀ m ρ) (fun r =>
    Pipeline.RDat.FramePost (cfgs 0) (fun c => (datV m c).toRRel forgets0 (RlV m c)) (V m) r ∧ r.2.sem = fun _ => 0) :=
  Pipeline.RDat.θ_run_frame_track_shared (Q' := _) cfgs (0 : Fin 1) launch₀0 defs₀ Variants.none (fun c => (datV m c).toRRel forgets0 (RlV m c)) m ρ main
    (hbody := fun c => (obligationV m c).toRRel) (hq := fun _ _ _ => rfl) (howed := fun _ _ => rfl) (V := V m) (hmain := hmain m Variants.none)
    (hA := fun _ _ => rfl) (hin := fun c => hinV m c) (hout := fun c => houtV m c _)

end Cert.KernelIdeal.Hand
-- ==== Proof.KernelIdeal.Result.lean ====
module

public import proofs.«01_k».proof.Proof.KernelIdeal.Launch
public import Idealize.ShloMosaic.Lib.Pipeline.Value

/-! The result array of the input-gradient kernel, and its windows' blocks read off the arguments. -/

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem flush6_iff : ∀ t : Fin cfg0.N, (cfg0.win 6).flush t = true ↔ 9 ≤ t.val :=
  (by decide +kernel : ∀ t : Fin grid0.N, (cfg0.win 6).flush t = true ↔ 9 ≤ t.val)

theorem index6 : ∀ t : Fin cfg0.N, win0_6.index t 0 = t.val - 9 ∧ win0_6.index t 1 = 0 :=
  (by decide +kernel : ∀ t : Fin grid0.N, win0_6.index t 0 = t.val - 9 ∧ win0_6.index t 1 = 0)
theorem index0 : ∀ t : Fin cfg0.N, win0_0.index t 0 = min (t.val - 8) 11 ∧ win0_0.index t 1 = 0 :=
  (by decide +kernel : ∀ t : Fin grid0.N, win0_0.index t 0 = min (t.val - 8) 11 ∧ win0_0.index t 1 = 0)
theorem index1 : ∀ t : Fin cfg0.N, win0_1.index t 0 = 8 * min (t.val - 8) 11 - 1 ∧ win0_1.index t 1 = 0 :=
  (by decide +kernel : ∀ t : Fin grid0.N, win0_1.index t 0 = 8 * min (t.val - 8) 11 - 1 ∧ win0_1.index t 1 = 0)
theorem index2 : ∀ t : Fin cfg0.N, win0_2.index t 0 = min (8 * min (t.val - 8) 11 + 8) 95 ∧ win0_2.index t 1 = 0 :=
  (by decide +kernel : ∀ t : Fin grid0.N, win0_2.index t 0 = min (8 * min (t.val - 8) 11 + 8) 95 ∧ win0_2.index t 1 = 0)
theorem index3 : ∀ t : Fin cfg0.N, win0_3.index t 0 = 0 ∧ win0_3.index t 1 = 0 :=
  (by decide +kernel : ∀ t : Fin grid0.N, win0_3.index t 0 = 0 ∧ win0_3.index t 1 = 0)
theorem index4 : ∀ t : Fin cfg0.N, win0_4.index t 0 = min t.val 8 ∧ win0_4.index t 1 = 0 ∧ win0_4.index t 2 = 0 :=
  (by decide +kernel : ∀ t : Fin grid0.N, win0_4.index t 0 = min t.val 8 ∧ win0_4.index t 1 = 0 ∧ win0_4.index t 2 = 0)
theorem index5 : ∀ t : Fin cfg0.N, win0_5.index t 0 = 0 ∧ win0_5.index t 1 = 0 :=
  (by decide +kernel : ∀ t : Fin grid0.N, win0_5.index t 0 = 0 ∧ win0_5.index t 1 = 0)

/-- The arguments' arrays. -/
abbrev argCodes (c : Dev nD) : Vec F S6144x1280 .fp8e5m2 := m ((c : Thread nD τ).loc main_arg0)
abbrev argScale (c : Dev nD) : Vec F S96x64 .f32 := m ((c : Thread nD τ).loc main_arg1)
abbrev argW (c : Dev nD) : Vec F S9x1280x1280 .fp8e4m3 := m ((c : Thread nD τ).loc main_arg2)
abbrev argWs (c : Dev nD) : Vec F S1x1280 .f32 := m ((c : Thread nD τ).loc main_arg3)

/-- Window 0's block at point `t`. -/
theorem blk0_apply (c : Dev nD) (t : Fin cfg0.N) (j : (⟨2, ![512, 1280]⟩ : Shape).Idx) (l : ℕ) (hl : l < 6144) (h : l = min (t.val - 8) 11 * 512 + (j 0).val) :
    iblk m c 0 t j = argCodes m c (ix2 (n0 := 6144) (n1 := 1280) ⟨l, hl⟩ (j 1)) := by
  subst h
  unfold iblk
  rw [View.read_apply]
  refine congrArg (argCodes m c) (funext fun a => Fin.ext ?_)
  match a with
  | ⟨0, _⟩ => show win0_0.index t 0 * 512 + 1 * (j 0).val = min (t.val - 8) 11 * 512 + (j 0).val; rw [(index0 t).1]; omega
  | ⟨1, _⟩ => show win0_0.index t 1 * 1280 + 1 * (j 1).val = (j 1).val; rw [(index0 t).2]; omega

/-- Window 1's block at point `t`. -/
theorem blk1_apply (c : Dev nD) (t : Fin cfg0.N) (j : (⟨2, ![64, 1280]⟩ : Shape).Idx) (l : ℕ) (hl : l < 6144) (h : l = (8 * min (t.val - 8) 11 - 1) * 64 + (j 0).val) :
    iblk m c 1 t j = argCodes m c (ix2 (n0 := 6144) (n1 := 1280) ⟨l, hl⟩ (j 1)) := by
  subst h
  unfold iblk
  rw [View.read_apply]
  refine congrArg (argCodes m c) (funext fun a => Fin.ext ?_)
  match a with
  | ⟨0, _⟩ => show win0_1.index t 0 * 64 + 1 * (j 0).val = (8 * min (t.val - 8) 11 - 1) * 64 + (j 0).val; rw [(index1 t).1]; omega
  | ⟨1, _⟩ => show win0_1.index t 1 * 1280 + 1 * (j 1).val = (j 1).val; rw [(index1 t).2]; omega

/-- Window 2's block at point `t`. -/
theorem blk2_apply (c : Dev nD) (t : Fin cfg0.N) (j : (⟨2, ![64, 1280]⟩ : Shape).Idx) (l : ℕ) (hl : l < 6144) (h : l = min (8 * min (t.val - 8) 11 + 8) 95 * 64 + (j 0).val) :
    iblk m c 2 t j = argCodes m c (ix2 (n0 := 6144) (n1 := 1280) ⟨l, hl⟩ (j 1)) := by
  subst h
  unfold iblk
  rw [View.read_apply]
  refine congrArg (argCodes m c) (funext fun a => Fin.ext ?_)
  match a with
  | ⟨0, _⟩ => show win0_2.index t 0 * 64 + 1 * (j 0).val = min (8 * min (t.val - 8) 11 + 8) 95 * 64 + (j 0).val; rw [(index2 t).1]; omega
  | ⟨1, _⟩ => show win0_2.index t 1 * 1280 + 1 * (j 1).val = (j 1).val; rw [(index2 t).2]; omega

/-- Window 3 is the whole array of scales, -/
theorem blk3_eq (c : Dev nD) (t : Fin cfg0.N) : iblk m c 3 t = argScale m c := funext fun j => by
  unfold iblk
  rw [View.read_apply]
  refine congrArg (argScale m c) (funext fun a => Fin.ext ?_)
  match a with
  | ⟨0, _⟩ => show win0_3.index t 0 * 96 + 1 * (j 0).val = (j 0).val; rw [(index3 t).1]; omega
  | ⟨1, _⟩ => show win0_3.index t 1 * 64 + 1 * (j 1).val = (j 1).val; rw [(index3 t).2]; omega

/-- window 5 the whole array of weight scales, -/
theorem blk5_eq (c : Dev nD) (t : Fin cfg0.N) : iblk m c 5 t = argWs m c := funext fun j => by
  unfold iblk
  rw [View.read_apply]
  refine congrArg (argWs m c) (funext fun a => Fin.ext ?_)
  match a with
  | ⟨0, _⟩ => show win0_5.index t 0 * 1 + 1 * (j 0).val = (j 0).val; rw [(index5 t).1]; omega
  | ⟨1, _⟩ => show win0_5.index t 1 * 1280 + 1 * (j 1).val = (j 1).val; rw [(index5 t).2]; omega

/-- and window 4 the slab of weight codes of the point. -/
theorem blk4_apply (c : Dev nD) (t : Fin cfg0.N) (j : S1x1280x1280.Idx) (k : Fin 9) (hk : k.val = min t.val 8) :
    iblk m c 4 t j = argW m c (ix3 (n0 := 9) (n1 := 1280) (n2 := 1280) k (j 1) (j 2)) := by
  unfold iblk
  rw [View.read_apply]
  refine congrArg (argW m c) (funext fun a => Fin.ext ?_)
  have h0 : (j 0).val < 1 := (j 0).isLt
  match a with
  | ⟨0, _⟩ => show win0_4.index t 0 * 1 + 1 * (j 0).val = k.val; rw [(index4 t).1]; omega
  | ⟨1, _⟩ => show win0_4.index t 1 * 1280 + 1 * (j 1).val = (j 1).val; rw [(index4 t).2.1]; omega
  | ⟨2, _⟩ => show win0_4.index t 2 * 1280 + 1 * (j 2).val = (j 2).val; rw [(index4 t).2.2]; omega

/-- The result array: pixel `p` is in the block of point `p / 512 + 9`. -/
def resK (c : Dev nD) : Vec F S6144x1280 .bf16 := fun i =>
  outAt m c (pt ((i 0).val / 512 + 9)) (ix2 (n0 := 512) (n1 := 1280) ⟨(i 0).val % 512, Nat.mod_lt _ (by decide)⟩ (i 1))

/-- After the write-backs the array holds `resK`, whatever of the permitted contents the body left at each point. -/
theorem final6 (c : Dev nD) (after : (w : Fin cfg0.W) → Fin cfg0.N → (cfg0.win w).block.Idx → Elt F (cfg0.win w).elt)
    (hL : ∀ (w : Fin cfg0.W) (u : Fin cfg0.N), (cfg0.win w).flush u = true → ((datV m c).toRRel forgets0 (RlV m c)).Leaves w u (after w u)) :
    (((datV m c).toRRel forgets0 (RlV m c)).withAfter after).arrAt 6 cfg0.N = resK m c := by
  refine Dat.arrAt_eq_of_cover (cfg := cfg0) (c := c) (((datV m c).toRRel forgets0 (RlV m c)).withAfter after) 6 (resK m c) (fun t ht => ?_) fun i => ?_
  · have h9 := (flush6_iff t).mp ht
    have hN : t.val < 21 := lt_of_lt_of_eq t.isLt (show cfg0.N = 21 from N_0)
    have hX : after 6 t = outAt m c t := (datV m c).toRRel_leaves (w := 6) rfl (hL 6 t ht) h9
    funext x
    show after 6 t _ = _
    rw [hX, View.read_apply]
    have hx0 : (x 0).val < 512 := (x 0).isLt
    have e0 : ((((cfg0.win 6).blk t).view.emb x) 0).val = (t.val - 9) * 512 + (x 0).val := by
      show win0_6.index t 0 * 512 + 1 * (x 0).val = _; rw [(index6 t).1]; omega
    have e1 : ((((cfg0.win 6).blk t).view.emb x) 1).val = (x 1).val := by
      show win0_6.index t 1 * 1280 + 1 * (x 1).val = _; rw [(index6 t).2]; omega
    show outAt m c t _ = resK m c _
    unfold resK
    rw [show pt (((((cfg0.win 6).blk t).view.emb x) 0).val / 512 + 9) = t from
      Fin.ext (by show min (_ / 512 + 9) 20 = _; rw [e0]; omega)]
    refine congrArg (outAt m c t) (funext fun a => Fin.ext ?_)
    match a with
    | ⟨0, _⟩ => show (x 0).val = _ % 512; rw [e0]; omega
    | ⟨1, _⟩ => exact e1.symm
  · have h0 : (i 0 : ℕ) < 6144 := (i 0).isLt
    have h1 : (i 1 : ℕ) < 1280 := (i 1).isLt
    refine ⟨pt ((i 0 : ℕ) / 512 + 9), (flush6_iff _).mpr (by show 9 ≤ min _ 20; omega), ?_⟩
    have hp : (pt ((i 0 : ℕ) / 512 + 9)).val = (i 0 : ℕ) / 512 + 9 := by show min _ 20 = _; omega
    generalize pt ((i 0 : ℕ) / 512 + 9) = t at hp
    show i ∈ ((View.whole main_v0).slice (win0_6.rect t)).set
    rw [View.set_slice_whole, Rect.mem_set_unit]
    intro a
    match a with
    | ⟨0, _⟩ => show win0_6.index t 0 * 512 ≤ (i 0 : ℕ) ∧ (i 0 : ℕ) < win0_6.index t 0 * 512 + 512
                rw [(index6 t).1, hp]; omega
    | ⟨1, _⟩ => show win0_6.index t 1 * 1280 ≤ (i 1 : ℕ) ∧ (i 1 : ℕ) < win0_6.index t 1 * 1280 + 1280
                rw [(index6 t).2]; omega

/-- The run, read: the result array, and the arguments unchanged. -/
theorem run_read : θ_run defs (onTc (τ := τ) (main (F := F))) ⟨m, fun _ => 0, ρ⟩ (fun r => ∀ c : Dev nD,
      r.2.mem ((c.tc : Thread nD τ).loc main_v0) = resK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  have hx : ∀ r, (Pipeline.RDat.FramePost (cfgs 0) (fun c => (datV m c).toRRel forgets0 (RlV m c)) (V m) r ∧ r.2.sem = fun _ => 0) → ∀ c : Dev nD,
      r.2.mem ((c.tc : Thread nD τ).loc main_v0) = resK m c := fun r h c => by
    obtain ⟨after, hL, hA⟩ := Pipeline.RDat.FramePost.exists_exact h.1 c
    exact (hA 6).trans (final6 m c after hL)
  exact (θ_run defs _ _).mono (fun r h c => ⟨(hx r h c), Pipeline.RDat.FramePost.arr_in h.1 c 2 rfl, Pipeline.RDat.FramePost.arr_in h.1 c 3 rfl,
    Pipeline.RDat.FramePost.arr_in h.1 c 4 rfl, Pipeline.RDat.FramePost.arr_in h.1 c 5 rfl⟩) (run_value m ρ)
end Cert.KernelIdeal.Hand
-- ==== Proof.KernelIdeal.OutIdeal.lean ====
module

public import proofs.«01_k».proof.Proof.Spec
public import proofs.«01_k».proof.Proof.KernelIdeal.RowIdeal
public import proofs.«01_k».proof.Proof.KernelIdeal.Result
public import Idealize.ShloMosaic.Lib.MatmulPlain
public import Idealize.ShloMosaic.Lib.ValueLayout

/-! The result array of the input-gradient kernel over the extended reals: at each pixel and channel it is the input gradient. -/

@[expose] public section

set_option maxRecDepth 16384

noncomputable section

namespace Cert.KernelIdeal.Hand

open Cert.KernelIdeal.Gen Cert.Spec
open Idealize.ShloMosaic Idealize.ShloMosaic.TcCoe Idealize.ShloMosaic.Ideal
open Idealize.ShloMosaic.ValueIdx (ix2 ix3)

variable (m : (ℓ : Loc nD τ sig) → Buf (Elt Ideal) ℓ)

theorem okFirst_eq : ∀ t : Fin 12, okFirst (BitVec.ofNat 32 t.val) = if t.val % 6 = 0 then 0#1 else 1#1 := by decide
theorem okLast_eq : ∀ t : Fin 12, okLast (BitVec.ofNat 32 t.val) = if t.val % 6 = 5 then 0#1 else 1#1 := by decide

/-- A line of the scales at a pixel. -/
theorem lineAt_apply (x3 : Vec Ideal S96x64 .f32) (l : ℕ) (hl : l < 96) (j : S1x64.Idx) (i : S96x64.Idx) (h0 : (i 0).val = l)
    (h1 : (i 1).val = (j 1).val) : lineAt x3 l j = x3 i := by
  refine congrArg x3 (funext fun a => Fin.ext ?_)
  match a with
  | ⟨0, _⟩ => show l % 96 = (i 0).val; omega
  | ⟨1, _⟩ => exact h1.symm

/-- Row `r` of the strip prepared at point `t + 8`. -/
theorem prepRows_apply (c : Dev nD) (t : ℕ) (ht : t < 12) (r : ℕ) (hr : r < 10) (p ch : ℕ) (hp : p < 64) (hc : ch < 1280) :
    prepRows m c (pt (t + 8)) r (rowIx p ch hp hc)
      = gp (argCodes m c) (argScale m c) (t / 6) (t % 6 * 8 + r) (p + 1) ⟨ch, hc⟩ := by
  have hv : (pt (t + 8)).val = t + 8 := by show min (t + 8) 20 = _; omega
  have hm : min (t + 8 - 8) 11 = t := by omega
  have hF := okFirst_eq ⟨t, ht⟩
  have hL := okLast_eq ⟨t, ht⟩
  dsimp only at hF hL
  unfold prepRows stripRow rowsOf
  rw [hv, hm, blk3_eq]
  by_cases r0 : r = 0
  · subst r0
    rw [if_pos rfl, hF]
    by_cases h6 : t % 6 = 0
    · rw [if_pos h6, rowEdge_zero, gp_out (by omega)]
    · rw [if_neg h6, rowEdge_one, rowMid_apply]
      refine (congrArg₂ (fun x y : EReal => x * y) (blk1_apply m c _ _ ((8 * t - 1) * 64 + p) (by omega) (by rw [hv, hm]))
        (lineAt_apply (argScale m c) (lineNo t 0) (lineNo_lt t 0) _ (ix2 (n0 := 96) (n1 := 64) ⟨8 * t - 1, by omega⟩ ⟨p, hp⟩)
          (by show 8 * t - 1 = min (8 * t + 0 - 1) 95; omega) rfl)).trans ?_
      exact (gp_in (by omega) (by omega) (by omega) (by omega) (by omega) _ _
        (by show (8 * t - 1) * 64 + p = _; omega) rfl (by show 8 * t - 1 = _; omega) rfl).symm
  rw [if_neg r0]
  by_cases r9 : r = 9
  · subst r9
    rw [if_pos rfl, hL]
    by_cases h6 : t % 6 = 5
    · rw [if_pos h6, rowEdge_zero, gp_out (by omega)]
    · rw [if_neg h6, rowEdge_one, rowMid_apply]
      refine (congrArg₂ (fun x y : EReal => x * y)
        (blk2_apply m c _ _ ((8 * t + 8) * 64 + p) (by omega) (by rw [hv, hm, show min (8 * t + 8) 95 = 8 * t + 8 by omega]))
        (lineAt_apply (argScale m c) (lineNo t 9) (lineNo_lt t 9) _ (ix2 (n0 := 96) (n1 := 64) ⟨8 * t + 8, by omega⟩ ⟨p, hp⟩)
          (by show 8 * t + 8 = min (8 * t + 9 - 1) 95; omega) rfl)).trans ?_
      exact (gp_in (by omega) (by omega) (by omega) (by omega) (by omega) _ _
        (by show (8 * t + 8) * 64 + p = _; omega) rfl (by show 8 * t + 8 = _; omega) rfl).symm
  rw [if_neg r9, rowMid_apply]
  refine (congrArg₂ (fun x y : EReal => x * y) (blk0_apply m c _ _ (t * 512 + (64 * (r - 1) + p)) (by omega)
      (by rw [hv, hm]; show _ = t * 512 + (64 * (r - 1) + p) % 512; omega))
    (lineAt_apply (argScale m c) (lineNo t r) (lineNo_lt t r) _ (ix2 (n0 := 96) (n1 := 64) ⟨8 * t + (r - 1), by omega⟩ ⟨p, hp⟩)
      (by show 8 * t + (r - 1) = min (8 * t + r - 1) 95; omega) rfl)).trans ?_
  exact (gp_in (by omega) (by omega) (by omega) (by omega) (by omega) _ _
    (by show t * 512 + (64 * (r - 1) + p) = _; omega) rfl (by show 8 * t + (r - 1) = _; omega) rfl).symm

/-- The strip buffer: column block 0 holds the next pixel, block 1 the pixel and block 2 the one before. -/
theorem bufOf_apply (c : Dev nD) (t : ℕ) (ht : t < 12) (y : S2x640x3840.Idx) (h w : ℕ) (ch : Fin 1280)
    (hh : h = t % 6 * 8 + (y 1).val / 64) (hw : w = (y 1).val % 64 + (2 - (y 2).val / 1280)) (hch : ch.val = (y 2).val % 1280) :
    bufOf (prepRows m c (pt (t + 8))) y = gp (argCodes m c) (argScale m c) (t / 6) h w ch := by
  have h1 : (y 1).val < 640 := (y 1).isLt
  have h2 : (y 2).val < 3840 := (y 2).isLt
  obtain ⟨ch, hc⟩ := ch
  dsimp only at hch
  subst hh hw hch
  unfold bufOf tapOf
  by_cases k0 : (y 2).val / 1280 = 0
  · rw [if_pos k0, upOf_apply, k0]
    by_cases hp : (y 1).val % 64 + 1 < 64
    · rw [dif_pos hp, prepRows_apply m c t ht _ (by omega)]
    · rw [dif_neg hp, gp_out (by omega)]
  rw [if_neg k0]
  by_cases k1 : (y 2).val / 1280 = 1
  · rw [if_pos k1, k1, prepRows_apply m c t ht _ (by omega)]
  rw [if_neg k1, downOf_apply, show (y 2).val / 1280 = 2 by omega]
  by_cases hp : 1 ≤ (y 1).val % 64
  · rw [dif_pos hp, prepRows_apply m c t ht _ (by omega), show (y 1).val % 64 - 1 + 1 = (y 1).val % 64 + (2 - 2) by omega]
  · rw [dif_neg hp, gp_out (by omega)]

/-- The three windows of the strip buffer. -/
abbrev pieces (x8 : Vec Ideal S2x640x3840 .bf16) : List ((s : Shape) × (s.Idx → EReal)) :=
  [⟨S512x3840, shapeCast S512x3840 (bufRows x8 0 128) shapeCasts_S1x512x3840_S512x3840⟩,
    ⟨S512x3840, shapeCast S512x3840 (bufRows x8 0 64) shapeCasts_S1x512x3840_S512x3840⟩,
    ⟨S512x3840, shapeCast S512x3840 (bufRows x8 0 0) shapeCasts_S1x512x3840_S512x3840⟩]

/-- The left operand at pixel `p` of the strip and column `K`. -/
theorem lhsOf_apply (x8 : Vec Ideal S2x640x3840 .bf16) (p : Fin 512) (K : Fin 11520) :
    lhsOf (bufRows x8 0 128) (bufRows x8 0 64) (bufRows x8 0 0) (ix2 (n0 := 512) (n1 := 11520) p K)
      = x8 (ix3 (n0 := 2) (n1 := 640) (n2 := 3840) 0 ⟨p.val + 64 * (2 - K.val / 3840), by omega⟩ ⟨K.val % 3840, Nat.mod_lt _ (by decide)⟩) := by
  have key : ∀ (q : ℕ) (hq : q < 3) (o : ℕ) (ho : o = 64 * (2 - q)), K.val / 3840 = q →
      ∀ x : FVec Ideal S512x3840 .bf16, x = shapeCast S512x3840 (bufRows x8 0 o) shapeCasts_S1x512x3840_S512x3840 →
      x (ix2 (n0 := 512) (n1 := 3840) p ⟨K.val % 3840, Nat.mod_lt _ (by decide)⟩)
        = x8 (ix3 (n0 := 2) (n1 := 640) (n2 := 3840) 0 ⟨p.val + 64 * (2 - K.val / 3840), by omega⟩ ⟨K.val % 3840, Nat.mod_lt _ (by decide)⟩) := by
    rintro q hq o rfl hK x rfl
    refine (shapeCast_dropUnit_apply ![512, 3840] (bufRows x8 0 _) shapeCasts_S1x512x3840_S512x3840 _).trans ?_
    unfold bufRows
    refine congrArg x8 (funext fun a => Fin.ext ?_)
    match a with
    | ⟨0, _⟩ => rfl
    | ⟨1, _⟩ => show (64 * (2 - q) + p.val) % 640 = p.val + 64 * (2 - K.val / 3840); rw [hK]; omega
    | ⟨2, _⟩ => rfl
  have hx : ∀ b : Fin S512x3840.rank, b.cast rfl ≠ (1 : Fin S512x11520.rank) →
      ((ix2 (n0 := 512) (n1 := 3840) p ⟨K.val % 3840, Nat.mod_lt _ (by decide)⟩ : S512x3840.Idx) b).val
        = ((ix2 (n0 := 512) (n1 := 11520) p K : S512x11520.Idx) (b.cast rfl)).val := fun b hb => by
    match b with
    | ⟨0, _⟩ => rfl
    | ⟨1, _⟩ => exact absurd rfl hb
  unfold lhsOf
  by_cases q0 : K.val / 3840 = 0
  · exact (concatenate_apply_piece (t := S512x11520) 1 (pieces x8) concatenates_S512x3840_S512x3840_S512x3840_S512x11520_d1 (ix2 (n0 := 512) (n1 := 11520) p K)
      0 (by show 0 < 3; omega) S512x3840 _ rfl rfl 0 rfl (ix2 (n0 := 512) (n1 := 3840) p ⟨K.val % 3840, Nat.mod_lt _ (by decide)⟩) hx (by show 0 + K.val % 3840 = K.val; omega)).trans
      (key 0 (by omega) 128 rfl q0 _ rfl)
  by_cases q1 : K.val / 3840 = 1
  · exact (concatenate_apply_piece (t := S512x11520) 1 (pieces x8) concatenates_S512x3840_S512x3840_S512x3840_S512x11520_d1 (ix2 (n0 := 512) (n1 := 11520) p K)
      1 (by show 1 < 3; omega) S512x3840 _ rfl rfl 3840 rfl (ix2 (n0 := 512) (n1 := 3840) p ⟨K.val % 3840, Nat.mod_lt _ (by decide)⟩) hx (by show 3840 + K.val % 3840 = K.val; omega)).trans
      (key 1 (by omega) 64 rfl q1 _ rfl)
  exact (concatenate_apply_piece (t := S512x11520) 1 (pieces x8) concatenates_S512x3840_S512x3840_S512x3840_S512x11520_d1 (ix2 (n0 := 512) (n1 := 11520) p K)
      2 (by show 2 < 3; omega) S512x3840 _ rfl rfl 7680 rfl (ix2 (n0 := 512) (n1 := 3840) p ⟨K.val % 3840, Nat.mod_lt _ (by decide)⟩) hx (by show 7680 + K.val % 3840 = K.val; omega)).trans
    (key 2 (by omega) 0 rfl (by omega) _ rfl)

/-- The unpacked weights. -/
theorem wFull_apply (c : Dev nD) (o : Fin 1280) (K : Fin 11520) (k : Fin 9) (ch : Fin 1280) (hk : k.val = K.val / 1280) (hc : ch.val = K.val % 1280) :
    wFull m c (ix2 (n0 := 1280) (n1 := 11520) o K) = wt (argW m c) (argWs m c) k o ch := by
  unfold wFull k0_pay1
  dsimp only
  rw [shapeCast_self]
  have h : ∀ (A B : FVec Ideal S1280x1280 .bf16) (j : S1280x1280.Idx), mulf A B j = (A j : EReal) * B j := fun _ _ _ => rfl
  rw [h]
  unfold wt
  refine congrArg₂ (fun x y : EReal => x * y) ?_ ?_
  · refine (shapeCast_dropUnit_apply ![1280, 1280] (iblk m c 4 (pt (K.val / 1280))) shapeCasts_S1x1280x1280_S1280x1280
      (ix2 (n0 := 1280) (n1 := 1280) o ⟨K.val % 1280, Nat.mod_lt _ (by decide)⟩)).trans ?_
    refine (blk4_apply m c _ _ k (by rw [hk]; show _ = min (min (K.val / 1280) 20) 8; omega)).trans ?_
    refine congrArg (argW m c) (funext fun a => Fin.ext ?_)
    match a with
    | ⟨0, _⟩ => rfl
    | ⟨1, _⟩ => rfl
    | ⟨2, _⟩ => exact hc.symm
  · refine (broadcastTo_apply _ broadcasts_S1x1280_S1280x1280 _ (ix2 (n0 := 1) (n1 := 1280) 0 ch) fun a => ?_).trans ?_
    · match a with
      | ⟨0, _⟩ => rfl
      | ⟨1, _⟩ => exact hc
    · exact congrFun (blk5_eq m c (pt (K.val / 1280))) (ix2 (n0 := 1) (n1 := 1280) 0 ch)

/-- The tiles of the product at an element. -/
theorem tile512_apply (lhs : FVec Ideal S512x11520 .bf16) (w : Vec Ideal S512x11520 .bf16) (p n : Fin 512) :
    tile512 lhs w (ix2 (n0 := 512) (n1 := 512) p n)
      = ∑ K : Fin 11520, (lhs (ix2 (n0 := 512) (n1 := 11520) p K) : EReal) * w (ix2 (n0 := 512) (n1 := 11520) n K) := by
  refine (Ideal.matmul_transposedRhs_apply (φ₁ := .bf16) (φ₂ := .bf16) (M := 512) (K := 11520) (N := 512) none lhs w (constant S512x512 .f32 0x00000000#32) p n).trans ?_
  show Ideal.ofBits .f32 0x00000000#32 + _ = _
  rw [ofBits_zero_f32]
  exact zero_add (M := EReal) _

theorem tile256_apply (lhs : FVec Ideal S512x11520 .bf16) (w : Vec Ideal S256x11520 .bf16) (p : Fin 512) (n : Fin 256) :
    tile256 lhs w (ix2 (n0 := 512) (n1 := 256) p n)
      = ∑ K : Fin 11520, (lhs (ix2 (n0 := 512) (n1 := 11520) p K) : EReal) * w (ix2 (n0 := 256) (n1 := 11520) n K) := by
  refine (Ideal.matmul_transposedRhs_apply (φ₁ := .bf16) (φ₂ := .bf16) (M := 512) (K := 11520) (N := 256) none lhs w (constant S512x256 .f32 0x00000000#32) p n).trans ?_
  show Ideal.ofBits .f32 0x00000000#32 + _ = _
  rw [ofBits_zero_f32]
  exact zero_add (M := EReal) _

/-- The written block at pixel `p` and channel `o` is one sum over all taps and channels. -/
theorem outOf_apply (x7 : Vec Ideal S1280x11520 .bf16) (x8 : Vec Ideal S2x640x3840 .bf16) (p : Fin 512) (o : Fin 1280) :
    outOf 0 x7 x8 (ix2 (n0 := 512) (n1 := 1280) p o)
      = ∑ K : Fin 11520, (lhsOf (bufRows x8 0 128) (bufRows x8 0 64) (bufRows x8 0 0) (ix2 (n0 := 512) (n1 := 11520) p K) : EReal)
          * x7 (ix2 (n0 := 1280) (n1 := 11520) o K) := by
  have hw : ∀ (q : ℕ) (hq : q < 1280) (K : Fin 11520), q = o.val →
      x7 (ix2 (n0 := 1280) (n1 := 11520) ⟨q, hq⟩ K) = x7 (ix2 (n0 := 1280) (n1 := 11520) o K) := by
    rintro q hq K rfl; rfl
  have ho := o.isLt
  unfold outOf
  dsimp only
  show (if h0 : o.val < 512 then _ else _) = _
  by_cases h0 : o.val < 512
  · rw [dif_pos h0]
    refine (tile512_apply _ _ p ⟨o.val, h0⟩).trans (Finset.sum_congr rfl fun K _ => congrArg (_ * ·) ?_)
    exact hw ((0 + o.val) % 1280) _ K (by omega)
  rw [dif_neg h0]
  show (if h1 : o.val < 1024 then _ else _) = _
  by_cases h1 : o.val < 1024
  · rw [dif_pos h1]
    refine (tile512_apply _ _ p ⟨o.val - 512, by omega⟩).trans (Finset.sum_congr rfl fun K _ => congrArg (_ * ·) ?_)
    exact hw ((512 + (o.val - 512)) % 1280) _ K (by omega)
  rw [dif_neg h1]
  refine (tile256_apply _ _ p ⟨o.val - 1024, by omega⟩).trans (Finset.sum_congr rfl fun K _ => congrArg (_ * ·) ?_)
  exact hw ((1024 + (o.val - 1024)) % 1280) _ K (by omega)

/-- A sum over all columns, tap by tap. -/
theorem sum_taps (f : Fin 11520 → EReal) : ∑ K : Fin 11520, f K = ∑ k : Fin 9, ∑ ch : Fin 1280, f ⟨k.val * 1280 + ch.val, by omega⟩ := by
  have e : ∑ K : Fin 11520, f K = ∑ x : Fin 9 × Fin 1280, f (finProdFinEquiv (m := 9) (n := 1280) x) :=
    (Equiv.sum_comp (finProdFinEquiv (m := 9) (n := 1280)) f).symm
  rw [e, Fintype.sum_prod_type]
  refine Finset.sum_congr rfl fun k _ => Finset.sum_congr rfl fun ch _ => congrArg f (Fin.ext ?_)
  show ch.val + 1280 * k.val = k.val * 1280 + ch.val
  omega

/-- The result array is the input gradient, -/
theorem resK_at (c : Dev nD) (p : Fin 6144) (o : Fin 1280) :
    resK m c (ix2 (n0 := 6144) (n1 := 1280) p o) = grad (argCodes m c) (argScale m c) (argW m c) (argWs m c) p.val o := by
  have h0 := p.isLt
  have hp : (pt (p.val / 512 + 9)).val - 1 = p.val / 512 + 8 := by show min (p.val / 512 + 9) 20 - 1 = _; omega
  have e : resK m c (ix2 (n0 := 6144) (n1 := 1280) p o) = outOf 0 (wFull m c) (bufOf (prepRows m c (pt (p.val / 512 + 8))))
      (ix2 (n0 := 512) (n1 := 1280) ⟨p.val % 512, Nat.mod_lt _ (by decide)⟩ o) := by
    rw [← hp]; rfl
  rw [e, outOf_apply, sum_taps]
  unfold grad tapSum
  refine Finset.sum_congr rfl fun k _ => Finset.sum_congr rfl fun ch _ => ?_
  have hk := k.isLt
  have hc := ch.isLt
  rw [lhsOf_apply, wFull_apply m c o _ k ch (by show _ = (k.val * 1280 + ch.val) / 1280; omega) (by show _ = (k.val * 1280 + ch.val) % 1280; omega)]
  rw [bufOf_apply m c (p.val / 512) (by omega) _ (p.val / 64 % 48 + (2 - k.val / 3)) (p.val % 64 + (2 - k.val % 3)) ch
    (by show _ = p.val / 512 % 6 * 8 + (p.val % 512 + 64 * (2 - (k.val * 1280 + ch.val) / 3840)) / 64; omega)
    (by show _ = (p.val % 512 + 64 * (2 - (k.val * 1280 + ch.val) / 3840)) % 64 + (2 - (k.val * 1280 + ch.val) % 3840 / 1280); omega)
    (by show _ = (k.val * 1280 + ch.val) % 3840 % 1280; omega)]
  rw [show p.val / 512 / 6 = p.val / 3072 by omega]

/-- at every index. -/
theorem resK_apply (c : Dev nD) (i : S6144x1280.Idx) :
    resK m c i = grad (argCodes m c) (argScale m c) (argW m c) (argWs m c) (i 0).val (i 1) := by
  have e := ValueIdx.eq_ix2 (n0 := 6144) (n1 := 1280) i
  exact (congrArg (resK m c) e).trans (resK_at m c (i 0) (i 1))

end Cert.KernelIdeal.Hand
-- ==== Proof.ReferenceIdeal.Run.lean ====
module

public import proofs.«01_k».proof.Proof.Gen.ReferenceIdeal
public import proofs.«01_k».proof.Proof.Gen.ReferenceIdeal.Frame
public import Idealize.ShloMosaic.Lib.StableHlo.Run
public import Idealize.ShloMosaic.Lib.Pipeline.FrameSuffix

/-! The run of the reference: the operations after its region, with the value they leave named in steps. -/

@[expose] public section

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The gradient's codes times their scale. -/
def deqV (x1 : (⟨S96x64, .f32⟩ : BufTy).Contents (Elt F)) (r0 : (⟨S6144x1280, .bf16⟩ : BufTy).Contents (Elt F)) :
    (⟨S6144x1280, .bf16⟩ : BufTy).Contents (Elt F) :=
  mulf r0 (broadcastInDim S6144x1280 ![0, 1] bcast_S6144x1_S6144x1280_0_1 (shapeCast _ (truncf .bf16 x1 bitsLt_bf16_f32) shapeCasts_S96x64_S6144x1))

/-- The same as images with a border of zeros. -/
def gradV (x1 : (⟨S96x64, .f32⟩ : BufTy).Contents (Elt F)) (r0 : (⟨S6144x1280, .bf16⟩ : BufTy).Contents (Elt F)) :
    (⟨S2x50x66x1280, .bf16⟩ : BufTy).Contents (Elt F) :=
  pad S2x50x66x1280 ![0, 1, 1, 0] ![0, 1, 1, 0] ![0, 0, 0, 0] (shapeCast _ (deqV x1 r0) shapeCasts_S6144x1280_S2x48x64x1280)
    (sitofp .bf16 (constantI S_ 32 0#32)) pads_S2x48x64x1280_S2x50x66x1280_000_110_110_000 h_S_

/-- The weight's codes times their scale, by kernel row and column. -/
def weightV (x3 : (⟨S1x1280, .f32⟩ : BufTy).Contents (Elt F)) (r1 : (⟨S9x1280x1280, .bf16⟩ : BufTy).Contents (Elt F)) :
    (⟨S3x3x1280x1280, .bf16⟩ : BufTy).Contents (Elt F) :=
  shapeCast _ (mulf r1 (broadcastInDim S9x1280x1280 ![0, 1, 2] bcast_S1x1x1280_S9x1280x1280_0_1_2
    (broadcastInDim S1x1x1280 ![1, 2] bcast_S1x1280_S1x1x1280_1_2 (truncf .bf16 x3 bitsLt_bf16_f32)))) shapeCasts_S9x1280x1280_S3x3x1280x1280

/-- One tap: the window of the gradient at `off` times the weights at `off'`. -/
def tapV (P : (⟨S2x50x66x1280, .bf16⟩ : BufTy).Contents (Elt F)) (W : (⟨S3x3x1280x1280, .bf16⟩ : BufTy).Contents (Elt F))
    {off off' : Fin 4 → ℕ} (hs : S2x50x66x1280.Slices off S2x48x64x1280) (hs' : S3x3x1280x1280.Slices off' S1x1x1280x1280) :
    (⟨S2x48x64x1280, .f32⟩ : BufTy).Contents (Elt F) :=
  Host.dotGeneral dot_S2x48x64x1280_S1280x1280_S2x48x64x1280_3_1_012_0_n_n none (extractStridedSlice S2x48x64x1280 off P hs)
    (shapeCast S1280x1280 (extractStridedSlice S1x1x1280x1280 off' W hs') shapeCasts_S1x1x1280x1280_S1280x1280)

/-- The nine taps added up. -/
def sumV (P : (⟨S2x50x66x1280, .bf16⟩ : BufTy).Contents (Elt F)) (W : (⟨S3x3x1280x1280, .bf16⟩ : BufTy).Contents (Elt F)) :
    (⟨S2x48x64x1280, .f32⟩ : BufTy).Contents (Elt F) :=
  (addf (addf (addf (addf (addf (addf (addf (addf (tapV P W slices_S2x50x66x1280_S2x48x64x1280_0_0_0_0 slices_S3x3x1280x1280_S1x1x1280x1280_2_2_0_0)
    (tapV P W slices_S2x50x66x1280_S2x48x64x1280_0_0_1_0 slices_S3x3x1280x1280_S1x1x1280x1280_2_1_0_0))
    (tapV P W slices_S2x50x66x1280_S2x48x64x1280_0_0_2_0 slices_S3x3x1280x1280_S1x1x1280x1280_2_0_0_0))
    (tapV P W slices_S2x50x66x1280_S2x48x64x1280_0_1_0_0 slices_S3x3x1280x1280_S1x1x1280x1280_1_2_0_0))
    (tapV P W slices_S2x50x66x1280_S2x48x64x1280_0_1_1_0 slices_S3x3x1280x1280_S1x1x1280x1280_1_1_0_0))
    (tapV P W slices_S2x50x66x1280_S2x48x64x1280_0_1_2_0 slices_S3x3x1280x1280_S1x1x1280x1280_1_0_0_0))
    (tapV P W slices_S2x50x66x1280_S2x48x64x1280_0_2_0_0 slices_S3x3x1280x1280_S1x1x1280x1280_0_2_0_0))
    (tapV P W slices_S2x50x66x1280_S2x48x64x1280_0_2_1_0 slices_S3x3x1280x1280_S1x1x1280x1280_0_1_0_0))
    (tapV P W slices_S2x50x66x1280_S2x48x64x1280_0_2_2_0 slices_S3x3x1280x1280_S1x1x1280x1280_0_0_0_0))

/-- The result, of the scales and of what the region leaves. -/
def outV (x1 : (⟨S96x64, .f32⟩ : BufTy).Contents (Elt F)) (x3 : (⟨S1x1280, .f32⟩ : BufTy).Contents (Elt F))
    (r0 : (⟨S6144x1280, .bf16⟩ : BufTy).Contents (Elt F)) (r1 : (⟨S9x1280x1280, .bf16⟩ : BufTy).Contents (Elt F)) :
    (⟨S6144x1280, .bf16⟩ : BufTy).Contents (Elt F) :=
  shapeCast _ (truncf .bf16 (sumV (gradV x1 r0) (weightV x3 r1)) bitsLt_bf16_f32) shapeCasts_S2x48x64x1280_S6144x1280

variable (m : (ℓ : Loc nD τ sig) → Buf (Elt F) ℓ)

/-- Core `c`'s TensorCore buffer contents when the region is left: the arrays of its pipeline at what the proof data give
    after the last point, every other buffer as the region found it. -/
abbrev exitV (c : Dev nD) : Valuation τ sig (Elt F) :=
  Pipeline.withArrays spec0 c (Gen.V0 m c) fun w => (Gen.dats m 0 c).arrAt w cfg0.N

/-- What the kernel region leaves in its result array `main_v0_0` (window 2's): not opened here. -/
def reg_main_v0_0 (c : Dev nD) : Buf (Elt F) ((c.tc : Thread nD τ).loc main_v0_0) := (Gen.dats m 0 c).arrAt 2 cfg0.N
/-- What the kernel region leaves in its result array `main_v0_1` (window 3's): not opened here. -/
def reg_main_v0_1 (c : Dev nD) : Buf (Elt F) ((c.tc : Thread nD τ).loc main_v0_1) := (Gen.dats m 0 c).arrAt 3 cfg0.N

/-- The exit contents at argument `main_arg1`: as launched. -/
theorem exit_main_arg1 (c : Dev nD) : exitV m c (Proc.devRef .tc main_arg1) = m ((c.tc : Thread nD τ).loc main_arg1) :=
  (Pipeline.withArrays_of_ne _ c (Gen.V0 m c) _ main_arg1 (by exact (by decide : ∀ w, Pipeline.arrRef spec0 w ≠ main_arg1))).trans (Gen.V_main_arg1 m c)
/-- The exit contents at argument `main_arg3`: as launched. -/
theorem exit_main_arg3 (c : Dev nD) : exitV m c (Proc.devRef .tc main_arg3) = m ((c.tc : Thread nD τ).loc main_arg3) :=
  (Pipeline.withArrays_of_ne _ c (Gen.V0 m c) _ main_arg3 (by exact (by decide : ∀ w, Pipeline.arrRef spec0 w ≠ main_arg3))).trans (Gen.V_main_arg3 m c)
/-- The exit contents at the region's result array `main_v0_0`. -/
theorem exit_main_v0_0 (c : Dev nD) : exitV m c (Proc.devRef .tc main_v0_0) = reg_main_v0_0 m c :=
  Pipeline.withArrays_arr spec0 Gen.launch0.win.arr_inj c (Gen.V0 m c) _ 2
/-- The exit contents at the region's result array `main_v0_1`. -/
theorem exit_main_v0_1 (c : Dev nD) : exitV m c (Proc.devRef .tc main_v0_1) = reg_main_v0_1 m c :=
  Pipeline.withArrays_arr spec0 Gen.launch0.win.arr_inj c (Gen.V0 m c) _ 3

set_option maxRecDepth 8192 in
set_option maxHeartbeats 2000000 in
/-- The later operations from any contents `V0`, read at the result. -/
theorem tail_main_v57 (V0 : Valuation τ sig (Elt F)) :
    after (List.flatten [Gen.hostOps1, Gen.hostOps1_1, Gen.hostOps1_2]) V0 (Proc.devRef .tc main_v57)
      = outV (V0 (Proc.devRef .tc main_arg1)) (V0 (Proc.devRef .tc main_arg3)) (V0 (Proc.devRef .tc main_v0_0)) (V0 (Proc.devRef .tc main_v0_1)) := by
  simp only [Gen.hostOps1, Gen.hostOps1_1, Gen.hostOps1_2, TRef.binary, TRef.unary, TRef.toBuf, TRef.ofBuf, cast_eq, List.flatten_cons, List.flatten_nil, List.append_nil, List.cons_append, List.nil_append]
  after_results_simp <;> rfl

/-- The result of the reference. -/
def resV (c : Dev nD) : Buf (Elt F) ((c.tc : Thread nD τ).loc main_v57) :=
  outV (m ((c.tc : Thread nD τ).loc main_arg1)) (m ((c.tc : Thread nD τ).loc main_arg3)) (reg_main_v0_0 m c) (reg_main_v0_1 m c)

/-- Result `main_v57` after the later operations from the region's exit contents. -/
theorem fin_main_v57 (c : Dev nD) :
    Pipeline.afterTail₀ cfgs (Gen.dats m) 0 (Gen.V0 m) [Gen.hostOps1, Gen.hostOps1_1, Gen.hostOps1_2] c main_v57 = resV m c := by
  refine (tail_main_v57 (exitV m c)).trans ?_
  unfold resV
  rw [exit_main_arg1, exit_main_arg3, exit_main_v0_0, exit_main_v0_1]

/-- On every device, for any float values, from any memory with zero counters: every weakly fair execution of
    @main terminates with each result at the later operations' composed term of the arguments and the region's
    outputs, and the arguments unchanged. -/
theorem run (ρ : Dev nD → PrngReg) :
    θ_run defs (onTc (τ := τ) (main (F := F))) ⟨m, fun _ => 0, ρ⟩ fun r => ∀ c : Dev nD,
      r.2.mem ((c.tc : Thread nD τ).loc main_v57) = resV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).2 main_v57 (Pipeline.mem_restRefs_of main_v57 (by decide) (by decide))).trans (fin_main_v57 m c),
      ((h c).1 0).trans (((Gen.dats m 0 c).arrAt_in 0 rfl _).trans ((Gen.A_eq m c 0).trans (Gen.V_main_arg0 m c))),
      ((h c).2 main_arg1 (Pipeline.mem_restRefs_of main_arg1 (by decide) (by decide))).trans (Gen.W_main_arg1 m (Gen.dats m) c),
      ((h c).1 1).trans (((Gen.dats m 0 c).arrAt_in 1 rfl _).trans ((Gen.A_eq m c 1).trans (Gen.V_main_arg2 m c))),
      ((h c).2 main_arg3 (Pipeline.mem_restRefs_of main_arg3 (by decide) (by decide))).trans (Gen.W_main_arg3 m (Gen.dats m) c)⟩) (Gen.run_main m ρ)

end Cert.ReferenceIdeal.Hand

end
-- ==== Proof.ReferenceIdeal.Grad.lean ====
module

public import proofs.«01_k».proof.Proof.Spec
public import proofs.«01_k».proof.Proof.ReferenceIdeal.Run
public import Idealize.ShloMosaic.Lib.Pipeline.Value
public import Idealize.ShloMosaic.Lib.ValueIdx
public import Idealize.ShloMosaic.PureOps.Ideal.Laws
public import Idealize.ShloMosaic.Lib.Pipeline.ValueKit.Basic
public import Idealize.ShloMosaic.Lib.KernelVsHost

/-! The result of the reference over the extended reals: at each pixel and channel it is the input gradient. -/

@[expose] public section

set_option maxRecDepth 16384

noncomputable section

namespace Cert.ReferenceIdeal.Hand

open Cert.ReferenceIdeal Cert.ReferenceIdeal.Gen Cert.Spec
open Idealize.ShloMosaic Idealize.ShloMosaic.TcCoe
open Idealize.ShloMosaic.ValueIdx (ix2 ix3 ix4)
open Idealize.ShloMosaic.Pipeline (Dat)

variable (x1 : Vec Ideal S96x64 .f32) (x3 : Vec Ideal S1x1280 .f32) (r0 : Vec Ideal S6144x1280 .bf16) (r1 : Vec Ideal S9x1280x1280 .bf16)

/-- The dequantised gradient. -/
theorem deqV_at (i : S6144x1280.Idx) (j : S96x64.Idx) (h0 : (j 0).val = (i 0).val / 64) (h1 : (j 1).val = (i 0).val % 64) :
    deqV (F := Ideal) x1 r0 i = (r0 i : EReal) * x1 j := by
  have hi : (i 0).val < 6144 := (i 0).isLt
  unfold deqV
  have hm : ∀ (A B : Vec Ideal S6144x1280 .bf16) l, (mulf (F := Ideal) (φ := .bf16) A B l : EReal) = (A l : EReal) * B l := fun _ _ _ => rfl
  rw [hm]
  refine congrArg (fun y : EReal => (r0 i : EReal) * y) ?_
  refine (broadcastInDim_apply _ _ _ i (ix2 (n0 := 6144) (n1 := 1) ⟨(i 0).val, hi⟩ 0) fun a => ?_).trans ?_
  · match a with
    | ⟨0, _⟩ => show (i 0).val = if (6144 : Nat) = 1 then 0 else (i 0).val; rw [if_neg (by decide)]
    | ⟨1, _⟩ => show 0 = if (1 : Nat) = 1 then 0 else (i 1).val; rw [if_pos rfl]
  refine (shapeCast_apply _ _ _ j ?_).trans rfl
  rw [Shape.rowMajor_val_two, Shape.rowMajor_val_two]
  show (j 0).val * 64 + (j 1).val = (i 0).val * 1 + 0
  omega

/-- The same with its border of zeros. -/
theorem gradV_at (i : S2x50x66x1280.Idx) (ch : Fin 1280) (hc : (i 3).val = ch.val) :
    gradV (F := Ideal) x1 r0 i = gp r0 x1 (i 0).val (i 1).val (i 2).val ch := by
  have h0 : (i 0).val < 2 := (i 0).isLt
  have h1 : (i 1).val < 50 := (i 1).isLt
  have h2 : (i 2).val < 66 := (i 2).isLt
  have h3 : (i 3).val < 1280 := (i 3).isLt
  unfold gradV
  by_cases hin : (1 ≤ (i 1).val ∧ (i 1).val ≤ 48) ∧ 1 ≤ (i 2).val ∧ (i 2).val ≤ 64
  · refine (pad_apply_of_inside _ _ _ _ _ _ _ i (ix4 (n0 := 2) (n1 := 48) (n2 := 64) (n3 := 1280) ⟨(i 0).val, h0⟩ ⟨(i 1).val - 1, by omega⟩
      ⟨(i 2).val - 1, by omega⟩ ⟨(i 3).val, h3⟩) fun a => ?_).trans ?_
    · match a with
      | ⟨0, _⟩ => show (i 0).val = 0 + (i 0).val * 1; omega
      | ⟨1, _⟩ => show (i 1).val = 1 + ((i 1).val - 1) * 1; omega
      | ⟨2, _⟩ => show (i 2).val = 1 + ((i 2).val - 1) * 1; omega
      | ⟨3, _⟩ => show (i 3).val = 0 + (i 3).val * 1; omega
    refine (shapeCast_apply _ _ _ (ix2 (n0 := 6144) (n1 := 1280) ⟨((i 0).val * 48 + ((i 1).val - 1)) * 64 + ((i 2).val - 1), by omega⟩
      ⟨(i 3).val, h3⟩) ?_).trans ?_
    · rw [Shape.rowMajor_val_two, Shape.rowMajor_val_four]
      rfl
    refine (deqV_at x1 r0 _ (ix2 (n0 := 96) (n1 := 64) ⟨(i 0).val * 48 + ((i 1).val - 1), by omega⟩ ⟨(i 2).val - 1, by omega⟩) ?_ ?_).trans ?_
    · show (i 0).val * 48 + ((i 1).val - 1) = (((i 0).val * 48 + ((i 1).val - 1)) * 64 + ((i 2).val - 1)) / 64
      omega
    · show (i 2).val - 1 = (((i 0).val * 48 + ((i 1).val - 1)) * 64 + ((i 2).val - 1)) % 64
      omega
    · exact (gp_in h0 hin.1.1 hin.1.2 hin.2.1 hin.2.2 _ _ rfl hc rfl rfl).symm
  · rw [gp_out hin]
    have hz : ∀ u, sitofp (F := Ideal) .bf16 (constantI S_ 32 0#32) u = (0 : EReal) := fun u => sitofp_zero
    by_cases hh : 1 ≤ (i 1).val ∧ (i 1).val ≤ 48
    · refine (pad_apply_of_not_inside _ _ _ _ _ _ _ i 2 fun h => ?_).trans (hz _)
      have a1 : 1 ≤ (i 2).val := h.1
      have a2 : ((i 2).val - 1) / 1 < 64 := h.2.2
      omega
    · refine (pad_apply_of_not_inside _ _ _ _ _ _ _ i 1 fun h => ?_).trans (hz _)
      have a1 : 1 ≤ (i 1).val := h.1
      have a2 : ((i 1).val - 1) / 1 < 48 := h.2.2
      omega

/-- The dequantised weights. -/
theorem weightV_at (i : S3x3x1280x1280.Idx) (k : Fin 9) (o ch : Fin 1280) (h0 : (i 0).val = k.val / 3) (h1 : (i 1).val = k.val % 3)
    (h2 : (i 2).val = o.val) (h3 : (i 3).val = ch.val) : weightV (F := Ideal) x3 r1 i = wt r1 x3 k o ch := by
  have hk := k.isLt
  have ho := o.isLt
  have hc := ch.isLt
  unfold weightV wt
  refine (shapeCast_apply _ _ _ (ix3 k o ch) ?_).trans ?_
  · rw [Shape.rowMajor_val_three, Shape.rowMajor_val_four]
    show (k.val * 1280 + o.val) * 1280 + ch.val = (((i 0).val * 3 + (i 1).val) * 1280 + (i 2).val) * 1280 + (i 3).val
    omega
  have hm : ∀ (A B : Vec Ideal S9x1280x1280 .bf16) l, (mulf (F := Ideal) (φ := .bf16) A B l : EReal) = (A l : EReal) * B l := fun _ _ _ => rfl
  rw [hm]
  refine congrArg (fun y : EReal => (r1 (ix3 k o ch) : EReal) * y) ?_
  refine (broadcastInDim_apply _ _ _ _ (ix3 (n0 := 1) (n1 := 1) (n2 := 1280) 0 0 ch) fun a => ?_).trans ?_
  · match a with
    | ⟨0, _⟩ => show 0 = if (1 : Nat) = 1 then 0 else k.val; rw [if_pos rfl]
    | ⟨1, _⟩ => show 0 = if (1 : Nat) = 1 then 0 else o.val; rw [if_pos rfl]
    | ⟨2, _⟩ => show ch.val = if (1280 : Nat) = 1 then 0 else ch.val; rw [if_neg (by decide)]
  refine (broadcastInDim_apply _ _ _ _ (ix2 (n0 := 1) (n1 := 1280) 0 ch) fun a => ?_).trans rfl
  match a with
  | ⟨0, _⟩ => show 0 = if (1 : Nat) = 1 then 0 else 0; rw [if_pos rfl]
  | ⟨1, _⟩ => show ch.val = if (1280 : Nat) = 1 then 0 else ch.val; rw [if_neg (by decide)]

/-! Which entries a tap's product pairs. -/

theorem left0 (i : S2x48x64x1280.Idx) (q : dot_S2x48x64x1280_S1280x1280_S2x48x64x1280_3_1_012_0_n_n.contr.Idx) : (dot_S2x48x64x1280_S1280x1280_S2x48x64x1280_3_1_012_0_n_n.lhsIdx i q 0).val = (i 0).val := by
  unfold DotDims.lhsIdx
  rw [dif_neg (show ¬(0 : Fin S2x48x64x1280.rank) ∈ dot_S2x48x64x1280_S1280x1280_S2x48x64x1280_3_1_012_0_n_n.lhsBatch by decide), dif_pos (show (0 : Fin S2x48x64x1280.rank) ∈ dot_S2x48x64x1280_S1280x1280_S2x48x64x1280_3_1_012_0_n_n.lhsNonContracting by decide)]
  rfl
theorem left1 (i : S2x48x64x1280.Idx) (q : dot_S2x48x64x1280_S1280x1280_S2x48x64x1280_3_1_012_0_n_n.contr.Idx) : (dot_S2x48x64x1280_S1280x1280_S2x48x64x1280_3_1_012_0_n_n.lhsIdx i q 1).val = (i 1).val := by
  unfold DotDims.lhsIdx
  rw [dif_neg (show ¬(1 : Fin S2x48x64x1280.rank) ∈ dot_S2x48x64x1280_S1280x1280_S2x48x64x1280_3_1_012_0_n_n.lhsBatch by decide), dif_pos (show (1 : Fin S2x48x64x1280.rank) ∈ dot_S2x48x64x1280_S1280x1280_S2x48x64x1280_3_1_012_0_n_n.lhsNonContracting by decide)]
  rfl
theorem left2 (i : S2x48x64x1280.Idx) (q : dot_S2x48x64x1280_S1280x1280_S2x48x64x1280_3_1_012_0_n_n.contr.Idx) : (dot_S2x48x64x1280_S1280x1280_S2x48x64x1280_3_1_012_0_n_n.lhsIdx i q 2).val = (i 2).val := by
  unfold DotDims.lhsIdx
  rw [dif_neg (show ¬(2 : Fin S2x48x64x1280.rank) ∈ dot_S2x48x64x1280_S1280x1280_S2x48x64x1280_3_1_012_0_n_n.lhsBatch by decide), dif_pos (show (2 : Fin S2x48x64x1280.rank) ∈ dot_S2x48x64x1280_S1280x1280_S2x48x64x1280_3_1_012_0_n_n.lhsNonContracting by decide)]
  rfl
theorem left3 (i : S2x48x64x1280.Idx) (q : dot_S2x48x64x1280_S1280x1280_S2x48x64x1280_3_1_012_0_n_n.contr.Idx) : (dot_S2x48x64x1280_S1280x1280_S2x48x64x1280_3_1_012_0_n_n.lhsIdx i q 3).val = (q ⟨0, by decide⟩).val :=
  dot_S2x48x64x1280_S1280x1280_S2x48x64x1280_3_1_012_0_n_n.lhsIdx_val_of_single rfl i q
theorem right0 (i : S2x48x64x1280.Idx) (q : dot_S2x48x64x1280_S1280x1280_S2x48x64x1280_3_1_012_0_n_n.contr.Idx) : (dot_S2x48x64x1280_S1280x1280_S2x48x64x1280_3_1_012_0_n_n.rhsIdx i q 0).val = (i 3).val := by
  unfold DotDims.rhsIdx
  rw [dif_neg (show ¬(0 : Fin S1280x1280.rank) ∈ dot_S2x48x64x1280_S1280x1280_S2x48x64x1280_3_1_012_0_n_n.rhsBatch by decide), dif_pos (show (0 : Fin S1280x1280.rank) ∈ dot_S2x48x64x1280_S1280x1280_S2x48x64x1280_3_1_012_0_n_n.rhsNonContracting by decide)]
  rfl
theorem right1 (i : S2x48x64x1280.Idx) (q : dot_S2x48x64x1280_S1280x1280_S2x48x64x1280_3_1_012_0_n_n.contr.Idx) : (dot_S2x48x64x1280_S1280x1280_S2x48x64x1280_3_1_012_0_n_n.rhsIdx i q 1).val = (q ⟨0, by decide⟩).val :=
  dot_S2x48x64x1280_S1280x1280_S2x48x64x1280_3_1_012_0_n_n.rhsIdx_val_of_single rfl i q

/-- A product of a tap, entry by entry. -/
theorem dot_at (A : Vec Ideal S2x48x64x1280 .bf16) (B : Vec Ideal S1280x1280 .bf16) (i : S2x48x64x1280.Idx) :
    (Host.dotGeneral (F := Ideal) (φ₁ := .bf16) (φ₂ := .bf16) dot_S2x48x64x1280_S1280x1280_S2x48x64x1280_3_1_012_0_n_n none A B i : EReal)
      = ∑ ch : Fin 1280, (A (ix4 (n0 := 2) (n1 := 48) (n2 := 64) (n3 := 1280) (i 0) (i 1) (i 2) ch) : EReal)
          * B (ix2 (n0 := 1280) (n1 := 1280) (i 3) ch) := by
  simp only [Host.dotGeneral]
  rw [Ideal.dotGeneral_apply, ← Equiv.sum_comp (ValueIdx.contrEquiv1 dot_S2x48x64x1280_S1280x1280_S2x48x64x1280_3_1_012_0_n_n 1280 rfl rfl).symm]
  refine Finset.sum_congr rfl fun k _ => ?_
  have hk := ValueIdx.contrEquiv1_symm_val dot_S2x48x64x1280_S1280x1280_S2x48x64x1280_3_1_012_0_n_n 1280 rfl rfl k
  refine congrArg₂ (fun x y => (A x : EReal) * B y) (funext fun a => Fin.ext ?_) (funext fun a => Fin.ext ?_)
  · match a with
    | ⟨0, _⟩ => exact left0 _ _
    | ⟨1, _⟩ => exact left1 _ _
    | ⟨2, _⟩ => exact left2 _ _
    | ⟨3, _⟩ => exact (left3 _ _).trans hk
  · match a with
    | ⟨0, _⟩ => exact right0 _ _
    | ⟨1, _⟩ => exact (right1 _ _).trans hk

/-- A tap, from where its windows start. -/
theorem tapV_at {off off' : Fin 4 → ℕ} (hs : S2x50x66x1280.Slices off S2x48x64x1280) (hs' : S3x3x1280x1280.Slices off' S1x1x1280x1280)
    (i : S2x48x64x1280.Idx) (k : Fin 9) (o0 : off 0 = 0) (o1 : off 1 = 2 - k.val / 3) (o2 : off 2 = 2 - k.val % 3) (o3 : off 3 = 0)
    (w0 : off' 0 = k.val / 3) (w1 : off' 1 = k.val % 3) (w2 : off' 2 = 0) (w3 : off' 3 = 0) :
    (tapV (gradV (F := Ideal) x1 r0) (weightV (F := Ideal) x3 r1) hs hs' i : EReal) = tapSum r0 x1 r1 x3 (i 0).val (i 1).val (i 2).val (i 3) k := by
  have h0 : (i 0).val < 2 := (i 0).isLt
  have h1 : (i 1).val < 48 := (i 1).isLt
  have h2 : (i 2).val < 64 := (i 2).isLt
  have h3 : (i 3).val < 1280 := (i 3).isLt
  have hk := k.isLt
  unfold tapV tapSum
  refine (dot_at _ _ i).trans (Finset.sum_congr rfl fun ch _ => congrArg₂ (fun x y : EReal => x * y) ?_ ?_)
  · refine (extractStridedSlice_apply off _ hs _ (ix4 (n0 := 2) (n1 := 50) (n2 := 66) (n3 := 1280) ⟨(i 0).val, h0⟩
      ⟨(i 1).val + (2 - k.val / 3), by omega⟩ ⟨(i 2).val + (2 - k.val % 3), by omega⟩ ch) fun a => ?_).trans (gradV_at x1 r0 _ ch rfl)
    match a with
    | ⟨0, _⟩ => show (i 0).val = off 0 + (i 0).val; omega
    | ⟨1, _⟩ => show (i 1).val + (2 - k.val / 3) = off 1 + (i 1).val; omega
    | ⟨2, _⟩ => show (i 2).val + (2 - k.val % 3) = off 2 + (i 2).val; omega
    | ⟨3, _⟩ => show ch.val = off 3 + ch.val; omega
  · refine (shapeCast_apply _ _ _ (ix4 (n0 := 1) (n1 := 1) (n2 := 1280) (n3 := 1280) 0 0 ⟨(i 3).val, h3⟩ ch) ?_).trans ?_
    · rw [Shape.rowMajor_val_four, Shape.rowMajor_val_two]
      show ((0 * 1 + 0) * 1280 + (i 3).val) * 1280 + ch.val = (i 3).val * 1280 + ch.val
      omega
    refine (extractStridedSlice_apply off' _ hs' _ (ix4 (n0 := 3) (n1 := 3) (n2 := 1280) (n3 := 1280) ⟨k.val / 3, by omega⟩
      ⟨k.val % 3, by omega⟩ ⟨(i 3).val, h3⟩ ch) fun a => ?_).trans (weightV_at x3 r1 _ k (i 3) ch rfl rfl rfl rfl)
    match a with
    | ⟨0, _⟩ => show k.val / 3 = off' 0 + 0; omega
    | ⟨1, _⟩ => show k.val % 3 = off' 1 + 0; omega
    | ⟨2, _⟩ => show (i 3).val = off' 2 + (i 3).val; omega
    | ⟨3, _⟩ => show ch.val = off' 3 + ch.val; omega

/-- Nine terms added up from the last to the first. -/
theorem sum_nine (T : Fin 9 → EReal) : T 8 + T 7 + T 6 + T 5 + T 4 + T 3 + T 2 + T 1 + T 0 = ∑ k : Fin 9, T k := by
  simp only [Fin.sum_univ_succ, Fin.sum_univ_zero]
  show T 8 + T 7 + T 6 + T 5 + T 4 + T 3 + T 2 + T 1 + T 0 = T 0 + (T 1 + (T 2 + (T 3 + (T 4 + (T 5 + (T 6 + (T 7 + (T 8 + 0))))))))
  abel

/-- The nine taps added up. -/
theorem sumV_at (i : S2x48x64x1280.Idx) : (sumV (gradV (F := Ideal) x1 r0) (weightV (F := Ideal) x3 r1) i : EReal)
    = ∑ k : Fin 9, tapSum r0 x1 r1 x3 (i 0).val (i 1).val (i 2).val (i 3) k := by
  have ha : ∀ (A B : Vec Ideal S2x48x64x1280 .f32) l, (addf (F := Ideal) (φ := .f32) A B l : EReal) = (A l : EReal) + B l := fun _ _ _ => rfl
  unfold sumV
  rw [ha, ha, ha, ha, ha, ha, ha, ha,
    tapV_at x1 x3 r0 r1 _ _ i 8 rfl rfl rfl rfl rfl rfl rfl rfl,
    tapV_at x1 x3 r0 r1 _ _ i 7 rfl rfl rfl rfl rfl rfl rfl rfl,
    tapV_at x1 x3 r0 r1 _ _ i 6 rfl rfl rfl rfl rfl rfl rfl rfl,
    tapV_at x1 x3 r0 r1 _ _ i 5 rfl rfl rfl rfl rfl rfl rfl rfl,
    tapV_at x1 x3 r0 r1 _ _ i 4 rfl rfl rfl rfl rfl rfl rfl rfl,
    tapV_at x1 x3 r0 r1 _ _ i 3 rfl rfl rfl rfl rfl rfl rfl rfl,
    tapV_at x1 x3 r0 r1 _ _ i 2 rfl rfl rfl rfl rfl rfl rfl rfl,
    tapV_at x1 x3 r0 r1 _ _ i 1 rfl rfl rfl rfl rfl rfl rfl rfl,
    tapV_at x1 x3 r0 r1 _ _ i 0 rfl rfl rfl rfl rfl rfl rfl rfl]
  exact sum_nine fun k => tapSum r0 x1 r1 x3 (i 0).val (i 1).val (i 2).val (i 3) k

/-- The reference's result is the input gradient of the codes the region casts. -/
theorem outV_at (i : S6144x1280.Idx) : (outV (F := Ideal) x1 x3 r0 r1 i : EReal) = grad r0 x1 r1 x3 (i 0).val (i 1) := by
  have h0 : (i 0).val < 6144 := (i 0).isLt
  have h1 : (i 1).val < 1280 := (i 1).isLt
  unfold outV
  refine (shapeCast_apply _ _ i (ix4 (n0 := 2) (n1 := 48) (n2 := 64) (n3 := 1280) ⟨(i 0).val / 3072, by omega⟩ ⟨(i 0).val / 64 % 48, by omega⟩
    ⟨(i 0).val % 64, by omega⟩ ⟨(i 1).val, h1⟩) ?_).trans ?_
  · rw [Shape.rowMajor_val_four, Shape.rowMajor_val_two]
    show (((i 0).val / 3072 * 48 + (i 0).val / 64 % 48) * 64 + (i 0).val % 64) * 1280 + (i 1).val = (i 0).val * 1280 + (i 1).val
    omega
  exact sumV_at x1 x3 r0 r1 _

/-! The region casts the codes, which over the extended reals leaves them. -/

theorem out2_eq (y0 : Vec Ideal S6144x1280 .fp8e5m2) (i : S6144x1280.Idx) (y1 : Vec Ideal S9x1280x1280 .fp8e4m3) :
    (out0_2 (F := Ideal) y0 y1 i : EReal) = y0 i := by
  unfold out0_2
  rw [View.canon_cons_unit_lit _ _ _ (by decide)]
  show View.ld y0 r0_0 i = y0 i
  rw [View.ld_unit_lit _ _ (by decide)]

theorem out3_eq (y0 : Vec Ideal S6144x1280 .fp8e5m2) (y1 : Vec Ideal S9x1280x1280 .fp8e4m3) (i : S9x1280x1280.Idx) :
    (out0_3 (F := Ideal) y0 y1 i : EReal) = y1 i := by
  unfold out0_3
  rw [View.canon_cons_unit_lit _ _ _ (by decide)]
  show View.ld y1 r0_1 i = y1 i
  rw [View.ld_unit_lit _ _ (by decide)]

end Cert.ReferenceIdeal.Hand
-- ==== Proof.ReferenceIdeal.Region.lean ====
module

public import proofs.«01_k».proof.Proof.ReferenceIdeal.Grad

/-! What the reference's region leaves, over the extended reals: the codes themselves; so the reference's result is the input gradient of its arguments. -/

@[expose] public section

set_option maxRecDepth 16384

noncomputable section

namespace Cert.ReferenceIdeal.Hand

open Cert.ReferenceIdeal Cert.ReferenceIdeal.Gen Cert.Spec
open Idealize.ShloMosaic Idealize.ShloMosaic.TcCoe
open Idealize.ShloMosaic.Pipeline (Dat)

variable (m : (ℓ : Loc nD τ sig) → Buf (Elt Ideal) ℓ)

/-- The point of the region. -/
abbrev pt0 : Fin cfg0.N := ⟨0, by decide⟩

theorem reg0_eq (c : Dev nD) :
    reg_main_v0_0 m c = (fun i => (m ((c.tc : Thread nD τ).loc main_arg0) i : EReal) : Vec Ideal S6144x1280 .bf16) := by
  unfold reg_main_v0_0
  refine Dat.arrAt_eq_of_cover (cfg := cfg0) (c := c) (dats m 0 c) 2 _ (fun t ht => ?_) fun i => ?_
  · funext x
    show (dats m 0 c).after 2 t _ = _
    rw [after0_2]
    refine (out2_eq _ _ _).trans ?_
    unfold iblk
    rw [View.read_apply, View.read_apply]
    show V m c main_arg0 _ = _
    rw [V_main_arg0]
    rfl
  · refine ⟨pt0, flush0_2 _, ?_⟩
    show i ∈ ((View.whole main_v0_0).slice (win0_2.rect pt0)).set
    rw [View.set_slice_whole, Rect.mem_set_unit]
    intro a
    match a with
    | ⟨0, _⟩ => exact ⟨Nat.zero_le _, (i 0).isLt.trans_eq (Nat.zero_add _).symm⟩
    | ⟨1, _⟩ => exact ⟨Nat.zero_le _, (i 1).isLt.trans_eq (Nat.zero_add _).symm⟩

theorem reg1_eq (c : Dev nD) :
    reg_main_v0_1 m c = (fun i => (m ((c.tc : Thread nD τ).loc main_arg2) i : EReal) : Vec Ideal S9x1280x1280 .bf16) := by
  unfold reg_main_v0_1
  refine Dat.arrAt_eq_of_cover (cfg := cfg0) (c := c) (dats m 0 c) 3 _ (fun t ht => ?_) fun i => ?_
  · funext x
    show (dats m 0 c).after 3 t _ = _
    rw [after0_3]
    refine (out3_eq _ _ _).trans ?_
    unfold iblk
    rw [View.read_apply, View.read_apply]
    show V m c main_arg2 _ = _
    rw [V_main_arg2]
    rfl
  · refine ⟨pt0, flush0_3 _, ?_⟩
    show i ∈ ((View.whole main_v0_1).slice (win0_3.rect pt0)).set
    rw [View.set_slice_whole, Rect.mem_set_unit]
    intro a
    match a with
    | ⟨0, _⟩ => exact ⟨Nat.zero_le _, (i 0).isLt.trans_eq (Nat.zero_add _).symm⟩
    | ⟨1, _⟩ => exact ⟨Nat.zero_le _, (i 1).isLt.trans_eq (Nat.zero_add _).symm⟩
    | ⟨2, _⟩ => exact ⟨Nat.zero_le _, (i 2).isLt.trans_eq (Nat.zero_add _).symm⟩

/-- The reference's result, of its arguments. -/
theorem resV_apply (c : Dev nD) (i : S6144x1280.Idx) : (resV m c i : EReal)
    = grad (fun j => m ((c.tc : Thread nD τ).loc main_arg0) j) (fun j => m ((c.tc : Thread nD τ).loc main_arg1) j)
        (fun j => m ((c.tc : Thread nD τ).loc main_arg2) j) (fun j => m ((c.tc : Thread nD τ).loc main_arg3) j) (i 0).val (i 1) := by
  unfold resV
  rw [reg0_eq, reg1_eq]
  exact outV_at _ _ _ _ i

end Cert.ReferenceIdeal.Hand
-- ==== Proof.Algebra.lean ====
module

public import proofs.«01_k».proof.Defs
public import proofs.«01_k».proof.Proof.Gen.KernelIdeal
public import proofs.«01_k».proof.Proof.Gen.ReferenceIdeal
public import proofs.«01_k».proof.Proof.KernelIdeal.OutIdeal
public import proofs.«01_k».proof.Proof.ReferenceIdeal.Region

/-! The value claim: over the extended reals the kernel's result and the reference's are both the input gradient of the same arguments. -/

@[expose] public section

noncomputable section

namespace Cert.Proof

open Idealize.ShloMosaic Idealize.ShloMosaic.TcCoe Idealize.SL.Sem Cert.Spec

/-- Kernel and reference, from memories that agree on the arguments, end with the same result. -/
theorem algebraic : Cert.algebraic_KernelIdeal_ReferenceIdeal (hKernelIdeal := Cert.KernelIdeal.Gen.facts) (hReferenceIdeal := Cert.ReferenceIdeal.Gen.facts) := by
  intro m g m' g' _ hargs
  refine ⟨fun c => Cert.KernelIdeal.Hand.resK m c, Cert.KernelIdeal.Hand.run_read m g, ?_⟩
  refine (θ_run _ _ _).mono (fun r h c => ⟨(h c).1.trans ?_, (h c).2⟩) (Cert.ReferenceIdeal.Hand.run m' g')
  obtain ⟨a0, a1, a2, a3⟩ := hargs c
  funext i
  refine (Cert.ReferenceIdeal.Hand.resV_apply m' c i).trans ?_
  rw [a0, a1, a2, a3]
  exact (Cert.KernelIdeal.Hand.resK_apply m c i).symm

end Cert.Proof
-- ==== Proof.Weight.Runs.lean ====
module

public import proofs.«01_k».proof.Proof.Gen.Weight.Frame
public import proofs.«01_k».proof.Proof.Gen.Weight.Skeleton

/-! What the two cases of the weight-gradient kernel's body share: the branch conditions in closed form, the staging buffers
and the invariant between grid points. -/

@[expose] public section

-- membership in a rectangle of production extents (`View.cover_of_tiled`): the elaborator's structural look
-- recurses once per coordinate of the long axes
set_option maxRecDepth 16384

noncomputable section

namespace Cert.Weight.Hand

open Cert.Weight.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, k0_cond1, e0]
    word_cmp
   : ∀ t : Fin grid0.N, cond0_0 (grid0.coords t) ↔ t.val % 16 = 0)

/-- The condition of the body's `scf.if` 1 (`k0_h2`), from the grid coordinates (the skeleton's scalar
    chain substituted). -/
abbrev cond0_1 (i : grid0.Coords) : Prop := k0_cond2 i = 1#1
/-- It holds at the points from point 1 on — decided over the grid. -/
theorem hcond0_1 : ∀ t : Fin cfg0.N, cond0_1 (grid0.coords t) ↔ 1 ≤ t.val :=
  (by decide +kernel : ∀ t : Fin grid0.N, cond0_1 (grid0.coords t) ↔ 1 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1280x6144 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S6144x256 .fp8e5m2 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S96x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S3x1x1280x256 .f32 := win0_3.stage (cfg0.slots t 3)
abbrev hs0_3 (t : Fin cfg0.N) : (ms0_3 t).IsWhole := hstage0_3 ((cfg0.slots t 3).cast nbuf0_3)
/-- The scratch operands: whole scoped buffers of the kernel's own, passed beside the windows. -/
abbrev scM0_0 : Memref sig .tc .vmem S2x2x3200x256 .bf16 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Weight.Hand
-- ==== Proof.Weight.RunA.lean ====
module

public import proofs.«01_k».proof.Proof.Weight.Runs

/-! The body of the weight-gradient kernel at the first grid point: it runs, and hands every buffer back. -/

@[expose] public section

-- membership in a rectangle of production extents (`View.cover_of_tiled`): the elaborator's structural look
-- recurses once per coordinate of the long axes
set_option maxRecDepth 16384

noncomputable section

namespace Cert.Weight.Hand

open Cert.Weight.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 3968000 in
/-- The body's triple IN CASE A (`scf.if` 0 taken, `scf.if` 1 not taken: points 0): on whole staging memrefs — the inputs' at their contents,
    the FORGOTTEN outputs' (3) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg1 : Memref sig .tc .vmem S1280x6144 .bf16) (harg1 : arg1.IsWhole) (arg2 : Memref sig .tc .vmem S6144x256 .fp8e5m2) (harg2 : arg2.IsWhole) (arg3 : Memref sig .tc .vmem S96x64 .f32) (harg3 : arg3.IsWhole) (arg4 : Memref sig .tc .vmem S3x1x1280x256 .f32) (harg4 : arg4.IsWhole) (arg5 : Memref sig .tc .vmem S2x2x3200x256 .bf16) (harg5 : arg5.IsWhole) (hc0 : cond0_0 i) (hc1 : ¬cond0_1 i)
    (x0 : Vec F S1280x6144 .bf16) (x1 : Vec F S6144x256 .fp8e5m2) (x2 : Vec F S96x64 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)) -∗ K ⟨⟩))
          ⊢ wp frame (wpE (defs₀ (F := F)) Variants.none c none) E (cc0_grad_weight i arg1 harg1 arg2 harg2 arg3 harg3 arg4 harg4 arg5 harg5) K := by
    intro E K
    simp only [cc0_grad_weight_eq_skeleton]; unfold cc0_grad_weight_skel
    simp only [k0_part106_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton]
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg1.eq_unread hf0; obtain rfl := harg2.eq_unread hf1; obtain rfl := harg3.eq_unread hf2
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _, _; isplitr; swap; · iexact H3
      ipureintro; rfl
    iexists _, _; isplitr; swap; · iexact HS0
    ipureintro; rfl

end Cert.Weight.Hand
-- ==== Proof.Weight.Offsets.lean ====
module

public import proofs.«01_k».proof.Proof.Weight.Runs

/-! Where the later points of the weight-gradient kernel's grid read and write the buffer, in closed form: the slot read is the parity
of the point before, the slot written the parity of the point. -/

@[expose] public section

set_option maxRecDepth 16384

noncomputable section

namespace Cert.Weight.Hand

open Cert.Weight.Gen
open Idealize.ShloMosaic Idealize.ShloMosaic.TcCoe Idealize.ShloMosaic.Tactic

/-- The slot of the buffer that point `i` multiplies. -/
abbrev slotR (i : grid0.Coords) : ℕ := ((i 0).val - 1) % 2
/-- The slot that point `i` fills (the last point fills the last group's slot once more). -/
abbrev slotW (i : grid0.Coords) : ℕ := min (i 0).val 14 % 2

/-- The slot read, as the body computes it, -/
theorem slotR_word (i : grid0.Coords) (h : 1 ≤ (i 0).val) :
    (Scalar.indexCast (Scalar.remsi (Scalar.subi (BitVec.ofNat 32 (i 0).val) 1#32) 2#32)).toNat = slotR i :=
  (by decide +kernel : ∀ i : grid0.Coords, 1 ≤ (i 0).val →
    (Scalar.indexCast (Scalar.remsi (Scalar.subi (BitVec.ofNat 32 (i 0).val) 1#32) 2#32)).toNat = slotR i) i h

/-- and the slot filled. -/
theorem slotW_word (i : grid0.Coords) :
    (Scalar.indexCast (Scalar.remsi (Scalar.minsi (BitVec.ofNat 32 (i 0).val) 14#32) 2#32)).toNat = slotW i :=
  (by decide +kernel : ∀ i : grid0.Coords,
    (Scalar.indexCast (Scalar.remsi (Scalar.minsi (BitVec.ofNat 32 (i 0).val) 14#32) 2#32)).toNat = slotW i) i

instance {i : grid0.Coords} [h : Fact (1 ≤ (i 0).val)] : ClosedOff (k0_off97 i) := ⟨![slotR i, 0, 128, 0], congrArg (![·, 0, 128, 0]) (slotR_word i h.out)⟩
instance {i : grid0.Coords} [h : Fact (1 ≤ (i 0).val)] : ClosedOff (k0_off98 i) := ⟨![slotR i, 1, 128, 0], congrArg (![·, 1, 128, 0]) (slotR_word i h.out)⟩
instance {i : grid0.Coords} : ClosedOff (k0_off99 i) := ⟨![slotW i, 0, 64, 0], congrArg (![·, 0, 64, 0]) (slotW_word i)⟩
instance {i : grid0.Coords} : ClosedOff (k0_off100 i) := ⟨![slotW i, 0, 128, 0], congrArg (![·, 0, 128, 0]) (slotW_word i)⟩
instance {i : grid0.Coords} : ClosedOff (k0_off101 i) := ⟨![slotW i, 0, 192, 0], congrArg (![·, 0, 192, 0]) (slotW_word i)⟩
instance {i : grid0.Coords} : ClosedOff (k0_off102 i) := ⟨![slotW i, 0, 256, 0], congrArg (![·, 0, 256, 0]) (slotW_word i)⟩
instance {i : grid0.Coords} : ClosedOff (k0_off103 i) := ⟨![slotW i, 0, 320, 0], congrArg (![·, 0, 320, 0]) (slotW_word i)⟩
instance {i : grid0.Coords} : ClosedOff (k0_off104 i) := ⟨![slotW i, 0, 384, 0], congrArg (![·, 0, 384, 0]) (slotW_word i)⟩
instance {i : grid0.Coords} : ClosedOff (k0_off105 i) := ⟨![slotW i, 0, 448, 0], congrArg (![·, 0, 448, 0]) (slotW_word i)⟩
instance {i : grid0.Coords} : ClosedOff (k0_off106 i) := ⟨![slotW i, 0, 512, 0], congrArg (![·, 0, 512, 0]) (slotW_word i)⟩
instance {i : grid0.Coords} : ClosedOff (k0_off107 i) := ⟨![slotW i, 0, 576, 0], congrArg (![·, 0, 576, 0]) (slotW_word i)⟩
instance {i : grid0.Coords} : ClosedOff (k0_off108 i) := ⟨![slotW i, 0, 640, 0], congrArg (![·, 0, 640, 0]) (slotW_word i)⟩
instance {i : grid0.Coords} : ClosedOff (k0_off109 i) := ⟨![slotW i, 0, 704, 0], congrArg (![·, 0, 704, 0]) (slotW_word i)⟩
instance {i : grid0.Coords} : ClosedOff (k0_off110 i) := ⟨![slotW i, 0, 768, 0], congrArg (![·, 0, 768, 0]) (slotW_word i)⟩
instance {i : grid0.Coords} : ClosedOff (k0_off111 i) := ⟨![slotW i, 0, 832, 0], congrArg (![·, 0, 832, 0]) (slotW_word i)⟩
instance {i : grid0.Coords} : ClosedOff (k0_off112 i) := ⟨![slotW i, 0, 896, 0], congrArg (![·, 0, 896, 0]) (slotW_word i)⟩
instance {i : grid0.Coords} : ClosedOff (k0_off113 i) := ⟨![slotW i, 0, 960, 0], congrArg (![·, 0, 960, 0]) (slotW_word i)⟩
instance {i : grid0.Coords} : ClosedOff (k0_off114 i) := ⟨![slotW i, 0, 1024, 0], congrArg (![·, 0, 1024, 0]) (slotW_word i)⟩
instance {i : grid0.Coords} : ClosedOff (k0_off115 i) := ⟨![slotW i, 0, 1088, 0], congrArg (![·, 0, 1088, 0]) (slotW_word i)⟩
instance {i : grid0.Coords} : ClosedOff (k0_off116 i) := ⟨![slotW i, 0, 1152, 0], congrArg (![·, 0, 1152, 0]) (slotW_word i)⟩
instance {i : grid0.Coords} : ClosedOff (k0_off117 i) := ⟨![slotW i, 0, 1216, 0], congrArg (![·, 0, 1216, 0]) (slotW_word i)⟩
instance {i : grid0.Coords} : ClosedOff (k0_off118 i) := ⟨![slotW i, 0, 1280, 0], congrArg (![·, 0, 1280, 0]) (slotW_word i)⟩
instance {i : grid0.Coords} : ClosedOff (k0_off119 i) := ⟨![slotW i, 0, 1344, 0], congrArg (![·, 0, 1344, 0]) (slotW_word i)⟩
instance {i : grid0.Coords} : ClosedOff (k0_off120 i) := ⟨![slotW i, 0, 1408, 0], congrArg (![·, 0, 1408, 0]) (slotW_word i)⟩
instance {i : grid0.Coords} : ClosedOff (k0_off121 i) := ⟨![slotW i, 0, 1472, 0], congrArg (![·, 0, 1472, 0]) (slotW_word i)⟩
instance {i : grid0.Coords} : ClosedOff (k0_off122 i) := ⟨![slotW i, 0, 1536, 0], congrArg (![·, 0, 1536, 0]) (slotW_word i)⟩
instance {i : grid0.Coords} : ClosedOff (k0_off123 i) := ⟨![slotW i, 0, 1600, 0], congrArg (![·, 0, 1600, 0]) (slotW_word i)⟩
instance {i : grid0.Coords} : ClosedOff (k0_off124 i) := ⟨![slotW i, 0, 1664, 0], congrArg (![·, 0, 1664, 0]) (slotW_word i)⟩
instance {i : grid0.Coords} : ClosedOff (k0_off125 i) := ⟨![slotW i, 0, 1728, 0], congrArg (![·, 0, 1728, 0]) (slotW_word i)⟩
instance {i : grid0.Coords} : ClosedOff (k0_off126 i) := ⟨![slotW i, 0, 1792, 0], congrArg (![·, 0, 1792, 0]) (slotW_word i)⟩
instance {i : grid0.Coords} : ClosedOff (k0_off127 i) := ⟨![slotW i, 0, 1856, 0], congrArg (![·, 0, 1856, 0]) (slotW_word i)⟩
instance {i : grid0.Coords} : ClosedOff (k0_off128 i) := ⟨![slotW i, 0, 1920, 0], congrArg (![·, 0, 1920, 0]) (slotW_word i)⟩
instance {i : grid0.Coords} : ClosedOff (k0_off129 i) := ⟨![slotW i, 0, 1984, 0], congrArg (![·, 0, 1984, 0]) (slotW_word i)⟩
instance {i : grid0.Coords} : ClosedOff (k0_off130 i) := ⟨![slotW i, 0, 2048, 0], congrArg (![·, 0, 2048, 0]) (slotW_word i)⟩
instance {i : grid0.Coords} [h : Fact (1 ≤ (i 0).val)] : ClosedOff (k0_off131 i) := ⟨![slotR i, 0, 64, 0], congrArg (![·, 0, 64, 0]) (slotR_word i h.out)⟩
instance {i : grid0.Coords} [h : Fact (1 ≤ (i 0).val)] : ClosedOff (k0_off132 i) := ⟨![slotR i, 1, 64, 0], congrArg (![·, 1, 64, 0]) (slotR_word i h.out)⟩
instance {i : grid0.Coords} : ClosedOff (k0_off133 i) := ⟨![slotW i, 0, 2112, 0], congrArg (![·, 0, 2112, 0]) (slotW_word i)⟩
instance {i : grid0.Coords} : ClosedOff (k0_off134 i) := ⟨![slotW i, 0, 2176, 0], congrArg (![·, 0, 2176, 0]) (slotW_word i)⟩
instance {i : grid0.Coords} : ClosedOff (k0_off135 i) := ⟨![slotW i, 0, 2240, 0], congrArg (![·, 0, 2240, 0]) (slotW_word i)⟩
instance {i : grid0.Coords} : ClosedOff (k0_off136 i) := ⟨![slotW i, 0, 2304, 0], congrArg (![·, 0, 2304, 0]) (slotW_word i)⟩
instance {i : grid0.Coords} : ClosedOff (k0_off137 i) := ⟨![slotW i, 0, 2368, 0], congrArg (![·, 0, 2368, 0]) (slotW_word i)⟩
instance {i : grid0.Coords} : ClosedOff (k0_off138 i) := ⟨![slotW i, 0, 2432, 0], congrArg (![·, 0, 2432, 0]) (slotW_word i)⟩
instance {i : grid0.Coords} : ClosedOff (k0_off139 i) := ⟨![slotW i, 0, 2496, 0], congrArg (![·, 0, 2496, 0]) (slotW_word i)⟩
instance {i : grid0.Coords} : ClosedOff (k0_off140 i) := ⟨![slotW i, 0, 2560, 0], congrArg (![·, 0, 2560, 0]) (slotW_word i)⟩
instance {i : grid0.Coords} : ClosedOff (k0_off141 i) := ⟨![slotW i, 0, 2624, 0], congrArg (![·, 0, 2624, 0]) (slotW_word i)⟩
instance {i : grid0.Coords} : ClosedOff (k0_off142 i) := ⟨![slotW i, 0, 2688, 0], congrArg (![·, 0, 2688, 0]) (slotW_word i)⟩
instance {i : grid0.Coords} : ClosedOff (k0_off143 i) := ⟨![slotW i, 0, 2752, 0], congrArg (![·, 0, 2752, 0]) (slotW_word i)⟩
instance {i : grid0.Coords} : ClosedOff (k0_off144 i) := ⟨![slotW i, 0, 2816, 0], congrArg (![·, 0, 2816, 0]) (slotW_word i)⟩
instance {i : grid0.Coords} : ClosedOff (k0_off145 i) := ⟨![slotW i, 0, 2880, 0], congrArg (![·, 0, 2880, 0]) (slotW_word i)⟩
instance {i : grid0.Coords} : ClosedOff (k0_off146 i) := ⟨![slotW i, 0, 2944, 0], congrArg (![·, 0, 2944, 0]) (slotW_word i)⟩
instance {i : grid0.Coords} : ClosedOff (k0_off147 i) := ⟨![slotW i, 0, 3008, 0], congrArg (![·, 0, 3008, 0]) (slotW_word i)⟩
instance {i : grid0.Coords} : ClosedOff (k0_off148 i) := ⟨![slotW i, 0, 3072, 0], congrArg (![·, 0, 3072, 0]) (slotW_word i)⟩
instance {i : grid0.Coords} : ClosedOff (k0_off149 i) := ⟨![slotW i, 1, 64, 0], congrArg (![·, 1, 64, 0]) (slotW_word i)⟩
instance {i : grid0.Coords} : ClosedOff (k0_off150 i) := ⟨![slotW i, 1, 128, 0], congrArg (![·, 1, 128, 0]) (slotW_word i)⟩
instance {i : grid0.Coords} : ClosedOff (k0_off151 i) := ⟨![slotW i, 1, 192, 0], congrArg (![·, 1, 192, 0]) (slotW_word i)⟩
instance {i : grid0.Coords} : ClosedOff (k0_off152 i) := ⟨![slotW i, 1, 256, 0], congrArg (![·, 1, 256, 0]) (slotW_word i)⟩
instance {i : grid0.Coords} : ClosedOff (k0_off153 i) := ⟨![slotW i, 1, 320, 0], congrArg (![·, 1, 320, 0]) (slotW_word i)⟩
instance {i : grid0.Coords} : ClosedOff (k0_off154 i) := ⟨![slotW i, 1, 384, 0], congrArg (![·, 1, 384, 0]) (slotW_word i)⟩
instance {i : grid0.Coords} : ClosedOff (k0_off155 i) := ⟨![slotW i, 1, 448, 0], congrArg (![·, 1, 448, 0]) (slotW_word i)⟩
instance {i : grid0.Coords} : ClosedOff (k0_off156 i) := ⟨![slotW i, 1, 512, 0], congrArg (![·, 1, 512, 0]) (slotW_word i)⟩
instance {i : grid0.Coords} : ClosedOff (k0_off157 i) := ⟨![slotW i, 1, 576, 0], congrArg (![·, 1, 576, 0]) (slotW_word i)⟩
instance {i : grid0.Coords} : ClosedOff (k0_off158 i) := ⟨![slotW i, 1, 640, 0], congrArg (![·, 1, 640, 0]) (slotW_word i)⟩
instance {i : grid0.Coords} : ClosedOff (k0_off159 i) := ⟨![slotW i, 1, 704, 0], congrArg (![·, 1, 704, 0]) (slotW_word i)⟩
instance {i : grid0.Coords} : ClosedOff (k0_off160 i) := ⟨![slotW i, 1, 768, 0], congrArg (![·, 1, 768, 0]) (slotW_word i)⟩
instance {i : grid0.Coords} : ClosedOff (k0_off161 i) := ⟨![slotW i, 1, 832, 0], congrArg (![·, 1, 832, 0]) (slotW_word i)⟩
instance {i : grid0.Coords} : ClosedOff (k0_off162 i) := ⟨![slotW i, 1, 896, 0], congrArg (![·, 1, 896, 0]) (slotW_word i)⟩
instance {i : grid0.Coords} : ClosedOff (k0_off163 i) := ⟨![slotW i, 1, 960, 0], congrArg (![·, 1, 960, 0]) (slotW_word i)⟩
instance {i : grid0.Coords} : ClosedOff (k0_off164 i) := ⟨![slotW i, 1, 1024, 0], congrArg (![·, 1, 1024, 0]) (slotW_word i)⟩
instance {i : grid0.Coords} [h : Fact (1 ≤ (i 0).val)] : ClosedOff (k0_off165 i) := ⟨![slotR i, 0, 0, 0], congrArg (![·, 0, 0, 0]) (slotR_word i h.out)⟩
instance {i : grid0.Coords} [h : Fact (1 ≤ (i 0).val)] : ClosedOff (k0_off166 i) := ⟨![slotR i, 1, 0, 0], congrArg (![·, 1, 0, 0]) (slotR_word i h.out)⟩

end Cert.Weight.Hand
-- ==== Proof.Weight.RunB.lean ====
module

public import proofs.«01_k».proof.Proof.Weight.RunA
public import proofs.«01_k».proof.Proof.Weight.Offsets

/-! The body of the weight-gradient kernel at the later grid points: it runs, and hands every buffer back. -/

@[expose] public section

-- membership in a rectangle of production extents (`View.cover_of_tiled`): the elaborator's structural look
-- recurses once per coordinate of the long axes
set_option maxRecDepth 16384

noncomputable section

namespace Cert.Weight.Hand

open Cert.Weight.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 3996000 in
/-- The body's triple IN CASE B (`scf.if` 0 not taken, `scf.if` 1 taken: points 1, 2, … 15: 15 of 16): on whole staging memrefs — the inputs' at their contents,
    the FORGOTTEN outputs' (3) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg1 : Memref sig .tc .vmem S1280x6144 .bf16) (harg1 : arg1.IsWhole) (arg2 : Memref sig .tc .vmem S6144x256 .fp8e5m2) (harg2 : arg2.IsWhole) (arg3 : Memref sig .tc .vmem S96x64 .f32) (harg3 : arg3.IsWhole) (arg4 : Memref sig .tc .vmem S3x1x1280x256 .f32) (harg4 : arg4.IsWhole) (arg5 : Memref sig .tc .vmem S2x2x3200x256 .bf16) (harg5 : arg5.IsWhole) (hc0 : ¬cond0_0 i) (hc1 : cond0_1 i) (h1 : 1 ≤ (i 0).val)
    (x0 : Vec F S1280x6144 .bf16) (x1 : Vec F S6144x256 .fp8e5m2) (x2 : Vec F S96x64 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)) -∗ K ⟨⟩))
          ⊢ wp frame (wpE (defs₀ (F := F)) Variants.none c none) E (cc0_grad_weight i arg1 harg1 arg2 harg2 arg3 harg3 arg4 harg4 arg5 harg5) K := by
    intro E K
    haveI := Fact.mk h1
    simp only [cc0_grad_weight_eq_skeleton]; unfold cc0_grad_weight_skel
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg1.eq_unread hf0; obtain rfl := harg2.eq_unread hf1; obtain rfl := harg3.eq_unread hf2
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _, _; isplitr; swap; · iexact H3
      ipureintro; rfl
    iexists _, _; isplitr; swap; · iexact HS0
    ipureintro; rfl

end Cert.Weight.Hand
-- ==== Proof.Weight.Frame.lean ====
module

public import proofs.«01_k».proof.Proof.Weight.RunB

/-! The launch of the weight-gradient kernel: every run ends, its arguments unchanged and its semaphore counters at zero. -/

@[expose] public section

-- membership in a rectangle of production extents (`View.cover_of_tiled`): the elaborator's structural look
-- recurses once per coordinate of the long axes
set_option maxRecDepth 16384

noncomputable section

namespace Cert.Weight.Hand

open Cert.Weight.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (3): nothing reads what the kernel leaves in them, so nothing
    of it is named (Lib/Pipeline/Dat.lean `Dat.toRForget`). -/
def forgets0 : Fin 4 → Bool := fun w => w.val == 3

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (∃ d, owns (c : Thread nD τ) (ms0_3 t) fullShare d))

set_option maxHeartbeats 800000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 16 := lt_of_lt_of_eq t.isLt (show cfg0.N = 16 from N_0)
  by_cases h0 : t.val % 16 = 0
  · by_cases h1 : 1 ≤ t.val
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      iintro ⟨⟨HS0, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => h1 ((hcond0_1 t).mp h)) (iblk m c 0 t) (iblk m c 1 t) (iblk m c 2 t)) Set.univ _)
      isplitl [H0]; · iexact H0
      isplitl [H1]; · iexact H1
      isplitl [H2]; · iexact H2
      isplitl [H3]; · iexists _; iexact H3
      isplitl [HS0]; · iexact HS0
      iintro ⟨H0, H1, H2, H3, HS0⟩
      isplitl [HS0 Hg]
      · isplitl [HS0]
        · iexact HS0
        iexact Hg
      isplitl [Ho]; · iexact Ho
      isplitl [H0]; · iexact H0
      isplitl [H1]; · iexact H1
      isplitl [H2]; · iexact H2
      iexact H3
  · by_cases h1 : 1 ≤ t.val
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      iintro ⟨⟨HS0, Hg⟩, Ho, ⟨%d0, H0⟩, ⟨%d1, H1⟩, ⟨%d2, H2⟩, ⟨%d3, H3⟩⟩
      iapply ((kernelRun0_B c (grid0.coords t) _ _ _ _ _ _ _ _ _ _ (fun h => h0 ((hcond0_0 t).mp h)) ((hcond0_1 t).mpr h1) (by rw [show (grid0.coords t 0).val = t.val from (by decide +kernel : ∀ t : Fin grid0.N, (grid0.coords t 0).val = t.val) t]; exact h1) (iblk m c 0 t) (iblk m c 1 t) (iblk m c 2 t)) Set.univ _)
      isplitl [H0]; · iexact H0
      isplitl [H1]; · iexact H1
      isplitl [H2]; · iexact H2
      isplitl [H3]; · iexists _; iexact H3
      isplitl [HS0]; · iexact HS0
      iintro ⟨H0, H1, H2, H3, HS0⟩
      isplitl [HS0 Hg]
      · isplitl [HS0]
        · iexact HS0
        iexact Hg
      isplitl [Ho]; · iexact Ho
      isplitl [H0]; · iexact H0
      isplitl [H1]; · iexact H1
      isplitl [H2]; · iexact H2
      iexact H3
    · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (window 3) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨(Pipeline.RDat.FramePost.arr_in h.1 c 0 rfl).trans (A_eq m c 0),
      (Pipeline.RDat.FramePost.arr_in h.1 c 1 rfl).trans (A_eq m c 1),
      (Pipeline.RDat.FramePost.arr_in h.1 c 2 rfl).trans (A_eq m c 2)⟩, h.2⟩) (run_main_quiescent m ρ)

end Cert.Weight.Hand
-- ==== Proof.WeightIdeal.Line.lean ====
module

public import proofs.«01_k».proof.Proof.Gen.WeightIdeal.Frame
public import proofs.«01_k».proof.Proof.Gen.WeightIdeal.Skeleton
public import Idealize.ShloMosaic.Lib.WholeRead
public import Idealize.ShloMosaic.Lib.WritesUnit
public import Idealize.ShloMosaic.Lib.ValueIdxCore
public import Idealize.ShloMosaic.Lib.Pipeline.Value

/-! What the weight-gradient kernel writes for one image line: the dequantised line itself (tap column 1), the line moved one
pixel up (tap column 0) or one pixel down (tap column 2). `gBuf` is the buffer that the 96 lines of the two images fill, each
image between two lines of zeros; `Filled` says that a list of stores agrees with a buffer and covers its first lines. -/

@[expose] public section

set_option maxRecDepth 16384

noncomputable section

namespace Cert.WeightIdeal.Hand

open Cert.WeightIdeal.Gen
open Idealize.ShloMosaic Idealize.ShloMosaic.TcCoe Idealize.ShloMosaic.Tactic
open Idealize.ShloMosaic.ValueIdx (ix2 ix3)

variable {F : FTy → Type} [FloatOps F]

/-- One line of scales as a column of 64 pixels, repeated over 128 lanes. -/
def scaleCol (sc : Vec F S1x64 .f32) : FVec F S64x128 .f32 :=
  transpose S64x128 [1, 0] (broadcastTo S128x64 (shapeCast S1x64 sc shapeCasts_S1x64_S1x64) broadcasts_S1x64_S128x64)
    transposes_S128x64_p1_0_S64x128

/-- A line of codes times its column of scales. -/
def lineMid (cd : Vec F S64x256 .fp8e5m2) (sc : Vec F S1x64 .f32) : FVec F S64x256 .bf16 :=
  mulf (extf .bf16 cd bitsLt_fp8e5m2_bf16)
    (concatenate S64x256 1 [⟨S64x128, truncf .bf16 (scaleCol sc) bitsLt_bf16_f32⟩, ⟨S64x128, truncf .bf16 (scaleCol sc) bitsLt_bf16_f32⟩]
      concatenates_S64x128_S64x128_S64x256_d1)

/-- The line moved up by one pixel, a zero entering at the end. -/
def upOf (a : FVec F S64x256 .bf16) : FVec F S64x256 .bf16 :=
  interleaveRows S64x256 (rowsOfParity 1 S32x256 a bitcasts_S64x256_w16_S32x256_w32)
    (select (cmpi .eq (iota .tc S32x256 32 [0] iota_S32x256_d0_w32) (broadcast S32x256 31#32)) (constant S32x256 .bf16 0x0000#16)
      (dynamicRotate 0 31#32 none (rowsOfParity 0 S32x256 a bitcasts_S64x256_w16_S32x256_w32) rotates_S32x256_d0))
    bitcasts_S64x256_w16_S32x256_w32

/-- The line moved down by one pixel, a zero entering at the start. -/
def downOf (a : FVec F S64x256 .bf16) : FVec F S64x256 .bf16 :=
  interleaveRows S64x256
    (select (cmpi .eq (iota .tc S32x256 32 [0] iota_S32x256_d0_w32) (broadcast S32x256 0#32)) (constant S32x256 .bf16 0x0000#16)
      (dynamicRotate 0 1#32 none (rowsOfParity 1 S32x256 a bitcasts_S64x256_w16_S32x256_w32) rotates_S32x256_d0))
    (rowsOfParity 0 S32x256 a bitcasts_S64x256_w16_S32x256_w32) bitcasts_S64x256_w16_S32x256_w32

/-- The line as the tap column `k` (a word) needs it. -/
def tapOf (k : BitVec 32) (a : FVec F S64x256 .bf16) : FVec F S64x256 .bf16 :=
  Scalar.select (Scalar.cmpi .eq k 0#32) (upOf a) (Scalar.select (Scalar.cmpi .eq k 1#32) a (downOf a))

/-- Line `l` of the scales, counted over both images, -/
def lineAt (x2 : Vec F S96x64 .f32) (l : ℕ) : Vec F S1x64 .f32 := fun j =>
  x2 (ix2 (n0 := 96) (n1 := 64) ⟨l % 96, Nat.mod_lt _ (by decide)⟩ (j 1))

/-- and of the codes. -/
def codeAt (x1 : Vec F S6144x256 .fp8e5m2) (l : ℕ) : Vec F S64x256 .fp8e5m2 := fun j =>
  x1 (ix2 (n0 := 6144) (n1 := 256) ⟨(64 * l + (j 0).val) % 6144, Nat.mod_lt _ (by decide)⟩ (j 1))

/-- Line `l` as written. -/
def lineOf (k : BitVec 32) (x1 : Vec F S6144x256 .fp8e5m2) (x2 : Vec F S96x64 .f32) (l : ℕ) : FVec F S64x256 .bf16 :=
  tapOf k (lineMid (codeAt x1 l) (lineAt x2 l))

/-- A place of the buffer that belongs to an image line, not to the zeros around the image. -/
abbrev Inner (y : S2x2x3200x256.Idx) : Prop := 64 ≤ (y 2).val ∧ (y 2).val < 3136

/-- The image line, counted over both images, of an inner place. -/
abbrev lineNo (y : S2x2x3200x256.Idx) : ℕ := 48 * (y 1).val + ((y 2).val / 64 - 1)

/-- The zero put around the images. -/
def zero16 : F .bf16 := Scalar.ofBits .bf16 0x0000#16

/-- The buffer filled with all lines. -/
def gBuf (k : BitVec 32) (x1 : Vec F S6144x256 .fp8e5m2) (x2 : Vec F S96x64 .f32) (y : S2x2x3200x256.Idx) : F .bf16 :=
  if Inner y then lineOf k x1 x2 (lineNo y) (ix2 (n0 := 64) (n1 := 256) ⟨(y 2).val % 64, Nat.mod_lt _ (by decide)⟩ (y 3)) else zero16

theorem gBuf_outer (k : BitVec 32) (x1 : Vec F S6144x256 .fp8e5m2) (x2 : Vec F S96x64 .f32) {y : S2x2x3200x256.Idx} (h : ¬ Inner y) :
    gBuf k x1 x2 y = zero16 := if_neg h

/-- Where an element of a stored line lies. -/
theorem emb_val {off : Fin 4 → ℕ} (s im o : ℕ) (hoff : off = ![s, im, o, 0])
    (inb : ∀ a, off a + (![1, 1, 64, 256] : Fin 4 → ℕ) a ≤ S2x2x3200x256.size a) (x : S1x1x64x256.Idx) :
    (((Rect.unit (s := S2x2x3200x256) off ![1, 1, 64, 256] inb).emb x) 0).val = s
      ∧ (((Rect.unit (s := S2x2x3200x256) off ![1, 1, 64, 256] inb).emb x) 1).val = im
      ∧ (((Rect.unit (s := S2x2x3200x256) off ![1, 1, 64, 256] inb).emb x) 2).val = o + (x 2).val
      ∧ (((Rect.unit (s := S2x2x3200x256) off ![1, 1, 64, 256] inb).emb x) 3).val = (x 3).val := by
  subst hoff
  have h0 : (x 0).val = 0 := by have : (x 0).val < 1 := (x 0).isLt; omega
  have h1 : (x 1).val = 0 := by have : (x 1).val < 1 := (x 1).isLt; omega
  refine ⟨?_, ?_, ?_, ?_⟩
  · show s + 1 * (x 0).val = _; omega
  · show im + 1 * (x 1).val = _; omega
  · show o + 1 * (x 2).val = _; omega
  · show 0 + 1 * (x 3).val = _; omega

/-- A line with two unit axes in front, read. -/
theorem addUnits_apply (w : FVec F S64x256 .bf16) (x : S1x1x64x256.Idx) :
    shapeCast S1x1x64x256 w shapeCasts_S64x256_S1x1x64x256 x = w (ix2 (n0 := 64) (n1 := 256) (x 2) (x 3)) := by
  refine shapeCast_apply w shapeCasts_S64x256_S1x1x64x256 x _ ?_
  have h0 : (x 0).val = 0 := by have : (x 0).val < 1 := (x 0).isLt; omega
  have h1 : (x 1).val = 0 := by have : (x 1).val < 1 := (x 1).isLt; omega
  rw [Shape.rowMajor_val_two, Shape.rowMajor_val_four]
  show (x 2).val * 256 + (x 3).val = (((x 0).val * 1 + (x 1).val) * 64 + (x 2).val) * 256 + (x 3).val
  omega

/-- A stored line holds what `gBuf` has there. -/
theorem pay_line (k : BitVec 32) (x1 : Vec F S6144x256 .fp8e5m2) (x2 : Vec F S96x64 .f32) (s n : ℕ) (hn : n < 96) {off : Fin 4 → ℕ}
    (hoff : off = ![s, n / 48, (n % 48 + 1) * 64, 0]) (inb : ∀ a, off a + (![1, 1, 64, 256] : Fin 4 → ℕ) a ≤ S2x2x3200x256.size a)
    (w : Vec F S1x1x64x256 .bf16) (hw : w = shapeCast S1x1x64x256 (lineOf k x1 x2 n) shapeCasts_S64x256_S1x1x64x256) (x : S1x1x64x256.Idx) :
    w x = gBuf k x1 x2 ((Rect.unit (s := S2x2x3200x256) off ![1, 1, 64, 256] inb).emb x) := by
  obtain ⟨e0, e1, e2, e3⟩ := emb_val s (n / 48) ((n % 48 + 1) * 64) hoff inb x
  have h2 : (x 2).val < 64 := (x 2).isLt
  rw [hw, addUnits_apply]
  generalize (Rect.unit (s := S2x2x3200x256) off ![1, 1, 64, 256] inb).emb x = y at e0 e1 e2 e3
  have hl : lineNo y = n := by show 48 * (y 1).val + ((y 2).val / 64 - 1) = n; omega
  unfold gBuf
  rw [if_pos (show Inner y from ⟨by omega, by omega⟩), hl]
  refine congrArg _ (funext fun a => ?_)
  match a with
  | ⟨0, _⟩ => exact Fin.ext (by show (x 2).val = (y 2).val % 64; omega)
  | ⟨1, _⟩ => exact Fin.ext e3.symm

/-- The stores `L` agree with the buffer `g` and cover the places `D` and the first `n` lines of slot `s`. -/
structure Filled (g : S2x2x3200x256.Idx → F .bf16) (D : S2x2x3200x256.Idx → Prop) (s n : ℕ)
    (L : List (View.Piece (Elt F) S2x2x3200x256 .bf16)) : Prop where
  pay : ∀ p ∈ L, ∀ x : p.1.shape.Idx, p.2 x = g (p.1.emb x)
  cover : ∀ y : S2x2x3200x256.Idx, (D y ∨ ((y 0).val = s ∧ Inner y ∧ lineNo y < n)) → ∃ p ∈ L, y ∈ p.1.set

theorem Filled.nil (g : S2x2x3200x256.Idx → F .bf16) (s : ℕ) : Filled g (fun _ => False) s 0 [] :=
  ⟨fun _ h => absurd h List.not_mem_nil, fun y h => by
    rcases h with h | ⟨_, _, h⟩
    · exact h.elim
    · exact absurd h (Nat.not_lt_zero _)⟩

theorem mem_line {off : Fin 4 → ℕ} (s im o : ℕ) (hoff : off = ![s, im, o, 0])
    (inb : ∀ a, off a + (![1, 1, 64, 256] : Fin 4 → ℕ) a ≤ S2x2x3200x256.size a) (y : S2x2x3200x256.Idx)
    (h0 : (y 0).val = s) (h1 : (y 1).val = im) (h2 : o ≤ (y 2).val) (h2' : (y 2).val < o + 64) :
    y ∈ (Rect.unit (s := S2x2x3200x256) off ![1, 1, 64, 256] inb).set := by
  subst hoff
  rw [Rect.mem_set_unit]
  have h3 : (y 3).val < 256 := (y 3).isLt
  intro a
  match a with
  | ⟨0, _⟩ => exact ⟨le_of_eq h0.symm, by show (y 0).val < s + 1; omega⟩
  | ⟨1, _⟩ => exact ⟨le_of_eq h1.symm, by show (y 1).val < im + 1; omega⟩
  | ⟨2, _⟩ => exact ⟨h2, h2'⟩
  | ⟨3, _⟩ => exact ⟨Nat.zero_le _, by show (y 3).val < 0 + 256; omega⟩

/-- The store of line `n` extends a filled list by that line. -/
theorem Filled.line {g : S2x2x3200x256.Idx → F .bf16} {D : S2x2x3200x256.Idx → Prop} {s n : ℕ}
    {L : List (View.Piece (Elt F) S2x2x3200x256 .bf16)} (h : Filled g D s n L) (hn : n < 96)
    {off : Fin 4 → ℕ} {inb : ∀ a, off a + (![1, 1, 64, 256] : Fin 4 → ℕ) a ≤ S2x2x3200x256.size a} {w : Vec F S1x1x64x256 .bf16}
    {k : BitVec 32} {x1 : Vec F S6144x256 .fp8e5m2} {x2 : Vec F S96x64 .f32}
    (hg : ∀ y : S2x2x3200x256.Idx, (y 0).val = s → g y = gBuf k x1 x2 y) {X : FVec F S64x256 .bf16} (hX : X = lineOf k x1 x2 n)
    (hoff : off = ![s, n / 48, (n % 48 + 1) * 64, 0]) (hw : w = shapeCast S1x1x64x256 X shapeCasts_S64x256_S1x1x64x256) :
    Filled g D s (n + 1) ((⟨Rect.unit off ![1, 1, 64, 256] inb, w⟩ : View.Piece (Elt F) S2x2x3200x256 .bf16) :: L) where
  pay p hp := by
    rcases List.mem_cons.1 hp with rfl | hp
    · exact fun x => (pay_line k x1 x2 s n hn hoff inb w (by rw [hw, hX]) x).trans (hg _ (emb_val s _ _ hoff inb x).1).symm
    exact h.pay p hp
  cover y hy := by
    by_cases hlt : D y ∨ ((y 0).val = s ∧ Inner y ∧ lineNo y < n)
    · obtain ⟨p, hp, hy⟩ := h.cover y hlt
      exact ⟨p, List.mem_cons_of_mem _ hp, hy⟩
    rcases hy with hy | ⟨h0, hi, hl⟩
    · exact absurd (Or.inl hy) hlt
    have hl' : 48 * (y 1).val + ((y 2).val / 64 - 1) = n := by
      have : ¬ lineNo y < n := fun h' => hlt (Or.inr ⟨h0, hi, h'⟩)
      have h1 : lineNo y = 48 * (y 1).val + ((y 2).val / 64 - 1) := rfl
      omega
    have h1 : (y 1).val < 2 := (y 1).isLt
    obtain ⟨i0, i1⟩ := hi
    exact ⟨_, List.mem_cons_self, mem_line s (n / 48) ((n % 48 + 1) * 64) hoff inb y h0 (by omega) (by omega) (by omega)⟩

/-- The same, the line given among all lines. -/
theorem Filled.step {g : S2x2x3200x256.Idx → F .bf16} {s : ℕ} {k : BitVec 32} {x1 : Vec F S6144x256 .fp8e5m2} {x2 : Vec F S96x64 .f32}
    {X : (l : ℕ) → l < 96 → FVec F S64x256 .bf16} (hX : ∀ l hl, X l hl = lineOf k x1 x2 l)
    (hg : ∀ y : S2x2x3200x256.Idx, (y 0).val = s → g y = gBuf k x1 x2 y)
    {D : S2x2x3200x256.Idx → Prop} {n : ℕ} {L : List (View.Piece (Elt F) S2x2x3200x256 .bf16)} (h : Filled g D s n L) (hn : n < 96)
    {off : Fin 4 → ℕ} {inb : ∀ a, off a + (![1, 1, 64, 256] : Fin 4 → ℕ) a ≤ S2x2x3200x256.size a} {w : Vec F S1x1x64x256 .bf16}
    (hoff : off = ![s, n / 48, (n % 48 + 1) * 64, 0]) (hw : w = shapeCast S1x1x64x256 (X n hn) shapeCasts_S64x256_S1x1x64x256) :
    Filled g D s (n + 1) ((⟨Rect.unit off ![1, 1, 64, 256] inb, w⟩ : View.Piece (Elt F) S2x2x3200x256 .bf16) :: L) :=
  h.line hn hg (hX n hn) hoff hw

/-- A store of zeros outside the image lines extends a filled list. -/
theorem Filled.zero {g : S2x2x3200x256.Idx → F .bf16} {D : S2x2x3200x256.Idx → Prop} {s n : ℕ}
    {L : List (View.Piece (Elt F) S2x2x3200x256 .bf16)} (h : Filled g D s n L) (s' im o : ℕ) (ho : o = 0 ∨ o = 3136)
    {inb : ∀ a, (![s', im, o, 0] : Fin 4 → ℕ) a + (![1, 1, 64, 256] : Fin 4 → ℕ) a ≤ S2x2x3200x256.size a} {w : Vec F S1x1x64x256 .bf16}
    (hg : ∀ y : S2x2x3200x256.Idx, ¬ Inner y → g y = zero16)
    (hw : w = shapeCast S1x1x64x256 (broadcast S64x256 (zero16 (F := F))) shapeCasts_S64x256_S1x1x64x256) :
    Filled g (fun y => D y ∨ ((y 0).val = s' ∧ (y 1).val = im ∧ o ≤ (y 2).val ∧ (y 2).val < o + 64)) s n
      ((⟨Rect.unit ![s', im, o, 0] ![1, 1, 64, 256] inb, w⟩ : View.Piece (Elt F) S2x2x3200x256 .bf16) :: L) where
  pay p hp := by
    rcases List.mem_cons.1 hp with rfl | hp
    · intro x
      obtain ⟨e0, e1, e2, e3⟩ := emb_val s' im o rfl inb x
      have h2 : (x 2).val < 64 := (x 2).isLt
      refine Eq.trans ?_ (hg _ fun hi => ?_).symm
      · show w x = _
        rw [hw, addUnits_apply]
        rfl
      · obtain ⟨i0, i1⟩ := hi
        rcases ho with rfl | rfl
        · exact absurd (e2 ▸ i0) (by omega)
        · exact absurd (e2 ▸ i1) (by omega)
    exact h.pay p hp
  cover y hy := by
    rcases hy with (hy | ⟨h0, h1, h2, h3⟩) | hy
    · obtain ⟨p, hp, hy⟩ := h.cover y (Or.inl hy)
      exact ⟨p, List.mem_cons_of_mem _ hp, hy⟩
    · exact ⟨_, List.mem_cons_self, mem_line s' im o rfl inb y h0 h1 h2 h3⟩
    · obtain ⟨p, hp, hy⟩ := h.cover y (Or.inr hy)
      exact ⟨p, List.mem_cons_of_mem _ hp, hy⟩

/-- What is read after a filled list at a covered place, -/
theorem Filled.read {κ : Kind} {sp : Space} (v : View sig κ sp S2x2x3200x256 .bf16) (f : v.ty.Contents (Elt F))
    {g : S2x2x3200x256.Idx → F .bf16} {D : S2x2x3200x256.Idx → Prop} {s n : ℕ} {L : List (View.Piece (Elt F) S2x2x3200x256 .bf16)}
    (h : Filled g D s n L) (y : S2x2x3200x256.Idx) (hy : D y ∨ ((y 0).val = s ∧ Inner y ∧ lineNo y < n)) :
    v.read (Elt F) (v.writes (Elt F) f L) y = g y :=
  View.read_writes_apply_of_pieces v f g L h.pay y (h.cover y hy)

/-- and at a place that agreed before. -/
theorem Filled.keep {κ : Kind} {sp : Space} (v : View sig κ sp S2x2x3200x256 .bf16) (f : v.ty.Contents (Elt F))
    {g : S2x2x3200x256.Idx → F .bf16} {D : S2x2x3200x256.Idx → Prop} {s n : ℕ} {L : List (View.Piece (Elt F) S2x2x3200x256 .bf16)}
    (h : Filled g D s n L) (y : S2x2x3200x256.Idx) (hy : v.read (Elt F) f y = g y) :
    v.read (Elt F) (v.writes (Elt F) f L) y = g y := by
  by_cases hc : ∃ p ∈ L, y ∈ p.1.set
  · exact View.read_writes_apply_of_pieces v f g L h.pay y hc
  · rw [← hy]
    exact View.read_writes_apply_of_forall_not_mem v f y L fun p hp hm => hc ⟨p, hp, hm⟩

end Cert.WeightIdeal.Hand
-- ==== Proof.WeightIdeal.Loads.lean ====
module

public import proofs.«01_k».proof.Proof.WeightIdeal.Line

/-! The product of the weight-gradient kernel as a value of the buffer it reads, and the loads of the body read as values. -/

@[expose] public section

set_option maxRecDepth 16384

noncomputable section

namespace Cert.WeightIdeal.Hand

open Cert.WeightIdeal.Gen
open Idealize.ShloMosaic Idealize.ShloMosaic.TcCoe Idealize.ShloMosaic.Tactic
open Idealize.ShloMosaic.ValueIdx (ix2 ix3 ix4)

variable {F : FTy → Type} [FloatOps F]

/-- The slot of the buffer that point `i` multiplies. -/
abbrev slotR (i : grid0.Coords) : ℕ := ((i 0).val - 1) % 2
/-- The slot that point `i` fills (the last point fills the last group's slot once more). -/
abbrev slotW (i : grid0.Coords) : ℕ := min (i 0).val 14 % 2
/-- The tap column of the group that point `i` fills, as the word the body computes. -/
abbrev kW (i : grid0.Coords) : BitVec 32 := Scalar.remsi (Scalar.minsi (BitVec.ofNat 32 (i 0).val) 14#32) 3#32

/-- The slot read, as the body computes it, -/
theorem slotR_word (i : grid0.Coords) (h : 1 ≤ (i 0).val) :
    (Scalar.indexCast (Scalar.remsi (Scalar.subi (BitVec.ofNat 32 (i 0).val) 1#32) 2#32)).toNat = slotR i :=
  (by decide +kernel : ∀ i : grid0.Coords, 1 ≤ (i 0).val →
    (Scalar.indexCast (Scalar.remsi (Scalar.subi (BitVec.ofNat 32 (i 0).val) 1#32) 2#32)).toNat = slotR i) i h

/-- and the slot filled. -/
theorem slotW_word (i : grid0.Coords) :
    (Scalar.indexCast (Scalar.remsi (Scalar.minsi (BitVec.ofNat 32 (i 0).val) 14#32) 2#32)).toNat = slotW i :=
  (by decide +kernel : ∀ i : grid0.Coords,
    (Scalar.indexCast (Scalar.remsi (Scalar.minsi (BitVec.ofNat 32 (i 0).val) 14#32) 2#32)).toNat = slotW i) i

/-! ## The product -/

/-- The columns of one image of the left operand. -/
def colsOf (x0 : Vec F S1280x6144 .bf16) (o : ℕ) : Vec F S1280x3072 .bf16 := fun j =>
  x0 (ix2 (n0 := 1280) (n1 := 6144) (j 0) ⟨(o + (j 1).val) % 6144, Nat.mod_lt _ (by decide)⟩)

/-- 3072 rows, from row `o`, of slot `s` of image `im` of the buffer. -/
def winOf (g : S2x2x3200x256.Idx → F .bf16) (s im o : ℕ) : Vec F S1x1x3072x256 .bf16 := fun j =>
  g (ix4 (n0 := 2) (n1 := 2) (n2 := 3200) (n3 := 256) ⟨s % 2, Nat.mod_lt _ (by decide)⟩ ⟨im % 2, Nat.mod_lt _ (by decide)⟩
    ⟨(o + (j 2).val) % 3200, Nat.mod_lt _ (by decide)⟩ (j 3))

/-- One image's product. -/
def imgOf (a : Vec F S1280x3072 .bf16) (w : Vec F S1x1x3072x256 .bf16) : FVec F S1280x256 .f32 :=
  matmul dot_S1280x3072_S3072x256_S1280x256_1_0_0_1_n_n none a (shapeCast S3072x256 w shapeCasts_S1x1x3072x256_S3072x256)
    (constant S1280x256 .f32 0x00000000#32)

/-- The product over both images, with the rows of the buffer from row `o`. -/
def prodOf (x0 : Vec F S1280x6144 .bf16) (g : S2x2x3200x256.Idx → F .bf16) (s o : ℕ) : FVec F S1280x256 .f32 :=
  addf (imgOf (colsOf x0 0) (winOf g s 0 o)) (imgOf (colsOf x0 3072) (winOf g s 1 o))

/-- The block written: the three tap rows. -/
def outOf (x0 : Vec F S1280x6144 .bf16) (g : S2x2x3200x256.Idx → F .bf16) (s : ℕ) : Vec F S3x1x1280x256 .f32 := fun y =>
  prodOf x0 g s (128 - 64 * (y 0).val) (ix2 (n0 := 1280) (n1 := 256) (y 2) (y 3))

/-! ## The body's loads -/

/-- A load of a block of a buffer that holds `x`, told by the coordinates of the elements it reads. -/
theorem readAt_block {κ : Kind} {sp : Space} {s : Shape} {e : EltTy} {M : Memref sig κ sp s e} (h : M.IsWhole) (x : s.Idx → Elt F e)
    {off size : Fin s.rank → ℕ} (inb : ∀ a, off a + size a ≤ s.size a) {off' : Fin s.rank → ℕ} (heq : off = off')
    (g : (⟨s.rank, size⟩ : Shape).Idx → s.Idx) (hg : ∀ j a, (g j a).val = off' a + (j a).val) :
    View.readAt (Elt F) M.view (Rect.unit off size inb).toLoadRect (h.unread x) = fun j => x (g j) := by
  subst heq
  funext j
  rw [h.readAt_unread]
  refine congrArg x (funext fun a => Fin.ext ?_)
  rw [hg j a]
  show off a + 1 * (j a).val = _
  rw [Nat.one_mul]

/-- A line of codes as loaded, -/
def codeIn {M : Memref sig .tc .vmem S6144x256 .fp8e5m2} (h : M.IsWhole) (x1 : Vec F S6144x256 .fp8e5m2) (l : Fin 96) : Vec F S64x256 .fp8e5m2 :=
  View.readAt (Elt F) M.view (Rect.unit (s := S6144x256) ![64 * l.val, 0] S64x256.size
    (Fin.forall_fin_two.2 ⟨by show 64 * l.val + 64 ≤ 6144; omega, by show 0 + 256 ≤ 256; omega⟩)).toLoadRect (h.unread x1)

/-- and a line of scales. -/
def lineIn {M : Memref sig .tc .vmem S96x64 .f32} (h : M.IsWhole) (x2 : Vec F S96x64 .f32) (l : Fin 96) : Vec F S1x64 .f32 :=
  View.readAt (Elt F) M.view (Rect.unit (s := S96x64) ![l.val, 0] S1x64.size
    (Fin.forall_fin_two.2 ⟨by show l.val + 1 ≤ 96; omega, by show 0 + 64 ≤ 64; omega⟩)).toLoadRect (h.unread x2)

theorem codeIn_eq {M : Memref sig .tc .vmem S6144x256 .fp8e5m2} (h : M.IsWhole) (x1 : Vec F S6144x256 .fp8e5m2) (l : Fin 96) :
    codeIn h x1 l = codeAt x1 l.val :=
  readAt_block h x1 _ rfl _ fun j => Fin.forall_fin_two.2 ⟨by
    have : (j 0).val < 64 := (j 0).isLt
    show (64 * l.val + (j 0).val) % 6144 = 64 * l.val + (j 0).val; omega, by show (j 1).val = 0 + (j 1).val; omega⟩

theorem lineIn_eq {M : Memref sig .tc .vmem S96x64 .f32} (h : M.IsWhole) (x2 : Vec F S96x64 .f32) (l : Fin 96) :
    lineIn h x2 l = lineAt x2 l.val :=
  readAt_block h x2 _ rfl _ fun j => Fin.forall_fin_two.2 ⟨by
    have : (j 0).val < 1 := (j 0).isLt
    show l.val % 96 = l.val + (j 0).val; omega, by show (j 1).val = 0 + (j 1).val; omega⟩

/-- A line made of what is loaded is the line. -/
theorem lineLoaded {M1 : Memref sig .tc .vmem S6144x256 .fp8e5m2} (h1 : M1.IsWhole) {M2 : Memref sig .tc .vmem S96x64 .f32} (h2 : M2.IsWhole)
    (x1 : Vec F S6144x256 .fp8e5m2) (x2 : Vec F S96x64 .f32) (k : BitVec 32) (l : ℕ) (hl : l < 96) :
    tapOf k (lineMid (codeIn h1 x1 ⟨l, hl⟩) (lineIn h2 x2 ⟨l, hl⟩)) = lineOf k x1 x2 l := by
  rw [codeIn_eq, lineIn_eq]
  rfl

/-- A load of one image's columns. -/
theorem colsRead_eq {M : Memref sig .tc .vmem S1280x6144 .bf16} (h : M.IsWhole) (x0 : Vec F S1280x6144 .bf16) (o : ℕ)
    (inb : ∀ a, (![0, o] : Fin 2 → ℕ) a + S1280x3072.size a ≤ S1280x6144.size a) :
    View.readAt (Elt F) M.view (Rect.unit (s := S1280x6144) ![0, o] S1280x3072.size inb).toLoadRect (h.unread x0) = colsOf x0 o :=
  readAt_block h x0 _ rfl _ fun j => Fin.forall_fin_two.2 ⟨by show (j 0).val = 0 + (j 0).val; omega, by
    have h1 : (j 1).val < 3072 := (j 1).isLt
    have h2 : o + 3072 ≤ 6144 := inb 1
    show (o + (j 1).val) % 6144 = o + (j 1).val; omega⟩

/-- A load of 3072 rows of a slot on which the buffer agrees with `g`. -/
theorem winRead_eq {κ : Kind} {sp : Space} (v : View sig κ sp S2x2x3200x256 .bf16) (f : v.ty.Contents (Elt F)) (g : S2x2x3200x256.Idx → F .bf16)
    {off : Fin 4 → ℕ} {s im o : ℕ} (inb : ∀ a, off a + S1x1x3072x256.size a ≤ S2x2x3200x256.size a) (heq : off = ![s, im, o, 0])
    (hf : ∀ y : S2x2x3200x256.Idx, (y 0).val = s → v.read (Elt F) f y = g y) :
    View.readAt (Elt F) v (Rect.unit (s := S2x2x3200x256) off S1x1x3072x256.size inb).toLoadRect f = winOf g s im o := by
  subst heq
  have hs : s + 1 ≤ 2 := inb 0
  have hi : im + 1 ≤ 2 := inb 1
  have ho : o + 3072 ≤ 3200 := inb 2
  funext j
  have h0 : (j 0).val < 1 := (j 0).isLt
  have h1 : (j 1).val < 1 := (j 1).isLt
  have h2 : (j 2).val < 3072 := (j 2).isLt
  rw [View.readAt_apply, hf _ (by show s + 1 * (j 0).val = s; omega)]
  unfold winOf
  refine congrArg g (funext fun a => Fin.ext ?_)
  match a with
  | ⟨0, _⟩ => show s + 1 * (j 0).val = s % 2; omega
  | ⟨1, _⟩ => show im + 1 * (j 1).val = im % 2; omega
  | ⟨2, _⟩ => show o + 1 * (j 2).val = (o + (j 2).val) % 3200; omega
  | ⟨3, _⟩ => show 0 + 1 * (j 3).val = (j 3).val; omega

/-- A product with two unit axes in front, read. -/
theorem addUnits2_apply (w : FVec F S1280x256 .f32) (x : S1x1x1280x256.Idx) :
    shapeCast S1x1x1280x256 w shapeCasts_S1280x256_S1x1x1280x256 x = w (ix2 (n0 := 1280) (n1 := 256) (x 2) (x 3)) := by
  refine shapeCast_apply w shapeCasts_S1280x256_S1x1x1280x256 x _ ?_
  have h0 : (x 0).val = 0 := by have : (x 0).val < 1 := (x 0).isLt; omega
  have h1 : (x 1).val = 0 := by have : (x 1).val < 1 := (x 1).isLt; omega
  rw [Shape.rowMajor_val_two, Shape.rowMajor_val_four]
  show (x 2).val * 256 + (x 3).val = (((x 0).val * 1 + (x 1).val) * 1280 + (x 2).val) * 256 + (x 3).val
  omega

/-- A stored product, from what its four factors are. -/
theorem prod_eq {x0 : Vec F S1280x6144 .bf16} {g : S2x2x3200x256.Idx → F .bf16} {s o : ℕ} {w : Vec F S1x1x1280x256 .f32}
    {a0 a1 : Vec F S1280x3072 .bf16} {w0 w1 : Vec F S1x1x3072x256 .bf16}
    (hw : w = shapeCast S1x1x1280x256 (addf (imgOf a0 w0) (imgOf a1 w1)) shapeCasts_S1280x256_S1x1x1280x256)
    (ha0 : a0 = colsOf x0 0) (ha1 : a1 = colsOf x0 3072) (hw0 : w0 = winOf g s 0 o) (hw1 : w1 = winOf g s 1 o) :
    w = shapeCast S1x1x1280x256 (prodOf x0 g s o) shapeCasts_S1280x256_S1x1x1280x256 := by
  subst ha0 ha1 hw0 hw1
  exact hw

/-- Three stores, one for each tap row, leave the block. -/
theorem writes_out {κ : Kind} {sp : Space} (v : View sig κ sp S3x1x1280x256 .f32) (f : v.ty.Contents (Elt F)) (s : ℕ)
    (x0 : Vec F S1280x6144 .bf16) (g : S2x2x3200x256.Idx → F .bf16)
    (inb0 : ∀ a, (![0, 0, 0, 0] : Fin 4 → ℕ) a + S1x1x1280x256.size a ≤ S3x1x1280x256.size a)
    (inb1 : ∀ a, (![1, 0, 0, 0] : Fin 4 → ℕ) a + S1x1x1280x256.size a ≤ S3x1x1280x256.size a)
    (inb2 : ∀ a, (![2, 0, 0, 0] : Fin 4 → ℕ) a + S1x1x1280x256.size a ≤ S3x1x1280x256.size a)
    (w0 w1 w2 : Vec F S1x1x1280x256 .f32)
    (h0 : w0 = shapeCast S1x1x1280x256 (prodOf x0 g s 128) shapeCasts_S1280x256_S1x1x1280x256)
    (h1 : w1 = shapeCast S1x1x1280x256 (prodOf x0 g s 64) shapeCasts_S1280x256_S1x1x1280x256)
    (h2 : w2 = shapeCast S1x1x1280x256 (prodOf x0 g s 0) shapeCasts_S1280x256_S1x1x1280x256) :
    v.read (Elt F) (v.writes (Elt F) f
      [⟨Rect.unit (s := S3x1x1280x256) ![2, 0, 0, 0] S1x1x1280x256.size inb2, w2⟩, ⟨Rect.unit (s := S3x1x1280x256) ![1, 0, 0, 0] S1x1x1280x256.size inb1, w1⟩,
        ⟨Rect.unit (s := S3x1x1280x256) ![0, 0, 0, 0] S1x1x1280x256.size inb0, w0⟩]) = outOf x0 g s := by
  subst h0 h1 h2
  have key : ∀ (y : S3x1x1280x256.Idx) (n : ℕ), (y 0).val = n → outOf x0 g s y = prodOf x0 g s (128 - 64 * n) (ix2 (n0 := 1280) (n1 := 256) (y 2) (y 3)) := by
    rintro y _ rfl; rfl
  funext y
  have hy : (y 0).val < 3 := (y 0).isLt
  have hy1 : (y 1).val < 1 := (y 1).isLt
  have at_ : ∀ (n : ℕ) (h : (y 0).val = n), ∀ a : Fin 4, (y a).val = (![n, 0, 0, 0] : Fin 4 → ℕ) a
      + ((ix4 (n0 := 1) (n1 := 1) (n2 := 1280) (n3 := 256) 0 0 (y 2) (y 3) : S1x1x1280x256.Idx) a).val := fun n h a => by
    match a with
    | ⟨0, _⟩ => show (y 0).val = n + 0; omega
    | ⟨1, _⟩ => show (y 1).val = 0 + 0; omega
    | ⟨2, _⟩ => exact (Nat.zero_add _).symm
    | ⟨3, _⟩ => exact (Nat.zero_add _).symm
  by_cases c2 : (y 0).val < 2
  · rw [View.read_writes_cons_unit_of_not_mem v f inb2 _ _ y rfl 0 (Or.inl c2)]
    by_cases c1 : (y 0).val < 1
    · rw [View.read_writes_cons_unit_of_not_mem v f inb1 _ _ y rfl 0 (Or.inl c1)]
      refine (View.read_writes_cons_unit_of_mem v f inb0 _ _ y (ix4 (n0 := 1) (n1 := 1) (n2 := 1280) (n3 := 256) 0 0 (y 2) (y 3)) rfl (at_ 0 (by omega))).trans ?_
      rw [addUnits2_apply, key y 0 (by omega)]
    · refine (View.read_writes_cons_unit_of_mem v f inb1 _ _ y (ix4 (n0 := 1) (n1 := 1) (n2 := 1280) (n3 := 256) 0 0 (y 2) (y 3)) rfl (at_ 1 (by omega))).trans ?_
      rw [addUnits2_apply, key y 1 (by omega)]
  · refine (View.read_writes_cons_unit_of_mem v f inb2 _ _ y (ix4 (n0 := 1) (n1 := 1) (n2 := 1280) (n3 := 256) 0 0 (y 2) (y 3)) rfl (at_ 2 (by omega))).trans ?_
    rw [addUnits2_apply, key y 2 (by omega)]

/-! ## The buffer after the stores of a point -/

/-- What is read after the stores of a whole group: the borders and the lines of its slot. -/
theorem Filled.readAll {κ : Kind} {sp : Space} (v : View sig κ sp S2x2x3200x256 .bf16) (f : v.ty.Contents (Elt F))
    {g : S2x2x3200x256.Idx → F .bf16} {D : S2x2x3200x256.Idx → Prop} {s : ℕ} {L : List (View.Piece (Elt F) S2x2x3200x256 .bf16)}
    (h : Filled g D s 96 L) (hD : ∀ y : S2x2x3200x256.Idx, ¬ Inner y → D y) :
    ∀ y : S2x2x3200x256.Idx, ((y 0).val = s ∨ ¬ Inner y) → v.read (Elt F) (v.writes (Elt F) f L) y = g y := fun y hy => by
  refine h.read v f y ?_
  by_cases hi : Inner y
  · refine Or.inr ⟨hy.resolve_right fun h => h hi, hi, ?_⟩
    have h1 : (y 1).val < 2 := (y 1).isLt
    obtain ⟨i0, i1⟩ := hi
    show 48 * (y 1).val + ((y 2).val / 64 - 1) < 96
    omega
  · exact Or.inl (hD y hi)

/-- The buffer with one group in slot `sW` and another in the other slot. -/
def mixBuf (sW : ℕ) (g g' : S2x2x3200x256.Idx → F .bf16) : S2x2x3200x256.Idx → F .bf16 := fun y => if (y 0).val = sW then g y else g' y

section Mix

variable {sR sW : ℕ} {k ko : BitVec 32} {x1 y1 : Vec F S6144x256 .fp8e5m2} {x2 y2 : Vec F S96x64 .f32}

theorem mix_read (hsame : sR = sW → gBuf k x1 x2 = gBuf ko y1 y2) (y : S2x2x3200x256.Idx) (hy : (y 0).val = sR) :
    mixBuf sW (gBuf k x1 x2) (gBuf ko y1 y2) y = gBuf ko y1 y2 y := by
  unfold mixBuf
  by_cases h : (y 0).val = sW
  · rw [if_pos h, hsame (hy.symm.trans h)]
  · rw [if_neg h]

theorem mix_outer (y : S2x2x3200x256.Idx) (hy : ¬ Inner y) : mixBuf sW (gBuf k x1 x2) (gBuf ko y1 y2) y = zero16 := by
  unfold mixBuf
  rw [gBuf_outer _ _ _ hy, gBuf_outer _ _ _ hy, ite_self]

theorem mix_write (y : S2x2x3200x256.Idx) (hy : (y 0).val = sW) : mixBuf sW (gBuf k x1 x2) (gBuf ko y1 y2) y = gBuf k x1 x2 y := if_pos hy

variable {κ : Kind} {sp : Space} (v : View sig κ sp S2x2x3200x256 .bf16) (f : v.ty.Contents (Elt F)) {n : ℕ}
  {L : List (View.Piece (Elt F) S2x2x3200x256 .bf16)}
  (hB : ∀ y : S2x2x3200x256.Idx, ((y 0).val = sR ∨ ¬ Inner y) → v.read (Elt F) f y = gBuf ko y1 y2 y)
  (hsame : sR = sW → gBuf k x1 x2 = gBuf ko y1 y2)

include hB hsame

/-- The slot that is multiplied is not disturbed by the lines stored meanwhile, -/
theorem Filled.keepSlot (h : Filled (mixBuf sW (gBuf k x1 x2) (gBuf ko y1 y2)) (fun _ => False) sW n L) (y : S2x2x3200x256.Idx) (hy : (y 0).val = sR) :
    v.read (Elt F) (v.writes (Elt F) f L) y = gBuf ko y1 y2 y :=
  (h.keep v f y ((hB y (Or.inl hy)).trans (mix_read hsame y hy).symm)).trans (mix_read hsame y hy)

/-- and after all lines the other slot holds the next group, with zeros around the images. -/
theorem Filled.nextSlot (h : Filled (mixBuf sW (gBuf k x1 x2) (gBuf ko y1 y2)) (fun _ => False) sW 96 L) (y : S2x2x3200x256.Idx)
    (hy : (y 0).val = sW ∨ ¬ Inner y) : v.read (Elt F) (v.writes (Elt F) f L) y = gBuf k x1 x2 y := by
  by_cases hi : Inner y
  · have hs := hy.resolve_right fun h => h hi
    refine (h.read v f y (Or.inr ⟨hs, hi, ?_⟩)).trans (mix_write y hs)
    have h1 : (y 1).val < 2 := (y 1).isLt
    obtain ⟨i0, i1⟩ := hi
    show 48 * (y 1).val + ((y 2).val / 64 - 1) < 96
    omega
  · refine (h.keep v f y ((hB y (Or.inr hi)).trans ((gBuf_outer _ _ _ hi).trans (mix_outer y hi).symm))).trans ?_
    exact (mix_outer y hi).trans (gBuf_outer _ _ _ hi).symm

end Mix

end Cert.WeightIdeal.Hand
-- ==== Proof.WeightIdeal.ValA.lean ====
module

public import Idealize.ShloMosaic.Lib.Tactic.Stretches
public import proofs.«01_k».proof.Proof.WeightIdeal.Loads

/-! The body of the weight-gradient kernel at the first grid point, with what it computes: zeros around the images in both slots, and
the lines of the first group in slot 0. -/

@[expose] public section

set_option maxRecDepth 16384

noncomputable section

namespace Cert.WeightIdeal.Hand

open Cert.WeightIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 ix4)
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body at the first point: slot 0 holds the first group's lines, and both slots have zeros around the images. -/
theorem valueRun_A (c : Dev nD) (i : grid0.Coords) (arg1 : Memref sig .tc .vmem S1280x6144 .bf16) (harg1 : arg1.IsWhole) (arg2 : Memref sig .tc .vmem S6144x256 .fp8e5m2) (harg2 : arg2.IsWhole) (arg3 : Memref sig .tc .vmem S96x64 .f32) (harg3 : arg3.IsWhole) (arg4 : Memref sig .tc .vmem S3x1x1280x256 .f32) (harg4 : arg4.IsWhole) (arg5 : Memref sig .tc .vmem S2x2x3200x256 .bf16) (harg5 : arg5.IsWhole)
    (hc1 : k0_cond1 i = 1#1) (hc2 : ¬ k0_cond2 i = 1#1)
    (x0 : Vec F S1280x6144 .bf16) (x1 : Vec F S6144x256 .fp8e5m2) (x2 : Vec F S96x64 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, ⌜∀ y, ((y 0).val = 0 ∨ ¬ Inner y) → d y = gBuf (Scalar.remsi 0#32 3#32) x1 x2 y⌝ ∗ owns (c : Thread nD τ) arg5 fullShare d)) -∗ K ⟨⟩))
          ⊢ wp frame (wpE (defs₀ (F := F)) Variants.none c none) E (cc0_grad_weight i arg1 harg1 arg2 harg2 arg3 harg3 arg4 harg4 arg5 harg5) K := by
    intro E K
    simp only [cc0_grad_weight_eq_skeleton]; unfold cc0_grad_weight_skel
    simp only [k0_part104_eq_skeleton, k0_part105_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton]
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg1.eq_unread hf0; obtain rfl := harg2.eq_unread hf1; obtain rfl := harg3.eq_unread hf2
    sl_exec (disch := first | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _, _; isplitr; swap; · iexact H3
      ipureintro; rfl
    iexists _; isplitr; swap
    · iexists _; isplitr; swap; · iexact H4
      ipureintro; rfl
    ipureintro
    have hX := lineLoaded harg2 harg3 x1 x2 (Scalar.remsi 0#32 3#32)
    have hZ : ∀ y : S2x2x3200x256.Idx, ¬ Inner y → gBuf (Scalar.remsi 0#32 3#32) x1 x2 y = zero16 := fun y h => gBuf_outer _ _ _ h
    refine Filled.readAll (s := 0) (D := fun y => ((((((((False ∨ ((y 0).val = 0 ∧ (y 1).val = 0 ∧ 0 ≤ (y 2).val ∧ (y 2).val < 0 + 64)) ∨ ((y 0).val = 0 ∧ (y 1).val = 0 ∧ 3136 ≤ (y 2).val ∧ (y 2).val < 3136 + 64)) ∨ ((y 0).val = 0 ∧ (y 1).val = 1 ∧ 0 ≤ (y 2).val ∧ (y 2).val < 0 + 64)) ∨ ((y 0).val = 0 ∧ (y 1).val = 1 ∧ 3136 ≤ (y 2).val ∧ (y 2).val < 3136 + 64)) ∨ ((y 0).val = 1 ∧ (y 1).val = 0 ∧ 0 ≤ (y 2).val ∧ (y 2).val < 0 + 64)) ∨ ((y 0).val = 1 ∧ (y 1).val = 0 ∧ 3136 ≤ (y 2).val ∧ (y 2).val < 3136 + 64)) ∨ ((y 0).val = 1 ∧ (y 1).val = 1 ∧ 0 ≤ (y 2).val ∧ (y 2).val < 0 + 64)) ∨ ((y 0).val = 1 ∧ (y 1).val = 1 ∧ 3136 ≤ (y 2).val ∧ (y 2).val < 3136 + 64))) arg5.view _ ?F ?C
    case F =>
      have hG : ∀ y : S2x2x3200x256.Idx, (y 0).val = 0 → gBuf (Scalar.remsi 0#32 3#32) x1 x2 y = gBuf (Scalar.remsi 0#32 3#32) x1 x2 y := fun _ _ => rfl
      iterate 24 refine Filled.step hX hG ?_ (by decide) (by decide +kernel) (by sl_open_run; sl_open_pay; rfl)
      iterate 24 refine Filled.step hX hG ?_ (by decide) (by decide +kernel) (by sl_open_run; sl_open_pay; rfl)
      iterate 24 refine Filled.step hX hG ?_ (by decide) (by decide +kernel) (by sl_open_run; sl_open_pay; rfl)
      iterate 24 refine Filled.step hX hG ?_ (by decide) (by decide +kernel) (by sl_open_run; sl_open_pay; rfl)
      refine Filled.zero ?_ 1 1 3136 (Or.inr rfl) hZ (by sl_open_run; sl_open_pay; rfl)
      refine Filled.zero ?_ 1 1 0 (Or.inl rfl) hZ (by sl_open_run; sl_open_pay; rfl)
      refine Filled.zero ?_ 1 0 3136 (Or.inr rfl) hZ (by sl_open_run; sl_open_pay; rfl)
      refine Filled.zero ?_ 1 0 0 (Or.inl rfl) hZ (by sl_open_run; sl_open_pay; rfl)
      refine Filled.zero ?_ 0 1 3136 (Or.inr rfl) hZ (by sl_open_run; sl_open_pay; rfl)
      refine Filled.zero ?_ 0 1 0 (Or.inl rfl) hZ (by sl_open_run; sl_open_pay; rfl)
      refine Filled.zero ?_ 0 0 3136 (Or.inr rfl) hZ (by sl_open_run; sl_open_pay; rfl)
      refine Filled.zero ?_ 0 0 0 (Or.inl rfl) hZ (by sl_open_run; sl_open_pay; rfl)
      exact Filled.nil _ _
    case C =>
      intro y hy
      have h1 : (y 1).val < 2 := (y 1).isLt
      have h0 : (y 0).val < 2 := (y 0).isLt
      have h2 : (y 2).val < 3200 := (y 2).isLt
      have : (y 2).val < 64 ∨ 3136 ≤ (y 2).val := by
        by_contra h
        exact hy ⟨by omega, by omega⟩
      simp only [false_or]
      omega

end Cert.WeightIdeal.Hand
-- ==== Proof.WeightIdeal.Offsets.lean ====
module

public import proofs.«01_k».proof.Proof.WeightIdeal.Loads

/-! Where the later points of the weight-gradient kernel's grid read and write the buffer, in closed form: the slot read is the parity
of the point before, the slot written the parity of the point. -/

@[expose] public section

set_option maxRecDepth 16384

noncomputable section

namespace Cert.WeightIdeal.Hand

open Cert.WeightIdeal.Gen
open Idealize.ShloMosaic Idealize.ShloMosaic.TcCoe Idealize.ShloMosaic.Tactic

instance {i : grid0.Coords} [h : Fact (1 ≤ (i 0).val)] : ClosedOff (k0_off97 i) := ⟨![slotR i, 0, 128, 0], congrArg (![·, 0, 128, 0]) (slotR_word i h.out)⟩
instance {i : grid0.Coords} [h : Fact (1 ≤ (i 0).val)] : ClosedOff (k0_off98 i) := ⟨![slotR i, 1, 128, 0], congrArg (![·, 1, 128, 0]) (slotR_word i h.out)⟩
instance {i : grid0.Coords} : ClosedOff (k0_off99 i) := ⟨![slotW i, 0, 64, 0], congrArg (![·, 0, 64, 0]) (slotW_word i)⟩
instance {i : grid0.Coords} : ClosedOff (k0_off100 i) := ⟨![slotW i, 0, 128, 0], congrArg (![·, 0, 128, 0]) (slotW_word i)⟩
instance {i : grid0.Coords} : ClosedOff (k0_off101 i) := ⟨![slotW i, 0, 192, 0], congrArg (![·, 0, 192, 0]) (slotW_word i)⟩
instance {i : grid0.Coords} : ClosedOff (k0_off102 i) := ⟨![slotW i, 0, 256, 0], congrArg (![·, 0, 256, 0]) (slotW_word i)⟩
instance {i : grid0.Coords} : ClosedOff (k0_off103 i) := ⟨![slotW i, 0, 320, 0], congrArg (![·, 0, 320, 0]) (slotW_word i)⟩
instance {i : grid0.Coords} : ClosedOff (k0_off104 i) := ⟨![slotW i, 0, 384, 0], congrArg (![·, 0, 384, 0]) (slotW_word i)⟩
instance {i : grid0.Coords} : ClosedOff (k0_off105 i) := ⟨![slotW i, 0, 448, 0], congrArg (![·, 0, 448, 0]) (slotW_word i)⟩
instance {i : grid0.Coords} : ClosedOff (k0_off106 i) := ⟨![slotW i, 0, 512, 0], congrArg (![·, 0, 512, 0]) (slotW_word i)⟩
instance {i : grid0.Coords} : ClosedOff (k0_off107 i) := ⟨![slotW i, 0, 576, 0], congrArg (![·, 0, 576, 0]) (slotW_word i)⟩
instance {i : grid0.Coords} : ClosedOff (k0_off108 i) := ⟨![slotW i, 0, 640, 0], congrArg (![·, 0, 640, 0]) (slotW_word i)⟩
instance {i : grid0.Coords} : ClosedOff (k0_off109 i) := ⟨![slotW i, 0, 704, 0], congrArg (![·, 0, 704, 0]) (slotW_word i)⟩
instance {i : grid0.Coords} : ClosedOff (k0_off110 i) := ⟨![slotW i, 0, 768, 0], congrArg (![·, 0, 768, 0]) (slotW_word i)⟩
instance {i : grid0.Coords} : ClosedOff (k0_off111 i) := ⟨![slotW i, 0, 832, 0], congrArg (![·, 0, 832, 0]) (slotW_word i)⟩
instance {i : grid0.Coords} : ClosedOff (k0_off112 i) := ⟨![slotW i, 0, 896, 0], congrArg (![·, 0, 896, 0]) (slotW_word i)⟩
instance {i : grid0.Coords} : ClosedOff (k0_off113 i) := ⟨![slotW i, 0, 960, 0], congrArg (![·, 0, 960, 0]) (slotW_word i)⟩
instance {i : grid0.Coords} : ClosedOff (k0_off114 i) := ⟨![slotW i, 0, 1024, 0], congrArg (![·, 0, 1024, 0]) (slotW_word i)⟩
instance {i : grid0.Coords} : ClosedOff (k0_off115 i) := ⟨![slotW i, 0, 1088, 0], congrArg (![·, 0, 1088, 0]) (slotW_word i)⟩
instance {i : grid0.Coords} : ClosedOff (k0_off116 i) := ⟨![slotW i, 0, 1152, 0], congrArg (![·, 0, 1152, 0]) (slotW_word i)⟩
instance {i : grid0.Coords} : ClosedOff (k0_off117 i) := ⟨![slotW i, 0, 1216, 0], congrArg (![·, 0, 1216, 0]) (slotW_word i)⟩
instance {i : grid0.Coords} : ClosedOff (k0_off118 i) := ⟨![slotW i, 0, 1280, 0], congrArg (![·, 0, 1280, 0]) (slotW_word i)⟩
instance {i : grid0.Coords} : ClosedOff (k0_off119 i) := ⟨![slotW i, 0, 1344, 0], congrArg (![·, 0, 1344, 0]) (slotW_word i)⟩
instance {i : grid0.Coords} : ClosedOff (k0_off120 i) := ⟨![slotW i, 0, 1408, 0], congrArg (![·, 0, 1408, 0]) (slotW_word i)⟩
instance {i : grid0.Coords} : ClosedOff (k0_off121 i) := ⟨![slotW i, 0, 1472, 0], congrArg (![·, 0, 1472, 0]) (slotW_word i)⟩
instance {i : grid0.Coords} : ClosedOff (k0_off122 i) := ⟨![slotW i, 0, 1536, 0], congrArg (![·, 0, 1536, 0]) (slotW_word i)⟩
instance {i : grid0.Coords} : ClosedOff (k0_off123 i) := ⟨![slotW i, 0, 1600, 0], congrArg (![·, 0, 1600, 0]) (slotW_word i)⟩
instance {i : grid0.Coords} : ClosedOff (k0_off124 i) := ⟨![slotW i, 0, 1664, 0], congrArg (![·, 0, 1664, 0]) (slotW_word i)⟩
instance {i : grid0.Coords} : ClosedOff (k0_off125 i) := ⟨![slotW i, 0, 1728, 0], congrArg (![·, 0, 1728, 0]) (slotW_word i)⟩
instance {i : grid0.Coords} : ClosedOff (k0_off126 i) := ⟨![slotW i, 0, 1792, 0], congrArg (![·, 0, 1792, 0]) (slotW_word i)⟩
instance {i : grid0.Coords} : ClosedOff (k0_off127 i) := ⟨![slotW i, 0, 1856, 0], congrArg (![·, 0, 1856, 0]) (slotW_word i)⟩
instance {i : grid0.Coords} : ClosedOff (k0_off128 i) := ⟨![slotW i, 0, 1920, 0], congrArg (![·, 0, 1920, 0]) (slotW_word i)⟩
instance {i : grid0.Coords} : ClosedOff (k0_off129 i) := ⟨![slotW i, 0, 1984, 0], congrArg (![·, 0, 1984, 0]) (slotW_word i)⟩
instance {i : grid0.Coords} : ClosedOff (k0_off130 i) := ⟨![slotW i, 0, 2048, 0], congrArg (![·, 0, 2048, 0]) (slotW_word i)⟩
instance {i : grid0.Coords} [h : Fact (1 ≤ (i 0).val)] : ClosedOff (k0_off131 i) := ⟨![slotR i, 0, 64, 0], congrArg (![·, 0, 64, 0]) (slotR_word i h.out)⟩
instance {i : grid0.Coords} [h : Fact (1 ≤ (i 0).val)] : ClosedOff (k0_off132 i) := ⟨![slotR i, 1, 64, 0], congrArg (![·, 1, 64, 0]) (slotR_word i h.out)⟩
instance {i : grid0.Coords} : ClosedOff (k0_off133 i) := ⟨![slotW i, 0, 2112, 0], congrArg (![·, 0, 2112, 0]) (slotW_word i)⟩
instance {i : grid0.Coords} : ClosedOff (k0_off134 i) := ⟨![slotW i, 0, 2176, 0], congrArg (![·, 0, 2176, 0]) (slotW_word i)⟩
instance {i : grid0.Coords} : ClosedOff (k0_off135 i) := ⟨![slotW i, 0, 2240, 0], congrArg (![·, 0, 2240, 0]) (slotW_word i)⟩
instance {i : grid0.Coords} : ClosedOff (k0_off136 i) := ⟨![slotW i, 0, 2304, 0], congrArg (![·, 0, 2304, 0]) (slotW_word i)⟩
instance {i : grid0.Coords} : ClosedOff (k0_off137 i) := ⟨![slotW i, 0, 2368, 0], congrArg (![·, 0, 2368, 0]) (slotW_word i)⟩
instance {i : grid0.Coords} : ClosedOff (k0_off138 i) := ⟨![slotW i, 0, 2432, 0], congrArg (![·, 0, 2432, 0]) (slotW_word i)⟩
instance {i : grid0.Coords} : ClosedOff (k0_off139 i) := ⟨![slotW i, 0, 2496, 0], congrArg (![·, 0, 2496, 0]) (slotW_word i)⟩
instance {i : grid0.Coords} : ClosedOff (k0_off140 i) := ⟨![slotW i, 0, 2560, 0], congrArg (![·, 0, 2560, 0]) (slotW_word i)⟩
instance {i : grid0.Coords} : ClosedOff (k0_off141 i) := ⟨![slotW i, 0, 2624, 0], congrArg (![·, 0, 2624, 0]) (slotW_word i)⟩
instance {i : grid0.Coords} : ClosedOff (k0_off142 i) := ⟨![slotW i, 0, 2688, 0], congrArg (![·, 0, 2688, 0]) (slotW_word i)⟩
instance {i : grid0.Coords} : ClosedOff (k0_off143 i) := ⟨![slotW i, 0, 2752, 0], congrArg (![·, 0, 2752, 0]) (slotW_word i)⟩
instance {i : grid0.Coords} : ClosedOff (k0_off144 i) := ⟨![slotW i, 0, 2816, 0], congrArg (![·, 0, 2816, 0]) (slotW_word i)⟩
instance {i : grid0.Coords} : ClosedOff (k0_off145 i) := ⟨![slotW i, 0, 2880, 0], congrArg (![·, 0, 2880, 0]) (slotW_word i)⟩
instance {i : grid0.Coords} : ClosedOff (k0_off146 i) := ⟨![slotW i, 0, 2944, 0], congrArg (![·, 0, 2944, 0]) (slotW_word i)⟩
instance {i : grid0.Coords} : ClosedOff (k0_off147 i) := ⟨![slotW i, 0, 3008, 0], congrArg (![·, 0, 3008, 0]) (slotW_word i)⟩
instance {i : grid0.Coords} : ClosedOff (k0_off148 i) := ⟨![slotW i, 0, 3072, 0], congrArg (![·, 0, 3072, 0]) (slotW_word i)⟩
instance {i : grid0.Coords} : ClosedOff (k0_off149 i) := ⟨![slotW i, 1, 64, 0], congrArg (![·, 1, 64, 0]) (slotW_word i)⟩
instance {i : grid0.Coords} : ClosedOff (k0_off150 i) := ⟨![slotW i, 1, 128, 0], congrArg (![·, 1, 128, 0]) (slotW_word i)⟩
instance {i : grid0.Coords} : ClosedOff (k0_off151 i) := ⟨![slotW i, 1, 192, 0], congrArg (![·, 1, 192, 0]) (slotW_word i)⟩
instance {i : grid0.Coords} : ClosedOff (k0_off152 i) := ⟨![slotW i, 1, 256, 0], congrArg (![·, 1, 256, 0]) (slotW_word i)⟩
instance {i : grid0.Coords} : ClosedOff (k0_off153 i) := ⟨![slotW i, 1, 320, 0], congrArg (![·, 1, 320, 0]) (slotW_word i)⟩
instance {i : grid0.Coords} : ClosedOff (k0_off154 i) := ⟨![slotW i, 1, 384, 0], congrArg (![·, 1, 384, 0]) (slotW_word i)⟩
instance {i : grid0.Coords} : ClosedOff (k0_off155 i) := ⟨![slotW i, 1, 448, 0], congrArg (![·, 1, 448, 0]) (slotW_word i)⟩
instance {i : grid0.Coords} : ClosedOff (k0_off156 i) := ⟨![slotW i, 1, 512, 0], congrArg (![·, 1, 512, 0]) (slotW_word i)⟩
instance {i : grid0.Coords} : ClosedOff (k0_off157 i) := ⟨![slotW i, 1, 576, 0], congrArg (![·, 1, 576, 0]) (slotW_word i)⟩
instance {i : grid0.Coords} : ClosedOff (k0_off158 i) := ⟨![slotW i, 1, 640, 0], congrArg (![·, 1, 640, 0]) (slotW_word i)⟩
instance {i : grid0.Coords} : ClosedOff (k0_off159 i) := ⟨![slotW i, 1, 704, 0], congrArg (![·, 1, 704, 0]) (slotW_word i)⟩
instance {i : grid0.Coords} : ClosedOff (k0_off160 i) := ⟨![slotW i, 1, 768, 0], congrArg (![·, 1, 768, 0]) (slotW_word i)⟩
instance {i : grid0.Coords} : ClosedOff (k0_off161 i) := ⟨![slotW i, 1, 832, 0], congrArg (![·, 1, 832, 0]) (slotW_word i)⟩
instance {i : grid0.Coords} : ClosedOff (k0_off162 i) := ⟨![slotW i, 1, 896, 0], congrArg (![·, 1, 896, 0]) (slotW_word i)⟩
instance {i : grid0.Coords} : ClosedOff (k0_off163 i) := ⟨![slotW i, 1, 960, 0], congrArg (![·, 1, 960, 0]) (slotW_word i)⟩
instance {i : grid0.Coords} : ClosedOff (k0_off164 i) := ⟨![slotW i, 1, 1024, 0], congrArg (![·, 1, 1024, 0]) (slotW_word i)⟩
instance {i : grid0.Coords} [h : Fact (1 ≤ (i 0).val)] : ClosedOff (k0_off165 i) := ⟨![slotR i, 0, 0, 0], congrArg (![·, 0, 0, 0]) (slotR_word i h.out)⟩
instance {i : grid0.Coords} [h : Fact (1 ≤ (i 0).val)] : ClosedOff (k0_off166 i) := ⟨![slotR i, 1, 0, 0], congrArg (![·, 1, 0, 0]) (slotR_word i h.out)⟩

end Cert.WeightIdeal.Hand
-- ==== Proof.WeightIdeal.ValB.lean ====
module

public import Idealize.ShloMosaic.Lib.Tactic.Stretches
public import proofs.«01_k».proof.Proof.WeightIdeal.Offsets

/-! The body of the weight-gradient kernel at the later grid points, with what it computes: the product with the group prepared one
point before, and the lines of the next group in the other slot. -/

@[expose] public section

set_option maxRecDepth 16384

noncomputable section

namespace Cert.WeightIdeal.Hand

open Cert.WeightIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 ix4)
open Idealize.ShloMosaic.Pipeline (Dat Cfg Window BodyObligation cellOf)

variable {F : FTy → Type} [FloatOps F]

local notation "𝕄" => MT nD τ sig Unit (Elt F) ℕ (UR sig nD τ) ℕ

/-- A stored line whose slot is given as the word the body computes. -/
theorem Filled.stepWord {g : S2x2x3200x256.Idx → F .bf16} {s w0 : ℕ} {k : BitVec 32} {x1 : Vec F S6144x256 .fp8e5m2} {x2 : Vec F S96x64 .f32}
    {X : (l : ℕ) → l < 96 → FVec F S64x256 .bf16} (hX : ∀ l hl, X l hl = lineOf k x1 x2 l)
    (hg : ∀ y : S2x2x3200x256.Idx, (y 0).val = s → g y = gBuf k x1 x2 y)
    {D : S2x2x3200x256.Idx → Prop} {n : ℕ} {L : List (View.Piece (Elt F) S2x2x3200x256 .bf16)} (h : Filled g D s n L) (hn : n < 96)
    (hw0 : w0 = s) {off : Fin 4 → ℕ} {inb : ∀ a, off a + (![1, 1, 64, 256] : Fin 4 → ℕ) a ≤ S2x2x3200x256.size a} {w : Vec F S1x1x64x256 .bf16}
    (hoff : off = ![w0, n / 48, (n % 48 + 1) * 64, 0]) (hw : w = shapeCast S1x1x64x256 (X n hn) shapeCasts_S64x256_S1x1x64x256) :
    Filled g D s (n + 1) ((⟨Rect.unit off ![1, 1, 64, 256] inb, w⟩ : View.Piece (Elt F) S2x2x3200x256 .bf16) :: L) :=
  Filled.step hX hg h hn (hoff.trans (congrArg (fun v => ![v, n / 48, (n % 48 + 1) * 64, 0]) hw0)) hw

set_option maxHeartbeats 8000000 in
/-- The body at the later points. -/
theorem valueRun_B (c : Dev nD) (i : grid0.Coords) (arg1 : Memref sig .tc .vmem S1280x6144 .bf16) (harg1 : arg1.IsWhole) (arg2 : Memref sig .tc .vmem S6144x256 .fp8e5m2) (harg2 : arg2.IsWhole) (arg3 : Memref sig .tc .vmem S96x64 .f32) (harg3 : arg3.IsWhole) (arg4 : Memref sig .tc .vmem S3x1x1280x256 .f32) (harg4 : arg4.IsWhole) (arg5 : Memref sig .tc .vmem S2x2x3200x256 .bf16) (harg5 : arg5.IsWhole)
    (hc1 : ¬ k0_cond1 i = 1#1) (hc2 : k0_cond2 i = 1#1) (h1 : 1 ≤ (i 0).val)
    (x0 : Vec F S1280x6144 .bf16) (x1 : Vec F S6144x256 .fp8e5m2) (x2 : Vec F S96x64 .f32) (x4 : Vec F S2x2x3200x256 .bf16)
    (ko : BitVec 32) (y1 : Vec F S6144x256 .fp8e5m2) (y2 : Vec F S96x64 .f32)
    (hB : ∀ y : S2x2x3200x256.Idx, ((y 0).val = slotR i ∨ ¬ Inner y) → x4 y = gBuf ko y1 y2 y)
    (hsame : slotR i = slotW i → gBuf (kW i) x1 x2 = gBuf ko y1 y2) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare x4
            ∗ (iprop(owns (c : Thread nD τ) arg1 fullShare x0 ∗ owns (c : Thread nD τ) arg2 fullShare x1 ∗ owns (c : Thread nD τ) arg3 fullShare x2 ∗ owns (c : Thread nD τ) arg4 fullShare (outOf x0 (gBuf ko y1 y2) (slotR i)) ∗ (∃ d, ⌜∀ y, ((y 0).val = slotW i ∨ ¬ Inner y) → d y = gBuf (kW i) x1 x2 y⌝ ∗ owns (c : Thread nD τ) arg5 fullShare d)) -∗ K ⟨⟩))
          ⊢ wp frame (wpE (defs₀ (F := F)) Variants.none c none) E (cc0_grad_weight i arg1 harg1 arg2 harg2 arg3 harg3 arg4 harg4 arg5 harg5) K := by
    intro E K
    haveI := Fact.mk h1
    simp only [cc0_grad_weight_eq_skeleton]; unfold cc0_grad_weight_skel
    simp only [k0_part206_eq_skeleton, k0_part207_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton]
    unfold owns
    iintro ⟨⟨%f0, %hf0, H0⟩, ⟨%f1, %hf1, H1⟩, ⟨%f2, %hf2, H2⟩, ⟨%d3, %f3, -, H3⟩, ⟨%f4, %hf4, H4⟩, Hk⟩
    obtain rfl := harg1.eq_unread hf0; obtain rfl := harg2.eq_unread hf1; obtain rfl := harg3.eq_unread hf2; obtain rfl := harg5.eq_unread hf4
    sl_exec (disch := first | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    have hX := lineLoaded harg2 harg3 x1 x2 (kW i)
    have hg := fun (y : S2x2x3200x256.Idx) (hy : (y 0).val = slotW i) => mix_write (k := kW i) (ko := ko) (x1 := x1) (x2 := x2) (y1 := y1) (y2 := y2) y hy
    have hB' : ∀ y : S2x2x3200x256.Idx, ((y 0).val = slotR i ∨ ¬ Inner y) → View.read (Elt F) arg5.view (harg5.unread x4) y = gBuf ko y1 y2 y := fun y hy => by
      rw [harg5.read_unread]
      exact hB y hy
    isplitl [H3]
    · iexists _; isplitr; swap; · iexact H3
      ipureintro
      refine writes_out arg4.view _ (slotR i) x0 (gBuf ko y1 y2) _ _ _ _ _ _ ?_ ?_ ?_
      · refine prod_eq (a0 := ?a0u) (a1 := ?a1u) (w0 := ?w0u) (w1 := ?w1u) ?hu ?e0u ?e1u ?f0u ?f1u
        case hu => rfl
        case e0u => exact colsRead_eq harg1 x0 0 _
        case e1u => exact colsRead_eq harg1 x0 3072 _
        case f0u =>
          refine winRead_eq arg5.view _ _ _ (congrArg (![·, 0, 128, 0]) (slotR_word i h1)) ?_
          exact fun y hy => hB' y (Or.inl hy)
        case f1u =>
          refine winRead_eq arg5.view _ _ _ (congrArg (![·, 1, 128, 0]) (slotR_word i h1)) ?_
          exact fun y hy => hB' y (Or.inl hy)
      · refine prod_eq (a0 := ?a0v) (a1 := ?a1v) (w0 := ?w0v) (w1 := ?w1v) ?hv ?e0v ?e1v ?f0v ?f1v
        case hv => delta k0_pay556 valueRun_B.sl.r_90 valueRun_B.sl.r_91; rfl
        case e0v => exact colsRead_eq harg1 x0 0 _
        case e1v => exact colsRead_eq harg1 x0 3072 _
        case f0v =>
          refine winRead_eq arg5.view _ _ _ (congrArg (![·, 0, 64, 0]) (slotR_word i h1)) ?_
          exact Filled.keepSlot (n := 32) arg5.view _ hB' hsame (by
            iterate 32 refine Filled.stepWord hX hg ?_ (by decide) (slotW_word i) rfl (by sl_open_run; sl_open_pay; rfl)
            exact Filled.nil _ _)
        case f1v =>
          refine winRead_eq arg5.view _ _ _ (congrArg (![·, 1, 64, 0]) (slotR_word i h1)) ?_
          exact fun y hy => hB' y (Or.inl hy)
      · refine prod_eq (a0 := ?a0w) (a1 := ?a1w) (w0 := ?w0w) (w1 := ?w1w) ?hw ?e0w ?e1w ?f0w ?f1w
        case hw => rfl
        case e0w => exact colsRead_eq harg1 x0 0 _
        case e1w => exact colsRead_eq harg1 x0 3072 _
        case f0w =>
          refine winRead_eq arg5.view _ _ _ (congrArg (![·, 0, 0, 0]) (slotR_word i h1)) ?_
          exact Filled.keepSlot (n := 64) arg5.view _ hB' hsame (by
            iterate 32 refine Filled.stepWord hX hg ?_ (by decide) (slotW_word i) rfl (by sl_open_run; sl_open_pay; rfl)
            iterate 32 refine Filled.stepWord hX hg ?_ (by decide) (slotW_word i) rfl (by sl_open_run; sl_open_pay; rfl)
            exact Filled.nil _ _)
        case f1w =>
          refine winRead_eq arg5.view _ _ _ (congrArg (![·, 1, 0, 0]) (slotR_word i h1)) ?_
          exact Filled.keepSlot (n := 64) arg5.view _ hB' hsame (by
            iterate 32 refine Filled.stepWord hX hg ?_ (by decide) (slotW_word i) rfl (by sl_open_run; sl_open_pay; rfl)
            iterate 32 refine Filled.stepWord hX hg ?_ (by decide) (slotW_word i) rfl (by sl_open_run; sl_open_pay; rfl)
            exact Filled.nil _ _)
    iexists _; isplitr; swap
    · iexists _; isplitr; swap; · iexact H4
      ipureintro; rfl
    ipureintro
    refine Filled.nextSlot arg5.view _ hB' hsame ?_
    iterate 32 refine Filled.stepWord hX hg ?_ (by decide) (slotW_word i) rfl (by sl_open_run; sl_open_pay; rfl)
    iterate 32 refine Filled.stepWord hX hg ?_ (by decide) (slotW_word i) rfl (by sl_open_run; sl_open_pay; rfl)
    iterate 32 refine Filled.stepWord hX hg ?_ (by decide) (slotW_word i) rfl (by sl_open_run; sl_open_pay; rfl)
    exact Filled.nil _ _

end Cert.WeightIdeal.Hand
-- ==== Proof.WeightIdeal.Blocks.lean ====
module

public import proofs.«01_k».proof.Proof.WeightIdeal.Loads

/-! The blocks of the weight-gradient kernel's windows, read off the arguments. -/

@[expose] public section

set_option maxRecDepth 16384

noncomputable section

namespace Cert.WeightIdeal.Hand

open Cert.WeightIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 ix4)
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Point `n` of the grid. -/
def pt (n : ℕ) : Fin cfg0.N := ⟨min n 15, by rw [show cfg0.N = 16 from N_0]; omega⟩

theorem pt_val (t : Fin cfg0.N) : pt t.val = t :=
  Fin.ext (by have := lt_of_lt_of_eq t.isLt (show cfg0.N = 16 from N_0); show min t.val 15 = t.val; omega)

/-- The grid has one axis. -/
theorem coords_val : ∀ t : Fin cfg0.N, (grid0.coords t 0).val = t.val :=
  (by decide +kernel : ∀ t : Fin grid0.N, (grid0.coords t 0).val = t.val)
/-- The first group is prepared at point 0, -/
theorem cond1_iff : ∀ t : Fin cfg0.N, k0_cond1 (grid0.coords t) = 1#1 ↔ t.val = 0 :=
  (by decide +kernel : ∀ t : Fin grid0.N, k0_cond1 (grid0.coords t) = 1#1 ↔ t.val = 0)
/-- and groups are multiplied at points 1 to 15. -/
theorem cond2_iff : ∀ t : Fin cfg0.N, k0_cond2 (grid0.coords t) = 1#1 ↔ 1 ≤ t.val :=
  (by decide +kernel : ∀ t : Fin grid0.N, k0_cond2 (grid0.coords t) = 1#1 ↔ 1 ≤ t.val)

theorem flush3_iff : ∀ t : Fin cfg0.N, (cfg0.win 3).flush t = true ↔ 1 ≤ t.val :=
  (by decide +kernel : ∀ t : Fin grid0.N, (cfg0.win 3).flush t = true ↔ 1 ≤ t.val)

theorem index0 : ∀ t : Fin cfg0.N, win0_0.index t 0 = 0 ∧ win0_0.index t 1 = 0 :=
  (by decide +kernel : ∀ t : Fin grid0.N, win0_0.index t 0 = 0 ∧ win0_0.index t 1 = 0)
theorem index1 : ∀ t : Fin cfg0.N, win0_1.index t 0 = 0 ∧ win0_1.index t 1 = min t.val 14 / 3 :=
  (by decide +kernel : ∀ t : Fin grid0.N, win0_1.index t 0 = 0 ∧ win0_1.index t 1 = min t.val 14 / 3)
theorem index2 : ∀ t : Fin cfg0.N, win0_2.index t 0 = 0 ∧ win0_2.index t 1 = 0 :=
  (by decide +kernel : ∀ t : Fin grid0.N, win0_2.index t 0 = 0 ∧ win0_2.index t 1 = 0)
theorem index3 : ∀ t : Fin cfg0.N, win0_3.index t 0 = 0 ∧ win0_3.index t 1 = (t.val - 1) % 3 ∧ win0_3.index t 2 = 0 ∧ win0_3.index t 3 = (t.val - 1) / 3 :=
  (by decide +kernel : ∀ t : Fin grid0.N, win0_3.index t 0 = 0 ∧ win0_3.index t 1 = (t.val - 1) % 3 ∧ win0_3.index t 2 = 0 ∧ win0_3.index t 3 = (t.val - 1) / 3)

/-- The arguments' arrays. -/
abbrev argA (c : Dev nD) : Vec F S1280x6144 .bf16 := m ((c : Thread nD τ).loc main_arg0)
abbrev argCodes (c : Dev nD) : Vec F S6144x1280 .fp8e5m2 := m ((c : Thread nD τ).loc main_arg1)
abbrev argScale (c : Dev nD) : Vec F S96x64 .f32 := m ((c : Thread nD τ).loc main_arg2)

/-- Window 0 is the whole left operand, -/
theorem blk0_eq (c : Dev nD) (t : Fin cfg0.N) : iblk m c 0 t = argA m c := funext fun j => by
  unfold iblk
  rw [View.read_apply]
  refine congrArg (argA m c) (funext fun a => Fin.ext ?_)
  match a with
  | ⟨0, _⟩ => show win0_0.index t 0 * 1280 + 1 * (j 0).val = (j 0).val; rw [(index0 t).1]; omega
  | ⟨1, _⟩ => show win0_0.index t 1 * 6144 + 1 * (j 1).val = (j 1).val; rw [(index0 t).2]; omega

/-- window 1 the columns of the point's group, -/
theorem blk1_apply (c : Dev nD) (t : Fin cfg0.N) (j : (⟨2, ![6144, 256]⟩ : Shape).Idx) (o : ℕ) (ho : o < 1280) (h : o = min t.val 14 / 3 * 256 + (j 1).val) :
    iblk m c 1 t j = argCodes m c (ix2 (n0 := 6144) (n1 := 1280) (j 0) ⟨o, ho⟩) := by
  subst h
  unfold iblk
  rw [View.read_apply]
  refine congrArg (argCodes m c) (funext fun a => Fin.ext ?_)
  match a with
  | ⟨0, _⟩ => show win0_1.index t 0 * 6144 + 1 * (j 0).val = (j 0).val; rw [(index1 t).1]; omega
  | ⟨1, _⟩ => show win0_1.index t 1 * 256 + 1 * (j 1).val = min t.val 14 / 3 * 256 + (j 1).val; rw [(index1 t).2]; omega

/-- window 2 the whole array of scales. -/
theorem blk2_eq (c : Dev nD) (t : Fin cfg0.N) : iblk m c 2 t = argScale m c := funext fun j => by
  unfold iblk
  rw [View.read_apply]
  refine congrArg (argScale m c) (funext fun a => Fin.ext ?_)
  match a with
  | ⟨0, _⟩ => show win0_2.index t 0 * 96 + 1 * (j 0).val = (j 0).val; rw [(index2 t).1]; omega
  | ⟨1, _⟩ => show win0_2.index t 1 * 64 + 1 * (j 1).val = (j 1).val; rw [(index2 t).2]; omega

/-- The codes' columns of the groups of one column block are the same. -/
theorem blk1_congr (c : Dev nD) (t t' : Fin cfg0.N) (h : min t.val 14 / 3 = min t'.val 14 / 3) : (iblk m c 1 t : Vec F S6144x256 .fp8e5m2) = iblk m c 1 t' := funext fun j => by
  have h1 : (j 1).val < 256 := (j 1).isLt
  have hb : min t.val 14 / 3 * 256 + (j 1).val < 1280 := by omega
  rw [blk1_apply m c t j _ hb rfl, blk1_apply m c t' j _ hb (by rw [h])]

end Cert.WeightIdeal.Hand
-- ==== Proof.WeightIdeal.Held.lean ====
module

public import proofs.«01_k».proof.Proof.WeightIdeal.ValA
public import proofs.«01_k».proof.Proof.WeightIdeal.ValB
public import proofs.«01_k».proof.Proof.WeightIdeal.Blocks

/-! What the weight-gradient kernel holds between its grid points, and the body at any point in those terms. -/

@[expose] public section

set_option maxRecDepth 16384

noncomputable section

namespace Cert.WeightIdeal.Hand

open Cert.WeightIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 ix4)
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The group prepared at point `t`. -/
def groupAt (c : Dev nD) (t : Fin cfg0.N) : S2x2x3200x256.Idx → F .bf16 := gBuf (kW (grid0.coords t)) (iblk m c 1 t) (iblk m c 2 t)

/-- The block that point `t` writes: the group prepared one point before, multiplied. -/
def outAt (c : Dev nD) (t : Fin cfg0.N) : Vec F S3x1x1280x256 .f32 := outOf (argA m c) (groupAt m c (pt (t.val - 1))) 0

/-- From point 1 on the slot that point `n` reads holds the group prepared at the point before, and both slots have zeros around the images. -/
def InvB (c : Dev nD) (n : ℕ) (B : Vec F S2x2x3200x256 .bf16) : Prop :=
  1 ≤ n → ∀ y : S2x2x3200x256.Idx, ((y 0).val = min (n - 1) 14 % 2 ∨ ¬ Inner y) → B y = groupAt m c (pt (n - 1)) y

/-- What the output block must be after point `t`. -/
def OutOk (c : Dev nD) (t : Fin cfg0.N) (X : Vec F S3x1x1280x256 .f32) : Prop := 1 ≤ t.val → X = outAt m c t

/-- A group is the same in either slot. -/
theorem gBuf_slot (k : BitVec 32) (x1 : Vec F S6144x256 .fp8e5m2) (x2 : Vec F S96x64 .f32) (s s' : Fin 2) (a : Fin 2) (b : Fin 3200) (d : Fin 256) :
    gBuf k x1 x2 (ix4 (n0 := 2) (n1 := 2) (n2 := 3200) (n3 := 256) s a b d) = gBuf k x1 x2 (ix4 (n0 := 2) (n1 := 2) (n2 := 3200) (n3 := 256) s' a b d) := rfl

theorem outOf_slot (x0 : Vec F S1280x6144 .bf16) (k : BitVec 32) (x1 : Vec F S6144x256 .fp8e5m2) (x2 : Vec F S96x64 .f32) (s s' : ℕ) :
    outOf x0 (gBuf k x1 x2) s = outOf x0 (gBuf k x1 x2) s' := by
  have h : ∀ im o, winOf (gBuf k x1 x2) s im o = winOf (gBuf k x1 x2) s' im o := fun im o => funext fun j => gBuf_slot k x1 x2 _ _ _ _ _
  unfold outOf prodOf
  simp only [h]

/-- The last point prepares the last group once more. -/
theorem same_group (c : Dev nD) (t : Fin cfg0.N) (h1 : 1 ≤ t.val) (h : slotR (grid0.coords t) = slotW (grid0.coords t)) :
    groupAt m c t = groupAt m c (pt (t.val - 1)) := by
  have hN : t.val < 16 := lt_of_lt_of_eq t.isLt (show cfg0.N = 16 from N_0)
  unfold slotR slotW at h
  rw [coords_val] at h
  obtain rfl : t = pt 15 := Fin.ext (by show t.val = 15; omega)
  unfold groupAt
  rw [blk1_congr m c (pt 15) (pt ((pt 15).val - 1)) (by decide +kernel), blk2_eq, blk2_eq]
  exact congrArg (fun k => gBuf k _ _) (by decide +kernel)

abbrev ms0_0 (t : Fin cfg0.N) : Memref sig .tc .vmem S1280x6144 .bf16 := win0_0.stage (cfg0.slots t 0)
abbrev ms0_1 (t : Fin cfg0.N) : Memref sig .tc .vmem S6144x256 .fp8e5m2 := win0_1.stage (cfg0.slots t 1)
abbrev ms0_2 (t : Fin cfg0.N) : Memref sig .tc .vmem S96x64 .f32 := win0_2.stage (cfg0.slots t 2)
abbrev ms0_3 (t : Fin cfg0.N) : Memref sig .tc .vmem S3x1x1280x256 .f32 := win0_3.stage (cfg0.slots t 3)
/-- The scratch buffer: the two prepared groups. -/
abbrev scM0_0 : Memref sig .tc .vmem S2x2x3200x256 .bf16 := Memref.whole cc0_scratch0

/-- The inputs' blocks at point `t`. -/
def ins (c : Dev nD) (t : Fin cfg0.N) : sProp 𝕄 :=
  iprop(owns (c : Thread nD τ) (ms0_0 t) fullShare (iblk m c 0 t) ∗ owns (c : Thread nD τ) (ms0_1 t) fullShare (iblk m c 1 t) ∗ owns (c : Thread nD τ) (ms0_2 t) fullShare (iblk m c 2 t))

/-- What the body holds before point `t`, -/
def heldPre (c : Dev nD) (t : Fin cfg0.N) : sProp 𝕄 :=
  iprop(ins m c t ∗ (∃ d, owns (c : Thread nD τ) (ms0_3 t) fullShare d)
    ∗ (∃ B, ⌜InvB m c t.val B⌝ ∗ owns (c : Thread nD τ) scM0_0 fullShare B))

/-- and after it. -/
def heldPost (c : Dev nD) (t : Fin cfg0.N) : sProp 𝕄 :=
  iprop(ins m c t ∗ (∃ X, ⌜OutOk m c t X⌝ ∗ owns (c : Thread nD τ) (ms0_3 t) fullShare X)
    ∗ (∃ B, ⌜InvB m c (t.val + 1) B⌝ ∗ owns (c : Thread nD τ) scM0_0 fullShare B))

/-- The block written from point 1 on is the product of the group prepared before. -/
theorem out_ok (c : Dev nD) (t : Fin cfg0.N) (s : ℕ) :
    OutOk m c t (outOf (iblk m c 0 t) (gBuf (kW (grid0.coords (pt (t.val - 1)))) (iblk m c 1 (pt (t.val - 1))) (iblk m c 2 (pt (t.val - 1)))) s) := fun _ => by
  unfold outAt groupAt
  rw [← blk0_eq m c t]
  exact outOf_slot _ _ _ _ _ _

/-- The slot written at point `t` holds the group prepared there. -/
theorem InvB.next {c : Dev nD} {t : Fin cfg0.N} {B : Vec F S2x2x3200x256 .bf16}
    (h : ∀ y : S2x2x3200x256.Idx, ((y 0).val = min t.val 14 % 2 ∨ ¬ Inner y) → B y = groupAt m c t y) : InvB m c (t.val + 1) B := fun _ y hy => by
  rw [show t.val + 1 - 1 = t.val from rfl, pt_val]
  exact h y hy

theorem kW_first : ∀ i : grid0.Coords, (i 0).val = 0 → kW i = Scalar.remsi 0#32 3#32 := by decide +kernel

set_option maxHeartbeats 1000000 in
/-- The body at the first point. -/
theorem body_A (c : Dev nD) (t : Fin cfg0.N) (h : t.val = 0) (E : Set ℕ) (K : PUnit → sProp 𝕄) :
    iprop(heldPre m c t ∗ (heldPost m c t -∗ K ⟨⟩)) ⊢ wp Idealize.ShloMosaic.frame (wpE (defs₀ (F := F)) Variants.none c none) E (bodyAt0 t) K := by
  unfold bodyAt0 heldPre heldPost ins
  iintro ⟨⟨⟨H0, H1, H2⟩, H3, ⟨%B, %hB, H4⟩⟩, Hk⟩
  iapply (valueRun_A c (grid0.coords t) _ _ _ _ _ _ _ _ _ _ ((cond1_iff t).mpr h) (fun h' => absurd ((cond2_iff t).mp h') (by omega)) (iblk m c 0 t) (iblk m c 1 t) (iblk m c 2 t) E K)
  isplitl [H0]; · iexact H0
  isplitl [H1]; · iexact H1
  isplitl [H2]; · iexact H2
  isplitl [H3]; · iexact H3
  isplitl [H4]; · iexists _; iexact H4
  iintro ⟨H0, H1, H2, H3, ⟨%d4, %h4, H4⟩⟩
  iapply Hk
  isplitl [H0 H1 H2]
  · isplitl [H0]; · iexact H0
    isplitl [H1]; · iexact H1
    iexact H2
  isplitl [H3]
  · icases H3 with ⟨%d3, H3⟩
    iexists _; isplitr; swap; · iexact H3
    ipureintro; intro h; omega
  iexists _; isplitr; swap; · iexact H4
  ipureintro; refine InvB.next m fun y hy => (h4 y (hy.imp (fun h' => h'.trans (by omega)) id)).trans ?_
  unfold groupAt
  rw [kW_first _ ((coords_val t).trans h)]

/-- The slot that point `t` reads, in the run's terms. -/
theorem slot_held (c : Dev nD) (t : Fin cfg0.N) (h : 1 ≤ t.val) {B : Vec F S2x2x3200x256 .bf16} (hB : InvB m c t.val B) (y : S2x2x3200x256.Idx)
    (hy : (y 0).val = slotR (grid0.coords t) ∨ ¬ Inner y) : B y = groupAt m c (pt (t.val - 1)) y := by
  have hN : t.val < 16 := lt_of_lt_of_eq t.isLt (show cfg0.N = 16 from N_0)
  refine hB h y (hy.imp (fun h' => h'.trans ?_) id)
  unfold slotR
  rw [coords_val]
  omega

set_option maxHeartbeats 1000000 in
/-- The body at the later points. -/
theorem body_B (c : Dev nD) (t : Fin cfg0.N) (h : 1 ≤ t.val) (E : Set ℕ) (K : PUnit → sProp 𝕄) :
    iprop(heldPre m c t ∗ (heldPost m c t -∗ K ⟨⟩)) ⊢ wp Idealize.ShloMosaic.frame (wpE (defs₀ (F := F)) Variants.none c none) E (bodyAt0 t) K := by
  unfold bodyAt0 heldPre heldPost ins
  iintro ⟨⟨⟨H0, H1, H2⟩, H3, ⟨%B, %hB, H4⟩⟩, Hk⟩
  iapply (valueRun_B c (grid0.coords t) _ _ _ _ _ _ _ _ _ _ (fun h' => absurd ((cond1_iff t).mp h') (by omega)) ((cond2_iff t).mpr h) (by rw [coords_val]; exact h) (iblk m c 0 t) (iblk m c 1 t) (iblk m c 2 t) B _ (iblk m c 1 (pt (t.val - 1))) (iblk m c 2 (pt (t.val - 1))) (slot_held m c t h hB) (same_group m c t h) E K)
  isplitl [H0]; · iexact H0
  isplitl [H1]; · iexact H1
  isplitl [H2]; · iexact H2
  isplitl [H3]; · iexact H3
  isplitl [H4]; · iexact H4
  iintro ⟨H0, H1, H2, H3, ⟨%d4, %h4, H4⟩⟩
  iapply Hk
  isplitl [H0 H1 H2]
  · isplitl [H0]; · iexact H0
    isplitl [H1]; · iexact H1
    iexact H2
  isplitl [H3]
  · iexists _; isplitr; swap; · iexact H3
    ipureintro; exact out_ok m c t _
  iexists _; isplitr; swap; · iexact H4
  ipureintro; exact InvB.next m fun y hy => h4 y (hy.imp (fun h' => h'.trans (congrArg (fun n => min n 14 % 2) (coords_val t).symm)) id)

/-- The body at any point. -/
theorem body_value (c : Dev nD) (t : Fin cfg0.N) (E : Set ℕ) (K : PUnit → sProp 𝕄) :
    iprop(heldPre m c t ∗ (heldPost m c t -∗ K ⟨⟩)) ⊢ wp Idealize.ShloMosaic.frame (wpE (defs₀ (F := F)) Variants.none c none) E (bodyAt0 t) K := by
  rcases Nat.eq_zero_or_pos t.val with h | h
  · exact body_A m c t h E K
  · exact body_B m c t h E K

end Cert.WeightIdeal.Hand
-- ==== Proof.WeightIdeal.Launch.lean ====
module

public import proofs.«01_k».proof.Proof.WeightIdeal.Held
public import Idealize.ShloMosaic.Lib.Pipeline.Frame
public import Idealize.ShloMosaic.Lib.Pipeline.DatRel
public import Idealize.ShloMosaic.Lib.Pipeline.ArrRel

/-! The launch of the weight-gradient kernel with its value: every block of the result holds the product with its group. -/

@[expose] public section

set_option maxRecDepth 16384

noncomputable section

namespace Cert.WeightIdeal.Hand

open Cert.WeightIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 ix4)
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output window's contents are told by a relation. -/
def forgets0 : Fin 4 → Bool := fun w => w.val == 3

/-- What a kernel may keep between points: its scratch buffer and the generator register, at some contents. -/
theorem PhiA0_eq (c : Dev nD) :
    (Pipeline.ΦA spec0 c : sProp 𝕄) = iprop(iprop((∃ d, owns (c : Thread nD τ) scM0_0 fullShare d)) ∗ (∃ r, prngReg c r)) := by
  unfold Pipeline.ΦA; rw [scopedRest0_eq]; simp only [scM0_0, owns_whole]; try rfl

/-- The body table's row at point `t` is the body. -/
theorem defs₀_row (t : Fin cfg0.N) :
    defs₀ (F := F) .tc cfg0.body (cfg0.bodyArgs t (cfg0.slots t)) = bodyAt0 t := by
  unfold defs₀; rw [Defs.onTc_tc]

/-- What is kept between points: the scratch buffer, with what is known of it, and the generator register. -/
def PhiV (c : Dev nD) (n : ℕ) : sProp 𝕄 :=
  iprop((∃ B, ⌜InvB m c n B⌝ ∗ owns (c : Thread nD τ) scM0_0 fullShare B) ∗ (∃ r, prngReg c r))

/-- The proof data: every input's buffer at its block, the output told by a relation, the scratch by the invariant. -/
def datV (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
  Φ t := PhiV m c t.val
  q _ := fullShare
  owed _ := 0

/-- The output block after each point. -/
def RlV (c : Dev nD) : (w : Fin cfg0.W) → Fin cfg0.N → ((cfg0.win w).block.Idx → Elt F (cfg0.win w).elt) → Prop := fun w t => match w with
  | ⟨3, _⟩ => fun X => OutOk m c t X
  | _ => fun _ => True

theorem afterV_0 (c : Dev nD) (t : Fin cfg0.N) : (datV m c).after 0 t = iblk m c 0 t := by dsimp only [datV]
theorem afterV_1 (c : Dev nD) (t : Fin cfg0.N) : (datV m c).after 1 t = iblk m c 1 t := by dsimp only [datV]
theorem afterV_2 (c : Dev nD) (t : Fin cfg0.N) : (datV m c).after 2 t = iblk m c 2 t := by dsimp only [datV]
theorem beforeV_0 (c : Dev nD) (t : Fin cfg0.N) (d) : (datV m c).before 0 t d = iblk m c 0 t :=
  before0_0_of m (datV m c) rfl (afterV_0 m c) t d
theorem beforeV_1 (c : Dev nD) (t : Fin cfg0.N) (d) : (datV m c).before 1 t d = iblk m c 1 t :=
  before0_1_of m (datV m c) rfl (afterV_1 m c) t d
theorem beforeV_2 (c : Dev nD) (t : Fin cfg0.N) (d) : (datV m c).before 2 t d = iblk m c 2 t :=
  before0_2_of m (datV m c) rfl (afterV_2 m c) t d

/-- What the body is called with at point `t`, -/
def preV (c : Dev nD) (t : Fin cfg0.N) : sProp 𝕄 :=
  iprop((datV m c).Φ t.castSucc ∗ (datV m c).owesAt () t.castSucc
    ∗ (∃ d, owns (c : Thread nD τ) (ms0_0 t) fullShare ((datV m c).before 0 t d))
    ∗ (∃ d, owns (c : Thread nD τ) (ms0_1 t) fullShare ((datV m c).before 1 t d))
    ∗ (∃ d, owns (c : Thread nD τ) (ms0_2 t) fullShare ((datV m c).before 2 t d))
    ∗ (∃ Y, ⌜((datV m c).toRRel forgets0 (RlV m c)).Finds 3 t Y⌝ ∗ owns (c : Thread nD τ) (ms0_3 t) fullShare Y))

/-- and what it returns. -/
def postV (c : Dev nD) (t : Fin cfg0.N) : sProp 𝕄 :=
  iprop((datV m c).Φ t.succ ∗ (datV m c).owesAt () t.succ
    ∗ (datV m c).leavesExact 0 t
    ∗ (datV m c).leavesExact 1 t
    ∗ (datV m c).leavesExact 2 t
    ∗ (∃ X, ⌜RlV m c 3 t X⌝ ∗ owns (c : Thread nD τ) (ms0_3 t) fullShare X))

set_option maxHeartbeats 1000000 in
/-- The body at any point, in the terms of the proof data. -/
theorem soundV (c : Dev nD) (t : Fin cfg0.N) :
    preV m c t ⊢ wp Idealize.ShloMosaic.frame (wpE (defs₀ (F := F)) Variants.none c none) Set.univ (bodyAt0 t) (fun _ => postV m c t) := by
  unfold preV postV
  simp only [beforeV_0, beforeV_1, beforeV_2]
  rw [show (datV m c).Φ t.succ = PhiV m c (t.val + 1) from rfl, show (datV m c).owesAt () t.succ = (datV m c).owesAt () t.castSucc from rfl,
    show (datV m c).Φ t.castSucc = PhiV m c t.val from rfl]
  rw [show (datV m c).leavesExact 0 t = owns (c : Thread nD τ) (ms0_0 t) fullShare (iblk m c 0 t) from rfl]
  rw [show (datV m c).leavesExact 1 t = owns (c : Thread nD τ) (ms0_1 t) fullShare (iblk m c 1 t) from rfl]
  rw [show (datV m c).leavesExact 2 t = owns (c : Thread nD τ) (ms0_2 t) fullShare (iblk m c 2 t) from rfl]
  unfold PhiV
  iintro ⟨⟨HS0, Hg⟩, Ho, ⟨%d0, H0⟩, ⟨%d1, H1⟩, ⟨%d2, H2⟩, ⟨%d3, -, H3⟩⟩
  iapply (body_value m c t Set.univ _)
  unfold heldPre heldPost ins
  isplitl [H0 H1 H2 H3 HS0]
  · isplitl [H0 H1 H2]
    · isplitl [H0]; · iexact H0
      isplitl [H1]; · iexact H1
      iexact H2
    isplitl [H3]; · iexists _; iexact H3
    iexact HS0
  iintro ⟨⟨H0, H1, H2⟩, H3, HS0⟩
  isplitl [HS0 Hg]
  · isplitl [HS0]; · iexact HS0
    iexact Hg
  isplitl [Ho]; · iexact Ho
  isplitl [H0]; · iexact H0
  isplitl [H1]; · iexact H1
  isplitl [H2]; · iexact H2
  iexact H3

/-- The pipeline's body obligation, at every point. -/
theorem obligationV (c : Dev nD) :
    Pipeline.BodyObligationRel (datV (F := F) m c) (defs₀ (F := F)) Variants.none () Set.univ forgets0 (RlV m c) := fun t => by
  rw [bigSep_W0, bigSep_W0, defs₀_row]
  exact triple_restated (soundV m c t) rfl .rfl fun _ => .rfl

theorem hinV (c : Dev nD) : Pipeline.ΦA spec0 c ⊢ (PhiV m c 0 : sProp 𝕄) := by
  rw [PhiA0_eq]
  unfold PhiV
  iintro ⟨⟨%d0, H0⟩, Hg⟩
  isplitl [H0]
  · iexists _; isplitr; swap; · iexact H0
    ipureintro; intro h; exact absurd h (by decide)
  iexact Hg

theorem houtV (c : Dev nD) (n : ℕ) : (PhiV m c n : sProp 𝕄) ⊢ Pipeline.ΦA spec0 c := by
  rw [PhiA0_eq]
  unfold PhiV
  iintro ⟨⟨%d0, %h0, H0⟩, Hg⟩
  isplitl [H0]; · iexists _; iexact H0
  iexact Hg

set_option backward.isDefEq.respectTransparency.types false in
/-- The launch: every run ends with each block of the output array such as the body may have left it, and every semaphore counter at zero. -/
theorem run_value : θ_run defs (onTc (τ := τ) (main (F := F))) (s₀ m ρ) (fun r =>
    Pipeline.RDat.FramePost (cfgs 0) (fun c => (datV m c).toRRel forgets0 (RlV m c)) (V m) r ∧ r.2.sem = fun _ => 0) :=
  Pipeline.RDat.θ_run_frame_track (Q' := _) cfgs (0 : Fin 1) launch0 defs₀ Variants.none (fun c => (datV m c).toRRel forgets0 (RlV m c)) m ρ main
    (hbody := fun c => (obligationV m c).toRRel) (hshare := fun c => (datV m c).share_full fun _ => rfl) (howed := fun _ _ => rfl) (V := V m) (hmain := hmain m Variants.none)
    (hA := fun _ _ => rfl) (hin := fun c => hinV m c) (hout := fun c => houtV m c _)

/-- The result array: the block of tap column `kx` and of columns `256 b` to `256 b + 255` is written at point `3 b + kx + 1`. -/
def resK (c : Dev nD) : Vec F S3x3x1280x1280 .f32 := fun i =>
  outAt m c (pt (3 * ((i 3).val / 256) + (i 1).val + 1))
    (ix4 (n0 := 3) (n1 := 1) (n2 := 1280) (n3 := 256) (i 0) 0 (i 2) ⟨(i 3).val % 256, Nat.mod_lt _ (by decide)⟩)

/-- After the write-backs the array holds `resK`, whatever of the permitted contents the body left at each point. -/
theorem final3 (c : Dev nD) (after : (w : Fin cfg0.W) → Fin cfg0.N → (cfg0.win w).block.Idx → Elt F (cfg0.win w).elt)
    (hL : ∀ (w : Fin cfg0.W) (u : Fin cfg0.N), (cfg0.win w).flush u = true → ((datV m c).toRRel forgets0 (RlV m c)).Leaves w u (after w u)) :
    (((datV m c).toRRel forgets0 (RlV m c)).withAfter after).arrAt 3 cfg0.N = resK m c := by
  refine Dat.arrAt_eq_of_cover (cfg := cfg0) (c := c) (((datV m c).toRRel forgets0 (RlV m c)).withAfter after) 3 (resK m c) (fun t ht => ?_) fun i => ?_
  · have h1 := (flush3_iff t).mp ht
    have hN : t.val < 16 := lt_of_lt_of_eq t.isLt (show cfg0.N = 16 from N_0)
    have hX : after 3 t = outAt m c t := (datV m c).toRRel_leaves (w := 3) rfl (hL 3 t ht) h1
    funext x
    show after 3 t _ = _
    rw [hX, View.read_apply]
    have hx0 : (x 0).val < 3 := (x 0).isLt
    have hx1 : (x 1).val < 1 := (x 1).isLt
    have hx3 : (x 3).val < 256 := (x 3).isLt
    have e0 : ((((cfg0.win 3).blk t).view.emb x) 0).val = (x 0).val := by
      show win0_3.index t 0 * 3 + 1 * (x 0).val = _; rw [(index3 t).1]; omega
    have e1 : ((((cfg0.win 3).blk t).view.emb x) 1).val = (t.val - 1) % 3 := by
      show win0_3.index t 1 * 1 + 1 * (x 1).val = _; rw [(index3 t).2.1]; omega
    have e2 : ((((cfg0.win 3).blk t).view.emb x) 2).val = (x 2).val := by
      show win0_3.index t 2 * 1280 + 1 * (x 2).val = _; rw [(index3 t).2.2.1]; omega
    have e3 : ((((cfg0.win 3).blk t).view.emb x) 3).val = (t.val - 1) / 3 * 256 + (x 3).val := by
      show win0_3.index t 3 * 256 + 1 * (x 3).val = _; rw [(index3 t).2.2.2]; omega
    show outAt m c t _ = resK m c _
    unfold resK
    rw [show pt (3 * (((((cfg0.win 3).blk t).view.emb x) 3).val / 256) + ((((cfg0.win 3).blk t).view.emb x) 1).val + 1) = t from
      Fin.ext (by show min (3 * (_ / 256) + _ + 1) 15 = _; rw [e1, e3]; omega)]
    refine congrArg (outAt m c t) (funext fun a => Fin.ext ?_)
    match a with
    | ⟨0, _⟩ => exact e0.symm
    | ⟨1, _⟩ => show (x 1).val = 0; omega
    | ⟨2, _⟩ => exact e2.symm
    | ⟨3, _⟩ => show (x 3).val = _ % 256; rw [e3]; omega
  · have h0 : (i 0 : ℕ) < 3 := (i 0).isLt
    have h1 : (i 1 : ℕ) < 3 := (i 1).isLt
    have h2 : (i 2 : ℕ) < 1280 := (i 2).isLt
    have h3 : (i 3 : ℕ) < 1280 := (i 3).isLt
    refine ⟨pt (3 * ((i 3 : ℕ) / 256) + (i 1 : ℕ) + 1), (flush3_iff _).mpr (by show 1 ≤ min _ 15; omega), ?_⟩
    have hp : (pt (3 * ((i 3 : ℕ) / 256) + (i 1 : ℕ) + 1)).val = 3 * ((i 3 : ℕ) / 256) + (i 1 : ℕ) + 1 := by show min _ 15 = _; omega
    generalize pt (3 * ((i 3 : ℕ) / 256) + (i 1 : ℕ) + 1) = t at hp
    show i ∈ ((View.whole main_v0).slice (win0_3.rect t)).set
    rw [View.set_slice_whole, Rect.mem_set_unit]
    intro a
    match a with
    | ⟨0, _⟩ => show win0_3.index t 0 * 3 ≤ (i 0 : ℕ) ∧ (i 0 : ℕ) < win0_3.index t 0 * 3 + 3
                rw [(index3 t).1]; omega
    | ⟨1, _⟩ => show win0_3.index t 1 * 1 ≤ (i 1 : ℕ) ∧ (i 1 : ℕ) < win0_3.index t 1 * 1 + 1
                rw [(index3 t).2.1, hp]; omega
    | ⟨2, _⟩ => show win0_3.index t 2 * 1280 ≤ (i 2 : ℕ) ∧ (i 2 : ℕ) < win0_3.index t 2 * 1280 + 1280
                rw [(index3 t).2.2.1]; omega
    | ⟨3, _⟩ => show win0_3.index t 3 * 256 ≤ (i 3 : ℕ) ∧ (i 3 : ℕ) < win0_3.index t 3 * 256 + 256
                rw [(index3 t).2.2.2, hp]; omega

/-- The run, read: the result array, the arguments unchanged, and every semaphore counter at zero. -/
theorem run_read : θ_run defs (onTc (τ := τ) (main (F := F))) ⟨m, fun _ => 0, ρ⟩ (fun r => (∀ c : Dev nD,
      r.2.mem ((c.tc : Thread nD τ).loc main_v0) = resK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) := by
  have hx : ∀ r, (Pipeline.RDat.FramePost (cfgs 0) (fun c => (datV m c).toRRel forgets0 (RlV m c)) (V m) r ∧ r.2.sem = fun _ => 0) → ∀ c : Dev nD,
      r.2.mem ((c.tc : Thread nD τ).loc main_v0) = resK m c := fun r h c => by
    obtain ⟨after, hL, hA⟩ := Pipeline.RDat.FramePost.exists_exact h.1 c
    exact (hA 3).trans (final3 m c after hL)
  exact (θ_run defs _ _).mono (fun r h => ⟨fun c => ⟨(hx r h c), Pipeline.RDat.FramePost.arr_in h.1 c 0 rfl, Pipeline.RDat.FramePost.arr_in h.1 c 1 rfl,
    Pipeline.RDat.FramePost.arr_in h.1 c 2 rfl⟩, h.2⟩) (run_value m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => (h.1 c).2, h.2⟩) (run_read m ρ)

end Cert.WeightIdeal.Hand
-- ==== Proof.WeightSpec.lean ====
module

public import proofs.«01_k».proof.Proof.Spec

/-! The weight gradient over the extended reals: every activation times the dequantised gradient that one tap pairs it with,
summed over the pixels of both images; and the same sum with the border around the activations instead of the gradient. -/

@[expose] public section

noncomputable section

namespace Cert.Spec

open Idealize.ShloMosaic
open Idealize.ShloMosaic.ValueIdx (ix2)

/-- The weight gradient of the tap in kernel row `ky` and column `kx`, from input channel `ch` to output channel `o`. -/
def dw (a : (⟨2, ![1280, 6144]⟩ : Shape).Idx → EReal) (dy : (⟨2, ![6144, 1280]⟩ : Shape).Idx → EReal)
    (ds : (⟨2, ![96, 64]⟩ : Shape).Idx → EReal) (ky kx : ℕ) (ch o : Fin 1280) : EReal :=
  ∑ b : Fin 2, ∑ p : Fin 3072, a (ix2 (n0 := 1280) (n1 := 6144) ch ⟨b.val * 3072 + p.val, by omega⟩)
    * gp dy ds b.val (p.val / 64 + (2 - ky)) (p.val % 64 + (2 - kx)) o

/-- A sum over two digits. -/
theorem sum_digits (m n : ℕ) (f : ℕ → EReal) : ∑ q : Fin (m * n), f q.val = ∑ a : Fin m, ∑ b : Fin n, f (a.val * n + b.val) := by
  rw [← Fintype.sum_prod_type' (f := fun (a : Fin m) (b : Fin n) => f (a.val * n + b.val)), ← Equiv.sum_comp finProdFinEquiv]
  refine Finset.sum_congr rfl fun x _ => congrArg f ?_
  show x.2.val + n * x.1.val = x.1.val * n + x.2.val
  rw [Nat.mul_comm, Nat.add_comm]

/-- Whether `x`, counted from the border, lies inside a range of `n`. -/
abbrev Within (n x : ℕ) : Prop := 1 ≤ x ∧ x ≤ n

/-- A sum over the pairs a tap joins, by either side of the pair. -/
theorem sum_shift (n k : ℕ) (hk : k ≤ 2) (f : ℕ → ℕ → EReal) :
    ∑ x : Fin n, (if Within n (x.val + k) then f (x.val + k - 1) x.val else 0)
      = ∑ u : Fin n, (if Within n (u.val + (2 - k)) then f u.val (u.val + (2 - k) - 1) else 0) := by
  have hl : ∀ x : Fin n, (if Within n (x.val + k) then f (x.val + k - 1) x.val else 0)
      = ∑ u : Fin n, if u.val + 1 = x.val + k then f u.val x.val else 0 := fun x => by
    split_ifs with h
    · obtain ⟨h1, h2⟩ := h
      rw [Finset.sum_eq_single (⟨x.val + k - 1, by omega⟩ : Fin n)]
      · rw [if_pos (show x.val + k - 1 + 1 = x.val + k by omega)]
      · exact fun u _ hu => if_neg fun e => hu (Fin.ext (by show u.val = x.val + k - 1; omega))
      · exact fun h => absurd (Finset.mem_univ _) h
    · exact (Finset.sum_eq_zero fun u _ => if_neg fun e => h ⟨by omega, by have := u.isLt; omega⟩).symm
  have hr : ∀ u : Fin n, (if Within n (u.val + (2 - k)) then f u.val (u.val + (2 - k) - 1) else 0)
      = ∑ x : Fin n, if u.val + 1 = x.val + k then f u.val x.val else 0 := fun u => by
    split_ifs with h
    · obtain ⟨h1, h2⟩ := h
      rw [Finset.sum_eq_single (⟨u.val + (2 - k) - 1, by omega⟩ : Fin n)]
      · rw [if_pos (show u.val + 1 = u.val + (2 - k) - 1 + k by omega)]
      · exact fun x _ hx => if_neg fun e => hx (Fin.ext (by show x.val = u.val + (2 - k) - 1; omega))
      · exact fun h => absurd (Finset.mem_univ _) h
    · exact (Finset.sum_eq_zero fun x _ => if_neg fun e => h ⟨by omega, by have := x.isLt; omega⟩).symm
  simp only [hl, hr]
  exact Finset.sum_comm

/-- A sum over the pairs of pixels a tap joins: the border may be put around either image. -/
theorem sum_swap (ky kx : ℕ) (hy : ky ≤ 2) (hx : kx ≤ 2) (A G : ℕ → ℕ → EReal) :
    ∑ y : Fin 48, ∑ x : Fin 64, (if Within 48 (y.val + ky) ∧ Within 64 (x.val + kx) then A (y.val + ky - 1) (x.val + kx - 1) else 0) * G (y.val + 1) (x.val + 1)
      = ∑ y : Fin 48, ∑ x : Fin 64, A y.val x.val
          * (if Within 48 (y.val + (2 - ky)) ∧ Within 64 (x.val + (2 - kx)) then G (y.val + (2 - ky)) (x.val + (2 - kx)) else 0) := by
  have e1 : ∀ y : Fin 48, (∑ x : Fin 64, (if Within 48 (y.val + ky) ∧ Within 64 (x.val + kx) then A (y.val + ky - 1) (x.val + kx - 1) else 0) * G (y.val + 1) (x.val + 1))
      = if Within 48 (y.val + ky) then (fun u v : ℕ => ∑ x : Fin 64, if Within 64 (x.val + kx) then A u (x.val + kx - 1) * G (v + 1) (x.val + 1) else 0) (y.val + ky - 1) y.val else 0 := fun y => by
    by_cases h : Within 48 (y.val + ky)
    · rw [if_pos h]
      refine Finset.sum_congr rfl fun x _ => ?_
      by_cases h' : Within 64 (x.val + kx)
      · rw [if_pos ⟨h, h'⟩, if_pos h']
      · rw [if_neg fun c => h' c.2, if_neg h', zero_mul]
    · rw [if_neg h]
      exact Finset.sum_eq_zero fun x _ => by rw [if_neg fun c => h c.1, zero_mul]
  have e2 : ∀ y : Fin 48, (∑ x : Fin 64, A y.val x.val * (if Within 48 (y.val + (2 - ky)) ∧ Within 64 (x.val + (2 - kx)) then G (y.val + (2 - ky)) (x.val + (2 - kx)) else 0))
      = if Within 48 (y.val + (2 - ky)) then (fun u v : ℕ => ∑ x : Fin 64, if Within 64 (x.val + kx) then A u (x.val + kx - 1) * G (v + 1) (x.val + 1) else 0) y.val (y.val + (2 - ky) - 1) else 0 := fun y => by
    by_cases h : Within 48 (y.val + (2 - ky))
    · rw [if_pos h]
      refine Eq.trans ?_ (sum_shift 64 kx hx fun u v => A y.val u * G (y.val + (2 - ky) - 1 + 1) (v + 1)).symm
      refine Finset.sum_congr rfl fun x _ => ?_
      by_cases h' : Within 64 (x.val + (2 - kx))
      · rw [if_pos ⟨h, h'⟩, if_pos h', Nat.sub_add_cancel h.1, Nat.sub_add_cancel h'.1]
      · rw [if_neg fun c => h' c.2, if_neg h', mul_zero]
    · rw [if_neg h]
      exact Finset.sum_eq_zero fun x _ => by rw [if_neg fun c => h c.1, mul_zero]
  simp only [e1, e2]
  exact sum_shift 48 ky hy fun u v => ∑ x : Fin 64, if Within 64 (x.val + kx) then A u (x.val + kx - 1) * G (v + 1) (x.val + 1) else 0

/-- The weight gradient as the sum over all pixels of the bordered activations' window times the gradient. -/
theorem dw_window (a : (⟨2, ![1280, 6144]⟩ : Shape).Idx → EReal) (dy : (⟨2, ![6144, 1280]⟩ : Shape).Idx → EReal)
    (ds : (⟨2, ![96, 64]⟩ : Shape).Idx → EReal) (ky kx : ℕ) (hy : ky ≤ 2) (hx : kx ≤ 2) (ch o : Fin 1280) (P : ℕ → ℕ → ℕ → EReal)
    (hin : ∀ b (hb : b < 2) y x (h1 : Within 48 y) (h2 : Within 64 x),
      P b y x = a (ix2 (n0 := 1280) (n1 := 6144) ch ⟨b * 3072 + ((y - 1) * 64 + (x - 1)), by omega⟩))
    (hout : ∀ b y x, ¬ (Within 48 y ∧ Within 64 x) → P b y x = 0) :
    ∑ q : Fin 6144, P (q.val / 3072) (q.val / 64 % 48 + ky) (q.val % 64 + kx) * gp dy ds (q.val / 3072) (q.val / 64 % 48 + 1) (q.val % 64 + 1) o
      = dw a dy ds ky kx ch o := by
  refine (sum_digits 2 3072 fun q => P (q / 3072) (q / 64 % 48 + ky) (q % 64 + kx) * gp dy ds (q / 3072) (q / 64 % 48 + 1) (q % 64 + 1) o).trans ?_
  unfold dw
  refine Finset.sum_congr rfl fun b _ => ?_
  have hb := b.isLt
  refine (sum_digits 48 64 fun p => P ((b.val * 3072 + p) / 3072) ((b.val * 3072 + p) / 64 % 48 + ky) ((b.val * 3072 + p) % 64 + kx)
    * gp dy ds ((b.val * 3072 + p) / 3072) ((b.val * 3072 + p) / 64 % 48 + 1) ((b.val * 3072 + p) % 64 + 1) o).trans ?_
  have er : ∀ p : Fin 3072, a (ix2 (n0 := 1280) (n1 := 6144) ch ⟨b.val * 3072 + p.val, by omega⟩)
        * gp dy ds b.val (p.val / 64 + (2 - ky)) (p.val % 64 + (2 - kx)) o
      = (fun p : ℕ => P b.val (p / 64 + 1) (p % 64 + 1) * gp dy ds b.val (p / 64 + (2 - ky)) (p % 64 + (2 - kx)) o) p.val := fun p => by
    have hp := p.isLt
    show _ = P b.val (p.val / 64 + 1) (p.val % 64 + 1) * _
    rw [hin b.val hb _ _ ⟨by omega, by omega⟩ ⟨by omega, by omega⟩]
    refine congrArg (fun z => a (ix2 (n0 := 1280) (n1 := 6144) ch z) * _) (Fin.ext ?_)
    show b.val * 3072 + p.val = b.val * 3072 + ((p.val / 64 + 1 - 1) * 64 + (p.val % 64 + 1 - 1))
    omega
  refine Eq.trans ?_ ((Finset.sum_congr rfl fun p _ => er p).trans (sum_digits 48 64
    fun p : ℕ => P b.val (p / 64 + 1) (p % 64 + 1) * gp dy ds b.val (p / 64 + (2 - ky)) (p % 64 + (2 - kx)) o)).symm
  refine Eq.trans ?_ ((sum_swap ky kx hy hx (fun u v => P b.val (u + 1) (v + 1)) (fun u v => gp dy ds b.val u v o)).trans ?_)
  · refine Finset.sum_congr rfl fun y _ => Finset.sum_congr rfl fun x _ => ?_
    have hy' := y.isLt
    have hx' := x.isLt
    rw [show (b.val * 3072 + (y.val * 64 + x.val)) / 3072 = b.val by omega, show (b.val * 3072 + (y.val * 64 + x.val)) / 64 % 48 = y.val by omega,
      show (b.val * 3072 + (y.val * 64 + x.val)) % 64 = x.val by omega]
    by_cases h : Within 48 (y.val + ky) ∧ Within 64 (x.val + kx)
    · rw [if_pos h, Nat.sub_add_cancel h.1.1, Nat.sub_add_cancel h.2.1]
    · rw [if_neg h, hout _ _ _ h]
  · refine Finset.sum_congr rfl fun y _ => Finset.sum_congr rfl fun x _ => ?_
    have hy' := y.isLt
    have hx' := x.isLt
    show _ = P b.val ((y.val * 64 + x.val) / 64 + 1) ((y.val * 64 + x.val) % 64 + 1) * gp dy ds b.val ((y.val * 64 + x.val) / 64 + (2 - ky)) ((y.val * 64 + x.val) % 64 + (2 - kx)) o
    rw [show (y.val * 64 + x.val) / 64 = y.val by omega, show (y.val * 64 + x.val) % 64 = x.val by omega]
    by_cases h : Within 48 (y.val + (2 - ky)) ∧ Within 64 (x.val + (2 - kx))
    · rw [if_pos h]
    · rw [if_neg h, gp_out h]

end Cert.Spec
-- ==== Proof.WeightIdeal.LineIdeal.lean ====
module

public import proofs.«01_k».proof.Proof.WeightIdeal.Loads
public import Idealize.ShloMosaic.PureOps.Ideal.Laws
public import Idealize.ShloMosaic.Lib.KernelVsHost
public import Idealize.ShloMosaic.Lib.IdealHost

/-! One image line of the buffer over the extended reals, element by element: the dequantised line, and the line moved by one pixel. -/

@[expose] public section

set_option maxRecDepth 16384

noncomputable section

namespace Cert.WeightIdeal.Hand

open Cert.WeightIdeal.Gen
open Idealize.ShloMosaic Idealize.ShloMosaic.TcCoe Idealize.ShloMosaic.Ideal
open Idealize.ShloMosaic.ValueIdx (ix2 ix3)

theorem scaleCol_apply (sc : Vec Ideal S1x64 .f32) (j : S64x128.Idx) : scaleCol sc j = sc (ix2 (n0 := 1) (n1 := 64) 0 (j 0)) := by
  unfold scaleCol
  rw [shapeCast_self]
  refine (transpose_apply _ _ _ j (ix2 (n0 := 128) (n1 := 64) (j 1) (j 0)) (fun b => ?_)).trans ?_
  · match b with
    | ⟨0, _⟩ => rfl
    | ⟨1, _⟩ => rfl
  · refine broadcastTo_apply sc broadcasts_S1x64_S128x64 _ (ix2 (n0 := 1) (n1 := 64) 0 (j 0)) fun a => ?_
    match a with
    | ⟨0, _⟩ => rfl
    | ⟨1, _⟩ => rfl

/-- A place of a line. -/
abbrev lineIx (p c : ℕ) (hp : p < 64) (hc : c < 256) : S64x256.Idx := ix2 (n0 := 64) (n1 := 256) ⟨p, hp⟩ ⟨c, hc⟩

/-- A line of codes times its column of scales. -/
theorem lineMid_apply (cd : Vec Ideal S64x256 .fp8e5m2) (sc : Vec Ideal S1x64 .f32) (p c : ℕ) (hp : p < 64) (hc : c < 256) :
    lineMid cd sc (lineIx p c hp hc) = (cd (lineIx p c hp hc) : EReal) * sc (ix2 (n0 := 1) (n1 := 64) 0 ⟨p, hp⟩) := by
  unfold lineMid
  refine congrArg ((cd (lineIx p c hp hc) : EReal) * ·) ?_
  refine (concatenate_replicate_apply (t := S64x256) (s₁ := S64x128) 1 2 (truncf .bf16 (scaleCol sc) bitsLt_bf16_f32)
    concatenates_S64x128_S64x128_S64x256_d1 rfl (lineIx p c hp hc)
    (ix2 (n0 := 64) (n1 := 128) ⟨p, hp⟩ ⟨c % 128, Nat.mod_lt _ (by decide)⟩) rfl fun b hb => by
      match b with
      | ⟨0, _⟩ => rfl
      | ⟨1, _⟩ => exact absurd rfl hb).trans ?_
  exact scaleCol_apply sc _

/-- Two lines of words read at a pixel: the even pixels from the first, the odd ones from the second. -/
theorem interleave_at (lo hi : FVec Ideal S32x256 .bf16) (p c : ℕ) (hp : p < 64) (hc : c < 256) :
    interleaveRows S64x256 lo hi bitcasts_S64x256_w16_S32x256_w32 (lineIx p c hp hc)
      = if p % 2 = 0 then lo (ix2 (n0 := 32) (n1 := 256) ⟨p / 2, by omega⟩ ⟨c, hc⟩) else hi (ix2 (n0 := 32) (n1 := 256) ⟨p / 2, by omega⟩ ⟨c, hc⟩) := by
  have e : ∀ x : FVec Ideal S32x256 .bf16, ∀ j : S32x256.Idx, (j 0).val = p / 2 → (j 1).val = c →
      x j = x (ix2 (n0 := 32) (n1 := 256) ⟨p / 2, by omega⟩ ⟨c, hc⟩) := fun x j h0 h1 => congrArg x (funext fun b => Fin.ext (by
    match b with
    | ⟨0, _⟩ => exact h0
    | ⟨1, _⟩ => exact h1))
  unfold interleaveRows
  show (if p % 2 = 0 then _ else _) = _
  by_cases he : p % 2 = 0
  · rw [if_pos he, if_pos he]
    exact e lo _ rfl rfl
  · rw [if_neg he, if_neg he]
    exact e hi _ rfl rfl

/-- The pixels of one parity. -/
theorem parity_at (q : Fin 2) (a : FVec Ideal S64x256 .bf16) (j : S32x256.Idx) (p c : ℕ) (hp : p < 64) (hc : c < 256)
    (h0 : 2 * (j 0).val + q.val = p) (h1 : (j 1).val = c) :
    rowsOfParity q S32x256 a bitcasts_S64x256_w16_S32x256_w32 j = a (lineIx p c hp hc) := by
  refine congrArg a (funext fun b => Fin.ext ?_)
  match b with
  | ⟨0, _⟩ => exact h0
  | ⟨1, _⟩ => exact h1

/-- Zero in word row `k`, and the rotated rows elsewhere. -/
theorem rotated_at (k n : BitVec 32) (b : FVec Ideal S32x256 .bf16) (r c : ℕ) (hr : r < 32) (hc : c < 256) (r' : ℕ) (hr' : r' < 32)
    (hk : (r + 32 - n.toNat % 32) % 32 = r') :
    select (cmpi .eq (iota .tc S32x256 32 [0] iota_S32x256_d0_w32) (broadcast S32x256 k)) (constant S32x256 .bf16 0x0000#16)
      (dynamicRotate 0 n none b rotates_S32x256_d0) (ix2 (n0 := 32) (n1 := 256) ⟨r, hr⟩ ⟨c, hc⟩)
      = if BitVec.ofNat 32 r = k then (0 : EReal) else b (ix2 (n0 := 32) (n1 := 256) ⟨r', hr'⟩ ⟨c, hc⟩) := by
  rw [ValueIdx.select_apply]
  rw [dynamicRotate_apply 0 n b rotates_S32x256_d0 _ (ix2 (n0 := 32) (n1 := 256) ⟨r', hr'⟩ ⟨c, hc⟩) fun x => by
    match x with
    | ⟨0, _⟩ => exact hk.symm
    | ⟨1, _⟩ => rfl]
  have hc' : cmpi .eq (iota .tc S32x256 32 [0] iota_S32x256_d0_w32) (broadcast S32x256 k) (ix2 (n0 := 32) (n1 := 256) ⟨r, hr⟩ ⟨c, hc⟩)
      = BitVec.ofBool (BitVec.ofNat 32 r == k) := by
    show BitVec.ofBool (iota .tc S32x256 32 [0] iota_S32x256_d0_w32 _ == k) = _
    rw [iota_single_apply]
  rw [hc']
  by_cases he : BitVec.ofNat 32 r = k
  · rw [if_pos he, beq_iff_eq.2 he]
    exact ofBits_zero_bf16
  · rw [if_neg he, beq_eq_false_iff_ne.2 he]
    rfl

/-- The line moved up reads the next pixel. -/
theorem upOf_apply (a : FVec Ideal S64x256 .bf16) (p c : ℕ) (hp : p < 64) (hc : c < 256) :
    upOf a (lineIx p c hp hc) = if h : p + 1 < 64 then a (lineIx (p + 1) c h hc) else (0 : EReal) := by
  unfold upOf
  rw [interleave_at]
  by_cases he : p % 2 = 0
  · rw [if_pos he, dif_pos (by omega)]
    exact parity_at 1 a _ _ _ _ _ (by show 2 * (p / 2) + 1 = p + 1; omega) rfl
  · rw [if_neg he, rotated_at 31#32 31#32 _ _ _ _ _ ((p / 2 + 1) % 32) (Nat.mod_lt _ (by decide)) (by show (p / 2 + 32 - 31) % 32 = _; omega)]
    by_cases hl : p + 1 < 64
    · rw [dif_pos hl, if_neg fun h => ?_]
      · exact parity_at 0 a _ _ _ _ _ (by show 2 * ((p / 2 + 1) % 32) + 0 = p + 1; omega) rfl
      · have := congrArg BitVec.toNat h
        rw [BitVec.toNat_ofNat] at this
        have h31 : (31#32).toNat = 31 := rfl
        omega
    · rw [dif_neg hl, if_pos (by rw [show p / 2 = 31 by omega])]

/-- The line moved down reads the pixel before. -/
theorem downOf_apply (a : FVec Ideal S64x256 .bf16) (p c : ℕ) (hp : p < 64) (hc : c < 256) :
    downOf a (lineIx p c hp hc) = if h : 1 ≤ p then a (lineIx (p - 1) c (by omega) hc) else (0 : EReal) := by
  unfold downOf
  rw [interleave_at]
  by_cases he : p % 2 = 0
  · rw [if_pos he, rotated_at 0#32 1#32 _ _ _ _ _ ((p / 2 + 31) % 32) (Nat.mod_lt _ (by decide)) (by show (p / 2 + 32 - 1) % 32 = _; omega)]
    by_cases hl : 1 ≤ p
    · rw [dif_pos hl, if_neg fun h => ?_]
      · exact parity_at 1 a _ _ _ _ _ (by show 2 * ((p / 2 + 31) % 32) + 1 = p - 1; omega) rfl
      · have := congrArg BitVec.toNat h
        rw [BitVec.toNat_ofNat] at this
        have h31 : (0#32).toNat = 0 := rfl
        omega
    · rw [dif_neg hl, if_pos (by rw [show p / 2 = 0 by omega])]
  · rw [if_neg he, dif_pos (by omega)]
    exact parity_at 0 a _ _ _ _ _ (by show 2 * (p / 2) + 0 = p - 1; omega) rfl

end Cert.WeightIdeal.Hand
-- ==== Proof.WeightIdeal.OutIdeal.lean ====
module

public import proofs.«01_k».proof.Proof.WeightSpec
public import proofs.«01_k».proof.Proof.WeightIdeal.LineIdeal
public import proofs.«01_k».proof.Proof.WeightIdeal.Launch
public import Idealize.ShloMosaic.Lib.MatmulPlain
public import Idealize.ShloMosaic.Lib.ValueLayout

/-! The result array of the weight-gradient kernel over the extended reals: at each tap and pair of channels it is the weight gradient. -/

@[expose] public section

set_option maxRecDepth 16384

noncomputable section

namespace Cert.WeightIdeal.Hand

open Cert.WeightIdeal.Gen Cert.Spec
open Idealize.ShloMosaic Idealize.ShloMosaic.TcCoe Idealize.ShloMosaic.Ideal
open Idealize.ShloMosaic.ValueIdx (ix2 ix3 ix4)

variable (m : (ℓ : Loc nD τ sig) → Buf (Elt Ideal) ℓ)

/-- The tap column of a point's group. -/
theorem kW_eq : ∀ t : Fin cfg0.N, t.val ≤ 14 → kW (grid0.coords t) = BitVec.ofNat 32 (t.val % 3) :=
  (by decide +kernel : ∀ t : Fin grid0.N, t.val ≤ 14 → kW (grid0.coords t) = BitVec.ofNat 32 (t.val % 3))

/-- The line as each tap column needs it. -/
theorem tapOf_zero (a : FVec Ideal S64x256 .bf16) : tapOf (BitVec.ofNat 32 0) a = upOf a := rfl
theorem tapOf_one (a : FVec Ideal S64x256 .bf16) : tapOf (BitVec.ofNat 32 1) a = a := rfl
theorem tapOf_two (a : FVec Ideal S64x256 .bf16) : tapOf (BitVec.ofNat 32 2) a = downOf a := rfl

/-- A dequantised line of image `b` at row `h`, counted from the border. -/
theorem line_at (c : Dev nD) (n : ℕ) (hn : n ≤ 14) (b h : ℕ) (hb : b < 2) (h1 : 1 ≤ h) (h2 : h ≤ 48) (p q : ℕ) (hp : p < 64) (hq : q < 256) (o : Fin 1280)
    (ho : o.val = n / 3 * 256 + q) :
    lineMid (codeAt (iblk m c 1 (pt n)) (48 * b + (h - 1))) (lineAt (iblk m c 2 (pt n)) (48 * b + (h - 1))) (lineIx p q hp hq)
      = gp (argCodes m c) (argScale m c) b h (p + 1) o := by
  have hv : min (pt n).val 14 = n := by show min (min n 15) 14 = n; omega
  rw [lineMid_apply, blk2_eq]
  unfold codeAt lineAt
  rw [blk1_apply m c (pt n) _ o.val o.isLt (by rw [hv]; exact ho)]
  refine (gp_in hb h1 h2 (by omega) (by omega) _ _ ?_ rfl ?_ ?_).symm
  · show (64 * (48 * b + (h - 1)) + p) % 6144 = (b * 48 + (h - 1)) * 64 + (p + 1 - 1)
    omega
  · show (48 * b + (h - 1)) % 96 = b * 48 + (h - 1)
    omega
  · show p = p + 1 - 1
    omega

/-- The buffer filled with group `n`: the gradient with its border, moved by the tap column. -/
theorem groupAt_apply (c : Dev nD) (n : ℕ) (hn : n ≤ 14) (y : S2x2x3200x256.Idx) (o : Fin 1280) (ho : o.val = n / 3 * 256 + (y 3).val) :
    groupAt m c (pt n) y = gp (argCodes m c) (argScale m c) (y 1).val ((y 2).val / 64) ((y 2).val % 64 + (2 - n % 3)) o := by
  have hv : (pt n).val = n := by show min n 15 = n; omega
  have y1 : (y 1).val < 2 := (y 1).isLt
  have y2 : (y 2).val < 3200 := (y 2).isLt
  have y3 : (y 3).val < 256 := (y 3).isLt
  unfold groupAt gBuf
  rw [kW_eq (pt n) (by omega), hv]
  by_cases hi : Inner y
  · rw [if_pos hi]
    obtain ⟨i0, i1⟩ := hi
    have key := line_at m c n hn (y 1).val ((y 2).val / 64) y1 (by omega) (by omega)
    unfold lineOf
    rcases (by omega : n % 3 = 0 ∨ n % 3 = 1 ∨ n % 3 = 2) with e | e | e
    · rw [e, tapOf_zero]
      refine (upOf_apply _ ((y 2).val % 64) (y 3).val (Nat.mod_lt _ (by decide)) y3).trans ?_
      by_cases hp : (y 2).val % 64 + 1 < 64
      · rw [dif_pos hp]
        exact key _ _ hp y3 o ho
      · rw [dif_neg hp, gp_out (by omega)]
    · rw [e, tapOf_one]
      exact key _ _ (Nat.mod_lt _ (by decide)) y3 o ho
    · rw [e, tapOf_two]
      refine (downOf_apply _ ((y 2).val % 64) (y 3).val (Nat.mod_lt _ (by decide)) y3).trans ?_
      by_cases hp : 1 ≤ (y 2).val % 64
      · rw [dif_pos hp]
        refine (key _ _ (by omega) y3 o ho).trans ?_
        rw [Nat.sub_add_cancel hp]
        rfl
      · rw [dif_neg hp, gp_out (by omega)]
  · rw [if_neg hi, gp_out fun h => hi ⟨by omega, by omega⟩]
    exact ofBits_zero_bf16

/-- One image's product, entry by entry. -/
theorem imgOf_apply (a : Vec Ideal S1280x3072 .bf16) (w : Vec Ideal S1x1x3072x256 .bf16) (r : Fin 1280) (q : Fin 256) :
    imgOf a w (ix2 (n0 := 1280) (n1 := 256) r q)
      = ∑ p : Fin 3072, (a (ix2 (n0 := 1280) (n1 := 3072) r p) : EReal) * w (ix4 (n0 := 1) (n1 := 1) (n2 := 3072) (n3 := 256) 0 0 p q) := by
  unfold imgOf
  refine (Ideal.matmul_plain_apply (φ₁ := .bf16) (φ₂ := .bf16) (M := 1280) (K := 3072) (N := 256) none a
    (shapeCast S3072x256 w shapeCasts_S1x1x3072x256_S3072x256) (constant S1280x256 .f32 0x00000000#32) r q).trans ?_
  have e : ∀ p : Fin 3072, shapeCast S3072x256 w shapeCasts_S1x1x3072x256_S3072x256 (ix2 (n0 := 3072) (n1 := 256) p q)
      = w (ix4 (n0 := 1) (n1 := 1) (n2 := 3072) (n3 := 256) 0 0 p q) := fun p => by
    refine shapeCast_apply w shapeCasts_S1x1x3072x256_S3072x256 _ _ ?_
    rw [Shape.rowMajor_val_two, Shape.rowMajor_val_four]
    show ((0 * 1 + 0) * 3072 + p.val) * 256 + q.val = p.val * 256 + q.val
    omega
  show Ideal.ofBits .f32 0x00000000#32 + _ = _
  rw [ofBits_zero_f32]
  refine (zero_add (M := EReal) _).trans (Finset.sum_congr rfl fun p _ => ?_)
  exact congrArg (fun z : EReal => (a (ix2 (n0 := 1280) (n1 := 3072) r p) : EReal) * z) (e p)

/-- One image's part of the weight gradient. -/
theorem img_at (c : Dev nD) (n : ℕ) (hn : n ≤ 14) (b : Fin 2) (ky : ℕ) (hk : ky ≤ 2) (r : Fin 1280) (q : Fin 256) (o : Fin 1280) (ho : o.val = n / 3 * 256 + q.val) :
    imgOf (colsOf (argA m c) (3072 * b.val)) (winOf (groupAt m c (pt n)) 0 b.val (128 - 64 * ky)) (ix2 (n0 := 1280) (n1 := 256) r q)
      = ∑ p : Fin 3072, (argA m c (ix2 (n0 := 1280) (n1 := 6144) r ⟨b.val * 3072 + p.val, by omega⟩) : EReal)
          * gp (argCodes m c) (argScale m c) b.val (p.val / 64 + (2 - ky)) (p.val % 64 + (2 - n % 3)) o := by
  have hb := b.isLt
  refine (imgOf_apply _ _ r q).trans (Finset.sum_congr rfl fun p _ => ?_)
  have hp := p.isLt
  refine congrArg₂ (fun x y : EReal => x * y) ?_ ?_
  · unfold colsOf
    refine congrArg (argA m c) (funext fun a => Fin.ext ?_)
    match a with
    | ⟨0, _⟩ => rfl
    | ⟨1, _⟩ => show (3072 * b.val + p.val) % 6144 = b.val * 3072 + p.val; omega
  · unfold winOf
    refine (groupAt_apply m c n hn _ o ho).trans ?_
    show gp _ _ (b.val % 2) ((128 - 64 * ky + p.val) % 3200 / 64) ((128 - 64 * ky + p.val) % 3200 % 64 + (2 - n % 3)) o = _
    rw [show b.val % 2 = b.val by omega, show (128 - 64 * ky + p.val) % 3200 / 64 = p.val / 64 + (2 - ky) by omega,
      show (128 - 64 * ky + p.val) % 3200 % 64 = p.val % 64 by omega]

/-- The result array is the weight gradient. -/
theorem resK_apply (c : Dev nD) (i : S3x3x1280x1280.Idx) :
    resK m c i = dw (argA m c) (argCodes m c) (argScale m c) (i 0).val (i 1).val (i 2) (i 3) := by
  have h0 : (i 0).val < 3 := (i 0).isLt
  have h1 : (i 1).val < 3 := (i 1).isLt
  have h3 : (i 3).val < 1280 := (i 3).isLt
  have hp : (pt (3 * ((i 3).val / 256) + (i 1).val + 1)).val - 1 = 3 * ((i 3).val / 256) + (i 1).val := by
    show min (3 * ((i 3).val / 256) + (i 1).val + 1) 15 - 1 = _; omega
  have e : resK m c i = prodOf (argA m c) (groupAt m c (pt (3 * ((i 3).val / 256) + (i 1).val))) 0 (128 - 64 * (i 0).val)
      (ix2 (n0 := 1280) (n1 := 256) (i 2) ⟨(i 3).val % 256, Nat.mod_lt _ (by decide)⟩) := by
    rw [← hp]; rfl
  have hm : (3 * ((i 3).val / 256) + (i 1).val) % 3 = (i 1).val := by omega
  have key := fun b : Fin 2 => img_at m c (3 * ((i 3).val / 256) + (i 1).val) (by omega) b (i 0).val (by omega) (i 2) ⟨(i 3).val % 256, Nat.mod_lt _ (by decide)⟩
    (i 3) (by show (i 3).val = (3 * ((i 3).val / 256) + (i 1).val) / 3 * 256 + (i 3).val % 256; omega)
  rw [e]
  unfold prodOf dw
  rw [Fin.sum_univ_two]
  rw [hm] at key
  exact congrArg₂ (fun x y : EReal => x + y) (key 0) (key 1)

end Cert.WeightIdeal.Hand
-- ==== Proof.WeightReferenceIdeal.Run.lean ====
module

public import proofs.«01_k».proof.Proof.Gen.WeightReferenceIdeal
public import proofs.«01_k».proof.Proof.Gen.WeightReferenceIdeal.Frame
public import Idealize.ShloMosaic.Lib.StableHlo.Run
public import Idealize.ShloMosaic.Lib.Pipeline.FrameSuffix

/-! The run of the reference for the weight gradient: the operations around its region, with the value they leave named in steps. -/

@[expose] public section

noncomputable section

namespace Cert.WeightReferenceIdeal.Hand

open Cert.WeightReferenceIdeal Cert.WeightReferenceIdeal.Gen Idealize.ShloMosaic Idealize.ShloMosaic.TcCoe Idealize.SL.Sem Idealize.ShloMosaic.StableHlo

variable {F : FTy → Type} [FloatOps F]

/-- The activations as images with a border of zeros. -/
def actV (x0 : (⟨S1280x6144, .bf16⟩ : BufTy).Contents (Elt F)) : (⟨S2x50x66x1280, .bf16⟩ : BufTy).Contents (Elt F) :=
  pad S2x50x66x1280 ![0, 1, 1, 0] ![0, 1, 1, 0] ![0, 0, 0, 0]
    (shapeCast _ (transpose S6144x1280 [1, 0] x0 transposes_S1280x6144_S6144x1280_1_0) shapeCasts_S6144x1280_S2x48x64x1280)
    (sitofp .bf16 (constantI S_ 32 0#32)) pads_S2x48x64x1280_S2x50x66x1280_000_110_110_000 h_S_

/-- The gradient's codes times their scale. -/
def deqV (x2 : (⟨S96x64, .f32⟩ : BufTy).Contents (Elt F)) (r0 : (⟨S6144x1280, .bf16⟩ : BufTy).Contents (Elt F)) :
    (⟨S6144x1280, .bf16⟩ : BufTy).Contents (Elt F) :=
  mulf r0 (broadcastInDim S6144x1280 ![0, 1] bcast_S6144x1_S6144x1280_0_1 (shapeCast _ (truncf .bf16 x2 bitsLt_bf16_f32) shapeCasts_S96x64_S6144x1))

/-- One tap: the window of the activations at `off`, all pixels in a row, against the gradient. -/
def tapV (P : (⟨S2x50x66x1280, .bf16⟩ : BufTy).Contents (Elt F)) (G : (⟨S6144x1280, .bf16⟩ : BufTy).Contents (Elt F))
    {off : Fin 4 → ℕ} (hs : S2x50x66x1280.Slices off S2x48x64x1280) : (⟨S1280x1280, .f32⟩ : BufTy).Contents (Elt F) :=
  Host.dotGeneral dot_S6144x1280_S6144x1280_S1280x1280_0_0_1_1_n_n none
    (shapeCast S6144x1280 (extractStridedSlice S2x48x64x1280 off P hs) shapeCasts_S2x48x64x1280_S6144x1280) G

/-- The three taps of a kernel row. -/
def rowV (P : (⟨S2x50x66x1280, .bf16⟩ : BufTy).Contents (Elt F)) (G : (⟨S6144x1280, .bf16⟩ : BufTy).Contents (Elt F))
    {off0 off1 off2 : Fin 4 → ℕ} (h0 : S2x50x66x1280.Slices off0 S2x48x64x1280) (h1 : S2x50x66x1280.Slices off1 S2x48x64x1280)
    (h2 : S2x50x66x1280.Slices off2 S2x48x64x1280) : (⟨S3x1280x1280, .f32⟩ : BufTy).Contents (Elt F) :=
  concatenate S3x1280x1280 0 [⟨S1x1280x1280, broadcastInDim S1x1280x1280 ![1, 2] bcast_S1280x1280_S1x1280x1280_1_2 (tapV P G h0)⟩,
    ⟨S1x1280x1280, broadcastInDim S1x1280x1280 ![1, 2] bcast_S1280x1280_S1x1280x1280_1_2 (tapV P G h1)⟩,
    ⟨S1x1280x1280, broadcastInDim S1x1280x1280 ![1, 2] bcast_S1280x1280_S1x1280x1280_1_2 (tapV P G h2)⟩]
    concatenates_S1x1280x1280_S1x1280x1280_S1x1280x1280_S3x1280x1280_d0

/-- The result, of the bordered activations and the dequantised gradient. -/
def outV (P : (⟨S2x50x66x1280, .bf16⟩ : BufTy).Contents (Elt F)) (G : (⟨S6144x1280, .bf16⟩ : BufTy).Contents (Elt F)) :
    (⟨S3x3x1280x1280, .f32⟩ : BufTy).Contents (Elt F) :=
  concatenate S3x3x1280x1280 0 [⟨S1x3x1280x1280, broadcastInDim S1x3x1280x1280 ![1, 2, 3] bcast_S3x1280x1280_S1x3x1280x1280_1_2_3
      (rowV P G slices_S2x50x66x1280_S2x48x64x1280_0_0_0_0 slices_S2x50x66x1280_S2x48x64x1280_0_0_1_0 slices_S2x50x66x1280_S2x48x64x1280_0_0_2_0)⟩,
    ⟨S1x3x1280x1280, broadcastInDim S1x3x1280x1280 ![1, 2, 3] bcast_S3x1280x1280_S1x3x1280x1280_1_2_3
      (rowV P G slices_S2x50x66x1280_S2x48x64x1280_0_1_0_0 slices_S2x50x66x1280_S2x48x64x1280_0_1_1_0 slices_S2x50x66x1280_S2x48x64x1280_0_1_2_0)⟩,
    ⟨S1x3x1280x1280, broadcastInDim S1x3x1280x1280 ![1, 2, 3] bcast_S3x1280x1280_S1x3x1280x1280_1_2_3
      (rowV P G slices_S2x50x66x1280_S2x48x64x1280_0_2_0_0 slices_S2x50x66x1280_S2x48x64x1280_0_2_1_0 slices_S2x50x66x1280_S2x48x64x1280_0_2_2_0)⟩]
    concatenates_S1x3x1280x1280_S1x3x1280x1280_S1x3x1280x1280_S3x3x1280x1280_d0

variable (m : (ℓ : Loc nD τ sig) → Buf (Elt F) ℓ)

/-- Core `c`'s TensorCore buffer contents when the region is left: the arrays of its pipeline at what the proof data give
    after the last point, every other buffer as the region found it. -/
abbrev exitV (c : Dev nD) : Valuation τ sig (Elt F) :=
  Pipeline.withArrays spec0 c (Gen.V0 m c) fun w => (Gen.dats m 0 c).arrAt w cfg0.N

/-- What the kernel region leaves in its result array `main_v3` (window 1's): not opened here. -/
def reg_main_v3 (c : Dev nD) : Buf (Elt F) ((c.tc : Thread nD τ).loc main_v3) := (Gen.dats m 0 c).arrAt 1 cfg0.N

/-- The exit contents at argument `main_arg2`: as launched. -/
theorem exit_main_arg2 (c : Dev nD) : exitV m c (Proc.devRef .tc main_arg2) = m ((c.tc : Thread nD τ).loc main_arg2) :=
  (Pipeline.withArrays_of_ne _ c (Gen.V0 m c) _ main_arg2 (by exact (by decide : ∀ w, Pipeline.arrRef spec0 w ≠ main_arg2))).trans (Gen.V_main_arg2 m c)

set_option maxRecDepth 8192 in
set_option maxHeartbeats 2000000 in
/-- The operations before the region from any contents, read at the bordered activations. -/
theorem head_main_v2 (V0 : Valuation τ sig (Elt F)) :
    after (List.flatten [Gen.hostOps0, Gen.hostOps0_1]) V0 (Proc.devRef .tc main_v2) = actV (V0 (Proc.devRef .tc main_arg0)) := by
  simp only [Gen.hostOps0, Gen.hostOps0_1, TRef.binary, TRef.unary, TRef.toBuf, TRef.ofBuf, cast_eq, List.flatten_cons, List.flatten_nil, List.append_nil, List.cons_append, List.nil_append]
  after_results_simp <;> rfl

/-- The exit contents at the bordered activations: computed before the region. -/
theorem exit_main_v2 (c : Dev nD) : exitV m c (Proc.devRef .tc main_v2) = actV (m ((c.tc : Thread nD τ).loc main_arg0)) :=
  (Pipeline.withArrays_of_ne _ c (Gen.V0 m c) _ main_v2 (by exact (by decide : ∀ w, Pipeline.arrRef spec0 w ≠ main_v2))).trans
    (head_main_v2 _)

/-- The exit contents at the region's result array `main_v3`. -/
theorem exit_main_v3 (c : Dev nD) : exitV m c (Proc.devRef .tc main_v3) = reg_main_v3 m c :=
  Pipeline.withArrays_arr spec0 Gen.launch0.win.arr_inj c (Gen.V0 m c) _ 1

set_option maxRecDepth 8192 in
set_option maxHeartbeats 4000000 in
/-- The later operations from any contents `V0`, read at the result. -/
theorem tail_main_v50 (V0 : Valuation τ sig (Elt F)) :
    after (List.flatten [Gen.hostOps1]) V0 (Proc.devRef .tc main_v50)
      = outV (V0 (Proc.devRef .tc main_v2)) (deqV (V0 (Proc.devRef .tc main_arg2)) (V0 (Proc.devRef .tc main_v3))) := by
  simp only [Gen.hostOps1, TRef.binary, TRef.unary, TRef.toBuf, TRef.ofBuf, cast_eq, List.flatten_cons, List.flatten_nil, List.append_nil, List.cons_append, List.nil_append]
  after_results_simp <;> rfl

/-- The result of the reference. -/
def resV (c : Dev nD) : Buf (Elt F) ((c.tc : Thread nD τ).loc main_v50) :=
  outV (actV (m ((c.tc : Thread nD τ).loc main_arg0))) (deqV (m ((c.tc : Thread nD τ).loc main_arg2)) (reg_main_v3 m c))

/-- Result `main_v50` after the later operations from the region's exit contents. -/
theorem fin_main_v50 (c : Dev nD) : Pipeline.afterTail₀ cfgs (Gen.dats m) 0 (Gen.V0 m) [Gen.hostOps1] c main_v50 = resV m c := by
  refine (tail_main_v50 (exitV m c)).trans ?_
  unfold resV
  rw [exit_main_arg2, exit_main_v2, exit_main_v3]

/-- On every device, for any float values, from any memory with zero counters: every weakly fair execution of
    @main terminates with the result at the operations' composed term of the arguments and the region's
    output, and the arguments unchanged. -/
theorem run (ρ : Dev nD → PrngReg) :
    θ_run defs (onTc (τ := τ) (main (F := F))) ⟨m, fun _ => 0, ρ⟩ fun r => ∀ c : Dev nD,
      r.2.mem ((c.tc : Thread nD τ).loc main_v50) = resV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).2 main_v50 (Pipeline.mem_restRefs_of main_v50 (by decide) (by decide))).trans (fin_main_v50 m c),
      ((h c).2 main_arg0 (Pipeline.mem_restRefs_of main_arg0 (by decide) (by decide))).trans (Gen.W_main_arg0 m (Gen.dats m) c),
      ((h c).1 0).trans (((Gen.dats m 0 c).arrAt_in 0 rfl _).trans ((Gen.A_eq m c 0).trans (Gen.V_main_arg1 m c))),
      ((h c).2 main_arg2 (Pipeline.mem_restRefs_of main_arg2 (by decide) (by decide))).trans (Gen.W_main_arg2 m (Gen.dats m) c)⟩) (Gen.run_main m ρ)

end Cert.WeightReferenceIdeal.Hand

end
-- ==== Proof.WeightReferenceIdeal.Grad.lean ====
module

public import proofs.«01_k».proof.Proof.WeightSpec
public import proofs.«01_k».proof.Proof.WeightReferenceIdeal.Run
public import Idealize.ShloMosaic.Lib.Pipeline.Value
public import Idealize.ShloMosaic.Lib.ValueIdx
public import Idealize.ShloMosaic.PureOps.Ideal.Laws
public import Idealize.ShloMosaic.Lib.Pipeline.ValueKit.Basic
public import Idealize.ShloMosaic.Lib.KernelVsHost

/-! The result of the reference for the weight gradient over the extended reals: at each tap and pair of channels it is the weight gradient. -/

@[expose] public section

set_option maxRecDepth 16384

noncomputable section

namespace Cert.WeightReferenceIdeal.Hand

open Cert.WeightReferenceIdeal Cert.WeightReferenceIdeal.Gen Cert.Spec
open Idealize.ShloMosaic Idealize.ShloMosaic.TcCoe
open Idealize.ShloMosaic.ValueIdx (ix2 ix3 ix4)
open Idealize.ShloMosaic.Pipeline (Dat)

variable (x0 : Vec Ideal S1280x6144 .bf16) (x2 : Vec Ideal S96x64 .f32) (r0 : Vec Ideal S6144x1280 .bf16)

/-- The dequantised gradient. -/
theorem deqV_at (i : S6144x1280.Idx) (o : Fin 1280) (ho : (i 1).val = o.val) :
    deqV (F := Ideal) x2 r0 i = gp r0 x2 ((i 0).val / 3072) ((i 0).val / 64 % 48 + 1) ((i 0).val % 64 + 1) o := by
  have hi : (i 0).val < 6144 := (i 0).isLt
  unfold deqV
  have hm : ∀ (A B : Vec Ideal S6144x1280 .bf16) l, (mulf (F := Ideal) (φ := .bf16) A B l : EReal) = (A l : EReal) * B l := fun _ _ _ => rfl
  rw [hm]
  rw [gp_in (by omega) (by omega) (by omega) (by omega) (by omega) i
    (ix2 (n0 := 96) (n1 := 64) ⟨(i 0).val / 64, by omega⟩ ⟨(i 0).val % 64, Nat.mod_lt _ (by decide)⟩)
    (by omega) ho (by show (i 0).val / 64 = _; omega) (by show (i 0).val % 64 = _; omega)]
  refine congrArg (fun y : EReal => (r0 i : EReal) * y) ?_
  refine (broadcastInDim_apply _ _ _ i (ix2 (n0 := 6144) (n1 := 1) ⟨(i 0).val, hi⟩ 0) fun a => ?_).trans ?_
  · match a with
    | ⟨0, _⟩ => show (i 0).val = if (6144 : Nat) = 1 then 0 else (i 0).val; rw [if_neg (by decide)]
    | ⟨1, _⟩ => show 0 = if (1 : Nat) = 1 then 0 else (i 1).val; rw [if_pos rfl]
  refine (shapeCast_apply _ _ _ (ix2 (n0 := 96) (n1 := 64) ⟨(i 0).val / 64, by omega⟩ ⟨(i 0).val % 64, Nat.mod_lt _ (by decide)⟩) ?_).trans rfl
  rw [Shape.rowMajor_val_two, Shape.rowMajor_val_two]
  show (i 0).val / 64 * 64 + (i 0).val % 64 = (i 0).val * 1 + 0
  omega

/-- The activations inside their border, -/
theorem actV_in (i : S2x50x66x1280.Idx) (h1 : Within 48 (i 1).val) (h2 : Within 64 (i 2).val) (j : S1280x6144.Idx) (j0 : (j 0).val = (i 3).val)
    (j1 : (j 1).val = (i 0).val * 3072 + (((i 1).val - 1) * 64 + ((i 2).val - 1))) : actV (F := Ideal) x0 i = (x0 j : EReal) := by
  have i0 : (i 0).val < 2 := (i 0).isLt
  have i3 : (i 3).val < 1280 := (i 3).isLt
  obtain ⟨a1, b1⟩ := h1
  obtain ⟨a2, b2⟩ := h2
  unfold actV
  refine (pad_apply_of_inside _ _ _ _ _ _ _ i (ix4 (n0 := 2) (n1 := 48) (n2 := 64) (n3 := 1280) ⟨(i 0).val, i0⟩ ⟨(i 1).val - 1, by omega⟩
    ⟨(i 2).val - 1, by omega⟩ ⟨(i 3).val, i3⟩) fun a => ?_).trans ?_
  · match a with
    | ⟨0, _⟩ => show (i 0).val = 0 + (i 0).val * 1; omega
    | ⟨1, _⟩ => show (i 1).val = 1 + ((i 1).val - 1) * 1; omega
    | ⟨2, _⟩ => show (i 2).val = 1 + ((i 2).val - 1) * 1; omega
    | ⟨3, _⟩ => show (i 3).val = 0 + (i 3).val * 1; omega
  refine (shapeCast_apply _ _ _ (ix2 (n0 := 6144) (n1 := 1280) ⟨((i 0).val * 48 + ((i 1).val - 1)) * 64 + ((i 2).val - 1), by omega⟩
    ⟨(i 3).val, i3⟩) ?_).trans ?_
  · rw [Shape.rowMajor_val_two, Shape.rowMajor_val_four]
    rfl
  refine transpose_apply _ _ _ _ j fun b => ?_
  match b with
  | ⟨0, _⟩ => show (j 1).val = ((i 0).val * 48 + ((i 1).val - 1)) * 64 + ((i 2).val - 1); omega
  | ⟨1, _⟩ => exact j0

/-- and on it. -/
theorem actV_out (i : S2x50x66x1280.Idx) (h : ¬ (Within 48 (i 1).val ∧ Within 64 (i 2).val)) : actV (F := Ideal) x0 i = (0 : EReal) := by
  unfold actV
  have hz : ∀ u, sitofp (F := Ideal) .bf16 (constantI S_ 32 0#32) u = (0 : EReal) := fun u => sitofp_zero
  by_cases hh : Within 48 (i 1).val
  · refine (pad_apply_of_not_inside _ _ _ _ _ _ _ i 2 fun hc => ?_).trans (hz _)
    have a1 : 1 ≤ (i 2).val := hc.1
    have a2 : ((i 2).val - 1) / 1 < 64 := hc.2.2
    exact h ⟨hh, by omega, by omega⟩
  · refine (pad_apply_of_not_inside _ _ _ _ _ _ _ i 1 fun hc => ?_).trans (hz _)
    have a1 : 1 ≤ (i 1).val := hc.1
    have a2 : ((i 1).val - 1) / 1 < 48 := hc.2.2
    exact hh ⟨by omega, by omega⟩

/-! Which entries a tap's product pairs. -/

theorem left0 (i : S1280x1280.Idx) (q : dot_S6144x1280_S6144x1280_S1280x1280_0_0_1_1_n_n.contr.Idx) : (dot_S6144x1280_S6144x1280_S1280x1280_0_0_1_1_n_n.lhsIdx i q 0).val = (q ⟨0, by decide⟩).val :=
  dot_S6144x1280_S6144x1280_S1280x1280_0_0_1_1_n_n.lhsIdx_val_of_single rfl i q
theorem left1 (i : S1280x1280.Idx) (q : dot_S6144x1280_S6144x1280_S1280x1280_0_0_1_1_n_n.contr.Idx) : (dot_S6144x1280_S6144x1280_S1280x1280_0_0_1_1_n_n.lhsIdx i q 1).val = (i 0).val := by
  unfold DotDims.lhsIdx
  rw [dif_neg (show ¬(1 : Fin S6144x1280.rank) ∈ dot_S6144x1280_S6144x1280_S1280x1280_0_0_1_1_n_n.lhsBatch by decide), dif_pos (show (1 : Fin S6144x1280.rank) ∈ dot_S6144x1280_S6144x1280_S1280x1280_0_0_1_1_n_n.lhsNonContracting by decide)]
  rfl
theorem right0 (i : S1280x1280.Idx) (q : dot_S6144x1280_S6144x1280_S1280x1280_0_0_1_1_n_n.contr.Idx) : (dot_S6144x1280_S6144x1280_S1280x1280_0_0_1_1_n_n.rhsIdx i q 0).val = (q ⟨0, by decide⟩).val :=
  dot_S6144x1280_S6144x1280_S1280x1280_0_0_1_1_n_n.rhsIdx_val_of_single rfl i q
theorem right1 (i : S1280x1280.Idx) (q : dot_S6144x1280_S6144x1280_S1280x1280_0_0_1_1_n_n.contr.Idx) : (dot_S6144x1280_S6144x1280_S1280x1280_0_0_1_1_n_n.rhsIdx i q 1).val = (i 1).val := by
  unfold DotDims.rhsIdx
  rw [dif_neg (show ¬(1 : Fin S6144x1280.rank) ∈ dot_S6144x1280_S6144x1280_S1280x1280_0_0_1_1_n_n.rhsBatch by decide), dif_pos (show (1 : Fin S6144x1280.rank) ∈ dot_S6144x1280_S6144x1280_S1280x1280_0_0_1_1_n_n.rhsNonContracting by decide)]
  rfl

/-- A product of a tap, entry by entry. -/
theorem dot_at (A B : Vec Ideal S6144x1280 .bf16) (i : S1280x1280.Idx) :
    (Host.dotGeneral (F := Ideal) (φ₁ := .bf16) (φ₂ := .bf16) dot_S6144x1280_S6144x1280_S1280x1280_0_0_1_1_n_n none A B i : EReal)
      = ∑ q : Fin 6144, (A (ix2 (n0 := 6144) (n1 := 1280) q (i 0)) : EReal) * B (ix2 (n0 := 6144) (n1 := 1280) q (i 1)) := by
  simp only [Host.dotGeneral]
  rw [Ideal.dotGeneral_apply, ← Equiv.sum_comp (ValueIdx.contrEquiv1 dot_S6144x1280_S6144x1280_S1280x1280_0_0_1_1_n_n 6144 rfl rfl).symm]
  refine Finset.sum_congr rfl fun k _ => ?_
  have hk := ValueIdx.contrEquiv1_symm_val dot_S6144x1280_S6144x1280_S1280x1280_0_0_1_1_n_n 6144 rfl rfl k
  refine congrArg₂ (fun x y => (A x : EReal) * B y) (funext fun a => Fin.ext ?_) (funext fun a => Fin.ext ?_)
  · match a with
    | ⟨0, _⟩ => exact (left0 _ _).trans hk
    | ⟨1, _⟩ => exact left1 _ _
  · match a with
    | ⟨0, _⟩ => exact (right0 _ _).trans hk
    | ⟨1, _⟩ => exact right1 _ _

/-- A tap is the weight gradient of its kernel row and column. -/
theorem tapV_at (ky kx : ℕ) (hy : ky ≤ 2) (hx : kx ≤ 2) {off : Fin 4 → ℕ} (hoff : off = ![0, ky, kx, 0]) (hs : S2x50x66x1280.Slices off S2x48x64x1280)
    (i : S1280x1280.Idx) (ch o : Fin 1280) (hch : (i 0).val = ch.val) (ho : (i 1).val = o.val) :
    tapV (F := Ideal) (actV x0) (deqV x2 r0) hs i = dw x0 r0 x2 ky kx ch o := by
  subst hoff
  unfold tapV
  rw [dot_at]
  refine Eq.trans ?_ (dw_window x0 r0 x2 ky kx hy hx ch o (fun b y x => if h : b < 2 ∧ y < 50 ∧ x < 66 then
    actV (F := Ideal) x0 (ix4 (n0 := 2) (n1 := 50) (n2 := 66) (n3 := 1280) ⟨b, h.1⟩ ⟨y, h.2.1⟩ ⟨x, h.2.2⟩ ch) else 0) ?_ ?_)
  · refine Finset.sum_congr rfl fun q _ => ?_
    have hq := q.isLt
    refine congrArg₂ (fun x y : EReal => x * y) ?_ (deqV_at x2 r0 _ o ho)
    rw [dif_pos ⟨by omega, by omega, by omega⟩]
    refine (shapeCast_apply _ _ _ (ix4 (n0 := 2) (n1 := 48) (n2 := 64) (n3 := 1280) ⟨q.val / 3072, by omega⟩ ⟨q.val / 64 % 48, by omega⟩
      ⟨q.val % 64, by omega⟩ ch) ?_).trans ?_
    · rw [Shape.rowMajor_val_two, Shape.rowMajor_val_four]
      show ((q.val / 3072 * 48 + q.val / 64 % 48) * 64 + q.val % 64) * 1280 + ch.val = q.val * 1280 + (i 0).val
      omega
    refine (extractStridedSlice_apply _ _ _ _ (ix4 (n0 := 2) (n1 := 50) (n2 := 66) (n3 := 1280) ⟨q.val / 3072, by omega⟩
      ⟨q.val / 64 % 48 + ky, by omega⟩ ⟨q.val % 64 + kx, by omega⟩ ch) fun a => ?_).trans rfl
    match a with
    | ⟨0, _⟩ => show q.val / 3072 = 0 + q.val / 3072; omega
    | ⟨1, _⟩ => show q.val / 64 % 48 + ky = ky + q.val / 64 % 48; omega
    | ⟨2, _⟩ => show q.val % 64 + kx = kx + q.val % 64; omega
    | ⟨3, _⟩ => show ch.val = 0 + ch.val; omega
  · intro b hb y x h1 h2
    have a1 := h1.2
    have a2 := h2.2
    show dite _ _ _ = _
    rw [dif_pos ⟨hb, by omega, by omega⟩]
    exact actV_in x0 _ h1 h2 _ rfl rfl
  · intro b y x h
    show dite _ _ _ = _
    split_ifs with hc
    · exact actV_out x0 _ h
    · rfl

/-- Three arrays to be stacked, of three axes, -/
abbrev stack3 (A B C : Vec Ideal S1x1280x1280 .f32) : List ((s : Shape) × (s.Idx → EReal)) :=
  [⟨S1x1280x1280, A⟩, ⟨S1x1280x1280, B⟩, ⟨S1x1280x1280, C⟩]

/-- and of four. -/
abbrev stack4 (A B C : Vec Ideal S1x3x1280x1280 .f32) : List ((s : Shape) × (s.Idx → EReal)) :=
  [⟨S1x3x1280x1280, A⟩, ⟨S1x3x1280x1280, B⟩, ⟨S1x3x1280x1280, C⟩]

/-- A row of taps. -/
theorem rowV_at (ky : ℕ) (hy : ky ≤ 2) {off0 off1 off2 : Fin 4 → ℕ} (e0 : off0 = ![0, ky, 0, 0]) (e1 : off1 = ![0, ky, 1, 0]) (e2 : off2 = ![0, ky, 2, 0])
    (h0 : S2x50x66x1280.Slices off0 S2x48x64x1280) (h1 : S2x50x66x1280.Slices off1 S2x48x64x1280) (h2 : S2x50x66x1280.Slices off2 S2x48x64x1280)
    (i : S3x1280x1280.Idx) : rowV (F := Ideal) (actV x0) (deqV x2 r0) h0 h1 h2 i = dw x0 r0 x2 ky (i 0).val (i 1) (i 2) := by
  have i0 : (i 0).val < 3 := (i 0).isLt
  have hx : ∀ b : Fin S1x1280x1280.rank, b.cast rfl ≠ (0 : Fin S3x1280x1280.rank) →
      ((ix3 (n0 := 1) (n1 := 1280) (n2 := 1280) 0 (i 1) (i 2) : S1x1280x1280.Idx) b).val = (i (b.cast rfl)).val := fun b hb => by
    match b with
    | ⟨0, _⟩ => exact absurd rfl hb
    | ⟨1, _⟩ => rfl
    | ⟨2, _⟩ => rfl
  have key : ∀ (kx : ℕ) (_ : kx ≤ 2) {off : Fin 4 → ℕ} (_ : off = ![0, ky, kx, 0]) (hs : S2x50x66x1280.Slices off S2x48x64x1280), (i 0).val = kx →
      broadcastInDim S1x1280x1280 ![1, 2] bcast_S1280x1280_S1x1280x1280_1_2 (tapV (F := Ideal) (actV x0) (deqV x2 r0) hs)
        (ix3 (n0 := 1) (n1 := 1280) (n2 := 1280) 0 (i 1) (i 2)) = dw x0 r0 x2 ky (i 0).val (i 1) (i 2) := by
    rintro kx hk off hoff hs hi
    refine (broadcastInDim_apply _ _ _ _ (ix2 (n0 := 1280) (n1 := 1280) (i 1) (i 2)) fun a => ?_).trans ?_
    · match a with
      | ⟨0, _⟩ => show (i 1).val = if (1280 : Nat) = 1 then 0 else (i 1).val; rw [if_neg (by decide)]
      | ⟨1, _⟩ => show (i 2).val = if (1280 : Nat) = 1 then 0 else (i 2).val; rw [if_neg (by decide)]
    rw [hi]
    exact tapV_at x0 x2 r0 ky kx hy hk hoff hs _ _ _ rfl rfl
  unfold rowV
  rcases (by omega : (i 0).val = 0 ∨ (i 0).val = 1 ∨ (i 0).val = 2) with c | c | c
  · exact Eq.trans (concatenate_apply_piece (t := S3x1280x1280) 0 (stack3 _ _ _) concatenates_S1x1280x1280_S1x1280x1280_S1x1280x1280_S3x1280x1280_d0 i
      0 (by show 0 < 3; omega) S1x1280x1280 _ rfl rfl 0 rfl (ix3 (n0 := 1) (n1 := 1280) (n2 := 1280) 0 (i 1) (i 2)) hx (by show 0 + 0 = (i 0).val; omega)) (key 0 (by omega) e0 h0 c)
  · exact Eq.trans (concatenate_apply_piece (t := S3x1280x1280) 0 (stack3 _ _ _) concatenates_S1x1280x1280_S1x1280x1280_S1x1280x1280_S3x1280x1280_d0 i
      1 (by show 1 < 3; omega) S1x1280x1280 _ rfl rfl 1 rfl (ix3 (n0 := 1) (n1 := 1280) (n2 := 1280) 0 (i 1) (i 2)) hx (by show 1 + 0 = (i 0).val; omega)) (key 1 (by omega) e1 h1 c)
  · exact Eq.trans (concatenate_apply_piece (t := S3x1280x1280) 0 (stack3 _ _ _) concatenates_S1x1280x1280_S1x1280x1280_S1x1280x1280_S3x1280x1280_d0 i
      2 (by show 2 < 3; omega) S1x1280x1280 _ rfl rfl 2 rfl (ix3 (n0 := 1) (n1 := 1280) (n2 := 1280) 0 (i 1) (i 2)) hx (by show 2 + 0 = (i 0).val; omega)) (key 2 (by omega) e2 h2 c)

/-- The stack of the rows is the weight gradient. -/
theorem outV_at (i : S3x3x1280x1280.Idx) :
    outV (F := Ideal) (actV x0) (deqV x2 r0) i = dw x0 r0 x2 (i 0).val (i 1).val (i 2) (i 3) := by
  have i0 : (i 0).val < 3 := (i 0).isLt
  have hx : ∀ b : Fin S1x3x1280x1280.rank, b.cast rfl ≠ (0 : Fin S3x3x1280x1280.rank) →
      ((ix4 (n0 := 1) (n1 := 3) (n2 := 1280) (n3 := 1280) 0 (i 1) (i 2) (i 3) : S1x3x1280x1280.Idx) b).val = (i (b.cast rfl)).val := fun b hb => by
    match b with
    | ⟨0, _⟩ => exact absurd rfl hb
    | ⟨1, _⟩ => rfl
    | ⟨2, _⟩ => rfl
    | ⟨3, _⟩ => rfl
  have key : ∀ (ky : ℕ) (R : Vec Ideal S3x1280x1280 .f32), (∀ j : S3x1280x1280.Idx, R j = dw x0 r0 x2 ky (j 0).val (j 1) (j 2)) → (i 0).val = ky →
      broadcastInDim S1x3x1280x1280 ![1, 2, 3] bcast_S3x1280x1280_S1x3x1280x1280_1_2_3 R
        (ix4 (n0 := 1) (n1 := 3) (n2 := 1280) (n3 := 1280) 0 (i 1) (i 2) (i 3)) = dw x0 r0 x2 (i 0).val (i 1).val (i 2) (i 3) := by
    rintro ky R hR hi
    refine (broadcastInDim_apply _ _ _ _ (ix3 (n0 := 3) (n1 := 1280) (n2 := 1280) (i 1) (i 2) (i 3)) fun a => ?_).trans ?_
    · match a with
      | ⟨0, _⟩ => show (i 1).val = if (3 : Nat) = 1 then 0 else (i 1).val; rw [if_neg (by decide)]
      | ⟨1, _⟩ => show (i 2).val = if (1280 : Nat) = 1 then 0 else (i 2).val; rw [if_neg (by decide)]
      | ⟨2, _⟩ => show (i 3).val = if (1280 : Nat) = 1 then 0 else (i 3).val; rw [if_neg (by decide)]
    rw [hi]
    exact hR _
  unfold outV
  rcases (by omega : (i 0).val = 0 ∨ (i 0).val = 1 ∨ (i 0).val = 2) with c | c | c
  · exact Eq.trans (concatenate_apply_piece (t := S3x3x1280x1280) 0 (stack4 _ _ _) concatenates_S1x3x1280x1280_S1x3x1280x1280_S1x3x1280x1280_S3x3x1280x1280_d0 i
      0 (by show 0 < 3; omega) S1x3x1280x1280 _ rfl rfl 0 rfl (ix4 (n0 := 1) (n1 := 3) (n2 := 1280) (n3 := 1280) 0 (i 1) (i 2) (i 3)) hx (by show 0 + 0 = (i 0).val; omega))
      (key 0 _ (fun j => rowV_at x0 x2 r0 0 (by omega) rfl rfl rfl _ _ _ j) c)
  · exact Eq.trans (concatenate_apply_piece (t := S3x3x1280x1280) 0 (stack4 _ _ _) concatenates_S1x3x1280x1280_S1x3x1280x1280_S1x3x1280x1280_S3x3x1280x1280_d0 i
      1 (by show 1 < 3; omega) S1x3x1280x1280 _ rfl rfl 1 rfl (ix4 (n0 := 1) (n1 := 3) (n2 := 1280) (n3 := 1280) 0 (i 1) (i 2) (i 3)) hx (by show 1 + 0 = (i 0).val; omega))
      (key 1 _ (fun j => rowV_at x0 x2 r0 1 (by omega) rfl rfl rfl _ _ _ j) c)
  · exact Eq.trans (concatenate_apply_piece (t := S3x3x1280x1280) 0 (stack4 _ _ _) concatenates_S1x3x1280x1280_S1x3x1280x1280_S1x3x1280x1280_S3x3x1280x1280_d0 i
      2 (by show 2 < 3; omega) S1x3x1280x1280 _ rfl rfl 2 rfl (ix4 (n0 := 1) (n1 := 3) (n2 := 1280) (n3 := 1280) 0 (i 1) (i 2) (i 3)) hx (by show 2 + 0 = (i 0).val; omega))
      (key 2 _ (fun j => rowV_at x0 x2 r0 2 (by omega) rfl rfl rfl _ _ _ j) c)

/-- What the region's body leaves: the codes. -/
theorem out1_eq (y0 : Vec Ideal S6144x1280 .fp8e5m2) (i : S6144x1280.Idx) : (out0_1 (F := Ideal) y0 i : EReal) = y0 i := by
  unfold out0_1
  rw [View.canon_cons_unit_lit _ _ _ (by decide)]
  show View.ld y0 r0_0 i = y0 i
  rw [View.ld_unit_lit _ _ (by decide)]

end Cert.WeightReferenceIdeal.Hand
-- ==== Proof.WeightReferenceIdeal.Region.lean ====
module

public import proofs.«01_k».proof.Proof.WeightReferenceIdeal.Grad

/-! What the reference's region leaves, over the extended reals: the codes themselves; so the reference's result is the weight gradient of its arguments. -/

@[expose] public section

set_option maxRecDepth 16384

noncomputable section

namespace Cert.WeightReferenceIdeal.Hand

open Cert.WeightReferenceIdeal Cert.WeightReferenceIdeal.Gen Cert.Spec
open Idealize.ShloMosaic Idealize.ShloMosaic.TcCoe
open Idealize.ShloMosaic.Pipeline (Dat)

variable (m : (ℓ : Loc nD τ sig) → Buf (Elt Ideal) ℓ)

/-- The point of the region. -/
abbrev pt0 : Fin cfg0.N := ⟨0, by decide⟩

theorem reg3_eq (c : Dev nD) :
    reg_main_v3 m c = (fun i => (m ((c.tc : Thread nD τ).loc main_arg1) i : EReal) : Vec Ideal S6144x1280 .bf16) := by
  unfold reg_main_v3
  refine Dat.arrAt_eq_of_cover (cfg := cfg0) (c := c) (dats m 0 c) 1 _ (fun t ht => ?_) fun i => ?_
  · funext x
    show (dats m 0 c).after 1 t _ = _
    rw [after0_1]
    refine (out1_eq _ _).trans ?_
    unfold iblk
    rw [View.read_apply, View.read_apply]
    show V m c main_arg1 _ = _
    rw [V_main_arg1]
    rfl
  · refine ⟨pt0, flush0_1 _, ?_⟩
    show i ∈ ((View.whole main_v3).slice (win0_1.rect pt0)).set
    rw [View.set_slice_whole, Rect.mem_set_unit]
    intro a
    match a with
    | ⟨0, _⟩ => exact ⟨Nat.zero_le _, (i 0).isLt.trans_eq (Nat.zero_add _).symm⟩
    | ⟨1, _⟩ => exact ⟨Nat.zero_le _, (i 1).isLt.trans_eq (Nat.zero_add _).symm⟩

/-- The reference's result, of its arguments. -/
theorem resV_apply (c : Dev nD) (i : S3x3x1280x1280.Idx) : (resV m c i : EReal)
    = dw (fun j => m ((c.tc : Thread nD τ).loc main_arg0) j) (fun j => m ((c.tc : Thread nD τ).loc main_arg1) j)
        (fun j => m ((c.tc : Thread nD τ).loc main_arg2) j) (i 0).val (i 1).val (i 2) (i 3) := by
  unfold resV
  rw [reg3_eq]
  exact outV_at _ _ _ i

end Cert.WeightReferenceIdeal.Hand
-- ==== Proof.WeightAlgebra.lean ====
module

public import proofs.«01_k».proof.Defs
public import proofs.«01_k».proof.Proof.Gen.WeightIdeal
public import proofs.«01_k».proof.Proof.Gen.WeightReferenceIdeal
public import proofs.«01_k».proof.Proof.WeightIdeal.OutIdeal
public import proofs.«01_k».proof.Proof.WeightReferenceIdeal.Region

/-!
# The value claim of the weight gradient

Both results are the same sums of products of the activation and the output gradient, `Cert.Spec.dw`, read over the extended reals.
-/

@[expose] public section

noncomputable section

namespace Cert.Proof

open Idealize.ShloMosaic Idealize.SL.Sem

/-- The kernel and the reference of the weight gradient end with equal results. -/
theorem weight_algebraic : Cert.algebraic_WeightIdeal_WeightReferenceIdeal (hWeightIdeal := Cert.WeightIdeal.Gen.facts)
    (hWeightReferenceIdeal := Cert.WeightReferenceIdeal.Gen.facts) := by
  intro m g m' g' _ hargs
  refine ⟨fun c => Cert.WeightIdeal.Hand.resK m c, (θ_run _ _ _).mono (fun _ h => h.1) (Cert.WeightIdeal.Hand.run_read m g), ?_⟩
  refine (θ_run _ _ _).mono (fun r h c => ⟨(h c).1.trans ?_, (h c).2⟩) (Cert.WeightReferenceIdeal.Hand.run m' g')
  obtain ⟨a0, a1, a2⟩ := hargs c
  funext i
  refine (Cert.WeightReferenceIdeal.Hand.resV_apply m' c i).trans ?_
  rw [a0, a1, a2]
  exact (Cert.WeightIdeal.Hand.resK_apply m c i).symm

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Kernel.Frame
public import proofs.«01_k».proof.Proof.KernelIdeal.Frame
public import proofs.«01_k».proof.Proof.Algebra
public import proofs.«01_k».proof.Proof.Weight.Frame
public import proofs.«01_k».proof.Proof.WeightIdeal.Launch
public import proofs.«01_k».proof.Proof.WeightAlgebra
public import Idealize.ShloMosaic.Lib.Bf16Pair
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Weight
public import proofs.«01_k».proof.Proof.Gen.Weight.Skeleton
public import proofs.«01_k».proof.Proof.Gen.Weight.Launch
public import proofs.«01_k».proof.Proof.Gen.Weight.Points
public import proofs.«01_k».proof.Proof.Gen.Weight.Frame
public import proofs.«01_k».proof.Proof.Gen.WeightIdeal
public import proofs.«01_k».proof.Proof.Gen.WeightIdeal.Skeleton
public import proofs.«01_k».proof.Proof.Gen.WeightIdeal.Launch
public import proofs.«01_k».proof.Proof.Gen.WeightIdeal.Points
public import proofs.«01_k».proof.Proof.Gen.WeightIdeal.Frame
public import proofs.«01_k».proof.Proof.Gen.WeightReferenceIdeal
public import proofs.«01_k».proof.Proof.Gen.WeightReferenceIdeal.Skeleton
public import proofs.«01_k».proof.Proof.Gen.WeightReferenceIdeal.Launch
public import proofs.«01_k».proof.Proof.Gen.WeightReferenceIdeal.Points
public import proofs.«01_k».proof.Proof.Gen.WeightReferenceIdeal.Frame
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Weight.Gen.facts, Cert.WeightIdeal.Gen.facts, Cert.WeightReferenceIdeal.Gen.facts,
  fun m ρ _ => Cert.Kernel.Hand.frame m ρ, fun m ρ _ => Cert.KernelIdeal.Hand.frame m ρ, fun m ρ _ => Cert.ReferenceIdeal.Gen.frame m ρ,
  fun m ρ _ => Cert.Weight.Hand.frame m ρ, fun m ρ _ => Cert.WeightIdeal.Hand.frame m ρ, fun m ρ _ => Cert.WeightReferenceIdeal.Gen.frame m ρ,
  ⟨IdealRules.bf16_pair.statement _ _, IdealRules.bf16_pair.selectZeroStatement _⟩,
  algebraic,
  ⟨IdealRules.bf16_pair.statement _ _, IdealRules.bf16_pair.selectZeroStatement _⟩,
  weight_algebraic⟩

end Cert.Proof

end
